-- ==== Defs.lean ====
def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Combine [hPre_rows_in_range : Cert.Pre_rows_in_range.Facts] (m : (ℓ : Loc Cert.Combine.nD Cert.Combine.τ Cert.Combine.sig) → Buf (Elt Bits) ℓ) : Prop :=
  ∀ c : Dev Cert.Combine.nD,
    (Cert.Pre_rows_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_rows_in_range : Cert.Pre_rows_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_rows_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_in_range [hPre_rows_in_range : Cert.Pre_rows_in_range.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_in_range.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2))) = (fun _ => 1#1)

def quiescent_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Combine [hCombine : Cert.Combine.Facts] [hPre_rows_in_range : Cert.Pre_rows_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (Cert.Combine.threads (F := Bits)) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (Cert.CombineIdeal.threads (F := Ideal)) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def quiescent_CombineReferenceIdeal_pre_rows_in_range [hCombineReferenceIdeal : Cert.CombineReferenceIdeal.Facts] [hPre_rows_in_range : Cert.Pre_rows_in_range.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_in_range m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Combine_CombineIdeal : Prop :=
  True

def algebraic_CombineIdeal_CombineReferenceIdeal [hCombineIdeal : Cert.CombineIdeal.Facts] [hCombineReferenceIdeal : Cert.CombineReferenceIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v20)) (v1 : (c : Dev Cert.CombineIdeal.nD) → Buf (Elt Ideal) ((c.tc : Thread Cert.CombineIdeal.nD Cert.CombineIdeal.τ).loc Cert.CombineIdeal.main_v21)),
      θ_run (Cert.CombineIdeal.defs (F := Ideal)) (Cert.CombineIdeal.threads (F := Ideal)) ⟨m, fun _ => 0, g⟩ (fun r => ∀ c : Dev Cert.CombineIdeal.nD,
          r.2.mem ((c.tc : Thread Cert.CombineIdeal.nD Cert.CombineIdeal.τ).loc Cert.CombineIdeal.main_v20) = v0 c
          ∧ r.2.mem ((c.tc : Thread Cert.CombineIdeal.nD Cert.CombineIdeal.τ).loc Cert.CombineIdeal.main_v21) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v0) = v0 c
          ∧ r.2.mem ((c.tc : Thread Cert.CombineReferenceIdeal.nD Cert.CombineReferenceIdeal.τ).loc Cert.CombineReferenceIdeal.main_v1) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hPre_finite_inputs : Cert.Pre_finite_inputs.Facts) (hPre_rows_in_range : Cert.Pre_rows_in_range.Facts),
    quiescent_KernelIdeal (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Combine (hCombine := hCombine) (hPre_rows_in_range := hPre_rows_in_range)
    ∧ quiescent_CombineIdeal (hCombineIdeal := hCombineIdeal) (hPre_rows_in_range := hPre_rows_in_range)
    ∧ quiescent_CombineReferenceIdeal (hCombineReferenceIdeal := hCombineReferenceIdeal)
    ∧ quiescent_CombineReferenceIdeal_pre_rows_in_range (hCombineReferenceIdeal := hCombineReferenceIdeal) (hPre_rows_in_range := hPre_rows_in_range)
    ∧ algebraic_KernelIdeal_ReferenceIdeal (hKernelIdeal := hKernelIdeal) (hReferenceIdeal := hReferenceIdeal) (hPre_finite_inputs := hPre_finite_inputs)
    ∧ preserves_Combine_CombineIdeal
    ∧ algebraic_CombineIdeal_CombineReferenceIdeal (hCombineIdeal := hCombineIdeal) (hCombineReferenceIdeal := hCombineReferenceIdeal) (hPre_rows_in_range := hPre_rows_in_range)
-- ==== Pre_finite_inputs.lean ====
abbrev S2048x1024 : Shape := ⟨2, ![2048, 1024]⟩
abbrev S8x1024 : Shape := ⟨2, ![8, 1024]⟩
abbrev S8x512x1024 : Shape := ⟨3, ![8, 512, 1024]⟩
abbrev S8x1024x512 : Shape := ⟨3, ![8, 1024, 512]⟩
abbrev S512x1024 : Shape := ⟨2, ![512, 1024]⟩
abbrev S1024x512 : Shape := ⟨2, ![1024, 512]⟩
abbrev S8 : Shape := ⟨1, ![8]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2048x1024 .f32) (main_arg1 : FVec F S8x1024 .f32) (main_arg2 : FVec F S8x512x1024 .f32) (main_arg3 : FVec F S8x512x1024 .f32) (main_arg4 : FVec F S8x1024x512 .f32) (main_arg5 : FVec F S512x1024 .f32) (main_arg6 : FVec F S512x1024 .f32) (main_arg7 : FVec F S1024x512 .f32) (main_arg8 : FVec F S8 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8 .f32 := Host.absf main_arg8
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_rows_in_range.lean ====
abbrev S2048 : Shape := ⟨1, ![2048]⟩
abbrev S6144x1024 : Shape := ⟨2, ![6144, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : IVec S2048 32) (main_arg2 : FVec F S6144x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 6144#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_c_2 : IVec S_ 32 := constantI S_ 32 0#32
  let main_v6 : IVec S2048 32 := broadcastInDim S2048 ![] bcast_S_S2048 main_c_2
  let main_v7 : IVec S2048 1 := cmpi .sge main_arg1 main_v6
  let main_c_3 : IVec S_ 32 := constantI S_ 32 6144#32
  let main_v8 : IVec S2048 32 := broadcastInDim S2048 ![] bcast_S_S2048 main_c_3
  let main_v9 : IVec S2048 1 := cmpi .slt main_arg1 main_v8
  let main_v10 : IVec S2048 1 := andi main_v7 main_v9
  let main_c_4 : IVec S_ 1 := constantI S_ 1 1#1
  let main_v11 : IVec S_ 1 := (fun x v => Host.reduce IntOp.andi x v reducesTo_S2048_S_d0 h_S_) main_v10 main_c_4
  let main_v12 : IVec S_ 1 := andi main_v5 main_v11
  main_v12
-- ==== KernelIdeal.lean ====
abbrev S2048x1024 : Shape := ⟨2, ![2048, 1024]⟩
abbrev S8x1024 : Shape := ⟨2, ![8, 1024]⟩
abbrev S8x512x1024 : Shape := ⟨3, ![8, 512, 1024]⟩
abbrev S8x1024x512 : Shape := ⟨3, ![8, 1024, 512]⟩
abbrev S512x1024 : Shape := ⟨2, ![512, 1024]⟩
abbrev S1024x512 : Shape := ⟨2, ![1024, 512]⟩
abbrev S8 : Shape := ⟨1, ![8]⟩
abbrev S1x8 : Shape := ⟨2, ![1, 8]⟩
abbrev S2048x1 : Shape := ⟨2, ![2048, 1]⟩
abbrev S2048x128 : Shape := ⟨2, ![2048, 128]⟩
abbrev S24x1 : Shape := ⟨2, ![24, 1]⟩
abbrev S2048x8 : Shape := ⟨2, ![2048, 8]⟩
abbrev S2048 : Shape := ⟨1, ![2048]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x8 : Shape := ⟨2, ![1024, 8]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩
abbrev S24x8 : Shape := ⟨2, ![24, 8]⟩
abbrev S24 : Shape := ⟨1, ![24]⟩
abbrev S_ : Shape := ⟨0, ![]⟩
abbrev S4 : Shape := ⟨1, ![4]⟩
abbrev S2048x4 : Shape := ⟨2, ![2048, 4]⟩
abbrev S8192 : Shape := ⟨1, ![8192]⟩
abbrev S8192x2x128 : Shape := ⟨3, ![8192, 2, 128]⟩
abbrev S24576x2x128 : Shape := ⟨3, ![24576, 2, 128]⟩
abbrev S6144x128 : Shape := ⟨2, ![6144, 128]⟩
abbrev S64 : Shape := ⟨1, ![64]⟩
abbrev S256 : Shape := ⟨1, ![256]⟩
abbrev S256x2x128 : Shape := ⟨3, ![256, 2, 128]⟩
abbrev S64x128 : Shape := ⟨2, ![64, 128]⟩
abbrev S6144x1024 : Shape := ⟨2, ![6144, 1024]⟩
abbrev S24x256x128 : Shape := ⟨3, ![24, 256, 128]⟩
abbrev S256x1024 : Shape := ⟨2, ![256, 1024]⟩
abbrev S1x512x1024 : Shape := ⟨3, ![1, 512, 1024]⟩
abbrev S1 : Shape := ⟨1, ![1]⟩
abbrev S1x1024x512 : Shape := ⟨3, ![1, 1024, 512]⟩
abbrev S1x256x128 : Shape := ⟨3, ![1, 256, 128]⟩
abbrev S256x512 : Shape := ⟨2, ![256, 512]⟩
abbrev S256x128 : Shape := ⟨2, ![256, 128]⟩
abbrev S256x1 : Shape := ⟨2, ![256, 1]⟩
abbrev S512x512 : Shape := ⟨2, ![512, 512]⟩
abbrev S128x2x128 : Shape := ⟨3, ![128, 2, 128]⟩
abbrev S128 : Shape := ⟨1, ![128]⟩

abbrev nBuf : Table → Nat
  | .hbm => 51
  | .local .tc .vmem => 36
  | .local .tc .smem => 2
  | .local .scVector .vmem => 11
  | _ => 0

abbrev bufTy : (tb : Table) → Fin (nBuf tb) → BufTy
  | .hbm, ⟨0, _⟩ => ⟨S2048x1024, .f32⟩
  | .hbm, ⟨1, _⟩ => ⟨S8x1024, .f32⟩
  | .hbm, ⟨2, _⟩ => ⟨S8x512x1024, .f32⟩
  | .hbm, ⟨3, _⟩ => ⟨S8x512x1024, .f32⟩
  | .hbm, ⟨4, _⟩ => ⟨S8x1024x512, .f32⟩
  | .hbm, ⟨5, _⟩ => ⟨S512x1024, .f32⟩
  | .hbm, ⟨6, _⟩ => ⟨S512x1024, .f32⟩
  | .hbm, ⟨7, _⟩ => ⟨S1024x512, .f32⟩
  | .hbm, ⟨8, _⟩ => ⟨S8, .f32⟩
  | .hbm, ⟨9, _⟩ => ⟨S1x8, .f32⟩
  | .hbm, ⟨10, _⟩ => ⟨S2048x1, .i32⟩
  | .hbm, ⟨11, _⟩ => ⟨S2048x1, .i32⟩
  | .hbm, ⟨12, _⟩ => ⟨S2048x128, .f32⟩
  | .hbm, ⟨13, _⟩ => ⟨S2048x128, .f32⟩
  | .hbm, ⟨14, _⟩ => ⟨S24x1, .i32⟩
  | .hbm, ⟨15, _⟩ => ⟨S24x1, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S_, .i32⟩
  | .hbm, ⟨20, _⟩ => ⟨S2048x1, .i32⟩
  | .hbm, ⟨21, _⟩ => ⟨S2048x1, .i32⟩
  | .hbm, ⟨22, _⟩ => ⟨S4, .i32⟩
  | .hbm, ⟨23, _⟩ => ⟨S1x4, .i32⟩
  | .hbm, ⟨24, _⟩ => ⟨S2048x4, .i32⟩
  | .hbm, ⟨25, _⟩ => ⟨S2048x4, .i32⟩
  | .hbm, ⟨26, _⟩ => ⟨S2048x4, .i32⟩
  | .hbm, ⟨27, _⟩ => ⟨S8192, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S4, .i32⟩
  | .hbm, ⟨33, _⟩ => ⟨S1x4, .i32⟩
  | .hbm, ⟨34, _⟩ => ⟨S2048x4, .i32⟩
  | .hbm, ⟨35, _⟩ => ⟨S2048x4, .i32⟩
  | .hbm, ⟨36, _⟩ => ⟨S2048x4, .i32⟩
  | .hbm, ⟨37, _⟩ => ⟨S8192, .i32⟩
  | .hbm, ⟨38, _⟩ => ⟨S8192x2x128, .f32⟩
  | .hbm, ⟨39, _⟩ => ⟨S24576x2x128, .f32⟩
  | .hbm, ⟨40, _⟩ => ⟨S6144x128, .f32⟩
  | .hbm, ⟨41, _⟩ => ⟨S6144x1024, .f32⟩
  | .hbm, ⟨42, _⟩ => ⟨S24x256x128, .f32⟩
  | .hbm, ⟨43, _⟩ => ⟨S6144x1024, .f32⟩
  | .hbm, ⟨44, _⟩ => ⟨S2048x1024, .f32⟩
  | .hbm, ⟨45, _⟩ => ⟨S24576x2x128, .f32⟩
  | .hbm, ⟨46, _⟩ => ⟨S8192x2x128, .f32⟩
  | .hbm, ⟨47, _⟩ => ⟨S8192x2x128, .f32⟩
  | .hbm, ⟨48, _⟩ => ⟨S2048x1024, .f32⟩
  | .hbm, ⟨49, _⟩ => ⟨S2048x1024, .f32⟩
  | .hbm, ⟨50, _⟩ => ⟨S2048x1024, .f32⟩
  | .local .tc .vmem, ⟨0, _⟩ => ⟨S2048x1024, .f32⟩
  | .local .tc .vmem, ⟨1, _⟩ => ⟨S8x1024, .f32⟩
  | .local .tc .vmem, ⟨2, _⟩ => ⟨S1x8, .f32⟩
  | .local .tc .vmem, ⟨3, _⟩ => ⟨S2048x1, .i32⟩
  | .local .tc .vmem, ⟨4, _⟩ => ⟨S2048x1, .i32⟩
  | .local .tc .vmem, ⟨5, _⟩ => ⟨S2048x128, .f32⟩
  | .local .tc .vmem, ⟨6, _⟩ => ⟨S2048x128, .f32⟩
  | .local .tc .vmem, ⟨7, _⟩ => ⟨S24x1, .i32⟩
  | .local .tc .vmem, ⟨8, _⟩ => ⟨S24x1, .i32⟩
  | .local .tc .vmem, ⟨9, _⟩ => ⟨S256x1024, .f32⟩
  | .local .tc .vmem, ⟨10, _⟩ => ⟨S256x1024, .f32⟩
  | .local .tc .vmem, ⟨11, _⟩ => ⟨S1x512x1024, .f32⟩
  | .local .tc .vmem, ⟨12, _⟩ => ⟨S1x512x1024, .f32⟩
  | .local .tc .vmem, ⟨13, _⟩ => ⟨S1x512x1024, .f32⟩
  | .local .tc .vmem, ⟨14, _⟩ => ⟨S1x512x1024, .f32⟩
  | .local .tc .vmem, ⟨15, _⟩ => ⟨S1x1024x512, .f32⟩
  | .local .tc .vmem, ⟨16, _⟩ => ⟨S1x1024x512, .f32⟩
  | .local .tc .vmem, ⟨17, _⟩ => ⟨S1x256x128, .f32⟩
  | .local .tc .vmem, ⟨18, _⟩ => ⟨S1x256x128, .f32⟩
  | .local .tc .vmem, ⟨19, _⟩ => ⟨S256x1024, .f32⟩
  | .local .tc .vmem, ⟨20, _⟩ => ⟨S256x1024, .f32⟩
  | .local .tc .vmem, ⟨21, _⟩ => ⟨S512x1024, .f32⟩
  | .local .tc .vmem, ⟨22, _⟩ => ⟨S512x1024, .f32⟩
  | .local .tc .vmem, ⟨23, _⟩ => ⟨S512x1024, .f32⟩
  | .local .tc .vmem, ⟨24, _⟩ => ⟨S512x1024, .f32⟩
  | .local .tc .vmem, ⟨25, _⟩ => ⟨S1024x512, .f32⟩
  | .local .tc .vmem, ⟨26, _⟩ => ⟨S512x1024, .f32⟩
  | .local .tc .vmem, ⟨27, _⟩ => ⟨S512x1024, .f32⟩
  | .local .tc .vmem, ⟨28, _⟩ => ⟨S512x1024, .f32⟩
  | .local .tc .vmem, ⟨29, _⟩ => ⟨S512x1024, .f32⟩
  | .local .tc .vmem, ⟨30, _⟩ => ⟨S512x1024, .f32⟩
  | .local .tc .vmem, ⟨31, _⟩ => ⟨S512x1024, .f32⟩
  | .local .tc .vmem, ⟨32, _⟩ => ⟨S512x1024, .f32⟩
  | .local .tc .vmem, ⟨33, _⟩ => ⟨S512x1024, .f32⟩
  | .local .tc .vmem, ⟨34, _⟩ => ⟨S512x1024, .f32⟩
  | .local .tc .vmem, ⟨35, _⟩ => ⟨S512x1024, .f32⟩
  | .local .tc .smem, ⟨0, _⟩ => ⟨S24, .i32⟩
  | .local .tc .smem, ⟨1, _⟩ => ⟨S24, .i32⟩
  | .local .scVector .vmem, ⟨0, _⟩ => ⟨S64, .i32⟩
  | .local .scVector .vmem, ⟨1, _⟩ => ⟨S64, .i32⟩
  | .local .scVector .vmem, ⟨2, _⟩ => ⟨S256, .i32⟩
  | .local .scVector .vmem, ⟨3, _⟩ => ⟨S256, .i32⟩
  | .local .scVector .vmem, ⟨4, _⟩ => ⟨S256x2x128, .f32⟩
  | .local .scVector .vmem, ⟨5, _⟩ => ⟨S64x128, .f32⟩
  | .local .scVector .vmem, ⟨6, _⟩ => ⟨S64x128, .f32⟩
  | .local .scVector .vmem, ⟨7, _⟩ => ⟨S256, .i32⟩
  | .local .scVector .vmem, ⟨8, _⟩ => ⟨S256, .i32⟩
  | .local .scVector .vmem, ⟨9, _⟩ => ⟨S128x2x128, .f32⟩
  | .local .scVector .vmem, ⟨10, _⟩ => ⟨S128x2x128, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTables nBuf rfl bufTy 4 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v24 : Ref sig .tc := ⟨.hbm, 41, rfl⟩
abbrev main_v25 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v26 : Ref sig .tc := ⟨.smem, 0, rfl⟩
abbrev main_v27 : Ref sig .tc := ⟨.smem, 1, rfl⟩
abbrev main_v2_scv : Ref sig .scVector := ⟨.hbm, 16, rfl⟩
abbrev main_v3_scv : Ref sig .scVector := ⟨.hbm, 17, rfl⟩
abbrev main_v12_scv : Ref sig .scVector := ⟨.hbm, 27, rfl⟩
abbrev main_v21_scv : Ref sig .scVector := ⟨.hbm, 37, rfl⟩
abbrev main_v1_2_scv : Ref sig .scVector := ⟨.hbm, 12, rfl⟩
abbrev main_v1_3_scv : Ref sig .scVector := ⟨.hbm, 13, rfl⟩
abbrev main_v22_scv : Ref sig .scVector := ⟨.hbm, 38, rfl⟩
abbrev main_v23_0_scv : Ref sig .scVector := ⟨.hbm, 39, rfl⟩
abbrev main_v23_1_scv : Ref sig .scVector := ⟨.hbm, 40, rfl⟩
abbrev main_v30_scv : Ref sig .scVector := ⟨.hbm, 45, rfl⟩
abbrev main_v31_0_scv : Ref sig .scVector := ⟨.hbm, 46, rfl⟩
abbrev main_v31_1_scv : Ref sig .scVector := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc4_scratch0 : Ref sig .scVector := ⟨.vmem, 7, rfl⟩
abbrev cc4_scratch1 : Ref sig .scVector := ⟨.vmem, 8, rfl⟩
abbrev cc4_scratch2 : Ref sig .scVector := ⟨.vmem, 9, rfl⟩
abbrev cc4_scratch3 : Ref sig .scVector := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem4_1 : DmaSem sig := 38
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem3_1 : DmaSem sig := 54
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  ![v2.toNat]
def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c4_i32 : BitVec 32 := 4#32
  let v3 : BitVec 32 := Scalar.muli v2 c4_i32
  ![v3.toNat]
def k1_off3 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c4_i32_1 : BitVec 32 := 4#32
  let v5 : BitVec 32 := Scalar.muli v2 c4_i32_1
  let c0_i32_21_r4 : BitVec 32 := 0#32
  let c0_i32_22_r4 : BitVec 32 := 0#32
  ![v5.toNat, 0, 0]
def k1_off4 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c0_i32_21_r5 : BitVec 32 := 0#32
  ![v2.toNat, 0]
abbrev grid2 : Pipeline.Grid := ⟨1, ![24], ![false]⟩

abbrev pre2 : Pipeline.Prefetch sig := ⟨2, ![main_v26.idx, main_v27.idx], fun | 0 => main_v26.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 16], ![false, false]⟩

def k4_off1 (i : grid4.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  ![v2.toNat]
def k4_off2 (i : grid4.Coords) (c0_i32_3 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v5 : BitVec 32 := Scalar.addi v2 c0_i32_3
  let c0_i32_34_r2 : BitVec 32 := 0#32
  let c0_i32_35_r2 : BitVec 32 := 0#32
  ![v5.toNat, 0, 0]
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x1024 : Shape := ⟨2, ![2048, 1024]⟩
abbrev S8x1024 : Shape := ⟨2, ![8, 1024]⟩
abbrev S8x512x1024 : Shape := ⟨3, ![8, 512, 1024]⟩
abbrev S8x1024x512 : Shape := ⟨3, ![8, 1024, 512]⟩
abbrev S512x1024 : Shape := ⟨2, ![512, 1024]⟩
abbrev S1024x512 : Shape := ⟨2, ![1024, 512]⟩
abbrev S8 : Shape := ⟨1, ![8]⟩
abbrev S1024x8 : Shape := ⟨2, ![1024, 8]⟩
abbrev S2048x8 : Shape := ⟨2, ![2048, 8]⟩
abbrev S_ : Shape := ⟨0, ![]⟩
abbrev S1x8 : Shape := ⟨2, ![1, 8]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S1x512x1024 : Shape := ⟨3, ![1, 512, 1024]⟩
abbrev S2048x512 : Shape := ⟨2, ![2048, 512]⟩
abbrev S1x1024x512 : Shape := ⟨3, ![1, 1024, 512]⟩

abbrev nBuf : Space → Nat
  | .hbm => 353
  | .vmem => 0
  | .smem => 0
  | _ => 0

abbrev hbmTy0_0 (i : Nat) : BufTy := match i % 128 with
  | 0 => ⟨S2048x1024, .f32⟩
  | 1 => ⟨S8x1024, .f32⟩
  | 2 => ⟨S8x512x1024, .f32⟩
  | 3 => ⟨S8x512x1024, .f32⟩
  | 4 => ⟨S8x1024x512, .f32⟩
  | 5 => ⟨S512x1024, .f32⟩
  | 6 => ⟨S512x1024, .f32⟩
  | 7 => ⟨S1024x512, .f32⟩
  | 8 => ⟨S8, .f32⟩
  | 9 => ⟨S1024x8, .f32⟩
  | 10 => ⟨S2048x8, .f32⟩
  | 11 => ⟨S2048x8, .f32⟩
  | 12 => ⟨S2048x8, .f32⟩
  | 13 => ⟨S_, .f32⟩
  | 14 => ⟨S2048x8, .f32⟩
  | 15 => ⟨S2048x8, .f32⟩
  | 16 => ⟨S_, .f32⟩
  | 17 => ⟨S2048x8, .f32⟩
  | 18 => ⟨S2048x8, .f32⟩
  | 19 => ⟨S1x8, .f32⟩
  | 20 => ⟨S2048x8, .f32⟩
  | 21 => ⟨S2048x8, .f32⟩
  | 22 => ⟨S2048x2, .f32⟩
  | 23 => ⟨S2048x2, .i32⟩
  | 24 => ⟨S_, .i32⟩
  | 25 => ⟨S2048x2, .i32⟩
  | 26 => ⟨S2048x2, .i1⟩
  | 27 => ⟨S_, .i32⟩
  | 28 => ⟨S2048x2, .i32⟩
  | 29 => ⟨S2048x2, .i32⟩
  | 30 => ⟨S2048x2, .i32⟩
  | 31 => ⟨S2048x2x1, .i32⟩
  | 32 => ⟨S1, .i32⟩
  | 33 => ⟨S_, .i32⟩
  | 34 => ⟨S2048x2x1, .i32⟩
  | 35 => ⟨S2048x2x1, .i1⟩
  | 36 => ⟨S1x1x1, .i32⟩
  | 37 => ⟨S2048x2x1, .i32⟩
  | 38 => ⟨S2048x2x1, .i1⟩
  | 39 => ⟨S2048x2x1, .i1⟩
  | 40 => ⟨S_, .i1⟩
  | 41 => ⟨S2048x2, .i1⟩
  | 42 => ⟨S2048x2, .f32⟩
  | 43 => ⟨S_, .f32⟩
  | 44 => ⟨S2048x2, .f32⟩
  | 45 => ⟨S2048x2, .f32⟩
  | 46 => ⟨S_, .f32⟩
  | 47 => ⟨S2048, .f32⟩
  | 48 => ⟨S2048x1, .f32⟩
  | 49 => ⟨S2048x2, .f32⟩
  | 50 => ⟨S2048x2, .f32⟩
  | 51 => ⟨S_, .f32⟩
  | 52 => ⟨S2048x1024, .f32⟩
  | 53 => ⟨S1x512x1024, .f32⟩
  | 54 => ⟨S512x1024, .f32⟩
  | 55 => ⟨S1024x512, .f32⟩
  | 56 => ⟨S2048x512, .f32⟩
  | 57 => ⟨S1x512x1024, .f32⟩
  | 58 => ⟨S512x1024, .f32⟩
  | 59 => ⟨S1024x512, .f32⟩
  | 60 => ⟨S2048x512, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S_, .f32⟩
  | 67 => ⟨S2048x512, .f32⟩
  | 68 => ⟨S2048x512, .f32⟩
  | 69 => ⟨S2048x512, .f32⟩
  | 70 => ⟨S2048x512, .f32⟩
  | 71 => ⟨S1x1024x512, .f32⟩
  | 72 => ⟨S1024x512, .f32⟩
  | 73 => ⟨S512x1024, .f32⟩
  | 74 => ⟨S2048x1024, .f32⟩
  | 75 => ⟨S_, .i32⟩
  | 76 => ⟨S2048x2, .i32⟩
  | 77 => ⟨S2048x2, .i1⟩
  | 78 => ⟨S_, .f32⟩
  | 79 => ⟨S_, .f32⟩
  | 80 => ⟨S2048x2, .f32⟩
  | 81 => ⟨S2048x2, .f32⟩
  | 82 => ⟨S_, .f32⟩
  | 83 => ⟨S2048, .f32⟩
  | 84 => ⟨S2048x1, .f32⟩
  | 85 => ⟨S2048x1024, .f32⟩
  | 86 => ⟨S2048x1024, .f32⟩
  | 87 => ⟨S2048x1024, .f32⟩
  | 88 => ⟨S1x512x1024, .f32⟩
  | 89 => ⟨S512x1024, .f32⟩
  | 90 => ⟨S1024x512, .f32⟩
  | 91 => ⟨S2048x512, .f32⟩
  | 92 => ⟨S1x512x1024, .f32⟩
  | 93 => ⟨S512x1024, .f32⟩
  | 94 => ⟨S1024x512, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S2048x512, .f32⟩
  | 105 => ⟨S2048x512, .f32⟩
  | 106 => ⟨S1x1024x512, .f32⟩
  | 107 => ⟨S1024x512, .f32⟩
  | 108 => ⟨S512x1024, .f32⟩
  | 109 => ⟨S2048x1024, .f32⟩
  | 110 => ⟨S_, .i32⟩
  | 111 => ⟨S2048x2, .i32⟩
  | 112 => ⟨S2048x2, .i1⟩
  | 113 => ⟨S_, .f32⟩
  | 114 => ⟨S_, .f32⟩
  | 115 => ⟨S2048x2, .f32⟩
  | 116 => ⟨S2048x2, .f32⟩
  | 117 => ⟨S_, .f32⟩
  | 118 => ⟨S2048, .f32⟩
  | 119 => ⟨S2048x1, .f32⟩
  | 120 => ⟨S2048x1024, .f32⟩
  | 121 => ⟨S2048x1024, .f32⟩
  | 122 => ⟨S2048x1024, .f32⟩
  | 123 => ⟨S1x512x1024, .f32⟩
  | 124 => ⟨S512x1024, .f32⟩
  | 125 => ⟨S1024x512, .f32⟩
  | 126 => ⟨S2048x512, .f32⟩
  | 127 => ⟨S1x512x1024, .f32⟩
  | _ => ⟨S2048x1024, .f32⟩

abbrev hbmTy0_1 (i : Nat) : BufTy := match i % 128 with
  | 0 => ⟨S512x1024, .f32⟩
  | 1 => ⟨S1024x512, .f32⟩
  | 2 => ⟨S2048x512, .f32⟩
  | 3 => ⟨S2048x512, .f32⟩
  | 4 => ⟨S2048x512, .f32⟩
  | 5 => ⟨S_, .f32⟩
  | 6 => ⟨S2048x512, .f32⟩
  | 7 => ⟨S2048x512, .f32⟩
  | 8 => ⟨S_, .f32⟩
  | 9 => ⟨S2048x512, .f32⟩
  | 10 => ⟨S2048x512, .f32⟩
  | 11 => ⟨S2048x512, .f32⟩
  | 12 => ⟨S2048x512, .f32⟩
  | 13 => ⟨S1x1024x512, .f32⟩
  | 14 => ⟨S1024x512, .f32⟩
  | 15 => ⟨S512x1024, .f32⟩
  | 16 => ⟨S2048x1024, .f32⟩
  | 17 => ⟨S_, .i32⟩
  | 18 => ⟨S2048x2, .i32⟩
  | 19 => ⟨S2048x2, .i1⟩
  | 20 => ⟨S_, .f32⟩
  | 21 => ⟨S_, .f32⟩
  | 22 => ⟨S2048x2, .f32⟩
  | 23 => ⟨S2048x2, .f32⟩
  | 24 => ⟨S_, .f32⟩
  | 25 => ⟨S2048, .f32⟩
  | 26 => ⟨S2048x1, .f32⟩
  | 27 => ⟨S2048x1024, .f32⟩
  | 28 => ⟨S2048x1024, .f32⟩
  | 29 => ⟨S2048x1024, .f32⟩
  | 30 => ⟨S1x512x1024, .f32⟩
  | 31 => ⟨S512x1024, .f32⟩
  | 32 => ⟨S1024x512, .f32⟩
  | 33 => ⟨S2048x512, .f32⟩
  | 34 => ⟨S1x512x1024, .f32⟩
  | 35 => ⟨S512x1024, .f32⟩
  | 36 => ⟨S1024x512, .f32⟩
  | 37 => ⟨S2048x512, .f32⟩
  | 38 => ⟨S2048x512, .f32⟩
  | 39 => ⟨S2048x512, .f32⟩
  | 40 => ⟨S_, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S2048x512, .f32⟩
  | 47 => ⟨S2048x512, .f32⟩
  | 48 => ⟨S1x1024x512, .f32⟩
  | 49 => ⟨S1024x512, .f32⟩
  | 50 => ⟨S512x1024, .f32⟩
  | 51 => ⟨S2048x1024, .f32⟩
  | 52 => ⟨S_, .i32⟩
  | 53 => ⟨S2048x2, .i32⟩
  | 54 => ⟨S2048x2, .i1⟩
  | 55 => ⟨S_, .f32⟩
  | 56 => ⟨S_, .f32⟩
  | 57 => ⟨S2048x2, .f32⟩
  | 58 => ⟨S2048x2, .f32⟩
  | 59 => ⟨S_, .f32⟩
  | 60 => ⟨S2048, .f32⟩
  | 61 => ⟨S2048x1, .f32⟩
  | 62 => ⟨S2048x1024, .f32⟩
  | 63 => ⟨S2048x1024, .f32⟩
  | 64 => ⟨S2048x1024, .f32⟩
  | 65 => ⟨S1x512x1024, .f32⟩
  | 66 => ⟨S512x1024, .f32⟩
  | 67 => ⟨S1024x512, .f32⟩
  | 68 => ⟨S2048x512, .f32⟩
  | 69 => ⟨S1x512x1024, .f32⟩
  | 70 => ⟨S512x1024, .f32⟩
  | 71 => ⟨S1024x512, .f32⟩
  | 72 => ⟨S2048x512, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S_, .f32⟩
  | 79 => ⟨S2048x512, .f32⟩
  | 80 => ⟨S2048x512, .f32⟩
  | 81 => ⟨S2048x512, .f32⟩
  | 82 => ⟨S2048x512, .f32⟩
  | 83 => ⟨S1x1024x512, .f32⟩
  | 84 => ⟨S1024x512, .f32⟩
  | 85 => ⟨S512x1024, .f32⟩
  | 86 => ⟨S2048x1024, .f32⟩
  | 87 => ⟨S_, .i32⟩
  | 88 => ⟨S2048x2, .i32⟩
  | 89 => ⟨S2048x2, .i1⟩
  | 90 => ⟨S_, .f32⟩
  | 91 => ⟨S_, .f32⟩
  | 92 => ⟨S2048x2, .f32⟩
  | 93 => ⟨S2048x2, .f32⟩
  | 94 => ⟨S_, .f32⟩
  | 95 => ⟨S2048, .f32⟩
  | 96 => ⟨S2048x1, .f32⟩
  | 97 => ⟨S2048x1024, .f32⟩
  | 98 => ⟨S2048x1024, .f32⟩
  | 99 => ⟨S2048x1024, .f32⟩
  | 100 => ⟨S1x512x1024, .f32⟩
  | 101 => ⟨S512x1024, .f32⟩
  | 102 => ⟨S1024x512, .f32⟩
  | 103 => ⟨S2048x512, .f32⟩
  | 104 => ⟨S1x512x1024, .f32⟩
  | 105 => ⟨S512x1024, .f32⟩
  | 106 => ⟨S1024x512, .f32⟩
  | 107 => ⟨S2048x512, .f32⟩
  | 108 => ⟨S2048x512, .f32⟩
  | 109 => ⟨S2048x512, .f32⟩
  | 110 => ⟨S_, .f32⟩
  | 111 => ⟨S2048x512, .f32⟩
  | 112 => ⟨S2048x512, .f32⟩
  | 113 => ⟨S_, .f32⟩
  | 114 => ⟨S2048x512, .f32⟩
  | 115 => ⟨S2048x512, .f32⟩
  | 116 => ⟨S2048x512, .f32⟩
  | 117 => ⟨S2048x512, .f32⟩
  | 118 => ⟨S1x1024x512, .f32⟩
  | 119 => ⟨S1024x512, .f32⟩
  | 120 => ⟨S512x1024, .f32⟩
  | 121 => ⟨S2048x1024, .f32⟩
  | 122 => ⟨S_, .i32⟩
  | 123 => ⟨S2048x2, .i32⟩
  | 124 => ⟨S2048x2, .i1⟩
  | 125 => ⟨S_, .f32⟩
  | 126 => ⟨S_, .f32⟩
  | 127 => ⟨S2048x2, .f32⟩
  | _ => ⟨S2048x1024, .f32⟩

abbrev hbmTy0_2 (i : Nat) : BufTy := match i % 128 with
  | 0 => ⟨S2048x2, .f32⟩
  | 1 => ⟨S_, .f32⟩
  | 2 => ⟨S2048, .f32⟩
  | 3 => ⟨S2048x1, .f32⟩
  | 4 => ⟨S2048x1024, .f32⟩
  | 5 => ⟨S2048x1024, .f32⟩
  | 6 => ⟨S2048x1024, .f32⟩
  | 7 => ⟨S1x512x1024, .f32⟩
  | 8 => ⟨S512x1024, .f32⟩
  | 9 => ⟨S1024x512, .f32⟩
  | 10 => ⟨S2048x512, .f32⟩
  | 11 => ⟨S1x512x1024, .f32⟩
  | 12 => ⟨S512x1024, .f32⟩
  | 13 => ⟨S1024x512, .f32⟩
  | 14 => ⟨S2048x512, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S_, .f32⟩
  | 21 => ⟨S2048x512, .f32⟩
  | 22 => ⟨S2048x512, .f32⟩
  | 23 => ⟨S2048x512, .f32⟩
  | 24 => ⟨S2048x512, .f32⟩
  | 25 => ⟨S1x1024x512, .f32⟩
  | 26 => ⟨S1024x512, .f32⟩
  | 27 => ⟨S512x1024, .f32⟩
  | 28 => ⟨S2048x1024, .f32⟩
  | 29 => ⟨S_, .i32⟩
  | 30 => ⟨S2048x2, .i32⟩
  | 31 => ⟨S2048x2, .i1⟩
  | 32 => ⟨S_, .f32⟩
  | 33 => ⟨S_, .f32⟩
  | 34 => ⟨S2048x2, .f32⟩
  | 35 => ⟨S2048x2, .f32⟩
  | 36 => ⟨S_, .f32⟩
  | 37 => ⟨S2048, .f32⟩
  | 38 => ⟨S2048x1, .f32⟩
  | 39 => ⟨S2048x1024, .f32⟩
  | 40 => ⟨S2048x1024, .f32⟩
  | 41 => ⟨S2048x1024, .f32⟩
  | 42 => ⟨S1x512x1024, .f32⟩
  | 43 => ⟨S512x1024, .f32⟩
  | 44 => ⟨S1024x512, .f32⟩
  | 45 => ⟨S2048x512, .f32⟩
  | 46 => ⟨S1x512x1024, .f32⟩
  | 47 => ⟨S512x1024, .f32⟩
  | 48 => ⟨S1024x512, .f32⟩
  | 49 => ⟨S2048x512, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S_, .f32⟩
  | 56 => ⟨S2048x512, .f32⟩
  | 57 => ⟨S2048x512, .f32⟩
  | 58 => ⟨S2048x512, .f32⟩
  | 59 => ⟨S2048x512, .f32⟩
  | 60 => ⟨S1x1024x512, .f32⟩
  | 61 => ⟨S1024x512, .f32⟩
  | 62 => ⟨S512x1024, .f32⟩
  | 63 => ⟨S2048x1024, .f32⟩
  | 64 => ⟨S_, .i32⟩
  | 65 => ⟨S2048x2, .i32⟩
  | 66 => ⟨S2048x2, .i1⟩
  | 67 => ⟨S_, .f32⟩
  | 68 => ⟨S_, .f32⟩
  | 69 => ⟨S2048x2, .f32⟩
  | 70 => ⟨S2048x2, .f32⟩
  | 71 => ⟨S_, .f32⟩
  | 72 => ⟨S2048, .f32⟩
  | 73 => ⟨S2048x1, .f32⟩
  | 74 => ⟨S2048x1024, .f32⟩
  | 75 => ⟨S2048x1024, .f32⟩
  | 76 => ⟨S2048x1024, .f32⟩
  | 77 => ⟨S1024x512, .f32⟩
  | 78 => ⟨S2048x512, .f32⟩
  | 79 => ⟨S1024x512, .f32⟩
  | 80 => ⟨S2048x512, .f32⟩
  | 81 => ⟨S2048x512, .f32⟩
  | 82 => ⟨S2048x512, .f32⟩
  | 83 => ⟨S_, .f32⟩
  | 84 => ⟨S2048x512, .f32⟩
  | 85 => ⟨S2048x512, .f32⟩
  | 86 => ⟨S_, .f32⟩
  | 87 => ⟨S2048x512, .f32⟩
  | 88 => ⟨S2048x512, .f32⟩
  | 89 => ⟨S2048x512, .f32⟩
  | 90 => ⟨S2048x512, .f32⟩
  | 91 => ⟨S512x1024, .f32⟩
  | 92 => ⟨S2048x1024, .f32⟩
  | 93 => ⟨S_, .f32⟩
  | 94 => ⟨S2048x1024, .f32⟩
  | 95 => ⟨S2048x1024, .f32⟩
  | 96 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_values : Ref sig .tc := ⟨.hbm, 22, rfl⟩
abbrev main_indices : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c : Ref sig .tc := ⟨.hbm, 75, rfl⟩
abbrev main_v31 : Ref sig .tc := ⟨.hbm, 76, rfl⟩
abbrev main_v32 : Ref sig .tc := ⟨.hbm, 77, rfl⟩
abbrev main_cst_3 : Ref sig .tc := ⟨.hbm, 78, rfl⟩
abbrev main_call2_v0 : Ref sig .tc := ⟨.hbm, 79, rfl⟩
abbrev main_call2_v1 : Ref sig .tc := ⟨.hbm, 80, rfl⟩
abbrev main_v33 : Ref sig .tc := ⟨.hbm, 81, rfl⟩
abbrev main_cst_4 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_c_5 : Ref sig .tc := ⟨.hbm, 110, rfl⟩
abbrev main_v53 : Ref sig .tc := ⟨.hbm, 111, rfl⟩
abbrev main_v54 : Ref sig .tc := ⟨.hbm, 112, rfl⟩
abbrev main_cst_6 : Ref sig .tc := ⟨.hbm, 113, rfl⟩
abbrev main_call4_v0 : Ref sig .tc := ⟨.hbm, 114, rfl⟩
abbrev main_call4_v1 : Ref sig .tc := ⟨.hbm, 115, rfl⟩
abbrev main_v55 : Ref sig .tc := ⟨.hbm, 116, rfl⟩
abbrev main_cst_7 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_call5_v0 : Ref sig .tc := ⟨.hbm, 131, rfl⟩
abbrev main_call5_v1 : Ref sig .tc := ⟨.hbm, 132, rfl⟩
abbrev main_call5_cst : Ref sig .tc := ⟨.hbm, 133, rfl⟩
abbrev main_call5_v2 : Ref sig .tc := ⟨.hbm, 134, rfl⟩
abbrev main_call5_v3 : Ref sig .tc := ⟨.hbm, 135, rfl⟩
abbrev main_call5_cst_0 : Ref sig .tc := ⟨.hbm, 136, rfl⟩
abbrev main_call5_v4 : Ref sig .tc := ⟨.hbm, 137, rfl⟩
abbrev main_call5_v5 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_c_8 : Ref sig .tc := ⟨.hbm, 145, rfl⟩
abbrev main_v75 : Ref sig .tc := ⟨.hbm, 146, rfl⟩
abbrev main_v76 : Ref sig .tc := ⟨.hbm, 147, rfl⟩
abbrev main_cst_9 : Ref sig .tc := ⟨.hbm, 148, rfl⟩
abbrev main_call6_v0 : Ref sig .tc := ⟨.hbm, 149, rfl⟩
abbrev main_call6_v1 : Ref sig .tc := ⟨.hbm, 150, rfl⟩
abbrev main_v77 : Ref sig .tc := ⟨.hbm, 151, rfl⟩
abbrev main_cst_10 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_call7_v0 : Ref sig .tc := ⟨.hbm, 166, rfl⟩
abbrev main_call7_v1 : Ref sig .tc := ⟨.hbm, 167, rfl⟩
abbrev main_call7_cst : Ref sig .tc := ⟨.hbm, 168, rfl⟩
abbrev main_call7_v2 : Ref sig .tc := ⟨.hbm, 169, rfl⟩
abbrev main_call7_v3 : Ref sig .tc := ⟨.hbm, 170, rfl⟩
abbrev main_call7_cst_0 : Ref sig .tc := ⟨.hbm, 171, rfl⟩
abbrev main_call7_v4 : Ref sig .tc := ⟨.hbm, 172, rfl⟩
abbrev main_call7_v5 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_c_11 : Ref sig .tc := ⟨.hbm, 180, rfl⟩
abbrev main_v97 : Ref sig .tc := ⟨.hbm, 181, rfl⟩
abbrev main_v98 : Ref sig .tc := ⟨.hbm, 182, rfl⟩
abbrev main_cst_12 : Ref sig .tc := ⟨.hbm, 183, rfl⟩
abbrev main_call8_v0 : Ref sig .tc := ⟨.hbm, 184, rfl⟩
abbrev main_call8_v1 : Ref sig .tc := ⟨.hbm, 185, rfl⟩
abbrev main_v99 : Ref sig .tc := ⟨.hbm, 186, rfl⟩
abbrev main_cst_13 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_call9_v0 : Ref sig .tc := ⟨.hbm, 201, rfl⟩
abbrev main_call9_v1 : Ref sig .tc := ⟨.hbm, 202, rfl⟩
abbrev main_call9_cst : Ref sig .tc := ⟨.hbm, 203, rfl⟩
abbrev main_call9_v2 : Ref sig .tc := ⟨.hbm, 204, rfl⟩
abbrev main_call9_v3 : Ref sig .tc := ⟨.hbm, 205, rfl⟩
abbrev main_call9_cst_0 : Ref sig .tc := ⟨.hbm, 206, rfl⟩
abbrev main_call9_v4 : Ref sig .tc := ⟨.hbm, 207, rfl⟩
abbrev main_call9_v5 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_c_14 : Ref sig .tc := ⟨.hbm, 215, rfl⟩
abbrev main_v119 : Ref sig .tc := ⟨.hbm, 216, rfl⟩
abbrev main_v120 : Ref sig .tc := ⟨.hbm, 217, rfl⟩
abbrev main_cst_15 : Ref sig .tc := ⟨.hbm, 218, rfl⟩
abbrev main_call10_v0 : Ref sig .tc := ⟨.hbm, 219, rfl⟩
abbrev main_call10_v1 : Ref sig .tc := ⟨.hbm, 220, rfl⟩
abbrev main_v121 : Ref sig .tc := ⟨.hbm, 221, rfl⟩
abbrev main_cst_16 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_call11_v0 : Ref sig .tc := ⟨.hbm, 236, rfl⟩
abbrev main_call11_v1 : Ref sig .tc := ⟨.hbm, 237, rfl⟩
abbrev main_call11_cst : Ref sig .tc := ⟨.hbm, 238, rfl⟩
abbrev main_call11_v2 : Ref sig .tc := ⟨.hbm, 239, rfl⟩
abbrev main_call11_v3 : Ref sig .tc := ⟨.hbm, 240, rfl⟩
abbrev main_call11_cst_0 : Ref sig .tc := ⟨.hbm, 241, rfl⟩
abbrev main_call11_v4 : Ref sig .tc := ⟨.hbm, 242, rfl⟩
abbrev main_call11_v5 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_c_17 : Ref sig .tc := ⟨.hbm, 250, rfl⟩
abbrev main_v141 : Ref sig .tc := ⟨.hbm, 251, rfl⟩
abbrev main_v142 : Ref sig .tc := ⟨.hbm, 252, rfl⟩
abbrev main_cst_18 : Ref sig .tc := ⟨.hbm, 253, rfl⟩
abbrev main_call12_v0 : Ref sig .tc := ⟨.hbm, 254, rfl⟩
abbrev main_call12_v1 : Ref sig .tc := ⟨.hbm, 255, rfl⟩
abbrev main_v143 : Ref sig .tc := ⟨.hbm, 256, rfl⟩
abbrev main_cst_19 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_call13_v0 : Ref sig .tc := ⟨.hbm, 271, rfl⟩
abbrev main_call13_v1 : Ref sig .tc := ⟨.hbm, 272, rfl⟩
abbrev main_call13_cst : Ref sig .tc := ⟨.hbm, 273, rfl⟩
abbrev main_call13_v2 : Ref sig .tc := ⟨.hbm, 274, rfl⟩
abbrev main_call13_v3 : Ref sig .tc := ⟨.hbm, 275, rfl⟩
abbrev main_call13_cst_0 : Ref sig .tc := ⟨.hbm, 276, rfl⟩
abbrev main_call13_v4 : Ref sig .tc := ⟨.hbm, 277, rfl⟩
abbrev main_call13_v5 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_c_20 : Ref sig .tc := ⟨.hbm, 285, rfl⟩
abbrev main_v163 : Ref sig .tc := ⟨.hbm, 286, rfl⟩
abbrev main_v164 : Ref sig .tc := ⟨.hbm, 287, rfl⟩
abbrev main_cst_21 : Ref sig .tc := ⟨.hbm, 288, rfl⟩
abbrev main_call14_v0 : Ref sig .tc := ⟨.hbm, 289, rfl⟩
abbrev main_call14_v1 : Ref sig .tc := ⟨.hbm, 290, rfl⟩
abbrev main_v165 : Ref sig .tc := ⟨.hbm, 291, rfl⟩
abbrev main_cst_22 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_call15_v0 : Ref sig .tc := ⟨.hbm, 306, rfl⟩
abbrev main_call15_v1 : Ref sig .tc := ⟨.hbm, 307, rfl⟩
abbrev main_call15_cst : Ref sig .tc := ⟨.hbm, 308, rfl⟩
abbrev main_call15_v2 : Ref sig .tc := ⟨.hbm, 309, rfl⟩
abbrev main_call15_v3 : Ref sig .tc := ⟨.hbm, 310, rfl⟩
abbrev main_call15_cst_0 : Ref sig .tc := ⟨.hbm, 311, rfl⟩
abbrev main_call15_v4 : Ref sig .tc := ⟨.hbm, 312, rfl⟩
abbrev main_call15_v5 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_c_23 : Ref sig .tc := ⟨.hbm, 320, rfl⟩
abbrev main_v185 : Ref sig .tc := ⟨.hbm, 321, rfl⟩
abbrev main_v186 : Ref sig .tc := ⟨.hbm, 322, rfl⟩
abbrev main_cst_24 : Ref sig .tc := ⟨.hbm, 323, rfl⟩
abbrev main_call16_v0 : Ref sig .tc := ⟨.hbm, 324, rfl⟩
abbrev main_call16_v1 : Ref sig .tc := ⟨.hbm, 325, rfl⟩
abbrev main_v187 : Ref sig .tc := ⟨.hbm, 326, rfl⟩
abbrev main_cst_25 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_call17_v0 : Ref sig .tc := ⟨.hbm, 337, rfl⟩
abbrev main_call17_v1 : Ref sig .tc := ⟨.hbm, 338, rfl⟩
abbrev main_call17_cst : Ref sig .tc := ⟨.hbm, 339, rfl⟩
abbrev main_call17_v2 : Ref sig .tc := ⟨.hbm, 340, rfl⟩
abbrev main_call17_v3 : Ref sig .tc := ⟨.hbm, 341, rfl⟩
abbrev main_call17_cst_0 : Ref sig .tc := ⟨.hbm, 342, rfl⟩
abbrev main_call17_v4 : Ref sig .tc := ⟨.hbm, 343, rfl⟩
abbrev main_call17_v5 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_cst_26 : Ref sig .tc := ⟨.hbm, 349, rfl⟩
abbrev main_v201 : Ref sig .tc := ⟨.hbm, 350, rfl⟩
abbrev main_v202 : Ref sig .tc := ⟨.hbm, 351, rfl⟩
abbrev main_v203 : Ref sig .tc := ⟨.hbm, 352, rfl⟩

abbrev nD : Nat := 1
abbrev τ : Topo := Topo.v7x

variable {F : FTy → Type} [FloatOps F]
-- ==== Combine.lean ====
abbrev S2048 : Shape := ⟨1, ![2048]⟩
abbrev S6144x1024 : Shape := ⟨2, ![6144, 1024]⟩
abbrev S2048x1 : Shape := ⟨2, ![2048, 1]⟩
abbrev S_ : Shape := ⟨0, ![]⟩
abbrev S4 : Shape := ⟨1, ![4]⟩
abbrev S1x4 : Shape := ⟨2, ![1, 4]⟩
abbrev S2048x4 : Shape := ⟨2, ![2048, 4]⟩
abbrev S8192 : Shape := ⟨1, ![8192]⟩
abbrev S24576x2x128 : Shape := ⟨3, ![24576, 2, 128]⟩
abbrev S8192x2x128 : Shape := ⟨3, ![8192, 2, 128]⟩
abbrev S256 : Shape := ⟨1, ![256]⟩
abbrev S128x2x128 : Shape := ⟨3, ![128, 2, 128]⟩
abbrev S128 : Shape := ⟨1, ![128]⟩
abbrev S2048x1024 : Shape := ⟨2, ![2048, 1024]⟩

abbrev nBuf : Table → Nat
  | .hbm => 28
  | .local .scVector .vmem => 4
  | _ => 0

abbrev bufTy : (tb : Table) → Fin (nBuf tb) → BufTy
  | .hbm, ⟨0, _⟩ => ⟨S2048, .i32⟩
  | .hbm, ⟨1, _⟩ => ⟨S2048, .i32⟩
  | .hbm, ⟨2, _⟩ => ⟨S6144x1024, .f32⟩
  | .hbm, ⟨3, _⟩ => ⟨S2048x1, .i32⟩
  | .hbm, ⟨4, _⟩ => ⟨S_, .i32⟩
  | .hbm, ⟨5, _⟩ => ⟨S2048x1, .i32⟩
  | .hbm, ⟨6, _⟩ => ⟨S2048x1, .i32⟩
  | .hbm, ⟨7, _⟩ => ⟨S4, .i32⟩
  | .hbm, ⟨8, _⟩ => ⟨S1x4, .i32⟩
  | .hbm, ⟨9, _⟩ => ⟨S2048x4, .i32⟩
  | .hbm, ⟨10, _⟩ => ⟨S2048x4, .i32⟩
  | .hbm, ⟨11, _⟩ => ⟨S2048x4, .i32⟩
  | .hbm, ⟨12, _⟩ => ⟨S8192, .i32⟩
  | .hbm, ⟨13, _⟩ => ⟨S2048x1, .i32⟩
  | .hbm, ⟨14, _⟩ => ⟨S_, .i32⟩
  | .hbm, ⟨15, _⟩ => ⟨S2048x1, .i32⟩
  | .hbm, ⟨16, _⟩ => ⟨S2048x1, .i32⟩
  | .hbm, ⟨17, _⟩ => ⟨S4, .i32⟩
  | .hbm, ⟨18, _⟩ => ⟨S1x4, .i32⟩
  | .hbm, ⟨19, _⟩ => ⟨S2048x4, .i32⟩
  | .hbm, ⟨20, _⟩ => ⟨S2048x4, .i32⟩
  | .hbm, ⟨21, _⟩ => ⟨S2048x4, .i32⟩
  | .hbm, ⟨22, _⟩ => ⟨S8192, .i32⟩
  | .hbm, ⟨23, _⟩ => ⟨S24576x2x128, .f32⟩
  | .hbm, ⟨24, _⟩ => ⟨S8192x2x128, .f32⟩
  | .hbm, ⟨25, _⟩ => ⟨S8192x2x128, .f32⟩
  | .hbm, ⟨26, _⟩ => ⟨S2048x1024, .f32⟩
  | .hbm, ⟨27, _⟩ => ⟨S2048x1024, .f32⟩
  | .local .scVector .vmem, ⟨0, _⟩ => ⟨S256, .i32⟩
  | .local .scVector .vmem, ⟨1, _⟩ => ⟨S256, .i32⟩
  | .local .scVector .vmem, ⟨2, _⟩ => ⟨S128x2x128, .f32⟩
  | .local .scVector .vmem, ⟨3, _⟩ => ⟨S128x2x128, .f32⟩
  | _, _ => ⟨S2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v20 : Ref sig .tc := ⟨.hbm, 26, rfl⟩
abbrev main_v21 : Ref sig .tc := ⟨.hbm, 27, rfl⟩
abbrev main_v8_scv : Ref sig .scVector := ⟨.hbm, 12, rfl⟩
abbrev main_v17_scv : Ref sig .scVector := ⟨.hbm, 22, rfl⟩
abbrev main_v18_scv : Ref sig .scVector := ⟨.hbm, 23, rfl⟩
abbrev main_v19_0_scv : Ref sig .scVector := ⟨.hbm, 24, rfl⟩
abbrev main_v19_1_scv : Ref sig .scVector := ⟨.hbm, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  ![v2.toNat]
def k0_off2 (i : grid0.Coords) (c0_i32_3 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v5 : BitVec 32 := Scalar.addi v2 c0_i32_3
  let c0_i32_34_r2 : BitVec 32 := 0#32
  let c0_i32_35_r2 : BitVec 32 := 0#32
  ![v5.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CombineReferenceIdeal.lean ====
abbrev S2048 : Shape := ⟨1, ![2048]⟩
abbrev S6144x1024 : Shape := ⟨2, ![6144, 1024]⟩
abbrev S2048x1 : Shape := ⟨2, ![2048, 1]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S6144x1024, .f32⟩
  | .hbm, ⟨3, _⟩ => ⟨S2048x1, .i32⟩
  | .hbm, ⟨4, _⟩ => ⟨S2048x1024, .f32⟩
  | .hbm, ⟨5, _⟩ => ⟨S2048x1, .i32⟩
  | .hbm, ⟨6, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_call1_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Proof.CombineTile.lean ====
/-
  The combining gather's task on one tile. Each of the 32 tiles (two SparseCores of sixteen) reads its 256 words of
  each of two lists of piece numbers, fetches the named pieces of the sorted rows by indirect gathers into two
  staging buffers, and copies them out to its 256 rows of each of the two results.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueIdxCore
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers the call is given -/

abbrev pLoc (d : Dev nD) : Loc nD τ sig := (SparseCore.T d).loc main_v8
abbrev rLoc (d : Dev nD) : Loc nD τ sig := (SparseCore.T d).loc main_v17
abbrev yLoc (d : Dev nD) : Loc nD τ sig := (SparseCore.T d).loc main_v18
abbrev oLoc (d : Dev nD) : Loc nD τ sig := (SparseCore.T d).loc main_v19_0
abbrev uLoc (d : Dev nD) : Loc nD τ sig := (SparseCore.T d).loc main_v19_1

local notation "pV" => (Memref.whole Cert.CombineIdeal.main_v8_scv : Memref Cert.CombineIdeal.sig Kind.scVector Space.hbm Cert.CombineIdeal.S8192 EltTy.i32)
local notation "rV" => (Memref.whole Cert.CombineIdeal.main_v17_scv : Memref Cert.CombineIdeal.sig Kind.scVector Space.hbm Cert.CombineIdeal.S8192 EltTy.i32)
local notation "yV" => (Memref.whole Cert.CombineIdeal.main_v18_scv : Memref Cert.CombineIdeal.sig Kind.scVector Space.hbm Cert.CombineIdeal.S24576x2x128 EltTy.f32)
local notation "oV" => (Memref.whole Cert.CombineIdeal.main_v19_0_scv : Memref Cert.CombineIdeal.sig Kind.scVector Space.hbm Cert.CombineIdeal.S8192x2x128 EltTy.f32)
local notation "uV" => (Memref.whole Cert.CombineIdeal.main_v19_1_scv : Memref Cert.CombineIdeal.sig Kind.scVector Space.hbm Cert.CombineIdeal.S8192x2x128 EltTy.f32)
local notation "sV" => (Memref.whole Cert.CombineIdeal.cc0_scratch0 : Memref Cert.CombineIdeal.sig Kind.scVector Space.vmem Cert.CombineIdeal.S256 EltTy.i32)
local notation "tV" => (Memref.whole Cert.CombineIdeal.cc0_scratch1 : Memref Cert.CombineIdeal.sig Kind.scVector Space.vmem Cert.CombineIdeal.S256 EltTy.i32)
local notation "aV" => (Memref.whole Cert.CombineIdeal.cc0_scratch2 : Memref Cert.CombineIdeal.sig Kind.scVector Space.vmem Cert.CombineIdeal.S128x2x128 EltTy.f32)
local notation "bV" => (Memref.whole Cert.CombineIdeal.cc0_scratch3 : Memref Cert.CombineIdeal.sig Kind.scVector Space.vmem Cert.CombineIdeal.S128x2x128 EltTy.f32)

/-- The rows of the lists tile `n = 16 c + s` reads. -/
def pRows (n : ℕ) : Finset S8192.Idx := Finset.univ.filter fun x => (x 0).val / 256 = n
/-- The `n`-th block of 128 rows of a result. -/
def oRows (n : ℕ) : Finset S8192x2x128.Idx := Finset.univ.filter fun x => (x 0).val / 128 = n

/-- What the gather leaves in a result: row `x` is the piece of the sorted rows the list's word `x` names. -/
def GATH (p : S8192.Idx → BitVec 32) (y : S24576x2x128.Idx → Elt F .f32) : S8192x2x128.Idx → Elt F .f32 :=
  fun x => y (ix3 ⟨(p (ix1 (x 0))).toNat % 24576, Nat.mod_lt _ (by decide)⟩ (x 1) (x 2))

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
/-- The tile's number. -/
abbrev nL (L : grid0.Coords) : ℕ := 16 * (L 0).val + (L 1).val

abbrev pRowK (L : grid0.Coords) : Memref sig .scVector .hbm S256 .i32 := (pV).slice (Rect.unit (s := S8192) (k0_off1 L) S256.size (k0_off1_inb L)) (fun _ => rfl)
abbrev rRowK (L : grid0.Coords) : Memref sig .scVector .hbm S256 .i32 := (rV).slice (Rect.unit (s := S8192) (k0_off1 L) S256.size (k0_off1_inb L)) (fun _ => rfl)
abbrev oBlkK0 (L : grid0.Coords) : Memref sig .scVector .hbm S128x2x128 .f32 := (oV).slice (Rect.unit (s := S8192x2x128) (k0_off2 L 0#32) S128x2x128.size (k0_off2_inb L 0)) (fun _ => rfl)
abbrev oBlkK1 (L : grid0.Coords) : Memref sig .scVector .hbm S128x2x128 .f32 := (oV).slice (Rect.unit (s := S8192x2x128) (k0_off2 L 128#32) S128x2x128.size (k0_off2_inb L 1)) (fun _ => rfl)
abbrev uBlkK0 (L : grid0.Coords) : Memref sig .scVector .hbm S128x2x128 .f32 := (uV).slice (Rect.unit (s := S8192x2x128) (k0_off2 L 0#32) S128x2x128.size (k0_off2_inb L 0)) (fun _ => rfl)
abbrev uBlkK1 (L : grid0.Coords) : Memref sig .scVector .hbm S128x2x128 .f32 := (uV).slice (Rect.unit (s := S8192x2x128) (k0_off2 L 128#32) S128x2x128.size (k0_off2_inb L 1)) (fun _ => rfl)

omit [FloatOps F] in
theorem set_off1 : (Rect.unit (s := S8192) (k0_off1 L) S256.size (k0_off1_inb L)).set = pRows (nL L) := by
  ext x
  rw [Rect.mem_set_unit, pRows, Finset.mem_filter]
  simp only [k0_off1_eq, Finset.mem_univ, true_and]
  constructor
  · intro h; have := h 0; simp at this; unfold nL; omega
  · intro h a; unfold nL at h; match a with | ⟨0, _⟩ => exact ⟨show 4096 * (L 0).val + 256 * (L 1).val ≤ (x 0).val by omega, show (x 0).val < 4096 * (L 0).val + 256 * (L 1).val + 256 by omega⟩

omit [FloatOps F] in
theorem set_off2 (r : Fin 2) : (Rect.unit (s := S8192x2x128) (k0_off2 L (BitVec.ofNat 32 (128 * r.val))) S128x2x128.size (k0_off2_inb L r)).set
    = oRows (2 * nL L + r.val) := by
  ext x
  rw [Rect.mem_set_unit, oRows, Finset.mem_filter]
  simp only [k0_off2_eq, Finset.mem_univ, true_and]
  constructor
  · intro h; have := h 0; simp at this; unfold nL; omega
  · intro h a; unfold nL at h; match a with
    | ⟨0, _⟩ => exact ⟨show 4096 * (L 0).val + 256 * (L 1).val + 128 * r.val ≤ (x 0).val by omega, show (x 0).val < 4096 * (L 0).val + 256 * (L 1).val + 128 * r.val + 128 by omega⟩
    | ⟨1, _⟩ => exact ⟨Nat.zero_le _, show (x 1).val < 0 + 2 from by have := (x 1).isLt; exact this⟩
    | ⟨2, _⟩ => exact ⟨Nat.zero_le _, show (x 2).val < 0 + 128 from by have := (x 2).isLt; exact this⟩

omit [FloatOps F] in
theorem set_pRowK : (pRowK L).view.set = pRows (nL L) := by
  show ((View.whole (main_v8_scv : Ref sig .scVector)).slice _).set = _
  rw [View.set_slice]; exact Finset.map_refl.trans (set_off1 L)
omit [FloatOps F] in
theorem set_rRowK : (rRowK L).view.set = pRows (nL L) := by
  show ((View.whole (main_v17_scv : Ref sig .scVector)).slice _).set = _
  rw [View.set_slice]; exact Finset.map_refl.trans (set_off1 L)
omit [FloatOps F] in
theorem set_oBlkK0 : (oBlkK0 L).view.set = oRows (2 * nL L) := by
  show ((View.whole (main_v19_0_scv : Ref sig .scVector)).slice _).set = _
  rw [View.set_slice]; exact Finset.map_refl.trans (set_off2 L 0)
omit [FloatOps F] in
theorem set_oBlkK1 : (oBlkK1 L).view.set = oRows (2 * nL L + 1) := by
  show ((View.whole (main_v19_0_scv : Ref sig .scVector)).slice _).set = _
  rw [View.set_slice]; exact Finset.map_refl.trans (set_off2 L 1)
omit [FloatOps F] in
theorem set_uBlkK0 : (uBlkK0 L).view.set = oRows (2 * nL L) := by
  show ((View.whole (main_v19_1_scv : Ref sig .scVector)).slice _).set = _
  rw [View.set_slice]; exact Finset.map_refl.trans (set_off2 L 0)
omit [FloatOps F] in
theorem set_uBlkK1 : (uBlkK1 L).view.set = oRows (2 * nL L + 1) := by
  show ((View.whole (main_v19_1_scv : Ref sig .scVector)).slice _).set = _
  rw [View.set_slice]; exact Finset.map_refl.trans (set_off2 L 1)

/-- The tile's eight copy counters at zero. -/
abbrev cells0 (d : Dev nD) (L : grid0.Coords) : sProp 𝕄 :=
  iprop(semVal (VT d L, SemLoc.dma cc0_scratch4.sem) 0 ∗ semVal (VT d L, SemLoc.dma cc0_scratch5.sem) 0 ∗ semVal (VT d L, SemLoc.dma cc0_scoped0.sem) 0
    ∗ semVal (VT d L, SemLoc.dma cc0_scoped1.sem) 0 ∗ semVal (VT d L, SemLoc.dma cc0_scoped2.sem) 0 ∗ semVal (VT d L, SemLoc.dma cc0_scoped3.sem) 0
    ∗ semVal (VT d L, SemLoc.dma cc0_scoped4.sem) 0 ∗ semVal (VT d L, SemLoc.dma cc0_scoped5.sem) 0)

omit [FloatOps F] in
theorem read_list (s : Memref sig .scVector .vmem S256 .i32) (hs : s.IsWhole) (g0 : Buf (Elt F) (s.view.loc (VT d L)))
    (pay : S256.Idx → Elt F .i32) (o : Fin 1 → ℕ) (hk : ∀ a, o a + S128.size a ≤ S256.size a) (x : S128.Idx) :
    View.read (Elt F) (s.slice (Rect.unit (s := S256) o S128.size hk) (fun _ => rfl)).view
      (s.view.writes (Elt F) g0 [⟨Rect.whole S256, pay⟩]) x = pay ((Rect.unit (s := S256) o S128.size hk).emb x) := by
  rw [← congrFun (View.read_writes_whole s.view g0 pay) ((Rect.unit (s := S256) o S128.size hk).emb x), View.read_apply, View.read_apply]; rfl

omit [FloatOps F] in
/-- A window of a fetched list holds words of the list. -/
theorem inb_p (p : Buf (Elt F) (pLoc d)) (hp : ∀ x, (p x).toNat < 24576) (g0 : Buf (Elt F) ((sV).view.loc (VT d L)))
    (pay : S256.Idx → Elt F .i32) (hpay : pay = ReadAs.same.apply ((pRowK L).view.read (Elt F) p)) (o : Fin 1 → ℕ)
    (hk : ∀ a, o a + S128.size a ≤ S256.size a) :
    ∀ x, (View.read (Elt F) ((sV).slice (Rect.unit (s := S256) o S128.size hk) (fun _ => rfl)).view
      ((sV).view.writes (Elt F) g0 [⟨Rect.whole cc0_scratch0.ty.shape, pay⟩]) x).toNat < 24576 := by
  subst hpay; intro x
  have e := read_list d L sV (Memref.isWhole_whole _) g0 (ReadAs.same.apply ((pRowK L).view.read (Elt F) p)) o hk x
  exact lt_of_eq_of_lt (congrArg BitVec.toNat e) (hp _)

omit [FloatOps F] in
theorem inb_r (p : Buf (Elt F) (rLoc d)) (hp : ∀ x, (p x).toNat < 24576) (g0 : Buf (Elt F) ((tV).view.loc (VT d L)))
    (pay : S256.Idx → Elt F .i32) (hpay : pay = ReadAs.same.apply ((rRowK L).view.read (Elt F) p)) (o : Fin 1 → ℕ)
    (hk : ∀ a, o a + S128.size a ≤ S256.size a) :
    ∀ x, (View.read (Elt F) ((tV).slice (Rect.unit (s := S256) o S128.size hk) (fun _ => rfl)).view
      ((tV).view.writes (Elt F) g0 [⟨Rect.whole cc0_scratch1.ty.shape, pay⟩]) x).toNat < 24576 := by
  subst hpay; intro x
  have e := read_list d L tV (Memref.isWhole_whole _) g0 (ReadAs.same.apply ((rRowK L).view.read (Elt F) p)) o hk x
  exact lt_of_eq_of_lt (congrArg BitVec.toNat e) (hp _)

/-- One gather of the run: the pieces a window of 128 words of a fetched list names, as the rows of a block of the
    result. -/
theorem gather_val (r : Fin 2) (p : Buf (Elt F) (pLoc d)) (hp : ∀ x, (p x).toNat < 24576) (y : Buf (Elt F) (yLoc d))
    (l : Memref sig .scVector .vmem S256 .i32) (hl : l.IsWhole) (g : Buf (Elt F) (l.view.loc (VT d L))) (pay : S256.Idx → Elt F .i32)
    (hpay : ∀ z, pay z = p ((Rect.unit (s := S8192) (k0_off1 L) S256.size (k0_off1_inb L)).emb z))
    (o : Fin 1 → ℕ) (ho : o 0 = 128 * r.val) (hk : ∀ a, o a + S128.size a ≤ S256.size a)
    (hg : S24576x2x128.Gathers 0 S128x2x128) (hn) (hin) (j : S128x2x128.Idx) :
    SparseCore.gatherPayload hg (View.read (Elt F) ((yV).slice (Rect.unit (s := S24576x2x128) ![0, 0, 0] S24576x2x128.size inb_S24576x2x128_S24576x2x128_0_0_0) (fun _ => rfl)).view y)
      (SparseCore.rows (View.read (Elt F) (l.slice (Rect.unit (s := S256) o S128.size hk) (fun _ => rfl)).view
        (l.view.writes (Elt F) g [⟨Rect.whole S256, pay⟩])) hn hin) j
      = GATH p y ((Rect.unit (s := S8192x2x128) (k0_off2 L (BitVec.ofNat 32 (128 * r.val))) S128x2x128.size (k0_off2_inb L r)).emb j) := by
  unfold SparseCore.gatherPayload
  rw [View.read_apply]
  show y _ = y _
  have hj : (j 0).val < 128 := (j 0).isLt
  have hL0 : (L 0).val < 2 := (L 0).isLt
  have hL1 : (L 1).val < 16 := (L 1).isLt
  have hr := r.isLt
  have e0 : (S128.rowMajor.symm ((j hg.axis').cast hn.symm)) = ix1 (⟨(j 0).val, hj⟩ : Fin 128) := by
    apply S128.rowMajor.injective; rw [Equiv.apply_symm_apply]; apply Fin.ext
    have h1 := Shape.rowMajor_val_one (d := S128.size) (ix1 (⟨(j 0).val, hj⟩ : Fin 128))
    exact h1.symm
  have e1 : (Rect.unit (s := S8192) (k0_off1 L) S256.size (k0_off1_inb L)).emb ((Rect.unit (s := S256) o S128.size hk).emb (ix1 (⟨(j 0).val, hj⟩ : Fin 128)))
      = ix1 (((Rect.unit (s := S8192x2x128) (k0_off2 L (BitVec.ofNat 32 (128 * r.val))) S128x2x128.size (k0_off2_inb L r)).emb j) 0) := by
    funext a; apply Fin.ext
    match a with
    | ⟨0, _⟩ =>
      show k0_off1 L 0 + 1 * (o 0 + 1 * (j 0).val) = k0_off2 L (BitVec.ofNat 32 (128 * r.val)) 0 + 1 * (j 0).val
      rw [k0_off1_eq, k0_off2_eq, ho]
      show 4096 * (L 0).val + 256 * (L 1).val + 1 * (128 * r.val + 1 * (j 0).val) = 4096 * (L 0).val + 256 * (L 1).val + 128 * r.val + 1 * (j 0).val
      omega
  congr 1
  funext b
  apply Fin.ext
  match b with
  | ⟨0, hb⟩ =>
    show 0 + 1 * (hg.idx _ j hg.axis).val = _
    rw [Shape.Gathers.idx_axis]
    show 0 + 1 * BitVec.toNat (View.read (Elt F) (l.slice (Rect.unit (s := S256) o S128.size hk) (fun _ => rfl)).view
        (l.view.writes (Elt F) g [⟨Rect.whole S256, pay⟩]) (S128.rowMajor.symm ((j hg.axis').cast hn.symm))) = (p _).toNat % 24576
    rw [e0, read_list d L l hl g pay o hk, hpay, e1, Nat.mod_eq_of_lt (hp _), Nat.zero_add, Nat.one_mul]; rfl
  | ⟨1, hb⟩ =>
    show 0 + 1 * (hg.idx _ j 1).val = k0_off2 L (BitVec.ofNat 32 (128 * r.val)) 1 + 1 * (j 1).val
    rw [Shape.Gathers.idx_of_ne _ _ _ _ (by decide), k0_off2_eq]; rfl
  | ⟨2, hb⟩ =>
    show 0 + 1 * (hg.idx _ j 2).val = k0_off2 L (BitVec.ofNat 32 (128 * r.val)) 2 + 1 * (j 2).val
    rw [Shape.Gathers.idx_of_ne _ _ _ _ (by decide), k0_off2_eq]; rfl

omit [FloatOps F] in
/-- What a staging buffer last filled whole reads back. -/
theorem stage_read (w : Memref sig .scVector .vmem S128x2x128 .f32) (f : w.view.ty.Contents (Elt F)) (pay : S128x2x128.Idx → Elt F .f32)
    (l : List (View.Piece (Elt F) S128x2x128 .f32)) (j : S128x2x128.Idx) :
    w.view.read (Elt F) (w.view.writes (Elt F) f (⟨Rect.whole S128x2x128, pay⟩ :: l)) j = pay j := by
  have h := View.read_writes_cons_emb w.view f (Rect.whole S128x2x128) pay l j
  rwa [Rect.emb_whole_apply] at h

omit [FloatOps F] in
/-- A block written whole holds what was written. -/
theorem blk_congr (w : Memref sig .scVector .hbm S128x2x128 .f32) (f G : Buf (Elt F) (w.view.loc (VT d L))) (pay : S128x2x128.Idx → Elt F .f32)
    (h : ∀ j, pay j = w.view.read (Elt F) G j) :
    (w.view.loc (VT d L) ↦[w.view.set]{fullShare} w.view.writes (Elt F) f [⟨Rect.whole S128x2x128, pay⟩] : sProp 𝕄)
      = w.view.loc (VT d L) ↦[w.view.set]{fullShare} G := by
  refine pointsTo_congr fun i hi => ?_
  obtain ⟨j, -, rfl⟩ := Finset.mem_map.mp hi
  have e := (congrFun (View.read_writes_whole w.view f pay) j).trans (h j)
  rw [View.read_apply, View.read_apply] at e
  exact (cast_inj _).mp e

set_option maxHeartbeats 4000000 in
theorem tile_run (p r : Buf (Elt F) (pLoc d)) (y : Buf (Elt F) (yLoc d)) (o u : Buf (Elt F) (oLoc d))
    (hp : ∀ x, (p x).toNat < 24576) (hr : ∀ x, (r x).toNat < 24576) (q : PosShare TreeShare)
    (O : CellTallies nD τ sig (HIx 1)) (W : Waits sig (HIx 1))
    (s0 : Buf (Elt F) ((sV).view.loc (VT d L))) (t0 : Buf (Elt F) ((tV).view.loc (VT d L)))
    (a0 : Buf (Elt F) ((aV).view.loc (VT d L))) (b0 : Buf (Elt F) ((bV).view.loc (VT d L))) :
    (iprop(Transfers.MayWaits (VT d L) (default : HIx 1) O
        ∗ ((pRowK L).view.loc (VT d L) ↦[(pRowK L).view.set]{fullShare} p)
        ∗ ((rRowK L).view.loc (VT d L) ↦[(rRowK L).view.set]{fullShare} r)
        ∗ ((yV).view.loc (VT d L) ↦{Transfers.shareTokN q 0} y)
        ∗ ((yV).view.loc (VT d L) ↦{Transfers.shareTokN q 1} y)
        ∗ ((oBlkK0 L).view.loc (VT d L) ↦[(oBlkK0 L).view.set]{fullShare} o)
        ∗ ((oBlkK1 L).view.loc (VT d L) ↦[(oBlkK1 L).view.set]{fullShare} o)
        ∗ ((uBlkK0 L).view.loc (VT d L) ↦[(uBlkK0 L).view.set]{fullShare} u)
        ∗ ((uBlkK1 L).view.loc (VT d L) ↦[(uBlkK1 L).view.set]{fullShare} u)
        ∗ ((sV).view.loc (VT d L) ↦[(sV).view.set]{fullShare} s0)
        ∗ ((tV).view.loc (VT d L) ↦[(tV).view.set]{fullShare} t0)
        ∗ ((aV).view.loc (VT d L) ↦[(aV).view.set]{fullShare} a0)
        ∗ ((bV).view.loc (VT d L) ↦[(bV).view.set]{fullShare} b0)
        ∗ cells0 d L
        ∗ owes (VT d L) O W) : sProp 𝕄)
      ⊢ wp frame (wpE (defs₀ (F := F)) 𝒱₀ (VT d L) none) Set.univ
          (cc0__k5_body L pV (Memref.isWhole_whole _) rV (Memref.isWhole_whole _) yV (Memref.isWhole_whole _)
            oV (Memref.isWhole_whole _) uV (Memref.isWhole_whole _) sV (Memref.isWhole_whole _) tV (Memref.isWhole_whole _)
            aV (Memref.isWhole_whole _) bV (Memref.isWhole_whole _) cc0_scratch4 cc0_scratch5 cc0_scoped0 cc0_scoped1 cc0_scoped2
            cc0_scoped3 cc0_scoped4 cc0_scoped5)
          fun _ => iprop(((pRowK L).view.loc (VT d L) ↦[(pRowK L).view.set]{fullShare} p)
            ∗ ((rRowK L).view.loc (VT d L) ↦[(rRowK L).view.set]{fullShare} r)
            ∗ ((yV).view.loc (VT d L) ↦{Transfers.shareTokN q 0} y)
            ∗ ((yV).view.loc (VT d L) ↦{Transfers.shareTokN q 1} y)
            ∗ ((oBlkK0 L).view.loc (VT d L) ↦[(oBlkK0 L).view.set]{fullShare} GATH p y)
            ∗ ((oBlkK1 L).view.loc (VT d L) ↦[(oBlkK1 L).view.set]{fullShare} GATH p y)
            ∗ ((uBlkK0 L).view.loc (VT d L) ↦[(uBlkK0 L).view.set]{fullShare} GATH r y)
            ∗ ((uBlkK1 L).view.loc (VT d L) ↦[(uBlkK1 L).view.set]{fullShare} GATH r y)
            ∗ (∃ f, (sV).view.loc (VT d L) ↦[(sV).view.set]{fullShare} f)
            ∗ (∃ f, (tV).view.loc (VT d L) ↦[(tV).view.set]{fullShare} f)
            ∗ (∃ f, (aV).view.loc (VT d L) ↦[(aV).view.set]{fullShare} f)
            ∗ (∃ f, (bV).view.loc (VT d L) ↦[(bV).view.set]{fullShare} f)
            ∗ cells0 d L
            ∗ ∃ W', owes (VT d L) O W') := by
  iintro ⟨#Hmw, HP, HR, HY0, HY1, HO0, HO1, HU0, HU1, HS, HT, HA, HB, ⟨Hc0, Hc1, Hc2, Hc3, Hc4, Hc5, Hc6, Hc7⟩, HW⟩
  sl_unfold [cc0__k5_body, k0_part1, k0_part2]
  sl_exec
  have h0 := fun g => inb_p d L p hp g (tile_run.sl.dma0 d L p) rfl ![0] inb_S256_S128_0
  have h1 := fun g => inb_p d L p hp g (tile_run.sl.dma0 d L p) rfl ![128] inb_S256_S128_128
  have h2 := fun g => inb_r d L r hr g (tile_run.sl.dma0_1 d L r) rfl ![0] inb_S256_S128_0
  have h3 := fun g => inb_r d L r hr g (tile_run.sl.dma0_1 d L r) rfl ![128] inb_S256_S128_128
  sl_exec
  sl_step
  have hv0 : ∀ j, tile_run.sl.dma0_2 d L p y a0 h0 j = (oBlkK0 L).view.read (Elt F) (GATH p y : Buf (Elt F) (oLoc d)) j := by
    intro j
    refine (stage_read aV a0 _ _ j).trans ?_
    exact gather_val d L 0 p hp y sV (Memref.isWhole_whole _) _ _ (fun z => rfl) ![0] rfl inb_S256_S128_0 gathers_S24576x2x128_S128x2x128 _ _ j
  have hv1 : ∀ j, tile_run.sl.dma0_3 d L p y b0 h1 j = (oBlkK1 L).view.read (Elt F) (GATH p y : Buf (Elt F) (oLoc d)) j := by
    intro j
    refine (stage_read bV b0 _ _ j).trans ?_
    exact gather_val d L 1 p hp y sV (Memref.isWhole_whole _) _ _ (fun z => rfl) ![128] rfl inb_S256_S128_128 gathers_S24576x2x128_S128x2x128 _ _ j
  have hv2 : ∀ j, tile_run.sl.dma0_4 d L p r y a0 h0 h2 j = (uBlkK0 L).view.read (Elt F) (GATH r y : Buf (Elt F) (oLoc d)) j := by
    intro j
    refine (stage_read aV a0 _ _ j).trans ?_
    exact gather_val d L 0 r hr y tV (Memref.isWhole_whole _) _ _ (fun z => rfl) ![0] rfl inb_S256_S128_0 gathers_S24576x2x128_S128x2x128 _ _ j
  have hv3 : ∀ j, tile_run.sl.dma0_5 d L p r y b0 h1 h3 j = (uBlkK1 L).view.read (Elt F) (GATH r y : Buf (Elt F) (oLoc d)) j := by
    intro j
    refine (stage_read bV b0 _ _ j).trans ?_
    exact gather_val d L 1 r hr y tV (Memref.isWhole_whole _) _ _ (fun z => rfl) ![128] rfl inb_S256_S128_128 gathers_S24576x2x128_S128x2x128 _ _ j
  ihave HO0 := (Entails.of_eq (blk_congr (F := F) d L (oBlkK0 L) o (GATH p y) _ hv0)) $$ HO0
  ihave HO1 := (Entails.of_eq (blk_congr (F := F) d L (oBlkK1 L) o (GATH p y) _ hv1)) $$ HO1
  ihave HU0 := (Entails.of_eq (blk_congr (F := F) d L (uBlkK0 L) u (GATH r y) _ hv2)) $$ HU0
  ihave HU1 := (Entails.of_eq (blk_congr (F := F) d L (uBlkK1 L) u (GATH r y) _ hv3)) $$ HU1
  sl_close

end Tile

end Cert.Proof.Combine

end
-- ==== Proof.CombineRun.lean ====
/-
  The combining gather's launch: what the call hands to each of its 32 tiles and takes back, the host operations
  before and after it, and the memory every run of the program ends with.
-/
module

public import proofs.«01_k».proof.Proof.CombineTile
public import Idealize.ShloMosaic.Lib.Pipeline.Frame

@[expose] public section

noncomputable section

namespace Cert.Proof.Combine

open Cert.CombineIdeal Cert.CombineIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs)

variable {F : FTy → Type} [FloatOps F]

local notation "𝕄" => MT nD τ sig (HIx 1) (Elt F) ℕ UU ℕ
local notation "pV" => (Memref.whole Cert.CombineIdeal.main_v8_scv : Memref Cert.CombineIdeal.sig Kind.scVector Space.hbm Cert.CombineIdeal.S8192 EltTy.i32)
local notation "rV" => (Memref.whole Cert.CombineIdeal.main_v17_scv : Memref Cert.CombineIdeal.sig Kind.scVector Space.hbm Cert.CombineIdeal.S8192 EltTy.i32)
local notation "yV" => (Memref.whole Cert.CombineIdeal.main_v18_scv : Memref Cert.CombineIdeal.sig Kind.scVector Space.hbm Cert.CombineIdeal.S24576x2x128 EltTy.f32)
local notation "oV" => (Memref.whole Cert.CombineIdeal.main_v19_0_scv : Memref Cert.CombineIdeal.sig Kind.scVector Space.hbm Cert.CombineIdeal.S8192x2x128 EltTy.f32)
local notation "uV" => (Memref.whole Cert.CombineIdeal.main_v19_1_scv : Memref Cert.CombineIdeal.sig Kind.scVector Space.hbm Cert.CombineIdeal.S8192x2x128 EltTy.f32)
local notation "sV" => (Memref.whole Cert.CombineIdeal.cc0_scratch0 : Memref Cert.CombineIdeal.sig Kind.scVector Space.vmem Cert.CombineIdeal.S256 EltTy.i32)
local notation "tV" => (Memref.whole Cert.CombineIdeal.cc0_scratch1 : Memref Cert.CombineIdeal.sig Kind.scVector Space.vmem Cert.CombineIdeal.S256 EltTy.i32)
local notation "aV" => (Memref.whole Cert.CombineIdeal.cc0_scratch2 : Memref Cert.CombineIdeal.sig Kind.scVector Space.vmem Cert.CombineIdeal.S128x2x128 EltTy.f32)
local notation "bV" => (Memref.whole Cert.CombineIdeal.cc0_scratch3 : Memref Cert.CombineIdeal.sig Kind.scVector Space.vmem Cert.CombineIdeal.S128x2x128 EltTy.f32)

/-! ## The host operations around the call -/

/-- What the host does before the call: the two lists of piece numbers and the rows cut into pieces. -/
def ops1 : List (HloOp τ sig (Elt F)) :=
  [StableHlo.unary main_arg0 main_v0 (broadcastInDim S2048x1 ![0] bcast_S2048_S2048x1_0),
   StableHlo.nullary main_c (constantI S_ 32 4#32),
   StableHlo.unary main_c main_v1 (broadcastInDim S2048x1 ![] bcast_S_S2048x1),
   StableHlo.binary main_v0 main_v1 main_v2 muli,
   StableHlo.nullary main_v3 (iotaInDim S4 32 0),
   StableHlo.unary main_v3 main_v4 (broadcastInDim S1x4 ![1] bcast_S4_S1x4_1),
   StableHlo.unary main_v2 main_v5 (broadcastInDim S2048x4 ![0, 1] bcast_S2048x1_S2048x4_0_1),
   StableHlo.unary main_v4 main_v6 (broadcastInDim S2048x4 ![0, 1] bcast_S1x4_S2048x4_0_1),
   StableHlo.binary main_v5 main_v6 main_v7 addi,
   StableHlo.reshape main_v7 main_v8 rfl shapeCasts_S2048x4_S8192,
   StableHlo.unary main_arg1 main_v9 (broadcastInDim S2048x1 ![0] bcast_S2048_S2048x1_0),
   StableHlo.nullary main_c_0 (constantI S_ 32 4#32),
   StableHlo.unary main_c_0 main_v10 (broadcastInDim S2048x1 ![] bcast_S_S2048x1),
   StableHlo.binary main_v9 main_v10 main_v11 muli,
   StableHlo.nullary main_v12 (iotaInDim S4 32 0),
   StableHlo.unary main_v12 main_v13 (broadcastInDim S1x4 ![1] bcast_S4_S1x4_1),
   StableHlo.unary main_v11 main_v14 (broadcastInDim S2048x4 ![0, 1] bcast_S2048x1_S2048x4_0_1),
   StableHlo.unary main_v13 main_v15 (broadcastInDim S2048x4 ![0, 1] bcast_S1x4_S2048x4_0_1),
   StableHlo.binary main_v14 main_v15 main_v16 addi,
   StableHlo.reshape main_v16 main_v17 rfl shapeCasts_S2048x4_S8192,
   StableHlo.reshape main_arg2 main_v18 rfl shapeCasts_S6144x1024_S24576x2x128]

/-- What the host does after it: the gathered pieces joined into rows. -/
def ops2 : List (HloOp τ sig (Elt F)) :=
  [StableHlo.reshape main_v19_0 main_v20 rfl shapeCasts_S8192x2x128_S2048x1024,
   StableHlo.reshape main_v19_1 main_v21 rfl shapeCasts_S8192x2x128_S2048x1024]

theorem main_eq (d : Dev nD) :
    main (F := F) d = seq ops1 >>= fun _ => (sc (F := F)).run d 0 >>= fun _ => seq ops2 >>= fun _ => pure ⟨⟩ := by
  rw [seq_bind_seqK]
  simp only [seq_bind_seqK]
  rfl

abbrev B8 : DevRef τ sig := Proc.devRef (τ := τ) .tc main_v8
abbrev B17 : DevRef τ sig := Proc.devRef (τ := τ) .tc main_v17
abbrev B18 : DevRef τ sig := Proc.devRef (τ := τ) .tc main_v18
abbrev B190 : DevRef τ sig := Proc.devRef (τ := τ) .tc main_v19_0
abbrev B191 : DevRef τ sig := Proc.devRef (τ := τ) .tc main_v19_1
/-- The buffers the call names. -/
def SS : Finset (DevRef τ sig) := {B8, B17, B18, B190, B191}

section Contents

variable (m : (ℓ : Loc nD τ sig) → Buf (Elt F) ℓ)

/-- The memory at the call. -/
def V1 (d : Dev nD) : Valuation τ sig (Elt F) := after ops1 (fun b => m (d, b))

def pC (d : Dev nD) : Buf (Elt F) (pLoc d) := V1 m d B8
def rC (d : Dev nD) : Buf (Elt F) (rLoc d) := V1 m d B17
def yC (d : Dev nD) : Buf (Elt F) (yLoc d) := V1 m d B18
def oC (d : Dev nD) : Buf (Elt F) (oLoc d) := V1 m d B190
def uC (d : Dev nD) : Buf (Elt F) (uLoc d) := V1 m d B191

/-- The memory after the call: the two results at the gathered pieces. -/
def V2 (d : Dev nD) : Valuation τ sig (Elt F) :=
  Function.update (Function.update (V1 m d) B190 (GATH (pC m d) (yC m d))) B191 (GATH (rC m d) (yC m d))

/-- The memory at the end. -/
def V3 (d : Dev nD) : Valuation τ sig (Elt F) := after ops2 (V2 m d)

/-- What the proof asks of the launch memory: every word of the two lists names a piece. -/
def PreOK : Prop := ∀ d : Dev nD, (∀ x, (pC m d x).toNat < 24576) ∧ (∀ x, (rC m d x).toNat < 24576)

/-! ## The tiles' pieces -/

/-- Tile `n`'s share of the sorted rows. -/
def yq (n : ℕ) : PosShare TreeShare := ShareLeaves.leaf 5 fullShare ⟨n % 32, Nat.mod_lt _ (by decide)⟩

/-- What tile `n` holds, the two results' blocks at the contents `o` and `u`. -/
abbrev piece (d : Dev nD) (o : Buf (Elt F) (oLoc d)) (u : Buf (Elt F) (uLoc d)) (n : ℕ) : sProp 𝕄 :=
  iprop((pLoc d ↦[pRows n]{fullShare} pC m d) ∗ (rLoc d ↦[pRows n]{fullShare} rC m d) ∗ (yLoc d ↦{yq n} yC m d)
    ∗ ((oLoc d ↦[oRows (2 * n)]{fullShare} o) ∗ (oLoc d ↦[oRows (2 * n + 1)]{fullShare} o))
    ∗ ((uLoc d ↦[oRows (2 * n)]{fullShare} u) ∗ (uLoc d ↦[oRows (2 * n + 1)]{fullShare} u)))

def P : (K (F := F)).Pay (nD := nD) (Val := Elt F) (Name := ℕ) (U := UU) where
  st := fun _ d c => bigSep (Finset.univ : Finset (Fin 16)) fun i => piece m d (oC m d) (uC m d) (16 * c.val + i.val)
  dn := fun _ d c => bigSep (Finset.univ : Finset (Fin 16)) fun i => piece m d (GATH (pC m d) (yC m d)) (GATH (rC m d) (yC m d)) (16 * c.val + i.val)
  go := fun _ d c i => piece m d (oC m d) (uC m d) (16 * c.val + i.val)
  td := fun _ d c i => piece m d (GATH (pC m d) (yC m d)) (GATH (rC m d) (yC m d)) (16 * c.val + i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Contents

/-! ## One tile, from what the launch deals it -/

section Tile

variable (m : (ℓ : Loc nD τ sig) → Buf (Elt F) ℓ) (d : Dev nD) (L : grid0.Coords)

abbrev dcell (d : Dev nD) (c : Fin τ.nSC) (i : Fin τ.nSub) (k : Fin 8) : GSem nD τ sig := (V d c i, .dma ⟨k.val, k.isLt⟩)

omit [FloatOps F] in
theorem dcell_mem (c : Fin τ.nSC) (i : Fin τ.nSub) (k : Fin 8) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the eight the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

abbrev vref (L : grid0.Coords) (b : Ref sig .scVector) : DevRef τ sig := (Proc.scVector (cV L) (jV L)).devRef b

omit [FloatOps F] in
/-- The four scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase (vref L cc0_scratch0)).erase (vref L cc0_scratch1)).erase
              (vref L cc0_scratch2)).erase (vref L cc0_scratch3))
              fun b => iprop(∃ f, ((d, b) : Loc nD τ sig) ↦{fullShare} f)) := by
  have own : ∀ b : Ref sig .scVector, b.isScoped = true → True := fun _ _ => trivial
  have ne : ∀ b b' : Ref sig .scVector, b ≠ b' → vref L b ≠ vref L b' := fun b b' h e => h (Proc.devRef_injective _ e)
  unfold SparseCore.Cfg.ownBufs
  refine (SparseCore.bigSep_erase' (SparseCore.Cfg.mem_ownRefs_of_owner (p := Proc.scVector (cV L) (jV L))
    (b := vref L cc0_scratch0) rfl)).trans ?_
  rw [SparseCore.bigSep_erase' (i := vref L cc0_scratch1) (Finset.mem_erase.mpr ⟨ne _ _ (by decide),
      SparseCore.Cfg.mem_ownRefs_of_owner (p := Proc.scVector (cV L) (jV L)) (b := vref L cc0_scratch1) rfl⟩),
    SparseCore.bigSep_erase' (i := vref L cc0_scratch2) (Finset.mem_erase.mpr ⟨ne _ _ (by decide), Finset.mem_erase.mpr ⟨ne _ _ (by decide),
      SparseCore.Cfg.mem_ownRefs_of_owner (p := Proc.scVector (cV L) (jV L)) (b := vref L cc0_scratch2) rfl⟩⟩),
    SparseCore.bigSep_erase' (i := vref L cc0_scratch3) (Finset.mem_erase.mpr ⟨ne _ _ (by decide), Finset.mem_erase.mpr ⟨ne _ _ (by decide),
      Finset.mem_erase.mpr ⟨ne _ _ (by decide),
      SparseCore.Cfg.mem_ownRefs_of_owner (p := Proc.scVector (cV L) (jV L)) (b := vref L cc0_scratch3) rfl⟩⟩⟩)]

omit [FloatOps F] in
/-- A share as two read tokens and what is left. -/
theorem yToks (q : PosShare TreeShare) (f : Buf (Elt F) (yLoc d)) :
    (yLoc d ↦{q} f : sProp 𝕄) ⊣⊢ iprop((yLoc d ↦{Transfers.shareDrop q 2} f) ∗ (yLoc d ↦{Transfers.shareTokN q 0} f) ∗ (yLoc d ↦{Transfers.shareTokN q 1} f)) := by
  have h : (yLoc d ↦{q} f : sProp 𝕄) ⊣⊢ iprop((yLoc d ↦{Transfers.shareDrop q 2} f) ∗ bigSep (Finset.range 2) fun i => yLoc d ↦{Transfers.shareTokN q i} f) :=
    Transfers.pointsTo_toks_range (ℓ := yLoc d) (S := Finset.univ) (f := f) q 2
  rw [show Finset.range 2 = {0, 1} by decide, SparseCore.bigSep_insert' (by decide), bigSep_singleton] at h
  exact h

theorem pts_p (f : Buf (Elt F) (pLoc d)) :
    ((pRowK L).view.loc (VT d L) ↦[(pRowK L).view.set]{fullShare} f : sProp 𝕄) = pLoc d ↦[pRows (nL L)]{fullShare} f := by
  rw [set_pRowK]
theorem pts_r (f : Buf (Elt F) (rLoc d)) :
    ((rRowK L).view.loc (VT d L) ↦[(rRowK L).view.set]{fullShare} f : sProp 𝕄) = rLoc d ↦[pRows (nL L)]{fullShare} f := by
  rw [set_rRowK]
theorem pts_o0 (f : Buf (Elt F) (oLoc d)) :
    ((oBlkK0 L).view.loc (VT d L) ↦[(oBlkK0 L).view.set]{fullShare} f : sProp 𝕄) = oLoc d ↦[oRows (2 * nL L)]{fullShare} f := by
  rw [set_oBlkK0]
theorem pts_o1 (f : Buf (Elt F) (oLoc d)) :
    ((oBlkK1 L).view.loc (VT d L) ↦[(oBlkK1 L).view.set]{fullShare} f : sProp 𝕄) = oLoc d ↦[oRows (2 * nL L + 1)]{fullShare} f := by
  rw [set_oBlkK1]
theorem pts_u0 (f : Buf (Elt F) (uLoc d)) :
    ((uBlkK0 L).view.loc (VT d L) ↦[(uBlkK0 L).view.set]{fullShare} f : sProp 𝕄) = uLoc d ↦[oRows (2 * nL L)]{fullShare} f := by
  rw [set_uBlkK0]
theorem pts_u1 (f : Buf (Elt F) (uLoc d)) :
    ((uBlkK1 L).view.loc (VT d L) ↦[(uBlkK1 L).view.set]{fullShare} f : sProp 𝕄) = uLoc d ↦[oRows (2 * nL L + 1)]{fullShare} f := by
  rw [set_uBlkK1]
theorem pts_s (f : Buf (Elt F) ((VT d L).loc cc0_scratch0)) :
    ((sV).view.loc (VT d L) ↦[(sV).view.set]{fullShare} f : sProp 𝕄) = (VT d L).loc cc0_scratch0 ↦{fullShare} f := by rw [View.set_whole]
theorem pts_t (f : Buf (Elt F) ((VT d L).loc cc0_scratch1)) :
    ((tV).view.loc (VT d L) ↦[(tV).view.set]{fullShare} f : sProp 𝕄) = (VT d L).loc cc0_scratch1 ↦{fullShare} f := by rw [View.set_whole]
theorem pts_a (f : Buf (Elt F) ((VT d L).loc cc0_scratch2)) :
    ((aV).view.loc (VT d L) ↦[(aV).view.set]{fullShare} f : sProp 𝕄) = (VT d L).loc cc0_scratch2 ↦{fullShare} f := by rw [View.set_whole]
theorem pts_b (f : Buf (Elt F) ((VT d L).loc cc0_scratch3)) :
    ((bV).view.loc (VT d L) ↦[(bV).view.set]{fullShare} f : sProp 𝕄) = (VT d L).loc cc0_scratch3 ↦{fullShare} f := by rw [View.set_whole]

/-- The task on one tile, from what the launch deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ piece m d (oC m d) (uC m d) (nL L)
        ∗ scopedBufs (VT d L) ∗ scopedSems0 (VT d L) ∗ owes (VT d L) O W)
      ⊢ wp frame (wpE (defs₀ (F := F)) 𝒱₀ (VT d L) none) Set.univ
          (cc0__k5_body L pV (Memref.isWhole_whole _) rV (Memref.isWhole_whole _) yV (Memref.isWhole_whole _)
            oV (Memref.isWhole_whole _) uV (Memref.isWhole_whole _) sV (Memref.isWhole_whole _) tV (Memref.isWhole_whole _)
            aV (Memref.isWhole_whole _) bV (Memref.isWhole_whole _) cc0_scratch4 cc0_scratch5 cc0_scoped0 cc0_scoped1 cc0_scoped2
            cc0_scoped3 cc0_scoped4 cc0_scoped5)
          fun _ => iprop(piece m d (GATH (pC m d) (yC m d)) (GATH (rC m d) (yC m d)) (nL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold piece
  iintro ⟨#Hlv, -, ⟨Hp, Hr, Hy, ⟨Ho0, Ho1⟩, ⟨Hu0, Hu1⟩⟩, ⟨⟨%s0, HS⟩, ⟨%t0, HT⟩, ⟨%a0, HA⟩, ⟨%b0, HB⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hy' := (yToks d (yq (nL L)) (yC m d)).1 $$ Hy
  icases Hy' with ⟨Hyr, Hy0, Hy1⟩
  iapply (wp_wand_r Idealize.ShloMosaic.frame (wpE (defs₀ (F := F)) 𝒱₀ (VT d L) none) Set.univ)
  isplitl [Hp Hr Hy0 Hy1 Ho0 Ho1 Hu0 Hu1 HS HT HA HB HC HO]
  · iapply (tile_run d L (pC m d) (rC m d) (yC m d) (oC m d) (uC m d) (hpre d).1 (hpre d).2 (yq (nL L)) O W s0 t0 a0 b0)
    isplitr; · iexact Hmw
    isplitl [Hp]; · iapply (Entails.of_eq (pts_p (F := F) d L _).symm); iexact Hp
    isplitl [Hr]; · iapply (Entails.of_eq (pts_r (F := F) d L _).symm); iexact Hr
    isplitl [Hy0]; · iexact Hy0
    isplitl [Hy1]; · iexact Hy1
    isplitl [Ho0]; · iapply (Entails.of_eq (pts_o0 (F := F) d L _).symm); iexact Ho0
    isplitl [Ho1]; · iapply (Entails.of_eq (pts_o1 (F := F) d L _).symm); iexact Ho1
    isplitl [Hu0]; · iapply (Entails.of_eq (pts_u0 (F := F) d L _).symm); iexact Hu0
    isplitl [Hu1]; · iapply (Entails.of_eq (pts_u1 (F := F) d L _).symm); iexact Hu1
    isplitl [HS]; · iapply (Entails.of_eq (pts_s (F := F) d L _).symm); iexact HS
    isplitl [HT]; · iapply (Entails.of_eq (pts_t (F := F) d L _).symm); iexact HT
    isplitl [HA]; · iapply (Entails.of_eq (pts_a (F := F) d L _).symm); iexact HA
    isplitl [HB]; · iapply (Entails.of_eq (pts_b (F := F) d L _).symm); iexact HB
    isplitl [HC]; · iexact HC
    iexact HO
  iintro %_ ⟨Hp, Hr, Hy0, Hy1, Ho0, Ho1, Hu0, Hu1, ⟨%s1, HS⟩, ⟨%t1, HT⟩, ⟨%a1, HA⟩, ⟨%b1, HB⟩, HC, ⟨%W', HO⟩⟩
  ihave Hy := (yToks d (yq (nL L)) (yC m d)).2 $$ [Hyr Hy0 Hy1]
  · isplitl [Hyr]; · iexact Hyr
    isplitl [Hy0]; · iexact Hy0
    iexact Hy1
  isplitl [Hp Hr Hy Ho0 Ho1 Hu0 Hu1]
  · isplitl [Hp]; · iapply (Entails.of_eq (pts_p (F := F) d L _)); iexact Hp
    isplitl [Hr]; · iapply (Entails.of_eq (pts_r (F := F) d L _)); iexact Hr
    isplitl [Hy]; · iexact Hy
    isplitl [Ho0 Ho1]
    · isplitl [Ho0]; · iapply (Entails.of_eq (pts_o0 (F := F) d L _)); iexact Ho0
      iapply (Entails.of_eq (pts_o1 (F := F) d L _)); iexact Ho1
    isplitl [Hu0]; · iapply (Entails.of_eq (pts_u0 (F := F) d L _)); iexact Hu0
    iapply (Entails.of_eq (pts_u1 (F := F) d L _)); iexact Hu1
  isplitl [HS HT HA HB Hbufs]
  · isplitl [HS]; · iexists _; iapply (Entails.of_eq (pts_s (F := F) d L _)); iexact HS
    isplitl [HT]; · iexists _; iapply (Entails.of_eq (pts_t (F := F) d L _)); iexact HT
    isplitl [HA]; · iexists _; iapply (Entails.of_eq (pts_a (F := F) d L _)); iexact HA
    isplitl [HB]; · iexists _; iapply (Entails.of_eq (pts_b (F := F) d L _)); iexact HB
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__k5_body (coordsV c s) pV (Memref.isWhole_whole _) rV (Memref.isWhole_whole _) yV (Memref.isWhole_whole _)
            oV (Memref.isWhole_whole _) uV (Memref.isWhole_whole _) sV (Memref.isWhole_whole _) tV (Memref.isWhole_whole _)
            aV (Memref.isWhole_whole _) bV (Memref.isWhole_whole _) cc0_scratch4 cc0_scratch5 cc0_scoped0 cc0_scoped1 cc0_scoped2
            cc0_scoped3 cc0_scoped4 cc0_scoped5) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

theorem vecSplit : (K (F := F)).VecSplit' (P m) 0 := by
  intro d c
  show (bigSep (Finset.univ : Finset (Fin 16)) fun i => piece m d (oC m d) (uC m d) (16 * c.val + i.val)) ⊢ |={Set.univ}=> iprop(
      (bigSep (Finset.univ : Finset (Fin 16)) fun i => piece m d (oC m d) (uC m d) (16 * c.val + i.val))
      ∗ ((bigSep (Finset.univ : Finset (Fin 16)) fun i => piece m d (GATH (pC m d) (yC m d)) (GATH (rC m d) (yC m d)) (16 * c.val + i.val))
        -∗ (bigSep (Finset.univ : Finset (Fin 16)) fun i => piece m d (GATH (pC m d) (yC m d)) (GATH (rC m d) (yC m d)) (16 * c.val + i.val))))
  iintro H; imodintro
  isplitl [H]; · iexact H
  iintro H; iexact H

end Tile

/-! ## The buffers as the tiles' pieces -/

section Split

variable (m : (ℓ : Loc nD τ sig) → Buf (Elt F) ℓ) (d : Dev nD)

omit [FloatOps F] in
/-- A buffer held whole is its 32 tiles' pieces, when every index belongs to one tile's. -/
theorem split_tiles {ℓ : Loc nD τ sig} (R : ℕ → Finset (Idx ℓ)) (hd : ∀ a b, a ≠ b → Disjoint (R a) (R b))
    (hc : ∀ x, ∃ n, n < 32 ∧ x ∈ R n) (f : Buf (Elt F) ℓ) :
    (ℓ ↦{fullShare} f : sProp 𝕄)
      = bigSep (Finset.univ : Finset (Fin 2)) fun c => bigSep (Finset.univ : Finset (Fin 16)) fun i => ℓ ↦[R (16 * c.val + i.val)]{fullShare} f := by
  rw [← BI.bigSep_univ_prod (fun x : Fin 2 × Fin 16 => (ℓ ↦[R (16 * x.1.val + x.2.val)]{fullShare} f : sProp 𝕄)),
    ← pointsTo_biUnion (ℓ := ℓ) (q := fullShare) (f := f) Finset.univ (fun x : Fin 2 × Fin 16 => R (16 * x.1.val + x.2.val))
      (fun x _ y _ h => hd _ _ fun e => h (by
        have := x.1.isLt; have := y.1.isLt; have := x.2.isLt; have := y.2.isLt
        exact Prod.ext (Fin.ext (by omega)) (Fin.ext (by omega))))]
  congr 1
  refine (Finset.eq_univ_of_forall fun x => ?_).symm
  obtain ⟨n, hn, hx⟩ := hc x
  refine Finset.mem_biUnion.mpr ⟨(⟨n / 16, by omega⟩, ⟨n % 16, Nat.mod_lt _ (by decide)⟩), Finset.mem_univ _, ?_⟩
  rw [show 16 * (n / 16) + n % 16 = n by omega]; exact hx

theorem pRows_disj (a b : ℕ) (h : a ≠ b) : Disjoint (pRows a) (pRows b) :=
  Finset.disjoint_left.mpr fun x ha hb => h ((Finset.mem_filter.mp ha).2.symm.trans (Finset.mem_filter.mp hb).2)
theorem oRows_disj (a b : ℕ) (h : a ≠ b) : Disjoint (oRows a) (oRows b) :=
  Finset.disjoint_left.mpr fun x ha hb => h ((Finset.mem_filter.mp ha).2.symm.trans (Finset.mem_filter.mp hb).2)

omit [FloatOps F] in
theorem split_p (f : Buf (Elt F) (pLoc d)) : (pLoc d ↦{fullShare} f : sProp 𝕄)
    = bigSep (Finset.univ : Finset (Fin 2)) fun c => bigSep (Finset.univ : Finset (Fin 16)) fun i => pLoc d ↦[pRows (16 * c.val + i.val)]{fullShare} f :=
  split_tiles (ℓ := pLoc d) pRows pRows_disj (fun x => ⟨(x 0).val / 256, by have : (x 0).val < 8192 := (x 0).isLt; omega, Finset.mem_filter.mpr ⟨Finset.mem_univ _, rfl⟩⟩) f
omit [FloatOps F] in
theorem split_r (f : Buf (Elt F) (rLoc d)) : (rLoc d ↦{fullShare} f : sProp 𝕄)
    = bigSep (Finset.univ : Finset (Fin 2)) fun c => bigSep (Finset.univ : Finset (Fin 16)) fun i => rLoc d ↦[pRows (16 * c.val + i.val)]{fullShare} f :=
  split_tiles (ℓ := rLoc d) pRows pRows_disj (fun x => ⟨(x 0).val / 256, by have : (x 0).val < 8192 := (x 0).isLt; omega, Finset.mem_filter.mpr ⟨Finset.mem_univ _, rfl⟩⟩) f

theorem oRows2_disj (a b : ℕ) (h : a ≠ b) : Disjoint (oRows (2 * a) ∪ oRows (2 * a + 1)) (oRows (2 * b) ∪ oRows (2 * b + 1)) := by
  simp only [Finset.disjoint_union_left, Finset.disjoint_union_right]
  exact ⟨⟨oRows_disj _ _ (by omega), oRows_disj _ _ (by omega)⟩, ⟨oRows_disj _ _ (by omega), oRows_disj _ _ (by omega)⟩⟩
theorem oRows2_cover (x : S8192x2x128.Idx) : ∃ n, n < 32 ∧ x ∈ oRows (2 * n) ∪ oRows (2 * n + 1) := by
  have : (x 0).val < 8192 := (x 0).isLt
  refine ⟨(x 0).val / 256, by omega, ?_⟩
  simp only [oRows, Finset.mem_union, Finset.mem_filter, Finset.mem_univ, true_and]
  omega

omit [FloatOps F] in
theorem split_o (f : Buf (Elt F) (oLoc d)) : (oLoc d ↦{fullShare} f : sProp 𝕄)
    = bigSep (Finset.univ : Finset (Fin 2)) fun c => bigSep (Finset.univ : Finset (Fin 16)) fun i =>
      iprop((oLoc d ↦[oRows (2 * (16 * c.val + i.val))]{fullShare} f) ∗ (oLoc d ↦[oRows (2 * (16 * c.val + i.val) + 1)]{fullShare} f)) := by
  rw [split_tiles (ℓ := oLoc d) (fun n => oRows (2 * n) ∪ oRows (2 * n + 1)) oRows2_disj oRows2_cover f]
  refine bigSep_congr fun c _ => bigSep_congr fun i _ => ?_
  have h : ((oLoc d ↦[oRows (2 * (16 * c.val + i.val)) ∪ oRows (2 * (16 * c.val + i.val) + 1)]{fullShare} f : sProp 𝕄)) ⊣⊢ _ :=
    pointsTo_union (oRows_disj (2 * (16 * c.val + i.val)) (2 * (16 * c.val + i.val) + 1) (by omega))
  exact BI.Entails.antisymm h.1 h.2
omit [FloatOps F] in
theorem split_u (f : Buf (Elt F) (uLoc d)) : (uLoc d ↦{fullShare} f : sProp 𝕄)
    = bigSep (Finset.univ : Finset (Fin 2)) fun c => bigSep (Finset.univ : Finset (Fin 16)) fun i =>
      iprop((uLoc d ↦[oRows (2 * (16 * c.val + i.val))]{fullShare} f) ∗ (uLoc d ↦[oRows (2 * (16 * c.val + i.val) + 1)]{fullShare} f)) := by
  rw [split_tiles (ℓ := uLoc d) (fun n => oRows (2 * n) ∪ oRows (2 * n + 1)) oRows2_disj oRows2_cover f]
  refine bigSep_congr fun c _ => bigSep_congr fun i _ => ?_
  have h : ((uLoc d ↦[oRows (2 * (16 * c.val + i.val)) ∪ oRows (2 * (16 * c.val + i.val) + 1)]{fullShare} f : sProp 𝕄)) ⊣⊢ _ :=
    pointsTo_union (oRows_disj (2 * (16 * c.val + i.val)) (2 * (16 * c.val + i.val) + 1) (by omega))
  exact BI.Entails.antisymm h.1 h.2

/-- The tiles' numbers, as pairs. -/
def tileEquiv : Fin 2 × Fin 16 ≃ Fin (2 ^ 5) where
  toFun x := ⟨16 * x.1.val + x.2.val, by have := x.1.isLt; have := x.2.isLt; norm_num; omega⟩
  invFun n := (⟨n.val / 16, by have := n.isLt; norm_num at this; omega⟩, ⟨n.val % 16, Nat.mod_lt _ (by decide)⟩)
  left_inv x := by have := x.1.isLt; have := x.2.isLt; exact Prod.ext (Fin.ext (by simp only; omega)) (Fin.ext (by simp only; omega))
  right_inv n := Fin.ext (by simp only; omega)

omit [FloatOps F] in
theorem split_y (f : Buf (Elt F) (yLoc d)) : (yLoc d ↦{fullShare} f : sProp 𝕄)
    = bigSep (Finset.univ : Finset (Fin 2)) fun c => bigSep (Finset.univ : Finset (Fin 16)) fun i => yLoc d ↦{yq (16 * c.val + i.val)} f := by
  rw [ShareLeaves.pointsTo_leaves Finset.univ f 5 fullShare,
    bigSep_univ_equiv tileEquiv (fun n => (yLoc d ↦{ShareLeaves.leaf 5 fullShare n} f : sProp 𝕄)), BI.bigSep_univ_prod]
  refine bigSep_congr fun c _ => bigSep_congr fun i _ => ?_
  unfold yq
  rw [show tileEquiv (c, i) = ⟨(16 * c.val + i.val) % 32, Nat.mod_lt _ (by decide)⟩ from
    Fin.ext (by have := c.isLt; have := i.isLt; show 16 * c.val + i.val = (16 * c.val + i.val) % 32; omega)]

/-- The five buffers whole are the tiles' pieces together. -/
theorem pieces_eq (o : Buf (Elt F) (oLoc d)) (u : Buf (Elt F) (uLoc d)) :
    (bigSep (Finset.univ : Finset (Fin 2)) fun c => bigSep (Finset.univ : Finset (Fin 16)) fun i => piece m d o u (16 * c.val + i.val))
      = (iprop((pLoc d ↦{fullShare} pC m d) ∗ (rLoc d ↦{fullShare} rC m d) ∗ (yLoc d ↦{fullShare} yC m d)
          ∗ (oLoc d ↦{fullShare} o) ∗ (uLoc d ↦{fullShare} u)) : sProp 𝕄) := by
  unfold piece
  simp only [bigSep_sep']
  rw [split_p, split_r, split_y, split_o, split_u]
  simp only [bigSep_sep']

theorem st0_eq : (bigSep Finset.univ fun c : Fin ((K (F := F)).nCore 0) => (P m).st 0 d c)
    = iprop((pLoc d ↦{fullShare} pC m d) ∗ (rLoc d ↦{fullShare} rC m d) ∗ (yLoc d ↦{fullShare} yC m d)
          ∗ (oLoc d ↦{fullShare} oC m d) ∗ (uLoc d ↦{fullShare} uC m d)) := pieces_eq m d _ _
theorem dn0_eq : (bigSep Finset.univ fun c : Fin ((K (F := F)).nCore 0) => (P m).dn 0 d c)
    = iprop((pLoc d ↦{fullShare} pC m d) ∗ (rLoc d ↦{fullShare} rC m d) ∗ (yLoc d ↦{fullShare} yC m d)
          ∗ (oLoc d ↦{fullShare} GATH (pC m d) (yC m d)) ∗ (uLoc d ↦{fullShare} GATH (rC m d) (yC m d))) := pieces_eq m d _ _

omit [FloatOps F] in
theorem held_SS (W : Valuation τ sig (Elt F)) :
    (held (d.tc : Thread nD τ) SS W : sProp 𝕄) = iprop((pLoc d ↦{fullShare} W B8) ∗ (rLoc d ↦{fullShare} W B17) ∗ (yLoc d ↦{fullShare} W B18)
          ∗ (oLoc d ↦{fullShare} W B190) ∗ (uLoc d ↦{fullShare} W B191)) := by
  unfold held SS
  rw [SparseCore.bigSep_insert' (by decide), SparseCore.bigSep_insert' (by decide), SparseCore.bigSep_insert' (by decide),
    SparseCore.bigSep_insert' (by decide), bigSep_singleton]

theorem SS_sub : SS ⊆ ucRefs τ sig := by decide

end Split

/-! ## The launch -/

section Launch

variable (m : (ℓ : Loc nD τ sig) → Buf (Elt F) ℓ) (ρ : Dev nD → PrngReg)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

abbrev FIN (d : Dev nD) : sProp 𝕄 := held (d.tc : Thread nD τ) (ucRefs τ sig) (V3 m d)

theorem ops1_sub : ∀ op ∈ ops1 (F := F), op.bufs ⊆ ucRefs τ sig := by
  intro op h
  refine sub_ucRefs op ?_
  revert op
  rw [← List.forall_iff_forall_mem]
  simp only [ops1, List.Forall, StableHlo.nullary_bufs_sub, StableHlo.unary_bufs_sub, StableHlo.binary_bufs_sub, StableHlo.reshape_bufs_sub, and_self]
theorem ops2_sub : ∀ op ∈ ops2 (F := F), op.bufs ⊆ ucRefs τ sig := by
  intro op h
  refine sub_ucRefs op ?_
  revert op
  rw [← List.forall_iff_forall_mem]
  simp only [ops2, List.Forall, StableHlo.reshape_bufs_sub, and_self]
theorem ops1_fresh : ∀ op ∈ ops1 (F := F), op.fresh = ∅ := by
  rw [← List.forall_iff_forall_mem]; unfold ops1; simp only [List.Forall]; exact ⟨rfl, rfl, rfl, rfl, rfl, rfl, rfl, rfl, rfl, rfl, rfl, rfl, rfl, rfl, rfl, rfl, rfl, rfl, rfl, rfl, rfl⟩
theorem ops2_fresh : ∀ op ∈ ops2 (F := F), op.fresh = ∅ := by
  rw [← List.forall_iff_forall_mem]; unfold ops2; simp only [List.Forall]; exact ⟨rfl, rfl⟩

theorem held_V2 (d : Dev nD) :
    (iprop((pLoc d ↦{fullShare} pC m d) ∗ (rLoc d ↦{fullShare} rC m d) ∗ (yLoc d ↦{fullShare} yC m d)
          ∗ (oLoc d ↦{fullShare} GATH (pC m d) (yC m d)) ∗ (uLoc d ↦{fullShare} GATH (rC m d) (yC m d))) : sProp 𝕄)
      = held (d.tc : Thread nD τ) SS (V2 m d) := by
  rw [held_SS, show V2 m d B8 = pC m d from rfl, show V2 m d B17 = rC m d from rfl, show V2 m d B18 = yC m d from rfl,
    show V2 m d B191 = GATH (rC m d) (yC m d) from Function.update_self ..,
    show V2 m d B190 = GATH (pC m d) (yC m d) from (Function.update_of_ne (by decide) ..).trans (Function.update_self ..)]

/-- The program on device `d`'s TensorCore, from the launch memory to `V3`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (fun b => m (d, b)) from
    unscopedBufs_held d (fun b => m (d, b)), main_eq]
  iintro ⟨#Hctx, Hst, ⟨Hb, Hbufs, Hts, -⟩, -⟩
  iapply (StableHlo.wp_seq 𝒱 none Set.univ d (ucRefs τ sig) _ ops1 ops1_sub ops1_fresh _) $$ [Hb Hbufs]
  · isplitl [Hb] <;> iassumption
  iintro ⟨Hb, Hbufs⟩
  ihave Hbufs' := (Entails.of_eq (show (held (d.tc : Thread nD τ) (ucRefs τ sig) (after ops1 fun b => m (d, b)) : sProp 𝕄) = _ from
    (held_sub_split _ SS_sub (V1 m d)).trans (by rw [held_SS]))) $$ Hbufs
  icases Hbufs' with ⟨HS, Hrest⟩
  rw [wp_bind]
  iapply ((K (F := F)).wp_run (D (F := F)) 𝒱 (EH := EH) (P := P m) κ d 0)
  isplitr; · iexact Hctx
  isplitl [Hst]; · iexact Hst
  isplitl [HS]
  · rw [st0_eq]; iexact HS
  iintro ⟨Hst, Hdn⟩
  ihave Hdn' := (Entails.of_eq (dn0_eq m d)) $$ Hdn
  ihave HS := (Entails.of_eq (held_V2 m d)) $$ Hdn'
  ihave Hrest' := (Entails.of_eq (held_congr d.tc (V' := V2 m d) (S := ucRefs τ sig \ SS) (V := V1 m d) fun b hb => by
    have hn : b ∉ SS := (Finset.mem_sdiff.mp hb).2
    unfold V2
    rw [Function.update_of_ne (show b ≠ B191 from fun e => hn (by rw [e]; decide)),
      Function.update_of_ne (show b ≠ B190 from fun e => hn (by rw [e]; decide))])) $$ Hrest
  ihave Hbufs := (Entails.of_eq (held_sub_split _ SS_sub (V2 m d)).symm) $$ [HS Hrest']
  · isplitl [HS] <;> iassumption
  iapply (StableHlo.wp_seq 𝒱 none Set.univ d (ucRefs τ sig) _ ops2 ops2_sub ops2_fresh _) $$ [Hb Hbufs]
  · isplitl [Hb] <;> iassumption
  iintro ⟨Hb, Hbufs⟩
  rw [wp_pure]
  imodintro
  isplitl [Hst]; · iexact Hst
  isplitl [Hbufs]; · iexact Hbufs
  isplitl [Hb] <;> iassumption

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V3 m d) (ucRefs τ sig))
  isplitl [HSI]; · iexact HSI
  iexact H

def QC : PUnit × MemSt nD τ sig (Elt F) → Prop := fun r => (∀ c : Dev nD, ∀ b ∈ ucRefs τ sig, r.2.mem (c, b) = V3 m c b) ∧ r.2.sem = fun _ => 0

/-- Every run ends with the memory `V3` and every counter at zero. -/
theorem run_main [∀ e, Nonempty (Elt F e)] (hpre : PreOK m) :
    θ_run (Cert.CombineIdeal.defs (F := F)) (Cert.CombineIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.Combine

end
-- ==== Proof.CombineEq.lean ====
/-
  What the combining gather's program leaves in its two results, index by index: row `t` of a result is the sorted row
  the token's position names. The reference's `take` is the same.
-/
module

public import proofs.«01_k».proof.Proof.CombineRun
public import proofs.«01_k».proof.Proof.Gen.CombineReferenceIdeal.Run
public import proofs.«01_k».proof.Proof.Gen.Pre_rows_in_range
public import Idealize.ShloMosaic.Lib.Pipeline.Value

@[expose] public section

noncomputable section

namespace Cert.Proof.Combine

open Cert.CombineIdeal Cert.CombineIdeal.Gen

open Idealize.ShloMosaic
open Idealize.ShloMosaic.ValueIdx
open Idealize.SL.Sem
open Idealize.ShloMosaic.StableHlo (after)
open Idealize.ShloMosaic.Pipeline (ucRefs)

variable {F : FTy → Type} [FloatOps F]
variable (m : (ℓ : Loc nD τ sig) → Buf (Elt F) ℓ) (d : Dev nD)

abbrev a0 : Buf (Elt F) ((d.tc : Thread nD τ).loc main_arg0) := m ((d.tc : Thread nD τ).loc main_arg0)
abbrev a1 : Buf (Elt F) ((d.tc : Thread nD τ).loc main_arg1) := m ((d.tc : Thread nD τ).loc main_arg1)
abbrev a2 : Buf (Elt F) ((d.tc : Thread nD τ).loc main_arg2) := m ((d.tc : Thread nD τ).loc main_arg2)

/-- The list of piece numbers of a list of positions. -/
def pieces (p : IVec S2048 32) : IVec S8192 32 :=
  shapeCast S8192 (addi (broadcastInDim S2048x4 ![0, 1] bcast_S2048x1_S2048x4_0_1 (muli (broadcastInDim S2048x1 ![0] bcast_S2048_S2048x1_0 p)
      (broadcastInDim S2048x1 ![] bcast_S_S2048x1 (constantI S_ 32 4#32))))
    (broadcastInDim S2048x4 ![0, 1] bcast_S1x4_S2048x4_0_1 (broadcastInDim S1x4 ![1] bcast_S4_S1x4_1 (iotaInDim S4 32 0)))) shapeCasts_S2048x4_S8192

theorem pC_eq : pC m d = pieces (a0 m d) := by
  unfold pC V1 ops1
  after_results <;> rfl
theorem rC_eq : rC m d = pieces (a1 m d) := by
  unfold rC V1 ops1
  after_results <;> rfl
theorem yC_eq : yC m d = shapeCast S24576x2x128 (a2 m d) shapeCasts_S6144x1024_S24576x2x128 := by
  unfold yC V1 ops1
  after_results <;> rfl

theorem pieces_apply (p : IVec S2048 32) (x : S8192.Idx) :
    pieces p x = p (ix1 ⟨(x 0).val / 4, by have : (x 0).val < 8192 := (x 0).isLt; omega⟩) * 4#32 + BitVec.ofNat 32 ((x 0).val % 4) := by
  have hx : (x 0).val < 8192 := (x 0).isLt
  unfold pieces
  rw [shapeCast_apply _ _ x (ix2 ⟨(x 0).val / 4, by omega⟩ ⟨(x 0).val % 4, Nat.mod_lt _ (by decide)⟩ : S2048x4.Idx)
    (by rw [Shape.rowMajor_val_two, Shape.rowMajor_val_one]
        show (x 0).val / 4 * 4 + (x 0).val % 4 = (x 0).val; omega)]
  simp only [addi, muli, constantI]
  rw [broadcastInDim_apply (s := S2048x1) _ _ _ _ (ix2 ⟨(x 0).val / 4, by omega⟩ 0) (by intro a; fin_cases a <;> rfl),
    broadcastInDim_apply (s := S1x4) _ _ _ _ (ix2 0 ⟨(x 0).val % 4, Nat.mod_lt _ (by decide)⟩) (by intro a; fin_cases a <;> rfl),
    broadcastInDim_apply (s := S4) _ _ _ _ (ix1 ⟨(x 0).val % 4, Nat.mod_lt _ (by decide)⟩) (by intro a; fin_cases a; rfl)]
  show IntOp.addi (IntOp.muli (broadcastInDim S2048x1 ![0] bcast_S2048_S2048x1_0 p _) _) _ = _
  rw [broadcastInDim_apply (s := S2048) _ _ _ _ (ix1 ⟨(x 0).val / 4, by omega⟩) (by intro a; fin_cases a; rfl)]
  rfl

/-- A position in range gives piece numbers in range. -/
theorem pieces_toNat (p : IVec S2048 32) (hp : ∀ t, (p t).toNat < 6144) (x : S8192.Idx) :
    (pieces p x).toNat = 4 * (p (ix1 ⟨(x 0).val / 4, by have : (x 0).val < 8192 := (x 0).isLt; omega⟩)).toNat + (x 0).val % 4 := by
  rw [pieces_apply, BitVec.toNat_add, BitVec.toNat_mul, BitVec.toNat_ofNat, BitVec.toNat_ofNat]
  have := hp (ix1 ⟨(x 0).val / 4, by have : (x 0).val < 8192 := (x 0).isLt; omega⟩)
  omega

theorem pieces_at (p : IVec S2048 32) (hp : ∀ t, (p t).toNat < 6144) (t j : ℕ) (ht : t < 2048) (hj : j < 4) :
    (pieces p (ix1 ⟨4 * t + j, by omega⟩)).toNat = 4 * (p (ix1 ⟨t, ht⟩)).toNat + j := by
  rw [pieces_toNat p hp]
  have e1 : (⟨(4 * t + j) / 4, by omega⟩ : Fin 2048) = ⟨t, ht⟩ := Fin.ext (by show (4 * t + j) / 4 = t; omega)
  show 4 * (p (ix1 ⟨(4 * t + j) / 4, _⟩)).toNat + (4 * t + j) % 4 = _
  rw [e1, show (4 * t + j) % 4 = j by omega]

theorem preOK_of (h0 : ∀ d t, (a0 m d t).toNat < 6144) (h1 : ∀ d t, (a1 m d t).toNat < 6144) : PreOK m := by
  intro d
  constructor <;> intro x
  · rw [pC_eq, pieces_toNat _ (h0 d)]
    have := h0 d (ix1 ⟨(x 0).val / 4, by have : (x 0).val < 8192 := (x 0).isLt; omega⟩); omega
  · rw [rC_eq, pieces_toNat _ (h1 d)]
    have := h1 d (ix1 ⟨(x 0).val / 4, by have : (x 0).val < 8192 := (x 0).isLt; omega⟩); omega

/-- The rows of `y` the positions `p` name. -/
def TAKE (p : IVec S2048 32) (y : FVec F S6144x1024 .f32) : FVec F S2048x1024 .f32 :=
  fun x => y (ix2 ⟨(p (ix1 (x 0))).toNat % 6144, Nat.mod_lt _ (by decide)⟩ (x 1))

theorem gath_rows (p : IVec S2048 32) (hp : ∀ t, (p t).toNat < 6144) (y : FVec F S6144x1024 .f32) :
    shapeCast S2048x1024 (GATH (pieces p) (shapeCast S24576x2x128 y shapeCasts_S6144x1024_S24576x2x128)) shapeCasts_S8192x2x128_S2048x1024
      = TAKE p y := by
  funext x
  have h0 : (x 0).val < 2048 := (x 0).isLt
  have h1 : (x 1).val < 1024 := (x 1).isLt
  rw [shapeCast_apply _ _ x (ix3 ⟨4 * (x 0).val + (x 1).val / 256, by omega⟩ ⟨(x 1).val % 256 / 128, by omega⟩ ⟨(x 1).val % 128, by omega⟩ : S8192x2x128.Idx)
    (by rw [Shape.rowMajor_val_two, Shape.rowMajor_val_three]
        show ((4 * (x 0).val + (x 1).val / 256) * 2 + (x 1).val % 256 / 128) * 128 + (x 1).val % 128 = (x 0).val * 1024 + (x 1).val
        omega)]
  unfold GATH TAKE
  have hpx := hp (ix1 (x 0))
  have e := pieces_at p hp (x 0).val ((x 1).val / 256) h0 (by omega)
  rw [shapeCast_apply y _ _ (ix2 ⟨(p (ix1 (x 0))).toNat % 6144, Nat.mod_lt _ (by decide)⟩ (x 1) : S6144x1024.Idx)]
  rw [Shape.rowMajor_val_two, Shape.rowMajor_val_three]
  show (p (ix1 (x 0))).toNat % 6144 * 1024 + (x 1).val
    = ((pieces p (ix1 ⟨4 * (x 0).val + (x 1).val / 256, by omega⟩)).toNat % 24576 * 2 + (x 1).val % 256 / 128) * 128 + (x 1).val % 128
  rw [e]
  have hpx' : (p (ix1 ⟨(x 0).val, h0⟩)).toNat < 6144 := hpx
  show (p (ix1 ⟨(x 0).val, h0⟩)).toNat % 6144 * 1024 + (x 1).val = _
  generalize (p (ix1 ⟨(x 0).val, h0⟩)).toNat = n at hpx' ⊢
  omega

theorem V3_20 (h0 : ∀ d t, (a0 m d t).toNat < 6144) : V3 m d (Proc.devRef .tc main_v20) = TAKE (a0 m d) (a2 m d) := by
  rw [← gath_rows (a0 m d) (h0 d) (a2 m d), ← pC_eq m d, ← yC_eq m d]
  unfold V3 ops2
  after_results
  show shapeCast S2048x1024 (V2 m d B190) _ = _
  rw [show V2 m d B190 = GATH (pC m d) (yC m d) from (Function.update_of_ne (by decide) ..).trans (Function.update_self ..)]
theorem V3_21 (h1 : ∀ d t, (a1 m d t).toNat < 6144) : V3 m d (Proc.devRef .tc main_v21) = TAKE (a1 m d) (a2 m d) := by
  rw [← gath_rows (a1 m d) (h1 d) (a2 m d), ← rC_eq m d, ← yC_eq m d]
  unfold V3 ops2
  after_results
  show shapeCast S2048x1024 (V2 m d B191) _ = _
  rw [show V2 m d B191 = GATH (rC m d) (yC m d) from Function.update_self ..]

theorem V3_arg0 : V3 m d (Proc.devRef .tc main_arg0) = a0 m d := by
  unfold V3 ops2
  after_results
  rw [V2, Function.update_of_ne (by decide), Function.update_of_ne (by decide)]
  unfold V1 ops1
  after_results <;> rfl
theorem V3_arg1 : V3 m d (Proc.devRef .tc main_arg1) = a1 m d := by
  unfold V3 ops2
  after_results
  rw [V2, Function.update_of_ne (by decide), Function.update_of_ne (by decide)]
  unfold V1 ops1
  after_results <;> rfl
theorem V3_arg2 : V3 m d (Proc.devRef .tc main_arg2) = a2 m d := by
  unfold V3 ops2
  after_results
  rw [V2, Function.update_of_ne (by decide), Function.update_of_ne (by decide)]
  unfold V1 ops1
  after_results <;> rfl

end Cert.Proof.Combine

end
-- ==== Proof.CombineClaims.lean ====
/-
  The claims about the combining gather: its frames, and that its two results are the reference's.
-/
module

public import proofs.«01_k».proof.Proof.CombineEq
public import proofs.«01_k».proof.Proof.CombineRun
public import proofs.«01_k».proof.Proof.Gen.Combine
public import Idealize.ShloMosaic.Lib.Quiescent
public import Idealize.ShloMosaic.Lib.ReduceAll

@[expose] public section

noncomputable section

namespace Cert.Proof.Combine

open Cert.CombineIdeal Cert.CombineIdeal.Gen

open Idealize.ShloMosaic
open Idealize.ShloMosaic.ValueIdx
open Idealize.SL.Sem
open Idealize.ShloMosaic.Pipeline (ucRefs)

/-! ## The precondition, word by word -/

theorem andi_one {a b : BitVec 1} (h : IntOp.andi a b = 1#1) : a = 1#1 ∧ b = 1#1 := by
  revert h; revert a b; decide

theorem range_of_bits (v : BitVec 32) (h : IntOp.andi (IntOp.cmpi .sge v 0#32) (IntOp.cmpi .slt v 6144#32) = 1#1) : v.toNat < 6144 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- The precondition says every position names a row. -/
theorem ranges {F : FTy → Type} [FloatOps F] (p r : IVec S2048 32) (y : FVec F S6144x1024 .f32)
    (h : Cert.Pre_rows_in_range.fn (F := F) p r y = fun _ => 1#1) : (∀ t, (p t).toNat < 6144) ∧ ∀ t, (r t).toNat < 6144 := by
  have e := congrFun h ix0
  simp only [Cert.Pre_rows_in_range.fn] at e
  obtain ⟨e0, e1⟩ := andi_one e
  have : Subsingleton Cert.Pre_rows_in_range.S_.Idx := ⟨fun a b => funext fun x => x.elim0⟩
  exact ⟨fun t => range_of_bits _ (Host.reduce_andi_all _ _ _ _ _ e0 t), fun t => range_of_bits _ (Host.reduce_andi_all _ _ _ _ _ e1 t)⟩

/-! ## The reference's rows -/

/-- The rows of an array of 6144 rows at a column of row numbers. -/
abbrev rowDims (wf : GatherDims.WF S6144x1024 S2048x1 S2048x1024 [1] [0] [] [0] [] 1 ![1, 1024]) : GatherDims S6144x1024 S2048x1 S2048x1024 where
  offsetDims := [1]
  collapsedSliceDims := [0]
  operandBatchingDims := []
  startIndicesBatchingDims := []
  startIndexMap := [0]
  indexVectorDim := 1
  sliceSizes := ![1, 1024]
  wf := wf

theorem take_eq {F : FTy → Type} [FloatOps F] (wf) (p : IVec S2048 32) (hp : ∀ t, (p t).toNat < 6144) (y : FVec F S6144x1024 .f32) :
    Host.gather (rowDims wf) y (broadcastInDim S2048x1 ![0] bcast_S2048_S2048x1_0 p) = TAKE p y := by
  funext x
  unfold Host.gather TAKE
  congr 1
  funext a
  refine Fin.ext ?_
  show (rowDims wf).start x _ a + (rowDims wf).batchCoord x a + (rowDims wf).offCoord x a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims wf).startIndexMap from List.mem_singleton.mpr rfl)]
    have hp' := hp (ix1 (x 0))
    show min ((broadcastInDim S2048x1 ![0] bcast_S2048_S2048x1_0 p) _).toInt.toNat 6143 = (p (ix1 (x 0))).toNat % 6144
    rw [broadcastInDim_apply (s := S2048) _ _ _ _ (ix1 (x 0)) (by intro b; obtain rfl : b = 0 := Subsingleton.elim _ _; rfl)]
    rw [BitVec.toInt_eq_toNat_cond]
    generalize (p (ix1 (x 0))).toNat = n at hp' ⊢
    omega
  · unfold GatherDims.start
    rw [dif_neg (show (1 : Fin 2) ∉ (rowDims wf).startIndexMap from (show (1 : Fin 2) ∉ ([0] : List (Fin 2)) by decide))]
    show 0 + 0 + (rowDims wf).offCoord x 1 = (x 1).val
    unfold GatherDims.offCoord
    rw [dif_pos ((GatherDims.mem_sKept _ _).mpr ⟨show (1 : Fin 2) ∉ ([0] : List (Fin 2)) by decide, List.not_mem_nil⟩)]
    simp only [Nat.zero_add]
    rfl

/-! ## The claims -/

theorem in_ranges {F : FTy → Type} [FloatOps F] (m : (ℓ : Loc nD τ sig) → Buf (Elt F) ℓ)
    (h : ∀ c : Dev nD, Cert.Pre_rows_in_range.fn (F := F) (a0 m c) (a1 m c) (a2 m c) = fun _ => 1#1) :
    (∀ d t, (a0 m d t).toNat < 6144) ∧ ∀ d t, (a1 m d t).toNat < 6144 :=
  ⟨fun d => (ranges _ _ _ (h d)).1, fun d => (ranges _ _ _ (h d)).2⟩

/-- A buffer the host holds, read at the end of a run. -/
theorem end_at {F : FTy → Type} [FloatOps F] (m : (ℓ : Loc nD τ sig) → Buf (Elt F) ℓ) (r : PUnit × MemSt nD τ sig (Elt F)) (h : QC m r) (c : Dev nD) (b : Ref sig .tc)
    (hb : Proc.devRef .tc b ∈ ucRefs τ sig) : r.2.mem ((c.tc : Thread nD τ).loc b) = V3 m c (Proc.devRef .tc b) := h.1 c _ hb

theorem ideal_frame : Cert.quiescent_CombineIdeal := fun m ρ hpre =>
  (θ_run Cert.CombineIdeal.defs _ _).mono (fun r h => ⟨fun c =>
      ⟨(end_at m r h c main_arg0 (by decide)).trans (V3_arg0 m c), (end_at m r h c main_arg1 (by decide)).trans (V3_arg1 m c),
        (end_at m r h c main_arg2 (by decide)).trans (V3_arg2 m c)⟩, h.2⟩)
    (run_main (F := Ideal) m ρ (preOK_of m (in_ranges m hpre).1 (in_ranges m hpre).2))

theorem bits_run (m : (ℓ : Loc nD τ sig) → Buf (Elt Bits) ℓ) (ρ : Dev nD → PrngReg)
    (hpre : ∀ c : Dev nD, Cert.Pre_rows_in_range.fn (F := Bits) (a0 m c) (a1 m c) (a2 m c) = fun _ => 1#1) :
    θ_run (Cert.CombineIdeal.defs (F := Bits)) (Cert.CombineIdeal.threads (F := Bits)) ⟨m, fun _ => 0, ρ⟩ fun r =>
      (∀ c : Dev nD, r.2.mem ((c.tc : Thread nD τ).loc main_arg0) = a0 m c ∧ r.2.mem ((c.tc : Thread nD τ).loc main_arg1) = a1 m c
        ∧ r.2.mem ((c.tc : Thread nD τ).loc main_arg2) = a2 m c) ∧ r.2.sem = fun _ => 0 :=
  (θ_run Cert.CombineIdeal.defs _ _).mono (fun r h => ⟨fun c =>
      ⟨(end_at m r h c main_arg0 (by decide)).trans (V3_arg0 m c), (end_at m r h c main_arg1 (by decide)).trans (V3_arg1 m c),
        (end_at m r h c main_arg2 (by decide)).trans (V3_arg2 m c)⟩, h.2⟩)
    (run_main (F := Bits) m ρ (preOK_of m (in_ranges m hpre).1 (in_ranges m hpre).2))

theorem bits_frame : Cert.quiescent_Combine := fun m ρ hpre => bits_run m ρ hpre

theorem ref_frame : Cert.quiescent_CombineReferenceIdeal := fun m ρ _ =>
  (θ_run Cert.CombineReferenceIdeal.defs _ _).mono (fun r h => ⟨fun c => ⟨(h c).2.2.1, (h c).2.2.2.1, (h c).2.2.2.2⟩,
    sem_eq_zero_of_no_sems (by decide) r.2⟩) (Cert.CombineReferenceIdeal.Value.run m ρ)

theorem ref_frame' : Cert.quiescent_CombineReferenceIdeal_pre_rows_in_range := fun m ρ _ => ref_frame m ρ trivial

theorem value : Cert.algebraic_CombineIdeal_CombineReferenceIdeal := by
  intro m g m' g' hpre hargs
  obtain ⟨h0, h1⟩ := in_ranges m hpre
  refine ⟨fun c => TAKE (F := Ideal) (a0 m c) (a2 m c), fun c => TAKE (F := Ideal) (a1 m c) (a2 m c), ?_, ?_⟩
  · exact (θ_run Cert.CombineIdeal.defs _ _).mono (fun r h c =>
      ⟨(end_at m r h c main_v20 (by decide)).trans (V3_20 m c h0), (end_at m r h c main_v21 (by decide)).trans (V3_21 m c h1),
        (end_at m r h c main_arg0 (by decide)).trans (V3_arg0 m c), (end_at m r h c main_arg1 (by decide)).trans (V3_arg1 m c),
        (end_at m r h c main_arg2 (by decide)).trans (V3_arg2 m c)⟩) (run_main (F := Ideal) m g (preOK_of m h0 h1))
  · refine (θ_run Cert.CombineReferenceIdeal.defs _ _).mono (fun r h c => ?_) (Cert.CombineReferenceIdeal.Value.run m' g')
    obtain ⟨e0, e1, e2, e3, e4⟩ := h c
    obtain ⟨k0, k1, k2⟩ := hargs c
    refine ⟨e0.trans ?_, e1.trans ?_, e2, e3, e4⟩
    · rw [k0, k2]; exact take_eq (F := Ideal) _ (a0 m c) (h0 c) (a2 m c)
    · rw [k1, k2]; exact take_eq (F := Ideal) _ (a1 m c) (h1 c) (a2 m c)

end Cert.Proof.Combine

end
-- ==== Proof.KernelRegion.lean ====
/-
  A TensorCore call inside a program that also launches SparseCore work, entered from and left at buffers held as one
  valuation: the pending starts ride through the call unchanged, and the bound on the waits the core has recorded is kept.
-/
module

public import Idealize.ShloMosaic.Lib.Pipeline.RegionArraysT
public import Idealize.ShloMosaic.Lib.Pipeline.ArrRel
public import Idealize.ShloMosaic.Lib.Pipeline.DatRel
public import Idealize.ShloMosaic.Lib.SparseCore
public import Idealize.ShloMosaic.Lib.Tactic

@[expose] public section

noncomputable section

namespace Cert.Proof.Kernel

open Idealize.ShloMosaic
open Idealize.ShloMosaic.Pipeline
open Idealize.ShloMosaic.Rounds
open Idealize.ShloMosaic.StableHlo (held held_sub_split held_congr)
open Idealize.SL Idealize.SL.RA Idealize.SL.BI
open scoped Idealize.SL.BI
open Idealize.SL.BI.BIBase Idealize.SL.BI.Laws Idealize.SL.ProofMode Idealize.SL.Sem
open TcCoe

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

variable (pcs : P → PCfg sig Λ₀ Val) (a : (p : P) → (pcs p).Adm)
  (rdats : (p : P) → (c : Dev nD) → RDat τ Val Ix Name U Lvl (pin pcs a p) c) (ι : Ix)
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)
  (p : P) (D : Dev nD → CellTallies nD τ sig Ix) (B : Dev nD → Set (SemLoc sig × Ix))
variable (X : Dev nD → sProp (MT nD τ sig Ix Val Name U Lvl))

/-- What a TensorCore call's proof data must meet for the call to be run by `region_wp`. -/
structure RegionOK : Prop where
  kit : PLaunchFacts (nD := nD) (τ := τ) pcs p
  body : ∀ c, (rdats p c).BodyObligation defs₀ 𝒱₀ ι Set.univ
  owed : ∀ c t, (rdats p c).owed t = D c
  recd : ∀ c t, (rdats p c).recorded t = B c
  share : ∀ c w, (rdats p c).share w = fullShare
  inn : ∀ c, (iprop(X c ∗ prefHeld (pcs p).pre c (fun _ => fullShare) (a p).1 ∗ scopedRest (pin pcs a p).spec c) : sProp 𝕄) ⊢ (rdats p c).Φ 0
  out : ∀ c, (rdats p c).Φ (Fin.last (pin pcs a p).N) ⊢ (iprop(X c ∗ prefHeld (pcs p).pre c (fun _ => fullShare) (a p).1 ∗ scopedRest (pin pcs a p).spec c) : sProp 𝕄)
  waits : ∀ c, (levAts L lv : sProp 𝕄) ⊢ RDat.cellsWaits (pin pcs a) rdats ι p c
  pairs : ∀ c, (pin pcs a p).waitPairs ι ⊆ B c

variable {pcs a rdats ι defs₀ 𝒱₀ L lv p D B X}

omit [Fintype P] in
theorem RegionOK.owes_in (h : RegionOK pcs a rdats ι defs₀ 𝒱₀ L lv p D B X) (c : Dev nD) :
    (owesWithin c (D c) (B c) : sProp (MT nD τ sig Ix Val Name U Lvl)) ⊢ (rdats p c).owesAt ι 0 := by
  unfold RDat.owesAt RDat.bound
  rw [h.owed c 0, h.recd c 0]
  exact owesWithin_mono (τ := τ) c (D c) Set.subset_union_left

omit [Fintype P] in
theorem RegionOK.owes_out (h : RegionOK pcs a rdats ι defs₀ 𝒱₀ L lv p D B X) (c : Dev nD) :
    (rdats p c).owesAt ι (Fin.last (pin pcs a p).N) ⊢ (owesWithin c (D c) (B c) : sProp (MT nD τ sig Ix Val Name U Lvl)) := by
  unfold RDat.owesAt RDat.bound
  rw [h.owed c _, h.recd c _]
  exact owesWithin_mono (τ := τ) c (D c) (Set.union_subset (le_refl (B c)) (h.pairs c))

/-- The call's record. -/
def RegionOK.seg (h : RegionOK pcs a rdats ι defs₀ 𝒱₀ L lv p D B X) : RDat.RegionSeg pcs a rdats ι defs₀ 𝒱₀ L lv p where
  win := h.kit.to₀.win
  block_pos := h.kit.block_pos
  stage_whole := h.kit.stage_whole
  K := PEmpty
  osem k := k.elim
  ho := OwnSemFacts.none _
  hbody := h.body
  hwaits := h.waits
  pre c := iprop((rdats p c).arrays (rdats p c).A ∗ prefHeld (pcs p).pre c (fun _ => fullShare) (a p).1 ∗ X c ∗ owesWithin c (D c) (B c))
  post c := iprop((rdats p c).arraysAt (pin pcs a p).N ∗ prefHeld (pcs p).pre c (fun _ => fullShare) (a p).1 ∗ X c ∗ owesWithin c (D c) (B c))
  X := X
  Y c := iprop(X c ∗ prefHeld (pcs p).pre c (fun _ => fullShare) (a p).1)
  Z _ := iprop(emp)
  hentry c := by
    rw [ownSems0_none]
    iintro ⟨⟨Ha, Hpf, HX, HO⟩, -, -⟩
    imodintro
    isplitl [Ha]; · iexact Ha
    isplitl [Hpf]; · iexact Hpf
    isplitl [HO]
    · iapply (h.owes_in c); iexact HO
    isplitl [HX]; · iexact HX
    iempintro
  hin c := h.inn c
  hout c := (h.out c).trans (by
    rw [ownSems0_none]
    iintro ⟨HX, Hpf, Hr⟩
    isplitl [HX Hpf]; · isplitl [HX] <;> iassumption
    isplitr; · iempintro
    iexact Hr)
  hexit c := by
    iintro ⟨Ha, HO, ⟨HX, Hpf⟩, -⟩
    imodintro
    isplitl [Ha]; · iexact Ha
    isplitl [Hpf]; · iexact Hpf
    isplitl [HX]; · iexact HX
    iapply (h.owes_out c); iexact HO

/-- The call, from the buffers held at `W` to the buffers held at some valuation meeting `Good`. -/
theorem RegionOK.wp [∀ e, Nonempty (Val e)] [Infinite Name] [EP.LandsIn (upEmb : UEmb _ 𝕄)]
    (phinj : Function.Injective (cellOf (nD := nD) (τ := τ) (pin pcs a)))
    (h : RegionOK pcs a rdats ι defs₀ 𝒱₀ L lv p D B X) (c : Dev nD)
    (S : Finset (DevRef τ sig)) (hS : arrRefs (pcs p).spec ⊆ S) (hS' : tblRefs (pcs p).pre ⊆ S)
    (W : Valuation τ sig Val) (hA : ∀ w, (rdats p c).A w = W (Proc.devRef .tc (arrRef (pin pcs a p).spec w)))
    (hT : ∀ k, (a p).1 k = W (Proc.devRef .tc ((pcs p).pre.ref k)))
    (Good : Valuation τ sig Val → Prop)
    (hpost : ∀ G : (w : Fin (pin pcs a p).W) → Buf Val (((pin pcs a p).win w).arr.view.loc (c.tc : Thread nD τ)),
      (∀ w, (rdats p c).ArrAt w (pin pcs a p).N (G w)) →
        ∃ W', Good W' ∧ (∀ w, G w = W' (Proc.devRef .tc (arrRef (pin pcs a p).spec w)))
          ∧ ∀ b ∈ S, b ∉ arrRefs (τ := τ) (pcs p).spec → W b = W' b) :
    iprop(boundary (c.tc : Thread nD τ) ∗ held (c.tc : Thread nD τ) S W ∗ X c ∗ owesWithin c (D c) (B c) ∗ levAts L lv
        ∗ cellsGhost (pin pcs a) EP p c ∗ toksInit (pin pcs a) EP p c)
      ⊢ wp frame (wpE (Pipeline.defs pcs defs₀) 𝒱₀.lift (c.tc : Thread nD τ) none) Set.univ
          (Prog.lift (.customCall (entry p) ())) fun _ =>
          iprop(∃ W', ⌜Good W'⌝ ∗ boundary (c.tc : Thread nD τ) ∗ held (c.tc : Thread nD τ) S W' ∗ X c ∗ owesWithin c (D c) (B c)) := by
  have hT₀ : tblRefs (τ := τ) (pcs p).pre ⊆ S \ arrRefs (pcs p).spec := tblRefs_sub_sdiff _ _ h.kit.pre.disj hS'
  refine BIBase.Entails.trans ?_ (RDat.RegionSeg.wp pcs a rdats ι phinj EP defs₀ 𝒱₀ L lv h.seg c none (fun _ hu => nomatch hu) _ _)
  have harr : ∀ G : (w : Fin (pin pcs a p).W) → Buf Val (((pin pcs a p).win w).arr.view.loc (c.tc : Thread nD τ)),
      ∀ W' : Valuation τ sig Val, (∀ w, G w = W' (Proc.devRef .tc (arrRef (pin pcs a p).spec w))) →
      ((bigSep Finset.univ fun w => (((c.tc : Thread nD τ).loc (arrRef (pin pcs a p).spec w)) ↦{fullShare} G w : sProp 𝕄)))
        = held (c.tc : Thread nD τ) (arrRefs (pcs p).spec) W' := by
    intro G W' hG
    unfold held arrRefs
    rw [bigSep_map, show Finset.univ.image (arrRef (pcs p).spec) = Finset.univ.map ⟨arrRef (pcs p).spec, h.kit.win.arr_inj⟩ from
      (Finset.map_eq_image ⟨arrRef (pcs p).spec, h.kit.win.arr_inj⟩ Finset.univ).symm, bigSep_map]
    exact bigSep_congr fun w _ => by rw [hG]; rfl
  have hpre : held (c.tc : Thread nD τ) S W ⊢ (iprop((rdats p c).arrays (rdats p c).A ∗ prefHeld (pcs p).pre c (fun _ => fullShare) (a p).1
      ∗ held (c.tc : Thread nD τ) ((S \ arrRefs (pcs p).spec) \ tblRefs (pcs p).pre) W) : sProp 𝕄) := by
    rw [held_sub_split _ hS, held_sub_split _ hT₀, RDat.arrays_eq pcs a rdats p c h.kit.arr_whole (h.share c), harr _ W hA,
      prefHeld_held (pcs p).pre h.kit.pre.inj c (a p).1 W hT]
  have hpst : iprop((rdats p c).arraysAt (pin pcs a p).N ∗ prefHeld (pcs p).pre c (fun _ => fullShare) (a p).1
      ∗ held (c.tc : Thread nD τ) ((S \ arrRefs (pcs p).spec) \ tblRefs (pcs p).pre) W)
      ⊢ (iprop(∃ W', ⌜Good W'⌝ ∗ held (c.tc : Thread nD τ) S W') : sProp 𝕄) := by
    rw [RDat.arraysAt_eq pcs a rdats p c h.kit.arr_whole (h.share c)]
    iintro ⟨Ha, Hpf, Hr⟩
    ihave Ha' := (BI.bigSep_exists_pi Finset.univ (fun w F => iprop(⌜(rdats p c).ArrAt w (pin pcs a p).N F⌝
      ∗ (((c.tc : Thread nD τ).loc (arrRef (pin pcs a p).spec w)) ↦{fullShare} F : sProp 𝕄)))) $$ Ha
    icases Ha' with ⟨%G, Ha⟩
    ihave Ha2 := (BI.bigSep_pure_sep Finset.univ (fun w => (rdats p c).ArrAt w (pin pcs a p).N (G w))
      (fun w => (((c.tc : Thread nD τ).loc (arrRef (pin pcs a p).spec w)) ↦{fullShare} G w : sProp 𝕄))) $$ Ha
    icases Ha2 with ⟨%hG', Ha⟩
    have hG : ∀ w, (rdats p c).ArrAt w (pin pcs a p).N (G w) := fun w => hG' w (Finset.mem_univ w)
    obtain ⟨W', hgood, hGW, hrest⟩ := hpost G hG
    iexists W'; isplitr; · ipureintro; exact hgood
    ihave Ha' := (Entails.of_eq (harr G W' hGW)) $$ Ha
    ihave Hpf' := (Entails.of_eq (prefHeld_held (pcs p).pre h.kit.pre.inj c (a p).1 W hT)) $$ Hpf
    iapply (Entails.of_eq (held_sub_split (c.tc : Thread nD τ) hS W').symm)
    isplitl [Ha']; · iexact Ha'
    iapply (Entails.of_eq (held_congr (c.tc : Thread nD τ) (V := W) (V' := W') fun b hb =>
      hrest b (Finset.mem_sdiff.mp hb).1 (Finset.mem_sdiff.mp hb).2))
    iapply (Entails.of_eq (held_sub_split (c.tc : Thread nD τ) hT₀ W).symm)
    isplitl [Hpf']; · iexact Hpf'
    iexact Hr
  iintro ⟨Hb, HS, HX, HO, Hlv, Hg, Ht⟩
  ihave HS' := hpre $$ HS
  icases HS' with ⟨Ha, Hpf, Hr⟩
  isplitl [Hr]
  · iintro ⟨Hb, Hpost⟩
    ihave Hpost' := (show h.seg.post c ⊢ iprop((rdats p c).arraysAt (pin pcs a p).N ∗ prefHeld (pcs p).pre c (fun _ => fullShare) (a p).1 ∗ X c ∗ owesWithin c (D c) (B c)) from .rfl) $$ Hpost
    icases Hpost' with ⟨Ha, Hpf, HX, HO⟩
    rw [wp_ret]; imodintro
    ihave HW := hpst $$ [Ha Hpf Hr]
    · isplitl [Ha]; · iexact Ha
      isplitl [Hpf] <;> iassumption
    icases HW with ⟨%W', %hg, HS⟩
    iexists W'; isplitr; · ipureintro; exact hg
    isplitl [Hb]; · iexact Hb
    isplitl [HS]; · iexact HS
    isplitl [HX] <;> iassumption
  isplitl [Hb]; · iexact Hb
  isplitl [Ha Hpf HX HO]
  · iapply (show iprop((rdats p c).arrays (rdats p c).A ∗ prefHeld (pcs p).pre c (fun _ => fullShare) (a p).1 ∗ X c ∗ owesWithin c (D c) (B c)) ⊢ h.seg.pre c from .rfl)
    isplitl [Ha]; · iexact Ha
    isplitl [Hpf]; · iexact Hpf
    isplitl [HX] <;> iassumption
  isplitl [Hlv]; · iexact Hlv
  isplitl [Hg] <;> iassumption

end Cert.Proof.Kernel

end
-- ==== Proof.KernelSetup.lean ====
/-
  The whole program as the launch theorem sees it: its two SparseCore calls and four TensorCore calls, the ghost state
  of both, and the buffers the SparseCore calls are given.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 4) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The TensorCore calls' staging rounds. -/
abbrev UP : Type := URounds (GSem nD τ sig) Unit
abbrev UU : Type := UH × (UP × Counters)

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP : Emb UP (MT nD τ sig (HIx 2) (Elt F) ℕ UU ℕ)).LandsIn (upEmb : UEmb _ (MT nD τ sig (HIx 2) (Elt F) ℕ UU ℕ)) := by
  unfold EP; infer_instance

/-! ## The buffers the SparseCore calls are given -/

abbrev pLoc (d : Dev nD) : Loc nD τ sig := (SparseCore.T d).loc main_v12
abbrev rLoc (d : Dev nD) : Loc nD τ sig := (SparseCore.T d).loc main_v21
abbrev yLoc (d : Dev nD) : Loc nD τ sig := (SparseCore.T d).loc main_v30
abbrev oLoc (d : Dev nD) : Loc nD τ sig := (SparseCore.T d).loc main_v31_0
abbrev uLoc (d : Dev nD) : Loc nD τ sig := (SparseCore.T d).loc main_v31_1

/-- The rows of the piece lists tile `n = 16 c + s` reads. -/
def pRows (n : ℕ) : Finset S8192.Idx := Finset.univ.filter fun x => (x 0).val / 256 = n
/-- The `n`-th block of 128 rows of a gathered result. -/
def oRows (n : ℕ) : Finset S8192x2x128.Idx := Finset.univ.filter fun x => (x 0).val / 128 = n

/-- What the gather leaves in a result: row `x` is the piece of the sorted rows the list's word `x` names. -/
def GATH (p : S8192.Idx → BitVec 32) (y : S24576x2x128.Idx → Elt F .f32) : S8192x2x128.Idx → Elt F .f32 :=
  fun x => y (ix3 ⟨(p (ix1 (x 0))).toNat % 24576, Nat.mod_lt _ (by decide)⟩ (x 1) (x 2))

end Cert.Proof.Kernel

end
-- ==== Proof.KernelExperts.lean ====
/-
  The expert call (custom call 2): at each of its 24 grid points the body reads the point's word of the validity table and, when
  it is positive, leaves in the output block what the expert's matrices and the row weights make of the point's rows; when it
  is not, it leaves the block as it was.
-/
module

public import proofs.«01_k».proof.Proof.KernelSetup
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Pipeline.TableIdle
public import Idealize.ShloMosaic.Lib.VecWindow
public import Idealize.ShloMosaic.Lib.Tactic
public import Idealize.ShloMosaic.Lib.ValueIdxCore
public import Idealize.ShloMosaic.Lib.Pipeline.Kit
public import Idealize.ShloMosaic.Lib.Pipeline.ArrRel
public import Idealize.ShloMosaic.Lib.Pipeline.ValueKit

@[expose] public section

noncomputable section

namespace Cert.Proof.Kernel.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat RDat Cfg Window BodyObligationRel cellOf prefHeld)

variable {F : FTy → Type} [FloatOps F] [Named F]

local notation "𝕄" => MT nD τ sig (HIx 2) (Elt F) ℕ UU ℕ

/-- The word of the validity table at a grid point. -/
def wordAt (T1 : S24.Idx → Elt F .i32) (i : grid2.Coords) : BitVec 32 := T1 (ValueIdx.ix1 (i 0))

/-- Table 1 read at a grid point's place is its word there. -/
theorem word_read (T1 : S24.Idx → Elt F .i32) (i : grid2.Coords) (x : S1.Idx) :
    (Memref.whole main_v27 : Memref sig .tc .smem S24 .i32).view.readAt (Elt F) (Rect.unit (s := S24) (k2_off1 i) S1.size (k2_off1_inb i)).toLoadRect T1 x
      = wordAt T1 i := by
  unfold wordAt
  refine congrArg T1 (funext fun b => ?_)
  obtain rfl : b = (0 : Fin 1) := Subsingleton.elim (α := Fin 1) b 0
  refine Fin.ext ?_
  show k2_off1 i 0 + 1 * (x 0).val = (i 0).val
  have hx : (x 0).val < 1 := (x 0).isLt
  rw [k2_off1_eq]
  show (i 0).val + 1 * (x 0).val = (i 0).val
  omega

/-- A window held on its elements is owned at what it reads. -/
theorem pts_owns {sp : Space} {sh : Shape} {e : EltTy} (t : Thread nD τ) (v : Memref sig t.2.kind sp sh e) (q : PosShare TreeShare) (G : Buf (Elt F) (v.view.loc t)) (X : Vec F sh e)
    (h : v.view.read (Elt F) G = X) :
    ((v.view.loc t ↦[v.view.set]{q} G) : sProp 𝕄) ⊢ owns t v q X := by
  unfold owns
  iintro H
  iexists G
  isplitr
  · ipureintro; exact h
  · iexact H

/-- The same, what it reads meeting a condition. -/
theorem pts_owns_of {sp : Space} {sh : Shape} {e : EltTy} (t : Thread nD τ) (v : Memref sig t.2.kind sp sh e) (q : PosShare TreeShare) (G : Buf (Elt F) (v.view.loc t)) (R : Vec F sh e → Prop)
    (h : R (v.view.read (Elt F) G)) :
    ((v.view.loc t ↦[v.view.set]{q} G) : sProp 𝕄) ⊢ iprop(∃ X, ⌜R X⌝ ∗ owns t v q X) := by
  iintro H
  iexists (v.view.read (Elt F) G)
  isplitr
  · ipureintro; exact h
  · have e := pts_owns t v q G (v.view.read (Elt F) G) rfl
    iapply e; iexact H

set_option maxHeartbeats 1000000 in
/-- One grid point's run. -/
theorem body_run (c : Dev nD) (i : grid2.Coords) (T0 T1 : S24.Idx → Elt F .i32) (arg3 : Memref sig .tc .vmem S256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x256x128 .f32) (harg7 : arg7.IsWhole) (arg8 : Memref sig .tc .vmem S256x1024 .f32) (harg8 : arg8.IsWhole)
    (x0 : Vec F S256x1024 .f32) (x1 : Vec F S1x512x1024 .f32) (x2 : Vec F S1x512x1024 .f32) (x3 : Vec F S1x1024x512 .f32) (x4 : Vec F S1x256x128 .f32) (x5 : Vec F S256x1024 .f32) :
    (iprop((((c : Thread nD τ).loc main_v26) ↦{fullShare} T0) ∗ (((c : Thread nD τ).loc main_v27) ↦{fullShare} T1)
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5) : sProp 𝕄)
      ⊢ wp frame (wpE (defs₀ (F := F)) 𝒱₀ (c : Thread nD τ) none) Set.univ
          (cc2__k4_body i (Memref.whole main_v26) (Memref.isWhole_whole _) (Memref.whole main_v27) (Memref.isWhole_whole _) arg3 harg3 arg4 harg4 arg5 harg5 arg6 harg6 arg7 harg7 arg8 harg8)
          fun _ => iprop((((c : Thread nD τ).loc main_v26) ↦{fullShare} T0) ∗ (((c : Thread nD τ).loc main_v27) ↦{fullShare} T1)
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ ∃ X, ⌜k2_cond1 (wordAt T1 i) = 1#1 → X = k2_pay1 x0 x1 x2 x3 x4⌝ ∗ owns (c : Thread nD τ) arg8 fullShare X) := by
  simp only [cc2__k4_body_eq_skeleton]; unfold cc2__k4_body_skel
  simp only [owns_eq_rep]
  iintro ⟨T0, T1, H0, H1, H2, H3, H4, H5⟩
  ihave T1 := (Entails.of_eq (show ((((c : Thread nD τ).loc main_v27) ↦{fullShare} T1) : sProp 𝕄)
      = ((Memref.whole main_v27 : Memref sig .tc .smem S24 .i32).view.loc (c : Thread nD τ) ↦[Finset.univ]{fullShare} T1) from rfl)) $$ T1
  sl_exec
  sl_step
  simp only [← owns_eq_rep]
  iframe
  have key : ∀ G : Buf (Elt F) (arg8.view.loc (c : Thread nD τ)), (k2_cond1 (wordAt T1 i) = 1#1 → arg8.view.read (Elt F) G = k2_pay1 x0 x1 x2 x3 x4)
      → (((arg8.view.loc (c : Thread nD τ) ↦[arg8.view.set]{fullShare} G) : sProp 𝕄)
        ⊢ iprop(∃ X, ⌜k2_cond1 (wordAt T1 i) = 1#1 → X = k2_pay1 x0 x1 x2 x3 x4⌝ ∗ owns (c : Thread nD τ) arg8 fullShare X)) := fun G h =>
    pts_owns_of (c : Thread nD τ) arg8 fullShare G (fun X => k2_cond1 (wordAt T1 i) = 1#1 → X = k2_pay1 x0 x1 x2 x3 x4) h
  istop
  refine key _ ?_
  intro hc
  have hr : body_run.sl.r i T1 = wordAt T1 i := word_read T1 i _
  rw [dif_pos (show k2_cond1 (body_run.sl.r i T1) = 1#1 by rw [hr]; exact hc)]
  unfold body_run.sl.v8 body_run.sl.v10 body_run.sl.v12 body_run.sl.v24
  refine (View.read_writes_full _ _ _ _ _).trans ?_
  congr 1 <;> exact View.readAt_rep_full _ _ _

/-! ## The call's data -/

variable (V : (c : Dev nD) → (b : Ref sig .tc) → Buf (Elt F) ((c : Thread nD τ).loc b)) (D : Dev nD → CellTallies nD τ sig (HIx 2)) (B : Set (SemLoc sig × HIx 2))
  (a : (pcfg2 (F := F)).Adm)

/-- The invariant: the buffers the call does not use, the generator register, and the two tables. -/
def ΦK (c : Dev nD) : sProp 𝕄 :=
  iprop(Pipeline.scopedRest (Ix := HIx 2) (Name := ℕ) (U := UU) (Lvl := ℕ) (Val := Elt F) spec2 c ∗ (∃ r, prngReg c r) ∗ prefHeld pre2 c (fun _ => fullShare) a.1)

/-- Window `w`'s block at point `t`. -/
def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- What the body makes of the point's blocks. -/
def outAt (c : Dev nD) (t : Fin (cfg2 a).N) : Vec F S256x1024 .f32 :=
  k2_pay1 (iblk V a c 0 t) (iblk V a c 1 t) (iblk V a c 2 t) (iblk V a c 3 t) (iblk V a c 4 t)

/-- The call's exact data (its output window is held to a condition below). -/
def dat (c : Dev nD) : Dat τ (Elt F) (HIx 2) ℕ UU ℕ (cfg2 a) c where
  A w := V c (Pipeline.arrRef spec2 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => outAt V a c t
  Φ _ := ΦK a c
  q _ := fullShare
  owed _ := D c
  recorded _ := B

/-- The marked window: the output. -/
def fgt : Fin (cfg2 a).W → Bool := fun w => w.val == 5

/-- The output block's condition: where the point's word of the validity table is positive it is what the body makes. -/
def Rl (c : Dev nD) : (w : Fin (cfg2 a).W) → Fin (cfg2 a).N → ((((cfg2 a).win w).block).Idx → Elt F ((cfg2 a).win w).elt) → Prop
  | ⟨5, _⟩ => fun t X => k2_cond1 (wordAt (a.1 1) (grid2.coords t)) = 1#1 → X = outAt V a c t
  | _ => fun _ _ => True

local notation "𝕕" => dat V D B a

theorem before_in (c : Dev nD) (w : Fin (cfg2 a).W) (hw : w.val < 5) (t : Fin (cfg2 a).N) (d) : (𝕕 c).before w t d = (𝕕 c).after w t := by
  match w, hw with
  | ⟨0, _⟩, _ => exact ((𝕕 c).before_in_eq_fetched 0 rfl (fun _ => rfl) (fun _ _ _ => rfl) (fun t => rfl) t d)
  | ⟨1, _⟩, _ => exact ((𝕕 c).before_in_eq_fetched 1 rfl (fun _ => rfl) (fun _ _ _ => rfl) (fun t => rfl) t d)
  | ⟨2, _⟩, _ => exact ((𝕕 c).before_in_eq_fetched 2 rfl (fun _ => rfl) (fun _ _ _ => rfl) (fun t => rfl) t d)
  | ⟨3, _⟩, _ => exact ((𝕕 c).before_in_eq_fetched 3 rfl (fun _ => rfl) (fun _ _ _ => rfl) (fun t => rfl) t d)
  | ⟨4, _⟩, _ => exact ((𝕕 c).before_in_eq_fetched 4 rfl (fun _ => rfl) (fun _ _ _ => rfl) (fun t => rfl) t d)
  | ⟨n + 5, _⟩, h => exact absurd (show n + 5 < 5 from h) (by omega)

/-- The body at a point, as the call runs it. -/
theorem defs₀_row (t : Fin (cfg2 a).N) :
    defs₀ (F := F) .tc (cfg2 a).body ((cfg2 a).bodyArgs t ((cfg2 a).slots t))
      = cc2__k4_body (grid2.coords t) (Memref.whole main_v26) (Memref.isWhole_whole _) (Memref.whole main_v27) (Memref.isWhole_whole _)
          (spec2_0.stage ((cfg2 a).slots t 0)) (hstage2_0 (((cfg2 a).slots t 0).cast nbuf2_0)) (spec2_1.stage ((cfg2 a).slots t 1)) (hstage2_1 (((cfg2 a).slots t 1).cast nbuf2_1))
          (spec2_2.stage ((cfg2 a).slots t 2)) (hstage2_2 (((cfg2 a).slots t 2).cast nbuf2_2)) (spec2_3.stage ((cfg2 a).slots t 3)) (hstage2_3 (((cfg2 a).slots t 3).cast nbuf2_3))
          (spec2_4.stage ((cfg2 a).slots t 4)) (hstage2_4 (((cfg2 a).slots t 4).cast nbuf2_4)) (spec2_5.stage ((cfg2 a).slots t 5)) (hstage2_5 (((cfg2 a).slots t 5).cast nbuf2_5)) := by
  rfl

/-- The two tables, one by one. -/
theorem prefHeld_two (c : Dev nD) (T : pre2.Contents (Elt F)) :
    (prefHeld pre2 c (fun _ => fullShare) T : sProp 𝕄) = iprop((((c : Thread nD τ).loc main_v26) ↦{fullShare} T 0) ∗ (((c : Thread nD τ).loc main_v27) ↦{fullShare} T 1)) := by
  unfold prefHeld
  exact BI.bigSep_fin_two (fun k : Fin 2 => (((c : Thread nD τ).loc (pre2.ref k)) ↦{fullShare} T k : sProp 𝕄))

variable (ι : HIx 2)

set_option maxHeartbeats 1000000 in
theorem body_obligation_rel (c : Dev nD) : BodyObligationRel (𝕕 c) (defs₀ (F := F)) 𝒱₀ ι Set.univ (fgt a) (Rl V a c) := fun t => by
  rw [defs₀_row]
  have hb : ∀ x5, _ := body_run c (grid2.coords t) (a.1 0) (a.1 1) (spec2_0.stage ((cfg2 a).slots t 0)) (hstage2_0 (((cfg2 a).slots t 0).cast nbuf2_0)) (spec2_1.stage ((cfg2 a).slots t 1)) (hstage2_1 (((cfg2 a).slots t 1).cast nbuf2_1))
          (spec2_2.stage ((cfg2 a).slots t 2)) (hstage2_2 (((cfg2 a).slots t 2).cast nbuf2_2)) (spec2_3.stage ((cfg2 a).slots t 3)) (hstage2_3 (((cfg2 a).slots t 3).cast nbuf2_3))
          (spec2_4.stage ((cfg2 a).slots t 4)) (hstage2_4 (((cfg2 a).slots t 4).cast nbuf2_4)) (spec2_5.stage ((cfg2 a).slots t 5)) (hstage2_5 (((cfg2 a).slots t 5).cast nbuf2_5))
          (iblk V a c 0 t) (iblk V a c 1 t) (iblk V a c 2 t) (iblk V a c 3 t) (iblk V a c 4 t)
  have hpre : iprop((𝕕 c).Φ t.castSucc ∗ (𝕕 c).owesAt ι t.castSucc
        ∗ (∃ d, owns (c : Thread nD τ) (spec2_0.stage ((cfg2 a).slots t 0)) fullShare ((𝕕 c).before 0 t d))
        ∗ (∃ d, owns (c : Thread nD τ) (spec2_1.stage ((cfg2 a).slots t 1)) fullShare ((𝕕 c).before 1 t d))
        ∗ (∃ d, owns (c : Thread nD τ) (spec2_2.stage ((cfg2 a).slots t 2)) fullShare ((𝕕 c).before 2 t d))
        ∗ (∃ d, owns (c : Thread nD τ) (spec2_3.stage ((cfg2 a).slots t 3)) fullShare ((𝕕 c).before 3 t d))
        ∗ (∃ d, owns (c : Thread nD τ) (spec2_4.stage ((cfg2 a).slots t 4)) fullShare ((𝕕 c).before 4 t d))
        ∗ (∃ Y, ⌜((𝕕 c).toRRel (fgt a) (Rl V a c)).Finds 5 t Y⌝ ∗ owns (c : Thread nD τ) (spec2_5.stage ((cfg2 a).slots t 5)) fullShare Y))
      ⊢ wp frame (wpE (defs₀ (F := F)) 𝒱₀ (c : Thread nD τ) none) Set.univ
        (cc2__k4_body (grid2.coords t) (Memref.whole main_v26) (Memref.isWhole_whole _) (Memref.whole main_v27) (Memref.isWhole_whole _)
          (spec2_0.stage ((cfg2 a).slots t 0)) (hstage2_0 (((cfg2 a).slots t 0).cast nbuf2_0)) (spec2_1.stage ((cfg2 a).slots t 1)) (hstage2_1 (((cfg2 a).slots t 1).cast nbuf2_1))
          (spec2_2.stage ((cfg2 a).slots t 2)) (hstage2_2 (((cfg2 a).slots t 2).cast nbuf2_2)) (spec2_3.stage ((cfg2 a).slots t 3)) (hstage2_3 (((cfg2 a).slots t 3).cast nbuf2_3))
          (spec2_4.stage ((cfg2 a).slots t 4)) (hstage2_4 (((cfg2 a).slots t 4).cast nbuf2_4)) (spec2_5.stage ((cfg2 a).slots t 5)) (hstage2_5 (((cfg2 a).slots t 5).cast nbuf2_5)))
        fun _ => iprop((𝕕 c).Φ t.succ ∗ (𝕕 c).owesAt ι t.succ
        ∗ owns (c : Thread nD τ) (spec2_0.stage ((cfg2 a).slots t 0)) fullShare ((𝕕 c).after 0 t)
        ∗ owns (c : Thread nD τ) (spec2_1.stage ((cfg2 a).slots t 1)) fullShare ((𝕕 c).after 1 t)
        ∗ owns (c : Thread nD τ) (spec2_2.stage ((cfg2 a).slots t 2)) fullShare ((𝕕 c).after 2 t)
        ∗ owns (c : Thread nD τ) (spec2_3.stage ((cfg2 a).slots t 3)) fullShare ((𝕕 c).after 3 t)
        ∗ owns (c : Thread nD τ) (spec2_4.stage ((cfg2 a).slots t 4)) fullShare ((𝕕 c).after 4 t)
        ∗ (∃ X, ⌜Rl V a c 5 t X⌝ ∗ owns (c : Thread nD τ) (spec2_5.stage ((cfg2 a).slots t 5)) fullShare X)) := by
    simp only [show ∀ d, (𝕕 c).before 0 t d = iblk V a c 0 t from before_in V D B a c 0 (show ((0 : Fin 6).val < 5) by decide) t, show ∀ d, (𝕕 c).before 1 t d = iblk V a c 1 t from before_in V D B a c 1 (show ((1 : Fin 6).val < 5) by decide) t, show ∀ d, (𝕕 c).before 2 t d = iblk V a c 2 t from before_in V D B a c 2 (show ((2 : Fin 6).val < 5) by decide) t, show ∀ d, (𝕕 c).before 3 t d = iblk V a c 3 t from before_in V D B a c 3 (show ((3 : Fin 6).val < 5) by decide) t, show ∀ d, (𝕕 c).before 4 t d = iblk V a c 4 t from before_in V D B a c 4 (show ((4 : Fin 6).val < 5) by decide) t]
    rw [show (𝕕 c).Φ t.succ = ΦK a c from rfl, show (𝕕 c).Φ t.castSucc = ΦK a c from rfl,
      show (𝕕 c).owesAt ι t.succ = (𝕕 c).owesAt ι t.castSucc from rfl]
    unfold ΦK
    rw [prefHeld_two]
    iintro ⟨⟨HR, HP, T0, T1⟩, Ho, ⟨%d0, H0⟩, ⟨%d1, H1⟩, ⟨%d2, H2⟩, ⟨%d3, H3⟩, ⟨%d4, H4⟩, ⟨%Y, -, H5⟩⟩
    iapply (wp_wand _ _ _) $$ [T0 T1 H0 H1 H2 H3 H4 H5]
    · iapply (hb Y)
      isplitl [T0]; · iexact T0
      isplitl [T1]; · iexact T1
      isplitl [H0]; · iexact H0
      isplitl [H1]; · iexact H1
      isplitl [H2]; · iexact H2
      isplitl [H3]; · iexact H3
      isplitl [H4]; · iexact H4
      iexact H5
    · iintro %_ ⟨T0, T1, H0, H1, H2, H3, H4, H5⟩
      isplitl [HR HP T0 T1]
      · isplitl [HR]; · iexact HR
        isplitl [HP]; · iexact HP
        isplitl [T0]; · iexact T0
        iexact T1
      isplitl [Ho]; · iexact Ho
      isplitl [H0]; · iexact H0
      isplitl [H1]; · iexact H1
      isplitl [H2]; · iexact H2
      isplitl [H3]; · iexact H3
      isplitl [H4]; · iexact H4
      iexact H5
  rw [bigSep_W2, bigSep_W2]
  exact triple_restated hpre rfl .rfl fun _ => .rfl

theorem body_obligation (c : Dev nD) : ((𝕕 c).toRRel (fgt a) (Rl V a c)).BodyObligation (defs₀ (F := F)) 𝒱₀ ι Set.univ :=
  (body_obligation_rel V D B a ι c).toRRel

theorem stride2_0 : grid2.stride 0 = 1 := by decide

/-- The output window is written back at every point, to a block of its own. -/
theorem flush_out (t : Fin (cfg2 a).N) : ((cfg2 a).win 5).flush t = true :=
  (Pipeline.Window.flush_reads ((cfg2 a).win 5) rfl (0 : Fin 1) (show 1 < 24 by decide) (show grid2.fixedAfter reads2_5 0 = true by decide)
    (Pipeline.Window.sep_of_coord (G := grid2) cc2_transform_5 0 0 (fun _ => rfl) (by decide)) (P := 1) (m := 0) stride2_0 rfl t).mpr (Nat.mod_one _)

theorem blk_disj : ∀ t t' : Fin (cfg2 a).N, ((cfg2 a).win 5).flush t = true → ((cfg2 a).win 5).flush t' = true → t ≠ t' →
    Disjoint (((cfg2 a).win 5).blk t).view.set (((cfg2 a).win 5).blk t').view.set :=
  Pipeline.Window.hdisj_of_index_inj _ fun t t' _ _ e => by
    have h : grid2.coords t 0 = grid2.coords t' 0 :=
      Pipeline.Window.sep_of_coord (G := grid2) cc2_transform_5 0 0 (fun _ => rfl) (by decide) _ _ e
    have h' := congrArg Fin.val h
    rw [Pipeline.Grid.coords_val t 0 (S := 1) (B := 24) stride2_0 rfl, Pipeline.Grid.coords_val t' 0 (S := 1) (B := 24) stride2_0 rfl] at h'
    have h1 : t.val < 24 := lt_of_lt_of_eq t.isLt N_2
    have h2 : t'.val < 24 := lt_of_lt_of_eq t'.isLt N_2
    exact Fin.ext (by omega)

/-- A block of the result at a point whose word is positive is what the body makes of the point's blocks. -/
theorem expert_out [∀ e, Nonempty (Elt F e)] (c : Dev nD) {G : Buf (Elt F) ((((cfg2 a).win 5).arr.view.loc (c.tc : Thread nD τ)))}
    (hG : ((𝕕 c).toRRel (fgt a) (Rl V a c)).ArrAt 5 (cfg2 a).N G) (t : Fin (cfg2 a).N) (ht : k2_cond1 (wordAt (a.1 1) (grid2.coords t)) = 1#1) :
    (((cfg2 a).win 5).blk t).view.read (Elt F) G = outAt V a c t := by
  obtain ⟨X, hX, hA⟩ := hG.exists_exact
  have e := hA (Function.update (fun _ _ _ => Classical.arbitrary _) 5 X) fun u _ _ => by rw [Function.update_self]
  rw [e, Dat.read_blk_arrAt_eq_flushed _ 5 (blk_disj a) _ t t.isLt (flush_out a t)]
  have hl : Rl V a c 5 t (X t) := (𝕕 c).toRRel_leaves (fgt := fgt a) (Rl := Rl V a c) rfl (hX t t.isLt (flush_out a t))
  rw [← hl ht]
  funext y
  rw [Dat.flushed_apply, RDat.withAfter_after, Function.update_self]

end Cert.Proof.Kernel.Experts

end
-- ==== Proof.KernelScatter.lean ====
/-
  What a scatter of rows leaves, element by element: on a row one of the list's words names, the source's row at that word's
  place; elsewhere what was there.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ValueIdxCore
public import Idealize.ShloMosaic.Lib.Pipeline.Kit
public import Idealize.ShloMosaic.Lib.Tactic
public import proofs.«01_k».proof.Proof.Gen.KernelIdeal

@[expose] public section

noncomputable section

namespace Cert.Proof.Kernel.Scatter

open Idealize.ShloMosaic
open Idealize.ShloMosaic.SparseCore

variable {F : FTy → Type} {nD : ℕ} {τ : Topo} {sig : RefSig}

/-- An index of `s₀` as the place in its own row along `ax`. -/
def inRow {s₀ : Shape} (ax : Fin s₀.rank) (j : s₀.Idx) : (s₀.rowShape ax).Idx := fun (b : Fin s₀.rank) =>
  ⟨if b = ax then 0 else (j b).val, by
    change (if b = ax then 0 else (j b).val) < (if b = ax then 1 else s₀.size b)
    by_cases hb : b = ax
    · rw [if_pos hb, if_pos hb]; exact Nat.one_pos
    · rw [if_neg hb, if_neg hb]; exact (j b).isLt⟩

theorem emb_inRow {s₀ : Shape} (ax : Fin s₀.rank) (j : s₀.Idx) (k : Fin (s₀.size ax)) (hk : k.val = (j ax).val) :
    (s₀.rowRect ax k).emb (inRow ax j) = j := by
  funext b
  refine Fin.ext ?_
  show (if b = ax then k.val else 0) + 1 * (if b = ax then 0 else (j b).val) = (j b).val
  by_cases hb : b = ax
  · subst hb; rw [if_pos rfl, if_pos rfl]; omega
  · rw [if_neg hb, if_neg hb]; omega

variable (c : Thread nD τ) {s₀ s si : Shape} {e : EltTy} {sp : Space} {a : ℕ}

theorem scat_hit (v : View sig c.2.kind sp s₀ e) (src : Memref sig c.2.kind .vmem s e) (hg : s₀.Gathers a s)
    (idx : si.Idx → Elt F .i32) (hn : si.numel = s.size hg.axis') (h : ∀ x, (idx x).toNat < s₀.size hg.axis)
    (hi : Function.Injective fun x => (idx x).toNat) (fs : Buf (Elt F) (src.view.loc c)) (fd : Buf (Elt F) (v.loc c))
    (j : s₀.Idx) (q : si.Idx) (hq : (idx q).toNat = (j hg.axis).val) (y : s.Idx)
    (hy : ∀ b : Fin s.rank, (y b).val = if b = hg.axis' then (si.rowMajor q).val else (j (b.cast hg.1)).val) :
    v.read (Elt F) (scatterBuf c v hg.axis (rows idx hn h) (scatterRowPayload c src hg fs) fd) j = src.view.read (Elt F) fs y := by
  have hk : (rows idx hn h ((si.rowMajor q).cast hn)).val = (j hg.axis).val := by
    rw [← hq]; dsimp only [rows]; simp
  have hj := emb_inRow hg.axis j _ hk
  have hm : v.emb j ∈ (v.slice (s₀.rowRect hg.axis (rows idx hn h ((si.rowMajor q).cast hn)))).set := by
    rw [View.set_slice]
    refine Finset.mem_map.mpr ⟨j, ?_, rfl⟩
    rw [← Rect.map_emb_univ]
    exact Finset.mem_map.mpr ⟨_, Finset.mem_univ _, hj⟩
  have e1 : v.read (Elt F) (scatterBuf c v hg.axis (rows idx hn h) (scatterRowPayload c src hg fs) fd) j
      = v.read (Elt F) ((v.slice (s₀.rowRect hg.axis (rows idx hn h ((si.rowMajor q).cast hn)))).write (Elt F) fd
          (scatterRowPayload c src hg fs ((si.rowMajor q).cast hn)) Finset.univ) j := by
    rw [View.read_apply, View.read_apply, scatterBuf_of_mem c v hg.axis _ (rows_injective hi) _ fd hm]
  have e2 : v.read (Elt F) ((v.slice (s₀.rowRect hg.axis (rows idx hn h ((si.rowMajor q).cast hn)))).write (Elt F) fd
          (scatterRowPayload c src hg fs ((si.rowMajor q).cast hn)) Finset.univ)
          ((s₀.rowRect hg.axis (rows idx hn h ((si.rowMajor q).cast hn))).emb (inRow hg.axis j))
      = scatterRowPayload c src hg fs ((si.rowMajor q).cast hn) (inRow hg.axis j) :=
    View.read_slice_write_emb _ _ _ (Finset.mem_univ (inRow hg.axis j))
  refine e1.trans ((congrArg _ hj.symm).trans (e2.trans ?_))
  refine (congrFun (View.read_cast (Val := Elt F) (src.view.slice (s.rowRect hg.axis' ((si.rowMajor q).cast hn))) hg.rowShape_eq rfl fs) (inRow hg.axis j)).trans ?_
  show View.read (Elt F) src.view fs ((s.rowRect hg.axis' ((si.rowMajor q).cast hn)).emb ((Shape.idxEquiv hg.rowShape_eq).symm (inRow hg.axis j))) = _
  congr 1
  funext b
  refine Fin.ext ?_
  rw [hy b]
  show (if b = hg.axis' then (si.rowMajor q).val else 0) + 1 * (((Shape.idxEquiv hg.rowShape_eq).symm (inRow hg.axis j)) b).val = _
  rw [Shape.idxEquiv_symm_apply_val hg.rowShape_eq (inRow hg.axis j) b]
  show (if b = hg.axis' then (si.rowMajor q).val else 0) + 1 * (if b.cast hg.1 = hg.axis then 0 else (j (b.cast hg.1)).val) = _
  by_cases hb : b = hg.axis'
  · have hb' : b.cast hg.1 = hg.axis := Fin.ext (show b.val = a by rw [hb])
    rw [if_pos hb, if_pos hb, if_pos hb']; omega
  · have hb' : ¬ b.cast hg.1 = hg.axis := fun e => hb (Fin.ext (show (b.cast hg.1).val = a by rw [e]))
    rw [if_neg hb, if_neg hb, if_neg hb']; omega

theorem scat_miss (v : View sig c.2.kind sp s₀ e) (ax : Fin s₀.rank) {o : ℕ}
    (idx : si.Idx → Elt F .i32) (hn : si.numel = o) (h : ∀ x, (idx x).toNat < s₀.size ax)
    (w : Fin o → (s₀.rowShape ax).Idx → Elt F e) (fd : Buf (Elt F) (v.loc c))
    (j : s₀.Idx) (hq : ∀ q, (idx q).toNat ≠ (j ax).val) :
    v.read (Elt F) (scatterBuf c v ax (rows idx hn h) w fd) j = v.read (Elt F) fd j := by
  rw [View.read_apply, View.read_apply, scatterBuf_of_not_mem]
  intro hm
  obtain ⟨k, _, hk⟩ := Finset.mem_biUnion.mp hm
  rw [View.set_slice] at hk
  obtain ⟨z, hz, hzj⟩ := Finset.mem_map.mp hk
  have hzj' : z = j := v.emb.injective hzj
  subst hzj'
  rw [← Rect.map_emb_univ] at hz
  obtain ⟨t, _, ht⟩ := Finset.mem_map.mp hz
  have hv : (z ax).val = (rows idx hn h k).val := by
    rw [← ht]
    show (if ax = ax then _ else 0) + 1 * (t ax).val = _
    have h1 : (t ax).val < (if ax = ax then 1 else s₀.size ax) := (t ax).isLt
    rw [if_pos rfl] at h1 ⊢
    omega
  exact hq _ hv.symm

theorem rowsWhere_elem {κ : Kind} {v : View sig κ sp s₀ e} {ax : Fin s₀.rank} {p : ℕ → Prop} {i : v.ty.Idx} (h : i ∈ rowsWhere v ax p) :
    ∃ j, v.emb j = i ∧ p (j ax).val := by
  obtain ⟨k, hk, hi⟩ := mem_rowsWhere.mp h
  rw [View.set_slice] at hi
  obtain ⟨z, hz, hzj⟩ := Finset.mem_map.mp hi
  rw [← Rect.map_emb_univ] at hz
  obtain ⟨t, _, ht⟩ := Finset.mem_map.mp hz
  refine ⟨z, hzj, ?_⟩
  have hv : (z ax).val = k.val := by
    rw [← ht]
    show (if ax = ax then _ else 0) + 1 * (t ax).val = _
    have h1 : (t ax).val < (if ax = ax then 1 else s₀.size ax) := (t ax).isLt
    rw [if_pos rfl] at h1 ⊢
    omega
  rwa [hv]

end Cert.Proof.Kernel.Scatter

end
-- ==== Proof.KernelTile3.lean ====
/-
  The scattering call's task on one tile. Each of the 32 tiles (two SparseCores of sixteen) reads its 64 words of each of
  the two position lists, its 256 words of each of the two lists of piece numbers, its 256 pieces of the tokens and its 64
  rows of each of the two weight arrays, and sends the pieces and the weight rows to the rows the lists name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueIdxCore
public import proofs.«01_k».proof.Proof.KernelSetup
public import proofs.«01_k».proof.Proof.KernelScatter
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Kernel.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "aV" => (Memref.whole Cert.KernelIdeal.main_v2_scv : Memref Cert.KernelIdeal.sig Kind.scVector Space.hbm Cert.KernelIdeal.S2048 EltTy.i32)
local notation "bV" => (Memref.whole Cert.KernelIdeal.main_v3_scv : Memref Cert.KernelIdeal.sig Kind.scVector Space.hbm Cert.KernelIdeal.S2048 EltTy.i32)
local notation "pV" => (Memref.whole Cert.KernelIdeal.main_v12_scv : Memref Cert.KernelIdeal.sig Kind.scVector Space.hbm Cert.KernelIdeal.S8192 EltTy.i32)
local notation "rV" => (Memref.whole Cert.KernelIdeal.main_v21_scv : Memref Cert.KernelIdeal.sig Kind.scVector Space.hbm Cert.KernelIdeal.S8192 EltTy.i32)
local notation "wV" => (Memref.whole Cert.KernelIdeal.main_v1_2_scv : Memref Cert.KernelIdeal.sig Kind.scVector Space.hbm Cert.KernelIdeal.S2048x128 EltTy.f32)
local notation "vV" => (Memref.whole Cert.KernelIdeal.main_v1_3_scv : Memref Cert.KernelIdeal.sig Kind.scVector Space.hbm Cert.KernelIdeal.S2048x128 EltTy.f32)
local notation "xV" => (Memref.whole Cert.KernelIdeal.main_v22_scv : Memref Cert.KernelIdeal.sig Kind.scVector Space.hbm Cert.KernelIdeal.S8192x2x128 EltTy.f32)
local notation "XV" => (Memref.whole Cert.KernelIdeal.main_v23_0_scv : Memref Cert.KernelIdeal.sig Kind.scVector Space.hbm Cert.KernelIdeal.S24576x2x128 EltTy.f32)
local notation "WV" => (Memref.whole Cert.KernelIdeal.main_v23_1_scv : Memref Cert.KernelIdeal.sig Kind.scVector Space.hbm Cert.KernelIdeal.S6144x128 EltTy.f32)
local notation "s0V" => (Memref.whole Cert.KernelIdeal.cc1_scratch0 : Memref Cert.KernelIdeal.sig Kind.scVector Space.vmem Cert.KernelIdeal.S64 EltTy.i32)
local notation "s1V" => (Memref.whole Cert.KernelIdeal.cc1_scratch1 : Memref Cert.KernelIdeal.sig Kind.scVector Space.vmem Cert.KernelIdeal.S64 EltTy.i32)
local notation "s2V" => (Memref.whole Cert.KernelIdeal.cc1_scratch2 : Memref Cert.KernelIdeal.sig Kind.scVector Space.vmem Cert.KernelIdeal.S256 EltTy.i32)
local notation "s3V" => (Memref.whole Cert.KernelIdeal.cc1_scratch3 : Memref Cert.KernelIdeal.sig Kind.scVector Space.vmem Cert.KernelIdeal.S256 EltTy.i32)
local notation "s4V" => (Memref.whole Cert.KernelIdeal.cc1_scratch4 : Memref Cert.KernelIdeal.sig Kind.scVector Space.vmem Cert.KernelIdeal.S256x2x128 EltTy.f32)
local notation "s5V" => (Memref.whole Cert.KernelIdeal.cc1_scratch5 : Memref Cert.KernelIdeal.sig Kind.scVector Space.vmem Cert.KernelIdeal.S64x128 EltTy.f32)
local notation "s6V" => (Memref.whole Cert.KernelIdeal.cc1_scratch6 : Memref Cert.KernelIdeal.sig Kind.scVector Space.vmem Cert.KernelIdeal.S64x128 EltTy.f32)

variable [FloatOps F] [Named F]

/-! ## What the scatter leaves -/

/-- The pieces sent to the rows two lists name: row `n` of the result is the piece whose word in the first list, or else
    in the second, is `n`, and what was there when no word is. -/
def SCATX (p r : S8192.Idx → BitVec 32) (x : S8192x2x128.Idx → Elt F .f32) (z : S24576x2x128.Idx → Elt F .f32) :
    S24576x2x128.Idx → Elt F .f32 :=
  open scoped Classical in
  fun i => if h : ∃ k, (p k).toNat = (i 0).val then x (ix3 (h.choose 0) (i 1) (i 2))
    else if h : ∃ k, (r k).toNat = (i 0).val then x (ix3 (h.choose 0) (i 1) (i 2)) else z i

/-- The weight rows sent to the rows two lists name. -/
def SCATW (a b : S2048.Idx → BitVec 32) (w v : S2048x128.Idx → Elt F .f32) (z : S6144x128.Idx → Elt F .f32) :
    S6144x128.Idx → Elt F .f32 :=
  open scoped Classical in
  fun i => if h : ∃ k, (a k).toNat = (i 0).val then w (ix2 (h.choose 0) (i 1))
    else if h : ∃ k, (b k).toNat = (i 0).val then v (ix2 (h.choose 0) (i 1)) else z i

omit [FloatOps F] [Named F] in
theorem SCATX_p {p r : S8192.Idx → BitVec 32} (hp : Function.Injective fun k => (p k).toNat) (x z) (i : S24576x2x128.Idx) (k : S8192.Idx)
    (hk : (p k).toNat = (i 0).val) : SCATX (F := F) p r x z i = x (ix3 (k 0) (i 1) (i 2)) := by
  unfold SCATX
  have h : ∃ k, (p k).toNat = (i 0).val := ⟨k, hk⟩
  rw [dif_pos h, show h.choose = k from hp (h.choose_spec.trans hk.symm)]
omit [FloatOps F] [Named F] in
theorem SCATX_r {p r : S8192.Idx → BitVec 32} (hr : Function.Injective fun k => (r k).toNat) (hpr : ∀ x y, (p x).toNat ≠ (r y).toNat) (x z)
    (i : S24576x2x128.Idx) (k : S8192.Idx) (hk : (r k).toNat = (i 0).val) : SCATX (F := F) p r x z i = x (ix3 (k 0) (i 1) (i 2)) := by
  unfold SCATX
  have h : ∃ k, (r k).toNat = (i 0).val := ⟨k, hk⟩
  rw [dif_neg (fun ⟨j, hj⟩ => hpr j k (hj.trans hk.symm)), dif_pos h, show h.choose = k from hr (h.choose_spec.trans hk.symm)]
omit [FloatOps F] [Named F] in
theorem SCATW_a {a b : S2048.Idx → BitVec 32} (ha : Function.Injective fun k => (a k).toNat) (w v z) (i : S6144x128.Idx) (k : S2048.Idx)
    (hk : (a k).toNat = (i 0).val) : SCATW (F := F) a b w v z i = w (ix2 (k 0) (i 1)) := by
  unfold SCATW
  have h : ∃ k, (a k).toNat = (i 0).val := ⟨k, hk⟩
  rw [dif_pos h, show h.choose = k from ha (h.choose_spec.trans hk.symm)]
omit [FloatOps F] [Named F] in
theorem SCATW_b {a b : S2048.Idx → BitVec 32} (hb : Function.Injective fun k => (b k).toNat) (hab : ∀ x y, (a x).toNat ≠ (b y).toNat) (w v z)
    (i : S6144x128.Idx) (k : S2048.Idx) (hk : (b k).toNat = (i 0).val) : SCATW (F := F) a b w v z i = v (ix2 (k 0) (i 1)) := by
  unfold SCATW
  have h : ∃ k, (b k).toNat = (i 0).val := ⟨k, hk⟩
  rw [dif_neg (fun ⟨j, hj⟩ => hab j k (hj.trans hk.symm)), dif_pos h, show h.choose = k from hb (h.choose_spec.trans hk.symm)]

/-- The rows of the sorted pieces tile `n` writes. -/
def ownX (p r : S8192.Idx → BitVec 32) (n row : ℕ) : Prop := ∃ x ∈ pRows n, (p x).toNat = row ∨ (r x).toNat = row
/-- The tokens of tile `n`. -/
def tRows (n : ℕ) : Finset S2048.Idx := Finset.univ.filter fun x => (x 0).val / 64 = n
/-- The rows of the sorted weights tile `n` writes. -/
def ownW (a b : S2048.Idx → BitVec 32) (n row : ℕ) : Prop := ∃ x ∈ tRows n, (a x).toNat = row ∨ (b x).toNat = row

abbrev aLoc (d : Dev nD) : Loc nD τ sig := (SparseCore.T d).loc main_v2
abbrev bLoc (d : Dev nD) : Loc nD τ sig := (SparseCore.T d).loc main_v3
abbrev wLoc (d : Dev nD) : Loc nD τ sig := (SparseCore.T d).loc main_v1_2
abbrev vLoc (d : Dev nD) : Loc nD τ sig := (SparseCore.T d).loc main_v1_3
abbrev xLoc (d : Dev nD) : Loc nD τ sig := (SparseCore.T d).loc main_v22
abbrev XLoc (d : Dev nD) : Loc nD τ sig := (SparseCore.T d).loc main_v23_0
abbrev WLoc (d : Dev nD) : Loc nD τ sig := (SparseCore.T d).loc main_v23_1

/-- What the scatter asks of its lists: words in range, all distinct. -/
structure ListsOK (a b : S2048.Idx → BitVec 32) (p r : S8192.Idx → BitVec 32) : Prop where
  p_lt : ∀ x, (p x).toNat < 24576
  r_lt : ∀ x, (r x).toNat < 24576
  p_inj : Function.Injective fun k => (p k).toNat
  r_inj : Function.Injective fun k => (r k).toNat
  p_ne_r : ∀ x y, (p x).toNat ≠ (r y).toNat
  a_lt : ∀ x, (a x).toNat < 6144
  b_lt : ∀ x, (b x).toNat < 6144
  a_inj : Function.Injective fun k => (a k).toNat
  b_inj : Function.Injective fun k => (b k).toNat
  a_ne_b : ∀ x y, (a x).toNat ≠ (b y).toNat

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)
/-- The tile's number. -/
abbrev nL (L : grid1.Coords) : ℕ := 16 * (L 0).val + (L 1).val

abbrev aK (L : grid1.Coords) : Memref sig .scVector .hbm S64 .i32 := (aV).slice (Rect.unit (s := S2048) (k1_off1 L) S64.size (k1_off1_inb L)) (fun _ => rfl)
abbrev bK (L : grid1.Coords) : Memref sig .scVector .hbm S64 .i32 := (bV).slice (Rect.unit (s := S2048) (k1_off1 L) S64.size (k1_off1_inb L)) (fun _ => rfl)
abbrev pK (L : grid1.Coords) : Memref sig .scVector .hbm S256 .i32 := (pV).slice (Rect.unit (s := S8192) (k1_off2 L) S256.size (k1_off2_inb L)) (fun _ => rfl)
abbrev rK (L : grid1.Coords) : Memref sig .scVector .hbm S256 .i32 := (rV).slice (Rect.unit (s := S8192) (k1_off2 L) S256.size (k1_off2_inb L)) (fun _ => rfl)
abbrev xK (L : grid1.Coords) : Memref sig .scVector .hbm S256x2x128 .f32 := (xV).slice (Rect.unit (s := S8192x2x128) (k1_off3 L) S256x2x128.size (k1_off3_inb L)) (fun _ => rfl)
abbrev wK (L : grid1.Coords) : Memref sig .scVector .hbm S64x128 .f32 := (wV).slice (Rect.unit (s := S2048x128) (k1_off4 L) S64x128.size (k1_off4_inb L)) (fun _ => rfl)
abbrev vK (L : grid1.Coords) : Memref sig .scVector .hbm S64x128 .f32 := (vV).slice (Rect.unit (s := S2048x128) (k1_off4 L) S64x128.size (k1_off4_inb L)) (fun _ => rfl)
abbrev XK : Memref sig .scVector .hbm S24576x2x128 .f32 := (XV).slice (Rect.unit (s := S24576x2x128) ![0, 0, 0] S24576x2x128.size inb_S24576x2x128_S24576x2x128_0_0_0) (fun _ => rfl)
abbrev WK : Memref sig .scVector .hbm S6144x128 .f32 := (WV).slice (Rect.unit (s := S6144x128) ![0, 0] S6144x128.size inb_S6144x128_S6144x128_0_0) (fun _ => rfl)

/-- The tile's eleven copy counters at zero. -/
abbrev cells0 (d : Dev nD) (L : grid1.Coords) : sProp 𝕄 :=
  iprop(semVal (VT d L, SemLoc.dma cc1_scratch7.sem) 0 ∗ semVal (VT d L, SemLoc.dma cc1_scratch8.sem) 0 ∗ semVal (VT d L, SemLoc.dma cc1_scratch9.sem) 0
    ∗ semVal (VT d L, SemLoc.dma cc1_scratch10.sem) 0 ∗ semVal (VT d L, SemLoc.dma cc1_scoped0.sem) 0
    ∗ semVal (VT d L, SemLoc.dma cc1_scoped1.sem) 0 ∗ semVal (VT d L, SemLoc.dma cc1_scoped2.sem) 0 ∗ semVal (VT d L, SemLoc.dma cc1_scoped3.sem) 0
    ∗ semVal (VT d L, SemLoc.dma cc1_scoped4.sem) 0 ∗ semVal (VT d L, SemLoc.dma cc1_scoped5.sem) 0 ∗ semVal (VT d L, SemLoc.dma cc1_scoped6.sem) 0)

/-- A list fetched whole reads as it was fetched. -/
theorem list_read {s : Shape} {e : EltTy} (l : Memref sig .scVector .vmem s e) (g : Buf (Elt F) (l.view.loc (VT d L))) (pay : s.Idx → Elt F e) (x : s.Idx) :
    View.read (Elt F) l.view (l.view.writes (Elt F) g [⟨Rect.whole s, pay⟩]) x = pay x :=
  congrFun (View.read_writes_whole l.view g pay) x

theorem off2_mem (x : S256.Idx) : (Rect.unit (s := S8192) (k1_off2 L) S256.size (k1_off2_inb L)).emb x ∈ pRows (nL L) := by
  have hx : (x 0).val < 256 := (x 0).isLt
  refine Finset.mem_filter.mpr ⟨Finset.mem_univ _, ?_⟩
  show (k1_off2 L 0 + 1 * (x 0).val) / 256 = nL L
  rw [k1_off2_eq]
  show (4096 * (L 0).val + 256 * (L 1).val + 1 * (x 0).val) / 256 = 16 * (L 0).val + (L 1).val
  omega
theorem off1_mem (x : S64.Idx) : (Rect.unit (s := S2048) (k1_off1 L) S64.size (k1_off1_inb L)).emb x ∈ tRows (nL L) := by
  have hx : (x 0).val < 64 := (x 0).isLt
  refine Finset.mem_filter.mpr ⟨Finset.mem_univ _, ?_⟩
  show (k1_off1 L 0 + 1 * (x 0).val) / 64 = nL L
  rw [k1_off1_eq]
  show (1024 * (L 0).val + 64 * (L 1).val + 1 * (x 0).val) / 64 = 16 * (L 0).val + (L 1).val
  omega

/-- Each row of the tile's part of a list is one of the 256 it fetches. -/
theorem off2_surj {k : S8192.Idx} (hk : k ∈ pRows (nL L)) : ∃ x, (Rect.unit (s := S8192) (k1_off2 L) S256.size (k1_off2_inb L)).emb x = k := by
  have hk' : (k 0).val / 256 = nL L := (Finset.mem_filter.mp hk).2
  refine ⟨ix1 ⟨(k 0).val - 256 * nL L, by omega⟩, ?_⟩
  funext b
  obtain rfl : b = (0 : Fin 1) := Subsingleton.elim (α := Fin 1) b 0
  · refine Fin.ext ?_
    show k1_off2 L 0 + 1 * ((k 0).val - 256 * nL L) = (k 0).val
    rw [k1_off2_eq]
    show 4096 * (L 0).val + 256 * (L 1).val + 1 * ((k 0).val - 256 * (16 * (L 0).val + (L 1).val)) = (k 0).val
    have : (k 0).val / 256 = 16 * (L 0).val + (L 1).val := hk'
    omega
theorem off1_surj {k : S2048.Idx} (hk : k ∈ tRows (nL L)) : ∃ x, (Rect.unit (s := S2048) (k1_off1 L) S64.size (k1_off1_inb L)).emb x = k := by
  have hk' : (k 0).val / 64 = nL L := (Finset.mem_filter.mp hk).2
  refine ⟨ix1 ⟨(k 0).val - 64 * nL L, by omega⟩, ?_⟩
  funext b
  obtain rfl : b = (0 : Fin 1) := Subsingleton.elim (α := Fin 1) b 0
  · refine Fin.ext ?_
    show k1_off1 L 0 + 1 * ((k 0).val - 64 * nL L) = (k 0).val
    rw [k1_off1_eq]
    show 1024 * (L 0).val + 64 * (L 1).val + 1 * ((k 0).val - 64 * (16 * (L 0).val + (L 1).val)) = (k 0).val
    have : (k 0).val / 64 = 16 * (L 0).val + (L 1).val := hk'
    omega
theorem XK_emb (j : S24576x2x128.Idx) : (XK).view.emb j = j := by
  funext b
  match b with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 0 + 1 * (j 2).val = (j 2).val by omega)
theorem WK_emb (j : S6144x128.Idx) : (WK).view.emb j = j := by
  funext b
  match b with
  | ⟨0, _⟩ => exact Fin.ext (show 0 + 1 * (j 0).val = (j 0).val by omega)
  | ⟨1, _⟩ => exact Fin.ext (show 0 + 1 * (j 1).val = (j 1).val by omega)
theorem xK_emb (q : S256.Idx) (m : Fin 2) (n : Fin 128) (m' : Fin 2) (n' : Fin 128) (hm : m = m') (hn : n = n') :
    (xK L).view.emb (ix3 (q 0) m n : S256x2x128.Idx) = (ix3 ((Rect.unit (s := S8192) (k1_off2 L) S256.size (k1_off2_inb L)).emb q 0) m' n' : S8192x2x128.Idx) := by
  subst hm hn
  funext b
  match b with
  | ⟨0, _⟩ =>
    refine Fin.ext ?_
    show k1_off3 L 0 + 1 * (q 0).val = k1_off2 L 0 + 1 * (q 0).val
    rw [k1_off3_eq, k1_off2_eq]; rfl
  | ⟨1, _⟩ =>
    refine Fin.ext ?_
    show k1_off3 L 1 + 1 * m.val = m.val
    rw [k1_off3_eq]
    show 0 + 1 * m.val = m.val
    omega
  | ⟨2, _⟩ =>
    refine Fin.ext ?_
    show k1_off3 L 2 + 1 * n.val = n.val
    rw [k1_off3_eq]
    show 0 + 1 * n.val = n.val
    omega
theorem wK_emb (q : S64.Idx) (n : Fin 128) (n' : Fin 128) (hn : n = n') :
    (wK L).view.emb (ix2 (q 0) n : S64x128.Idx) = (ix2 ((Rect.unit (s := S2048) (k1_off1 L) S64.size (k1_off1_inb L)).emb q 0) n' : S2048x128.Idx) := by
  subst hn
  funext b
  match b with
  | ⟨0, _⟩ =>
    refine Fin.ext ?_
    show k1_off4 L 0 + 1 * (q 0).val = k1_off1 L 0 + 1 * (q 0).val
    rw [k1_off4_eq, k1_off1_eq]; rfl
  | ⟨1, _⟩ =>
    refine Fin.ext ?_
    show k1_off4 L 1 + 1 * n.val = n.val
    rw [k1_off4_eq]
    show 0 + 1 * n.val = n.val
    omega

/-- A share as two read tokens and what is left. -/
theorem toks2 (thr : Thread nD τ) {ℓ : Loc nD τ sig} {S : Finset (Idx ℓ)} (q : PosShare TreeShare) (f : Buf (Elt F) ℓ) :
    (ℓ ↦[S]{q} f : sProp 𝕄) ⊣⊢ iprop((ℓ ↦[S]{Transfers.shareDrop q 2} f) ∗ (ℓ ↦[S]{Transfers.shareTokN q 0} f) ∗ (ℓ ↦[S]{Transfers.shareTokN q 1} f)) := by
  have h : (ℓ ↦[S]{q} f : sProp 𝕄) ⊣⊢ iprop((ℓ ↦[S]{Transfers.shareDrop q 2} f) ∗ bigSep (Finset.range 2) fun i => ℓ ↦[S]{Transfers.shareTokN q i} f) :=
    Transfers.pointsTo_toks_range (ℓ := ℓ) (S := S) (f := f) q 2
  rw [show Finset.range 2 = {0, 1} by decide, SparseCore.bigSep_insert' (by decide), bigSep_singleton] at h
  exact h

set_option maxHeartbeats 4000000 in
theorem tile_run (a b : Buf (Elt F) (aLoc d)) (p r : Buf (Elt F) (pLoc d)) (w v : Buf (Elt F) (wLoc d)) (x : Buf (Elt F) (xLoc d))
    (X : Buf (Elt F) (XLoc d)) (Y : Buf (Elt F) (WLoc d)) (hok : ListsOK a b p r)
    (O : CellTallies nD τ sig (HIx 2)) (W : Waits sig (HIx 2))
    (t0 : Buf (Elt F) ((s0V).view.loc (VT d L))) (t1 : Buf (Elt F) ((s1V).view.loc (VT d L)))
    (t2 : Buf (Elt F) ((s2V).view.loc (VT d L))) (t3 : Buf (Elt F) ((s3V).view.loc (VT d L)))
    (t4 : Buf (Elt F) ((s4V).view.loc (VT d L))) (t5 : Buf (Elt F) ((s5V).view.loc (VT d L))) (t6 : Buf (Elt F) ((s6V).view.loc (VT d L))) :
    (iprop(Transfers.MayWaits (VT d L) (default : HIx 2) O
        ∗ ((aK L).view.loc (VT d L) ↦[(aK L).view.set]{fullShare} a)
        ∗ ((bK L).view.loc (VT d L) ↦[(bK L).view.set]{fullShare} b)
        ∗ ((pK L).view.loc (VT d L) ↦[(pK L).view.set]{fullShare} p)
        ∗ ((rK L).view.loc (VT d L) ↦[(rK L).view.set]{fullShare} r)
        ∗ ((wK L).view.loc (VT d L) ↦[(wK L).view.set]{fullShare} w)
        ∗ ((vK L).view.loc (VT d L) ↦[(vK L).view.set]{fullShare} v)
        ∗ ((xK L).view.loc (VT d L) ↦[(xK L).view.set]{fullShare} x)
        ∗ ((XK).view.loc (VT d L) ↦[SparseCore.rowsWhere (XK).view ⟨0, by decide⟩ (ownX p r (nL L))]{fullShare} X)
        ∗ ((WK).view.loc (VT d L) ↦[SparseCore.rowsWhere (WK).view ⟨0, by decide⟩ (ownW a b (nL L))]{fullShare} Y)
        ∗ ((s0V).view.loc (VT d L) ↦[(s0V).view.set]{fullShare} t0)
        ∗ ((s1V).view.loc (VT d L) ↦[(s1V).view.set]{fullShare} t1)
        ∗ ((s2V).view.loc (VT d L) ↦[(s2V).view.set]{fullShare} t2)
        ∗ ((s3V).view.loc (VT d L) ↦[(s3V).view.set]{fullShare} t3)
        ∗ ((s4V).view.loc (VT d L) ↦[(s4V).view.set]{fullShare} t4)
        ∗ ((s5V).view.loc (VT d L) ↦[(s5V).view.set]{fullShare} t5)
        ∗ ((s6V).view.loc (VT d L) ↦[(s6V).view.set]{fullShare} t6)
        ∗ cells0 d L
        ∗ owes (VT d L) O W) : sProp 𝕄)
      ⊢ wp frame (wpE (defs₀ (F := F)) 𝒱₀ (VT d L) none) Set.univ
          (cc1__k3_body L aV (Memref.isWhole_whole _) bV (Memref.isWhole_whole _) pV (Memref.isWhole_whole _) rV (Memref.isWhole_whole _)
            wV (Memref.isWhole_whole _) vV (Memref.isWhole_whole _) xV (Memref.isWhole_whole _) XV (Memref.isWhole_whole _) WV (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _)
            cc1_scratch7 cc1_scratch8 cc1_scratch9 cc1_scratch10 cc1_scoped0 cc1_scoped1 cc1_scoped2
            cc1_scoped3 cc1_scoped4 cc1_scoped5 cc1_scoped6)
          fun _ => iprop(((aK L).view.loc (VT d L) ↦[(aK L).view.set]{fullShare} a)
            ∗ ((bK L).view.loc (VT d L) ↦[(bK L).view.set]{fullShare} b)
            ∗ ((pK L).view.loc (VT d L) ↦[(pK L).view.set]{fullShare} p)
            ∗ ((rK L).view.loc (VT d L) ↦[(rK L).view.set]{fullShare} r)
            ∗ ((wK L).view.loc (VT d L) ↦[(wK L).view.set]{fullShare} w)
            ∗ ((vK L).view.loc (VT d L) ↦[(vK L).view.set]{fullShare} v)
            ∗ ((xK L).view.loc (VT d L) ↦[(xK L).view.set]{fullShare} x)
            ∗ ((XK).view.loc (VT d L) ↦[SparseCore.rowsWhere (XK).view ⟨0, by decide⟩ (ownX p r (nL L))]{fullShare} SCATX p r x X)
            ∗ ((WK).view.loc (VT d L) ↦[SparseCore.rowsWhere (WK).view ⟨0, by decide⟩ (ownW a b (nL L))]{fullShare} SCATW a b w v Y)
            ∗ (∃ f, (s0V).view.loc (VT d L) ↦[(s0V).view.set]{fullShare} f)
            ∗ (∃ f, (s1V).view.loc (VT d L) ↦[(s1V).view.set]{fullShare} f)
            ∗ (∃ f, (s2V).view.loc (VT d L) ↦[(s2V).view.set]{fullShare} f)
            ∗ (∃ f, (s3V).view.loc (VT d L) ↦[(s3V).view.set]{fullShare} f)
            ∗ (∃ f, (s4V).view.loc (VT d L) ↦[(s4V).view.set]{fullShare} f)
            ∗ (∃ f, (s5V).view.loc (VT d L) ↦[(s5V).view.set]{fullShare} f)
            ∗ (∃ f, (s6V).view.loc (VT d L) ↦[(s6V).view.set]{fullShare} f)
            ∗ cells0 d L
            ∗ ∃ W', ⌜∀ p ∈ W', p ∈ W ∨ p.2 = none⌝ ∗ owes (VT d L) O W') := by
  iintro ⟨#Hmw, HA, HB, HP, HR, HWa, HWb, Hx, HX, HY, H0, H1, H2, H3, H4, H5, H6, ⟨Hc0, Hc1, Hc2, Hc3, Hc4, Hc5, Hc6, Hc7, Hc8, Hc9, Hc10⟩, HW⟩
  sl_unfold [cc1__k3_body, k1_part1]
  sl_exec
  have hp : ∀ g z, (View.read (Elt F) (s2V).view ((s2V).view.writes (Elt F) g [⟨Rect.whole cc1_scratch2.ty.shape, tile_run.sl.dma0_2 d L p⟩]) z)
      = p ((Rect.unit (s := S8192) (k1_off2 L) S256.size (k1_off2_inb L)).emb z) := fun g z => list_read d L s2V g _ z
  have hr : ∀ g z, (View.read (Elt F) (s3V).view ((s3V).view.writes (Elt F) g [⟨Rect.whole cc1_scratch3.ty.shape, tile_run.sl.dma0_3 d L r⟩]) z)
      = r ((Rect.unit (s := S8192) (k1_off2 L) S256.size (k1_off2_inb L)).emb z) := fun g z => list_read d L s3V g _ z
  have ha : ∀ g z, (View.read (Elt F) (s0V).view ((s0V).view.writes (Elt F) g [⟨Rect.whole cc1_scratch0.ty.shape, tile_run.sl.dma0 d L a⟩]) z)
      = a ((Rect.unit (s := S2048) (k1_off1 L) S64.size (k1_off1_inb L)).emb z) := fun g z => list_read d L s0V g _ z
  have hb : ∀ g z, (View.read (Elt F) (s1V).view ((s1V).view.writes (Elt F) g [⟨Rect.whole cc1_scratch1.ty.shape, tile_run.sl.dma0_1 d L b⟩]) z)
      = b ((Rect.unit (s := S2048) (k1_off1 L) S64.size (k1_off1_inb L)).emb z) := fun g z => list_read d L s1V g _ z
  have emb_inj2 : Function.Injective (Rect.unit (s := S8192) (k1_off2 L) S256.size (k1_off2_inb L)).emb := (Rect.unit (s := S8192) (k1_off2 L) S256.size (k1_off2_inb L)).emb.injective
  have emb_inj1 : Function.Injective (Rect.unit (s := S2048) (k1_off1 L) S64.size (k1_off1_inb L)).emb := (Rect.unit (s := S2048) (k1_off1 L) S64.size (k1_off1_inb L)).emb.injective
  have hp1 : ∀ g z, (View.read (Elt F) (s2V).view ((s2V).view.writes (Elt F) g [⟨Rect.whole cc1_scratch2.ty.shape, tile_run.sl.dma0_2 d L p⟩]) z).toNat < 24576 := fun g z => by rw [hp]; exact hok.p_lt _
  have hp2 : ∀ g, Function.Injective fun z => (View.read (Elt F) (s2V).view ((s2V).view.writes (Elt F) g [⟨Rect.whole cc1_scratch2.ty.shape, tile_run.sl.dma0_2 d L p⟩]) z).toNat := fun g z z' e => by
    simp only [hp] at e; exact emb_inj2 (hok.p_inj e)
  have hp3 : ∀ g z, ownX p r (nL L) (View.read (Elt F) (s2V).view ((s2V).view.writes (Elt F) g [⟨Rect.whole cc1_scratch2.ty.shape, tile_run.sl.dma0_2 d L p⟩]) z).toNat := fun g z => by
    rw [hp]; exact ⟨_, off2_mem L z, .inl rfl⟩
  have hr1 : ∀ g z, (View.read (Elt F) (s3V).view ((s3V).view.writes (Elt F) g [⟨Rect.whole cc1_scratch3.ty.shape, tile_run.sl.dma0_3 d L r⟩]) z).toNat < 24576 := fun g z => by rw [hr]; exact hok.r_lt _
  have hr2 : ∀ g, Function.Injective fun z => (View.read (Elt F) (s3V).view ((s3V).view.writes (Elt F) g [⟨Rect.whole cc1_scratch3.ty.shape, tile_run.sl.dma0_3 d L r⟩]) z).toNat := fun g z z' e => by
    simp only [hr] at e; exact emb_inj2 (hok.r_inj e)
  have hr3 : ∀ g z, ownX p r (nL L) (View.read (Elt F) (s3V).view ((s3V).view.writes (Elt F) g [⟨Rect.whole cc1_scratch3.ty.shape, tile_run.sl.dma0_3 d L r⟩]) z).toNat := fun g z => by
    rw [hr]; exact ⟨_, off2_mem L z, .inr rfl⟩
  have ha1 : ∀ g z, (View.read (Elt F) (s0V).view ((s0V).view.writes (Elt F) g [⟨Rect.whole cc1_scratch0.ty.shape, tile_run.sl.dma0 d L a⟩]) z).toNat < 6144 := fun g z => by rw [ha]; exact hok.a_lt _
  have ha2 : ∀ g, Function.Injective fun z => (View.read (Elt F) (s0V).view ((s0V).view.writes (Elt F) g [⟨Rect.whole cc1_scratch0.ty.shape, tile_run.sl.dma0 d L a⟩]) z).toNat := fun g z z' e => by
    simp only [ha] at e; exact emb_inj1 (hok.a_inj e)
  have ha3 : ∀ g z, ownW a b (nL L) (View.read (Elt F) (s0V).view ((s0V).view.writes (Elt F) g [⟨Rect.whole cc1_scratch0.ty.shape, tile_run.sl.dma0 d L a⟩]) z).toNat := fun g z => by
    rw [ha]; exact ⟨_, off1_mem L z, .inl rfl⟩
  have hb1 : ∀ g z, (View.read (Elt F) (s1V).view ((s1V).view.writes (Elt F) g [⟨Rect.whole cc1_scratch1.ty.shape, tile_run.sl.dma0_1 d L b⟩]) z).toNat < 6144 := fun g z => by rw [hb]; exact hok.b_lt _
  have hb2 : ∀ g, Function.Injective fun z => (View.read (Elt F) (s1V).view ((s1V).view.writes (Elt F) g [⟨Rect.whole cc1_scratch1.ty.shape, tile_run.sl.dma0_1 d L b⟩]) z).toNat := fun g z z' e => by
    simp only [hb] at e; exact emb_inj1 (hok.b_inj e)
  have hb3 : ∀ g z, ownW a b (nL L) (View.read (Elt F) (s1V).view ((s1V).view.writes (Elt F) g [⟨Rect.whole cc1_scratch1.ty.shape, tile_run.sl.dma0_1 d L b⟩]) z).toNat := fun g z => by
    rw [hb]; exact ⟨_, off1_mem L z, .inr rfl⟩
  have hpr : ∀ g g' z z', (View.read (Elt F) (s3V).view ((s3V).view.writes (Elt F) g' [⟨Rect.whole cc1_scratch3.ty.shape, tile_run.sl.dma0_3 d L r⟩]) z').toNat ≠ (View.read (Elt F) (s2V).view ((s2V).view.writes (Elt F) g [⟨Rect.whole cc1_scratch2.ty.shape, tile_run.sl.dma0_2 d L p⟩]) z).toNat := fun g g' z z' => by
    rw [hp, hr]; exact fun e => hok.p_ne_r _ _ e.symm
  have hab : ∀ g g' z z', (View.read (Elt F) (s1V).view ((s1V).view.writes (Elt F) g' [⟨Rect.whole cc1_scratch1.ty.shape, tile_run.sl.dma0_1 d L b⟩]) z').toNat ≠ (View.read (Elt F) (s0V).view ((s0V).view.writes (Elt F) g [⟨Rect.whole cc1_scratch0.ty.shape, tile_run.sl.dma0 d L a⟩]) z).toNat := fun g g' z z' => by
    rw [ha, hb]; exact fun e => hok.a_ne_b _ _ e.symm
  ihave H4 := (toks2 (F := F) (VT d L) (ℓ := (s4V).view.loc (VT d L)) (S := (s4V).view.set) fullShare _).1 $$ H4
  icases H4 with ⟨H4r, H4a, H4b⟩
  sl_exec
  have eX : ∀ i ∈ SparseCore.rowsWhere (XK).view (0 : Fin 3) (ownX p r (nL L)), tile_run.sl.HX_sc1 d L p r x X hp1 hr1 i = SCATX p r x X i := by
    intro i hi
    obtain ⟨ax, hax⟩ : ∃ ax : Fin S24576x2x128.rank, ax = (0 : Fin 3) := ⟨_, rfl⟩
    rw [← hax] at hi
    obtain ⟨j, rfl, k, hk, hk'⟩ := rowsWhere_elem hi
    subst hax
    obtain ⟨q, rfl⟩ := off2_surj L hk
    have hj : (XK).view.emb j = j := XK_emb j
    have hrd : ∀ G : Buf (Elt F) ((XK).view.loc (VT d L)), G ((XK).view.emb j) = View.read (Elt F) (XK).view G j := fun _ => rfl
    have hq : (Shape.rowMajor S256 q).val = (q 0).val := Shape.rowMajor_val_one _
    unfold tile_run.sl.HX_sc1 tile_run.sl.HX_sc0
    refine (hrd _).trans ?_
    rcases hk' with hk' | hk'
    · refine (scat_miss (VT d L) (XK).view _ _ _ _ _ _ j (fun q' e => hok.p_ne_r _ _ (hk'.trans (e.symm.trans (congrArg BitVec.toNat (hr _ q')))))).trans ?_
      refine (scat_hit (VT d L) (XK).view s4V _ _ _ _ (hp2 _) _ _ j q ((congrArg BitVec.toNat (hp _ q)).trans hk') (ix3 (q 0) (j 1) (j 2)) (fun b => ?_)).trans ?_
      · match b with
        | ⟨0, _⟩ => exact hq.symm
        | ⟨1, _⟩ => rfl
        | ⟨2, _⟩ => rfl
      · refine (list_read d L s4V _ _ _).trans ?_
        refine Eq.trans ?_ (SCATX_p hok.p_inj x X _ _ (hk'.trans (congrArg (fun z : S24576x2x128.Idx => (z 0).val) hj).symm)).symm
        exact congrArg x (xK_emb L q _ _ _ _ (congrArg (fun z : S24576x2x128.Idx => z 1) hj).symm (congrArg (fun z : S24576x2x128.Idx => z 2) hj).symm)
    · refine (scat_hit (VT d L) (XK).view s4V _ _ _ _ (hr2 _) _ _ j q ((congrArg BitVec.toNat (hr _ q)).trans hk') (ix3 (q 0) (j 1) (j 2)) (fun b => ?_)).trans ?_
      · match b with
        | ⟨0, _⟩ => exact hq.symm
        | ⟨1, _⟩ => rfl
        | ⟨2, _⟩ => rfl
      · refine (list_read d L s4V _ _ _).trans ?_
        refine Eq.trans ?_ (SCATX_r hok.r_inj hok.p_ne_r x X _ _ (hk'.trans (congrArg (fun z : S24576x2x128.Idx => (z 0).val) hj).symm)).symm
        exact congrArg x (xK_emb L q _ _ _ _ (congrArg (fun z : S24576x2x128.Idx => z 1) hj).symm (congrArg (fun z : S24576x2x128.Idx => z 2) hj).symm)
  have eY : ∀ i ∈ SparseCore.rowsWhere (WK).view (0 : Fin 2) (ownW a b (nL L)), tile_run.sl.HY_sc3 d L a b w v Y ha1 hb1 i = SCATW a b w v Y i := by
    intro i hi
    obtain ⟨ax, hax⟩ : ∃ ax : Fin S6144x128.rank, ax = (0 : Fin 2) := ⟨_, rfl⟩
    rw [← hax] at hi
    obtain ⟨j, rfl, k, hk, hk'⟩ := rowsWhere_elem hi
    subst hax
    obtain ⟨q, rfl⟩ := off1_surj L hk
    have hj : (WK).view.emb j = j := WK_emb j
    have hrd : ∀ G : Buf (Elt F) ((WK).view.loc (VT d L)), G ((WK).view.emb j) = View.read (Elt F) (WK).view G j := fun _ => rfl
    have hq : (Shape.rowMajor S64 q).val = (q 0).val := Shape.rowMajor_val_one _
    unfold tile_run.sl.HY_sc3 tile_run.sl.HY_sc2
    refine (hrd _).trans ?_
    rcases hk' with hk' | hk'
    · refine (scat_miss (VT d L) (WK).view _ _ _ _ _ _ j (fun q' e => hok.a_ne_b _ _ (hk'.trans (e.symm.trans (congrArg BitVec.toNat (hb _ q')))))).trans ?_
      refine (scat_hit (VT d L) (WK).view s5V _ _ _ _ (ha2 _) _ _ j q ((congrArg BitVec.toNat (ha _ q)).trans hk') (ix2 (q 0) (j 1)) (fun b => ?_)).trans ?_
      · match b with
        | ⟨0, _⟩ => exact hq.symm
        | ⟨1, _⟩ => rfl
      · refine (list_read d L s5V _ _ _).trans ?_
        refine Eq.trans ?_ (SCATW_a hok.a_inj w v Y _ _ (hk'.trans (congrArg (fun z : S6144x128.Idx => (z 0).val) hj).symm)).symm
        exact congrArg w (wK_emb L q _ _ (congrArg (fun z : S6144x128.Idx => z 1) hj).symm)
    · refine (scat_hit (VT d L) (WK).view s6V _ _ _ _ (hb2 _) _ _ j q ((congrArg BitVec.toNat (hb _ q)).trans hk') (ix2 (q 0) (j 1)) (fun b => ?_)).trans ?_
      · match b with
        | ⟨0, _⟩ => exact hq.symm
        | ⟨1, _⟩ => rfl
      · refine (list_read d L s6V _ _ _).trans ?_
        refine Eq.trans ?_ (SCATW_b hok.b_inj hok.a_ne_b w v Y _ _ (hk'.trans (congrArg (fun z : S6144x128.Idx => (z 0).val) hj).symm)).symm
        exact congrArg v (wK_emb L q _ _ (congrArg (fun z : S6144x128.Idx => z 1) hj).symm)
  ihave HX := (Entails.of_eq (pointsTo_congr eX)) $$ HX
  ihave HY := (Entails.of_eq (pointsTo_congr eY)) $$ HY
  have e4 : (s4V).view.writes (Elt F) t4 [⟨Rect.whole cc1_scratch4.ty.shape, tile_run.sl.dma0_4 d L x⟩]
      = (s4V).view.writes (Elt F) (s4V).view.junk [⟨Rect.whole cc1_scratch4.ty.shape, tile_run.sl.dma0_4 d L x⟩] :=
    funext fun z => (list_read d L s4V t4 (tile_run.sl.dma0_4 d L x) z).trans (list_read d L s4V _ (tile_run.sl.dma0_4 d L x) z).symm
  ihave H4b := (Entails.of_eq (congrArg (fun g => ((s4V).view.loc (VT d L) ↦[(s4V).view.set]{Transfers.shareTokN fullShare 1} g : sProp 𝕄)) e4)) $$ H4b
  icombine H4r H4a H4b as H4
  ihave H4 := (toks2 (F := F) (VT d L) (ℓ := (s4V).view.loc (VT d L)) (S := (s4V).view.set) fullShare _).2 $$ H4
  have hW : ∀ p ∈ (insert (SemLoc.dma ⟨12, by decide⟩, default) (insert (SemLoc.dma ⟨11, by decide⟩, default) (insert (SemLoc.dma ⟨10, by decide⟩, default)
      (insert (SemLoc.dma ⟨9, by decide⟩, default) (insert (SemLoc.dma ⟨19, by decide⟩, default) (insert (SemLoc.dma ⟨18, by decide⟩, default)
      (insert (SemLoc.dma ⟨17, by decide⟩, default) (insert (SemLoc.dma ⟨16, by decide⟩, default) (insert (SemLoc.dma ⟨15, by decide⟩, default)
      (insert (SemLoc.dma ⟨14, by decide⟩, default) (insert (SemLoc.dma ⟨13, by decide⟩, default) W)))))))))) : Waits sig (HIx 2)), p ∈ W ∨ p.2 = none := by
    intro p hp'
    simp only [Finset.mem_insert] at hp'
    rcases hp' with rfl | rfl | rfl | rfl | rfl | rfl | rfl | rfl | rfl | rfl | rfl | h
    all_goals first | exact .inl ‹_› | exact .inr rfl
  sl_step
  sl_close

end Tile

end Cert.Proof.Kernel.Scatter

end
-- ==== Proof.KernelTile5.lean ====
/-
  The gathering call's task on one tile. Each of the 32 tiles (two SparseCores of sixteen) reads its 256 words of
  each of two lists of piece numbers, fetches the named pieces of the sorted rows by indirect gathers into two
  staging buffers, and copies them out to its 256 rows of each of the two results.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueIdxCore
public import proofs.«01_k».proof.Proof.KernelSetup
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Kernel.Gather

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "pV" => (Memref.whole Cert.KernelIdeal.main_v12_scv : Memref Cert.KernelIdeal.sig Kind.scVector Space.hbm Cert.KernelIdeal.S8192 EltTy.i32)
local notation "rV" => (Memref.whole Cert.KernelIdeal.main_v21_scv : Memref Cert.KernelIdeal.sig Kind.scVector Space.hbm Cert.KernelIdeal.S8192 EltTy.i32)
local notation "yV" => (Memref.whole Cert.KernelIdeal.main_v30_scv : Memref Cert.KernelIdeal.sig Kind.scVector Space.hbm Cert.KernelIdeal.S24576x2x128 EltTy.f32)
local notation "oV" => (Memref.whole Cert.KernelIdeal.main_v31_0_scv : Memref Cert.KernelIdeal.sig Kind.scVector Space.hbm Cert.KernelIdeal.S8192x2x128 EltTy.f32)
local notation "uV" => (Memref.whole Cert.KernelIdeal.main_v31_1_scv : Memref Cert.KernelIdeal.sig Kind.scVector Space.hbm Cert.KernelIdeal.S8192x2x128 EltTy.f32)
local notation "sV" => (Memref.whole Cert.KernelIdeal.cc4_scratch0 : Memref Cert.KernelIdeal.sig Kind.scVector Space.vmem Cert.KernelIdeal.S256 EltTy.i32)
local notation "tV" => (Memref.whole Cert.KernelIdeal.cc4_scratch1 : Memref Cert.KernelIdeal.sig Kind.scVector Space.vmem Cert.KernelIdeal.S256 EltTy.i32)
local notation "aV" => (Memref.whole Cert.KernelIdeal.cc4_scratch2 : Memref Cert.KernelIdeal.sig Kind.scVector Space.vmem Cert.KernelIdeal.S128x2x128 EltTy.f32)
local notation "bV" => (Memref.whole Cert.KernelIdeal.cc4_scratch3 : Memref Cert.KernelIdeal.sig Kind.scVector Space.vmem Cert.KernelIdeal.S128x2x128 EltTy.f32)

variable [FloatOps F] [Named F]

section Tile

variable (d : Dev nD) (L : grid4.Coords)

abbrev cV (L : grid4.Coords) : Fin τ.nSC := (L 0).castLE hcore4
abbrev jV (L : grid4.Coords) : Fin τ.nSub := (L 1).castLE hsub4
abbrev VT (d : Dev nD) (L : grid4.Coords) : Thread nD τ := V d (cV L) (jV L)
/-- The tile's number. -/
abbrev nL (L : grid4.Coords) : ℕ := 16 * (L 0).val + (L 1).val

abbrev pRowK (L : grid4.Coords) : Memref sig .scVector .hbm S256 .i32 := (pV).slice (Rect.unit (s := S8192) (k4_off1 L) S256.size (k4_off1_inb L)) (fun _ => rfl)
abbrev rRowK (L : grid4.Coords) : Memref sig .scVector .hbm S256 .i32 := (rV).slice (Rect.unit (s := S8192) (k4_off1 L) S256.size (k4_off1_inb L)) (fun _ => rfl)
abbrev oBlkK0 (L : grid4.Coords) : Memref sig .scVector .hbm S128x2x128 .f32 := (oV).slice (Rect.unit (s := S8192x2x128) (k4_off2 L 0#32) S128x2x128.size (k4_off2_inb L 0)) (fun _ => rfl)
abbrev oBlkK1 (L : grid4.Coords) : Memref sig .scVector .hbm S128x2x128 .f32 := (oV).slice (Rect.unit (s := S8192x2x128) (k4_off2 L 128#32) S128x2x128.size (k4_off2_inb L 1)) (fun _ => rfl)
abbrev uBlkK0 (L : grid4.Coords) : Memref sig .scVector .hbm S128x2x128 .f32 := (uV).slice (Rect.unit (s := S8192x2x128) (k4_off2 L 0#32) S128x2x128.size (k4_off2_inb L 0)) (fun _ => rfl)
abbrev uBlkK1 (L : grid4.Coords) : Memref sig .scVector .hbm S128x2x128 .f32 := (uV).slice (Rect.unit (s := S8192x2x128) (k4_off2 L 128#32) S128x2x128.size (k4_off2_inb L 1)) (fun _ => rfl)

theorem set_off1 : (Rect.unit (s := S8192) (k4_off1 L) S256.size (k4_off1_inb L)).set = pRows (nL L) := by
  ext x
  rw [Rect.mem_set_unit, pRows, Finset.mem_filter]
  simp only [k4_off1_eq, Finset.mem_univ, true_and]
  constructor
  · intro h; have := h 0; simp at this; unfold nL; omega
  · intro h a; unfold nL at h; match a with | ⟨0, _⟩ => exact ⟨show 4096 * (L 0).val + 256 * (L 1).val ≤ (x 0).val by omega, show (x 0).val < 4096 * (L 0).val + 256 * (L 1).val + 256 by omega⟩

theorem set_off2 (r : Fin 2) : (Rect.unit (s := S8192x2x128) (k4_off2 L (BitVec.ofNat 32 (128 * r.val))) S128x2x128.size (k4_off2_inb L r)).set
    = oRows (2 * nL L + r.val) := by
  ext x
  rw [Rect.mem_set_unit, oRows, Finset.mem_filter]
  simp only [k4_off2_eq, Finset.mem_univ, true_and]
  constructor
  · intro h; have := h 0; simp at this; unfold nL; omega
  · intro h a; unfold nL at h; match a with
    | ⟨0, _⟩ => exact ⟨show 4096 * (L 0).val + 256 * (L 1).val + 128 * r.val ≤ (x 0).val by omega, show (x 0).val < 4096 * (L 0).val + 256 * (L 1).val + 128 * r.val + 128 by omega⟩
    | ⟨1, _⟩ => exact ⟨Nat.zero_le _, show (x 1).val < 0 + 2 from by have := (x 1).isLt; exact this⟩
    | ⟨2, _⟩ => exact ⟨Nat.zero_le _, show (x 2).val < 0 + 128 from by have := (x 2).isLt; exact this⟩

theorem set_pRowK : (pRowK L).view.set = pRows (nL L) := by
  show ((View.whole (main_v12_scv : Ref sig .scVector)).slice _).set = _
  rw [View.set_slice]; exact Finset.map_refl.trans (set_off1 L)
theorem set_rRowK : (rRowK L).view.set = pRows (nL L) := by
  show ((View.whole (main_v21_scv : Ref sig .scVector)).slice _).set = _
  rw [View.set_slice]; exact Finset.map_refl.trans (set_off1 L)
theorem set_oBlkK0 : (oBlkK0 L).view.set = oRows (2 * nL L) := by
  show ((View.whole (main_v31_0_scv : Ref sig .scVector)).slice _).set = _
  rw [View.set_slice]; exact Finset.map_refl.trans (set_off2 L 0)
theorem set_oBlkK1 : (oBlkK1 L).view.set = oRows (2 * nL L + 1) := by
  show ((View.whole (main_v31_0_scv : Ref sig .scVector)).slice _).set = _
  rw [View.set_slice]; exact Finset.map_refl.trans (set_off2 L 1)
theorem set_uBlkK0 : (uBlkK0 L).view.set = oRows (2 * nL L) := by
  show ((View.whole (main_v31_1_scv : Ref sig .scVector)).slice _).set = _
  rw [View.set_slice]; exact Finset.map_refl.trans (set_off2 L 0)
theorem set_uBlkK1 : (uBlkK1 L).view.set = oRows (2 * nL L + 1) := by
  show ((View.whole (main_v31_1_scv : Ref sig .scVector)).slice _).set = _
  rw [View.set_slice]; exact Finset.map_refl.trans (set_off2 L 1)

/-- The tile's eight copy counters at zero. -/
abbrev cells0 (d : Dev nD) (L : grid4.Coords) : sProp 𝕄 :=
  iprop(semVal (VT d L, SemLoc.dma cc4_scratch4.sem) 0 ∗ semVal (VT d L, SemLoc.dma cc4_scratch5.sem) 0 ∗ semVal (VT d L, SemLoc.dma cc4_scoped0.sem) 0
    ∗ semVal (VT d L, SemLoc.dma cc4_scoped1.sem) 0 ∗ semVal (VT d L, SemLoc.dma cc4_scoped2.sem) 0 ∗ semVal (VT d L, SemLoc.dma cc4_scoped3.sem) 0
    ∗ semVal (VT d L, SemLoc.dma cc4_scoped4.sem) 0 ∗ semVal (VT d L, SemLoc.dma cc4_scoped5.sem) 0)

theorem read_list (s : Memref sig .scVector .vmem S256 .i32) (hs : s.IsWhole) (g0 : Buf (Elt F) (s.view.loc (VT d L)))
    (pay : S256.Idx → Elt F .i32) (o : Fin 1 → ℕ) (hk : ∀ a, o a + S128.size a ≤ S256.size a) (x : S128.Idx) :
    View.read (Elt F) (s.slice (Rect.unit (s := S256) o S128.size hk) (fun _ => rfl)).view
      (s.view.writes (Elt F) g0 [⟨Rect.whole S256, pay⟩]) x = pay ((Rect.unit (s := S256) o S128.size hk).emb x) := by
  rw [← congrFun (View.read_writes_whole s.view g0 pay) ((Rect.unit (s := S256) o S128.size hk).emb x), View.read_apply, View.read_apply]; rfl

/-- A window of a fetched list holds words of the list. -/
theorem inb_p (p : Buf (Elt F) (pLoc d)) (hp : ∀ x, (p x).toNat < 24576) (g0 : Buf (Elt F) ((sV).view.loc (VT d L)))
    (pay : S256.Idx → Elt F .i32) (hpay : pay = ReadAs.same.apply ((pRowK L).view.read (Elt F) p)) (o : Fin 1 → ℕ)
    (hk : ∀ a, o a + S128.size a ≤ S256.size a) :
    ∀ x, (View.read (Elt F) ((sV).slice (Rect.unit (s := S256) o S128.size hk) (fun _ => rfl)).view
      ((sV).view.writes (Elt F) g0 [⟨Rect.whole cc4_scratch0.ty.shape, pay⟩]) x).toNat < 24576 := by
  subst hpay; intro x
  have e := read_list d L sV (Memref.isWhole_whole _) g0 (ReadAs.same.apply ((pRowK L).view.read (Elt F) p)) o hk x
  exact lt_of_eq_of_lt (congrArg BitVec.toNat e) (hp _)

theorem inb_r (p : Buf (Elt F) (rLoc d)) (hp : ∀ x, (p x).toNat < 24576) (g0 : Buf (Elt F) ((tV).view.loc (VT d L)))
    (pay : S256.Idx → Elt F .i32) (hpay : pay = ReadAs.same.apply ((rRowK L).view.read (Elt F) p)) (o : Fin 1 → ℕ)
    (hk : ∀ a, o a + S128.size a ≤ S256.size a) :
    ∀ x, (View.read (Elt F) ((tV).slice (Rect.unit (s := S256) o S128.size hk) (fun _ => rfl)).view
      ((tV).view.writes (Elt F) g0 [⟨Rect.whole cc4_scratch1.ty.shape, pay⟩]) x).toNat < 24576 := by
  subst hpay; intro x
  have e := read_list d L tV (Memref.isWhole_whole _) g0 (ReadAs.same.apply ((rRowK L).view.read (Elt F) p)) o hk x
  exact lt_of_eq_of_lt (congrArg BitVec.toNat e) (hp _)

/-- One gather of the run: the pieces a window of 128 words of a fetched list names, as the rows of a block of the
    result. -/
theorem gather_val (r : Fin 2) (p : Buf (Elt F) (pLoc d)) (hp : ∀ x, (p x).toNat < 24576) (y : Buf (Elt F) (yLoc d))
    (l : Memref sig .scVector .vmem S256 .i32) (hl : l.IsWhole) (g : Buf (Elt F) (l.view.loc (VT d L))) (pay : S256.Idx → Elt F .i32)
    (hpay : ∀ z, pay z = p ((Rect.unit (s := S8192) (k4_off1 L) S256.size (k4_off1_inb L)).emb z))
    (o : Fin 1 → ℕ) (ho : o 0 = 128 * r.val) (hk : ∀ a, o a + S128.size a ≤ S256.size a)
    (hg : S24576x2x128.Gathers 0 S128x2x128) (hn) (hin) (j : S128x2x128.Idx) :
    SparseCore.gatherPayload hg (View.read (Elt F) ((yV).slice (Rect.unit (s := S24576x2x128) ![0, 0, 0] S24576x2x128.size inb_S24576x2x128_S24576x2x128_0_0_0) (fun _ => rfl)).view y)
      (SparseCore.rows (View.read (Elt F) (l.slice (Rect.unit (s := S256) o S128.size hk) (fun _ => rfl)).view
        (l.view.writes (Elt F) g [⟨Rect.whole S256, pay⟩])) hn hin) j
      = GATH p y ((Rect.unit (s := S8192x2x128) (k4_off2 L (BitVec.ofNat 32 (128 * r.val))) S128x2x128.size (k4_off2_inb L r)).emb j) := by
  unfold SparseCore.gatherPayload
  rw [View.read_apply]
  show y _ = y _
  have hj : (j 0).val < 128 := (j 0).isLt
  have hL0 : (L 0).val < 2 := (L 0).isLt
  have hL1 : (L 1).val < 16 := (L 1).isLt
  have hr := r.isLt
  have e0 : (S128.rowMajor.symm ((j hg.axis').cast hn.symm)) = ix1 (⟨(j 0).val, hj⟩ : Fin 128) := by
    apply S128.rowMajor.injective; rw [Equiv.apply_symm_apply]; apply Fin.ext
    have h1 := Shape.rowMajor_val_one (d := S128.size) (ix1 (⟨(j 0).val, hj⟩ : Fin 128))
    exact h1.symm
  have e1 : (Rect.unit (s := S8192) (k4_off1 L) S256.size (k4_off1_inb L)).emb ((Rect.unit (s := S256) o S128.size hk).emb (ix1 (⟨(j 0).val, hj⟩ : Fin 128)))
      = ix1 (((Rect.unit (s := S8192x2x128) (k4_off2 L (BitVec.ofNat 32 (128 * r.val))) S128x2x128.size (k4_off2_inb L r)).emb j) 0) := by
    funext a; apply Fin.ext
    match a with
    | ⟨0, _⟩ =>
      show k4_off1 L 0 + 1 * (o 0 + 1 * (j 0).val) = k4_off2 L (BitVec.ofNat 32 (128 * r.val)) 0 + 1 * (j 0).val
      rw [k4_off1_eq, k4_off2_eq, ho]
      show 4096 * (L 0).val + 256 * (L 1).val + 1 * (128 * r.val + 1 * (j 0).val) = 4096 * (L 0).val + 256 * (L 1).val + 128 * r.val + 1 * (j 0).val
      omega
  congr 1
  funext b
  apply Fin.ext
  match b with
  | ⟨0, hb⟩ =>
    show 0 + 1 * (hg.idx _ j hg.axis).val = _
    rw [Shape.Gathers.idx_axis]
    show 0 + 1 * BitVec.toNat (View.read (Elt F) (l.slice (Rect.unit (s := S256) o S128.size hk) (fun _ => rfl)).view
        (l.view.writes (Elt F) g [⟨Rect.whole S256, pay⟩]) (S128.rowMajor.symm ((j hg.axis').cast hn.symm))) = (p _).toNat % 24576
    rw [e0, read_list d L l hl g pay o hk, hpay, e1, Nat.mod_eq_of_lt (hp _), Nat.zero_add, Nat.one_mul]; rfl
  | ⟨1, hb⟩ =>
    show 0 + 1 * (hg.idx _ j 1).val = k4_off2 L (BitVec.ofNat 32 (128 * r.val)) 1 + 1 * (j 1).val
    rw [Shape.Gathers.idx_of_ne _ _ _ _ (by decide), k4_off2_eq]; rfl
  | ⟨2, hb⟩ =>
    show 0 + 1 * (hg.idx _ j 2).val = k4_off2 L (BitVec.ofNat 32 (128 * r.val)) 2 + 1 * (j 2).val
    rw [Shape.Gathers.idx_of_ne _ _ _ _ (by decide), k4_off2_eq]; rfl

/-- What a staging buffer last filled whole reads back. -/
theorem stage_read (w : Memref sig .scVector .vmem S128x2x128 .f32) (f : w.view.ty.Contents (Elt F)) (pay : S128x2x128.Idx → Elt F .f32)
    (l : List (View.Piece (Elt F) S128x2x128 .f32)) (j : S128x2x128.Idx) :
    w.view.read (Elt F) (w.view.writes (Elt F) f (⟨Rect.whole S128x2x128, pay⟩ :: l)) j = pay j := by
  have h := View.read_writes_cons_emb w.view f (Rect.whole S128x2x128) pay l j
  rwa [Rect.emb_whole_apply] at h

/-- A block written whole holds what was written. -/
theorem blk_congr (w : Memref sig .scVector .hbm S128x2x128 .f32) (f G : Buf (Elt F) (w.view.loc (VT d L))) (pay : S128x2x128.Idx → Elt F .f32)
    (h : ∀ j, pay j = w.view.read (Elt F) G j) :
    (w.view.loc (VT d L) ↦[w.view.set]{fullShare} w.view.writes (Elt F) f [⟨Rect.whole S128x2x128, pay⟩] : sProp 𝕄)
      = w.view.loc (VT d L) ↦[w.view.set]{fullShare} G := by
  refine pointsTo_congr fun i hi => ?_
  obtain ⟨j, -, rfl⟩ := Finset.mem_map.mp hi
  have e := (congrFun (View.read_writes_whole w.view f pay) j).trans (h j)
  rw [View.read_apply, View.read_apply] at e
  exact (cast_inj _).mp e

set_option maxHeartbeats 4000000 in
theorem tile_run (p r : Buf (Elt F) (pLoc d)) (y : Buf (Elt F) (yLoc d)) (o u : Buf (Elt F) (oLoc d))
    (hp : ∀ x, (p x).toNat < 24576) (hr : ∀ x, (r x).toNat < 24576) (q : PosShare TreeShare)
    (O : CellTallies nD τ sig (HIx 2)) (W : Waits sig (HIx 2))
    (s0 : Buf (Elt F) ((sV).view.loc (VT d L))) (t0 : Buf (Elt F) ((tV).view.loc (VT d L)))
    (a0 : Buf (Elt F) ((aV).view.loc (VT d L))) (b0 : Buf (Elt F) ((bV).view.loc (VT d L))) :
    (iprop(Transfers.MayWaits (VT d L) (default : HIx 2) O
        ∗ ((pRowK L).view.loc (VT d L) ↦[(pRowK L).view.set]{fullShare} p)
        ∗ ((rRowK L).view.loc (VT d L) ↦[(rRowK L).view.set]{fullShare} r)
        ∗ ((yV).view.loc (VT d L) ↦{Transfers.shareTokN q 0} y)
        ∗ ((yV).view.loc (VT d L) ↦{Transfers.shareTokN q 1} y)
        ∗ ((oBlkK0 L).view.loc (VT d L) ↦[(oBlkK0 L).view.set]{fullShare} o)
        ∗ ((oBlkK1 L).view.loc (VT d L) ↦[(oBlkK1 L).view.set]{fullShare} o)
        ∗ ((uBlkK0 L).view.loc (VT d L) ↦[(uBlkK0 L).view.set]{fullShare} u)
        ∗ ((uBlkK1 L).view.loc (VT d L) ↦[(uBlkK1 L).view.set]{fullShare} u)
        ∗ ((sV).view.loc (VT d L) ↦[(sV).view.set]{fullShare} s0)
        ∗ ((tV).view.loc (VT d L) ↦[(tV).view.set]{fullShare} t0)
        ∗ ((aV).view.loc (VT d L) ↦[(aV).view.set]{fullShare} a0)
        ∗ ((bV).view.loc (VT d L) ↦[(bV).view.set]{fullShare} b0)
        ∗ cells0 d L
        ∗ owes (VT d L) O W) : sProp 𝕄)
      ⊢ wp frame (wpE (defs₀ (F := F)) 𝒱₀ (VT d L) none) Set.univ
          (cc4__k5_body L pV (Memref.isWhole_whole _) rV (Memref.isWhole_whole _) yV (Memref.isWhole_whole _)
            oV (Memref.isWhole_whole _) uV (Memref.isWhole_whole _) sV (Memref.isWhole_whole _) tV (Memref.isWhole_whole _)
            aV (Memref.isWhole_whole _) bV (Memref.isWhole_whole _) cc4_scratch4 cc4_scratch5 cc4_scoped0 cc4_scoped1 cc4_scoped2
            cc4_scoped3 cc4_scoped4 cc4_scoped5)
          fun _ => iprop(((pRowK L).view.loc (VT d L) ↦[(pRowK L).view.set]{fullShare} p)
            ∗ ((rRowK L).view.loc (VT d L) ↦[(rRowK L).view.set]{fullShare} r)
            ∗ ((yV).view.loc (VT d L) ↦{Transfers.shareTokN q 0} y)
            ∗ ((yV).view.loc (VT d L) ↦{Transfers.shareTokN q 1} y)
            ∗ ((oBlkK0 L).view.loc (VT d L) ↦[(oBlkK0 L).view.set]{fullShare} GATH p y)
            ∗ ((oBlkK1 L).view.loc (VT d L) ↦[(oBlkK1 L).view.set]{fullShare} GATH p y)
            ∗ ((uBlkK0 L).view.loc (VT d L) ↦[(uBlkK0 L).view.set]{fullShare} GATH r y)
            ∗ ((uBlkK1 L).view.loc (VT d L) ↦[(uBlkK1 L).view.set]{fullShare} GATH r y)
            ∗ (∃ f, (sV).view.loc (VT d L) ↦[(sV).view.set]{fullShare} f)
            ∗ (∃ f, (tV).view.loc (VT d L) ↦[(tV).view.set]{fullShare} f)
            ∗ (∃ f, (aV).view.loc (VT d L) ↦[(aV).view.set]{fullShare} f)
            ∗ (∃ f, (bV).view.loc (VT d L) ↦[(bV).view.set]{fullShare} f)
            ∗ cells0 d L
            ∗ ∃ W', ⌜∀ p ∈ W', p ∈ W ∨ p.2 = none⌝ ∗ owes (VT d L) O W') := by
  iintro ⟨#Hmw, HP, HR, HY0, HY1, HO0, HO1, HU0, HU1, HS, HT, HA, HB, ⟨Hc0, Hc1, Hc2, Hc3, Hc4, Hc5, Hc6, Hc7⟩, HW⟩
  sl_unfold [cc4__k5_body, k4_part1, k4_part2]
  sl_exec
  have h0 := fun g => inb_p d L p hp g (tile_run.sl.dma0 d L p) rfl ![0] inb_S256_S128_0
  have h1 := fun g => inb_p d L p hp g (tile_run.sl.dma0 d L p) rfl ![128] inb_S256_S128_128
  have h2 := fun g => inb_r d L r hr g (tile_run.sl.dma0_1 d L r) rfl ![0] inb_S256_S128_0
  have h3 := fun g => inb_r d L r hr g (tile_run.sl.dma0_1 d L r) rfl ![128] inb_S256_S128_128
  sl_exec
  sl_step
  have hv0 : ∀ j, tile_run.sl.dma0_2 d L p y a0 h0 j = (oBlkK0 L).view.read (Elt F) (GATH p y : Buf (Elt F) (oLoc d)) j := by
    intro j
    refine (stage_read aV a0 _ _ j).trans ?_
    exact gather_val d L 0 p hp y sV (Memref.isWhole_whole _) _ _ (fun z => rfl) ![0] rfl inb_S256_S128_0 gathers_S24576x2x128_S128x2x128 _ _ j
  have hv1 : ∀ j, tile_run.sl.dma0_3 d L p y b0 h1 j = (oBlkK1 L).view.read (Elt F) (GATH p y : Buf (Elt F) (oLoc d)) j := by
    intro j
    refine (stage_read bV b0 _ _ j).trans ?_
    exact gather_val d L 1 p hp y sV (Memref.isWhole_whole _) _ _ (fun z => rfl) ![128] rfl inb_S256_S128_128 gathers_S24576x2x128_S128x2x128 _ _ j
  have hv2 : ∀ j, tile_run.sl.dma0_4 d L p r y a0 h0 h2 j = (uBlkK0 L).view.read (Elt F) (GATH r y : Buf (Elt F) (oLoc d)) j := by
    intro j
    refine (stage_read aV a0 _ _ j).trans ?_
    exact gather_val d L 0 r hr y tV (Memref.isWhole_whole _) _ _ (fun z => rfl) ![0] rfl inb_S256_S128_0 gathers_S24576x2x128_S128x2x128 _ _ j
  have hv3 : ∀ j, tile_run.sl.dma0_5 d L p r y b0 h1 h3 j = (uBlkK1 L).view.read (Elt F) (GATH r y : Buf (Elt F) (oLoc d)) j := by
    intro j
    refine (stage_read bV b0 _ _ j).trans ?_
    exact gather_val d L 1 r hr y tV (Memref.isWhole_whole _) _ _ (fun z => rfl) ![128] rfl inb_S256_S128_128 gathers_S24576x2x128_S128x2x128 _ _ j
  ihave HO0 := (Entails.of_eq (blk_congr (F := F) d L (oBlkK0 L) o (GATH p y) _ hv0)) $$ HO0
  ihave HO1 := (Entails.of_eq (blk_congr (F := F) d L (oBlkK1 L) o (GATH p y) _ hv1)) $$ HO1
  ihave HU0 := (Entails.of_eq (blk_congr (F := F) d L (uBlkK0 L) u (GATH r y) _ hv2)) $$ HU0
  ihave HU1 := (Entails.of_eq (blk_congr (F := F) d L (uBlkK1 L) u (GATH r y) _ hv3)) $$ HU1
  have hW : ∀ p ∈ (insert (SemLoc.dma ⟨46, by decide⟩, default) (insert (SemLoc.dma ⟨40, by decide⟩, default) (insert (SemLoc.dma ⟨45, by decide⟩, default) (insert (SemLoc.dma ⟨39, by decide⟩, default) (insert (SemLoc.dma ⟨44, by decide⟩, default) (insert (SemLoc.dma ⟨40, by decide⟩, default) (insert (SemLoc.dma ⟨43, by decide⟩, default) (insert (SemLoc.dma ⟨39, by decide⟩, default) (insert (SemLoc.dma ⟨42, by decide⟩, default) (insert (SemLoc.dma ⟨41, by decide⟩, default) W))))))))) : Waits sig (HIx 2)), p ∈ W ∨ p.2 = none := by
    intro p hp'
    simp only [Finset.mem_insert] at hp'
    rcases hp' with rfl | rfl | rfl | rfl | rfl | rfl | rfl | rfl | rfl | rfl | h
    all_goals first | exact .inl ‹_› | exact .inr rfl
  sl_close

end Tile

end Cert.Proof.Kernel.Gather

end
-- ==== Proof.KernelTasks.lean ====
/-
  The two SparseCore calls' tasks: what each call hands to each of its 32 tiles and takes back, and that a tile's run,
  from what the launch deals it, gives back what it owes.
-/
module

public import proofs.«01_k».proof.Proof.KernelTile3
public import proofs.«01_k».proof.Proof.KernelTile5

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Scatter (SCATX SCATW ownX ownW tRows aLoc bLoc wLoc vLoc xLoc XLoc WLoc ListsOK)

variable {F : FTy → Type} [FloatOps F] [Named F]

local notation "𝕄" => MT nD τ sig (HIx 2) (Elt F) ℕ UU ℕ

/-! ## The contents of the calls' buffers -/

/-- What the two calls find and leave in their buffers. -/
structure Pack (F : FTy → Type) where
  a : S2048.Idx → BitVec 32
  b : S2048.Idx → BitVec 32
  p : S8192.Idx → BitVec 32
  r : S8192.Idx → BitVec 32
  w : S2048x128.Idx → Elt F .f32
  v : S2048x128.Idx → Elt F .f32
  x : S8192x2x128.Idx → Elt F .f32
  X : S24576x2x128.Idx → Elt F .f32
  W : S6144x128.Idx → Elt F .f32
  o : S8192x2x128.Idx → Elt F .f32
  u : S8192x2x128.Idx → Elt F .f32
  /-- What is known of the sorted results the second call reads. -/
  ok : (S24576x2x128.Idx → Elt F .f32) → Prop
  O : S8192x2x128.Idx → Elt F .f32
  U : S8192x2x128.Idx → Elt F .f32

/-- The lists name distinct rows, and what the gather reads of the sorted results is determined. -/
structure Pack.OK (Q : Pack F) : Prop where
  lists : ListsOK Q.a Q.b Q.p Q.r
  gath : ∀ Y, Q.ok Y → GATH Q.p Y = Q.O ∧ GATH Q.r Y = Q.U

/-! ## The tiles' pieces -/

def wRows (n : ℕ) : Finset S2048x128.Idx := Finset.univ.filter fun x => (x 0).val / 64 = n
def xRows (n : ℕ) : Finset S8192x2x128.Idx := Finset.univ.filter fun x => (x 0).val / 256 = n
/-- The rows of the sorted pieces tile `n` writes. -/
def XRows (Q : Pack F) (n : ℕ) : Finset S24576x2x128.Idx := open scoped Classical in Finset.univ.filter fun i => ownX Q.p Q.r n (i 0).val
/-- The rows of the sorted weights tile `n` writes. -/
def WRows (Q : Pack F) (n : ℕ) : Finset S6144x128.Idx := open scoped Classical in Finset.univ.filter fun i => ownW Q.a Q.b n (i 0).val

omit [FloatOps F] [Named F] in
theorem mem_XRows (Q : Pack F) (n : ℕ) (i : S24576x2x128.Idx) : i ∈ XRows Q n ↔ ownX Q.p Q.r n (i 0).val := by
  classical
  unfold XRows
  rw [Finset.mem_filter]
  exact and_iff_right (Finset.mem_univ _)
omit [FloatOps F] [Named F] in
theorem mem_WRows (Q : Pack F) (n : ℕ) (i : S6144x128.Idx) : i ∈ WRows Q n ↔ ownW Q.a Q.b n (i 0).val := by
  classical
  unfold WRows
  rw [Finset.mem_filter]
  exact and_iff_right (Finset.mem_univ _)

/-- Tile `n`'s share of the sorted results. -/
def yq (n : ℕ) : PosShare TreeShare := ShareLeaves.leaf 5 fullShare ⟨n % 32, Nat.mod_lt _ (by decide)⟩

/-- The lists and rows tile `n` of the scatter reads. -/
abbrev sIn (Q : Pack F) (d : Dev nD) (n : ℕ) : sProp 𝕄 :=
  iprop((aLoc d ↦[tRows n]{fullShare} Q.a) ∗ (bLoc d ↦[tRows n]{fullShare} Q.b) ∗ (pLoc d ↦[pRows n]{fullShare} Q.p) ∗ (rLoc d ↦[pRows n]{fullShare} Q.r)
    ∗ (wLoc d ↦[wRows n]{fullShare} Q.w) ∗ (vLoc d ↦[wRows n]{fullShare} Q.v) ∗ (xLoc d ↦[xRows n]{fullShare} Q.x))
/-- What tile `n` of the scatter holds, its rows of the results at the contents `X` and `W`. -/
abbrev sPiece (Q : Pack F) (d : Dev nD) (X : S24576x2x128.Idx → Elt F .f32) (W : S6144x128.Idx → Elt F .f32) (n : ℕ) : sProp 𝕄 :=
  iprop(sIn Q d n ∗ (XLoc d ↦[XRows Q n]{fullShare} X) ∗ (WLoc d ↦[WRows Q n]{fullShare} W))
/-- What tile `n` of the gather holds beside the sorted results. -/
abbrev gPiece (Q : Pack F) (d : Dev nD) (o u : S8192x2x128.Idx → Elt F .f32) (n : ℕ) : sProp 𝕄 :=
  iprop((pLoc d ↦[pRows n]{fullShare} Q.p) ∗ (rLoc d ↦[pRows n]{fullShare} Q.r)
    ∗ ((oLoc d ↦[oRows (2 * n)]{fullShare} o) ∗ (oLoc d ↦[oRows (2 * n + 1)]{fullShare} o))
    ∗ ((uLoc d ↦[oRows (2 * n)]{fullShare} u) ∗ (uLoc d ↦[oRows (2 * n + 1)]{fullShare} u)))
/-- Its share of the sorted results, at contents of which `ok` is known. -/
abbrev yPiece (Q : Pack F) (d : Dev nD) (n : ℕ) : sProp 𝕄 := iprop(∃ Y : S24576x2x128.Idx → Elt F .f32, ⌜Q.ok Y⌝ ∗ (yLoc d ↦{yq n} Y))

/-- What call `q` hands tile `n`. -/
def pieceA (Q : Pack F) (d : Dev nD) (q : Fin 2) (n : ℕ) : sProp 𝕄 :=
  match q with
  | 0 => sPiece Q d Q.X Q.W n
  | 1 => iprop(gPiece Q d Q.o Q.u n ∗ yPiece Q d n)
/-- What it takes back. -/
def pieceB (Q : Pack F) (d : Dev nD) (q : Fin 2) (n : ℕ) : sProp 𝕄 :=
  match q with
  | 0 => sPiece Q d (SCATX Q.p Q.r Q.x Q.X) (SCATW Q.a Q.b Q.w Q.v Q.W) n
  | 1 => gPiece Q d Q.O Q.U n

instance pieceA_storable (Q : Pack F) (d : Dev nD) (q : Fin 2) (n : ℕ) : BI.Storable (upEmb : UEmb _ 𝕄) (pieceA Q d q n) := by
  unfold pieceA; match q with
  | 0 => infer_instance
  | 1 => infer_instance
instance pieceB_storable (Q : Pack F) (d : Dev nD) (q : Fin 2) (n : ℕ) : BI.Storable (upEmb : UEmb _ 𝕄) (pieceB Q d q n) := by
  unfold pieceB; match q with
  | 0 => infer_instance
  | 1 => infer_instance

def P (Q : Dev nD → Pack F) : (K (F := F)).Pay (nD := nD) (Val := Elt F) (Name := ℕ) (U := UU) where
  st := fun q d c => bigSep (Finset.univ : Finset (Fin 16)) fun i => pieceA (Q d) d q (16 * c.val + i.val)
  dn := fun q d c => bigSep (Finset.univ : Finset (Fin 16)) fun i => pieceB (Q d) d q (16 * c.val + i.val)
  go := fun q d c i => pieceA (Q d) d q (16 * c.val + i.val)
  td := fun q d c i => pieceB (Q d) d q (16 * c.val + i.val)
  x := fun _ _ => iprop(emp)

instance P_storable (Q : Dev nD → Pack F) : (P Q).IsStorable where
  st _ d c := by unfold P; infer_instance
  dn _ d c := by unfold P; infer_instance
  go _ _ _ _ := by unfold P; infer_instance
  td _ _ _ _ := by unfold P; infer_instance

abbrev dcell (d : Dev nD) (c : Fin τ.nSC) (i : Fin τ.nSub) (k : Fin 55) : GSem nD τ sig := (V d c i, .dma ⟨k.val, k.isLt⟩)

omit [FloatOps F] [Named F] in
theorem dcell_mem (d : Dev nD) (c : Fin τ.nSC) (i : Fin τ.nSub) (k : Fin 55) (hk : ((SemLoc.dma ⟨k.val, k.isLt⟩ : SemLoc sig).isScoped .scVector = true)) :
    dcell d c i k ∈ ownCells (V d c i) :=
  mem_ownCells.mpr ⟨rfl, hk⟩

omit [FloatOps F] [Named F] in
theorem dcell_inj (d : Dev nD) (c : Fin τ.nSC) (i : Fin τ.nSub) : Function.Injective (dcell d c i) := fun a b h => by
  have := congrArg (fun g : GSem nD τ sig => g.2) h
  simp only [SemLoc.dma.injEq, Fin.mk.injEq] at this; exact Fin.ext this

/-! ## One tile of the scatter, from what the launch deals it -/

namespace Scatter

local notation "aV" => (Memref.whole Cert.KernelIdeal.main_v2_scv : Memref Cert.KernelIdeal.sig Kind.scVector Space.hbm Cert.KernelIdeal.S2048 EltTy.i32)
local notation "bV" => (Memref.whole Cert.KernelIdeal.main_v3_scv : Memref Cert.KernelIdeal.sig Kind.scVector Space.hbm Cert.KernelIdeal.S2048 EltTy.i32)
local notation "pV" => (Memref.whole Cert.KernelIdeal.main_v12_scv : Memref Cert.KernelIdeal.sig Kind.scVector Space.hbm Cert.KernelIdeal.S8192 EltTy.i32)
local notation "rV" => (Memref.whole Cert.KernelIdeal.main_v21_scv : Memref Cert.KernelIdeal.sig Kind.scVector Space.hbm Cert.KernelIdeal.S8192 EltTy.i32)
local notation "wV" => (Memref.whole Cert.KernelIdeal.main_v1_2_scv : Memref Cert.KernelIdeal.sig Kind.scVector Space.hbm Cert.KernelIdeal.S2048x128 EltTy.f32)
local notation "vV" => (Memref.whole Cert.KernelIdeal.main_v1_3_scv : Memref Cert.KernelIdeal.sig Kind.scVector Space.hbm Cert.KernelIdeal.S2048x128 EltTy.f32)
local notation "xV" => (Memref.whole Cert.KernelIdeal.main_v22_scv : Memref Cert.KernelIdeal.sig Kind.scVector Space.hbm Cert.KernelIdeal.S8192x2x128 EltTy.f32)
local notation "XV" => (Memref.whole Cert.KernelIdeal.main_v23_0_scv : Memref Cert.KernelIdeal.sig Kind.scVector Space.hbm Cert.KernelIdeal.S24576x2x128 EltTy.f32)
local notation "WV" => (Memref.whole Cert.KernelIdeal.main_v23_1_scv : Memref Cert.KernelIdeal.sig Kind.scVector Space.hbm Cert.KernelIdeal.S6144x128 EltTy.f32)
local notation "s0V" => (Memref.whole Cert.KernelIdeal.cc1_scratch0 : Memref Cert.KernelIdeal.sig Kind.scVector Space.vmem Cert.KernelIdeal.S64 EltTy.i32)
local notation "s1V" => (Memref.whole Cert.KernelIdeal.cc1_scratch1 : Memref Cert.KernelIdeal.sig Kind.scVector Space.vmem Cert.KernelIdeal.S64 EltTy.i32)
local notation "s2V" => (Memref.whole Cert.KernelIdeal.cc1_scratch2 : Memref Cert.KernelIdeal.sig Kind.scVector Space.vmem Cert.KernelIdeal.S256 EltTy.i32)
local notation "s3V" => (Memref.whole Cert.KernelIdeal.cc1_scratch3 : Memref Cert.KernelIdeal.sig Kind.scVector Space.vmem Cert.KernelIdeal.S256 EltTy.i32)
local notation "s4V" => (Memref.whole Cert.KernelIdeal.cc1_scratch4 : Memref Cert.KernelIdeal.sig Kind.scVector Space.vmem Cert.KernelIdeal.S256x2x128 EltTy.f32)
local notation "s5V" => (Memref.whole Cert.KernelIdeal.cc1_scratch5 : Memref Cert.KernelIdeal.sig Kind.scVector Space.vmem Cert.KernelIdeal.S64x128 EltTy.f32)
local notation "s6V" => (Memref.whole Cert.KernelIdeal.cc1_scratch6 : Memref Cert.KernelIdeal.sig Kind.scVector Space.vmem Cert.KernelIdeal.S64x128 EltTy.f32)

variable (Q : Pack F) (d : Dev nD) (L : grid1.Coords)

theorem set_off1 : (Rect.unit (s := S2048) (k1_off1 L) S64.size (k1_off1_inb L)).set = tRows (nL L) := by
  ext x
  rw [Rect.mem_set_unit, tRows, Finset.mem_filter]
  simp only [k1_off1_eq, Finset.mem_univ, true_and]
  constructor
  · intro h; have := h 0; simp at this; unfold nL; omega
  · intro h a; unfold nL at h; match a with | ⟨0, _⟩ => exact ⟨show 1024 * (L 0).val + 64 * (L 1).val ≤ (x 0).val by omega, show (x 0).val < 1024 * (L 0).val + 64 * (L 1).val + 64 by omega⟩
theorem set_off2 : (Rect.unit (s := S8192) (k1_off2 L) S256.size (k1_off2_inb L)).set = pRows (nL L) := by
  ext x
  rw [Rect.mem_set_unit, pRows, Finset.mem_filter]
  simp only [k1_off2_eq, Finset.mem_univ, true_and]
  constructor
  · intro h; have := h 0; simp at this; unfold nL; omega
  · intro h a; unfold nL at h; match a with | ⟨0, _⟩ => exact ⟨show 4096 * (L 0).val + 256 * (L 1).val ≤ (x 0).val by omega, show (x 0).val < 4096 * (L 0).val + 256 * (L 1).val + 256 by omega⟩
theorem set_off3 : (Rect.unit (s := S8192x2x128) (k1_off3 L) S256x2x128.size (k1_off3_inb L)).set = xRows (nL L) := by
  ext x
  rw [Rect.mem_set_unit, xRows, Finset.mem_filter]
  simp only [k1_off3_eq, Finset.mem_univ, true_and]
  constructor
  · intro h; have := h 0; simp at this; unfold nL; omega
  · intro h a; unfold nL at h; match a with
    | ⟨0, _⟩ => exact ⟨show 4096 * (L 0).val + 256 * (L 1).val ≤ (x 0).val by omega, show (x 0).val < 4096 * (L 0).val + 256 * (L 1).val + 256 by omega⟩
    | ⟨1, _⟩ => exact ⟨Nat.zero_le _, show (x 1).val < 0 + 2 from by have := (x 1).isLt; exact this⟩
    | ⟨2, _⟩ => exact ⟨Nat.zero_le _, show (x 2).val < 0 + 128 from by have := (x 2).isLt; exact this⟩
theorem set_off4 : (Rect.unit (s := S2048x128) (k1_off4 L) S64x128.size (k1_off4_inb L)).set = wRows (nL L) := by
  ext x
  rw [Rect.mem_set_unit, wRows, Finset.mem_filter]
  simp only [k1_off4_eq, Finset.mem_univ, true_and]
  constructor
  · intro h; have := h 0; simp at this; unfold nL; omega
  · intro h a; unfold nL at h; match a with
    | ⟨0, _⟩ => exact ⟨show 1024 * (L 0).val + 64 * (L 1).val ≤ (x 0).val by omega, show (x 0).val < 1024 * (L 0).val + 64 * (L 1).val + 64 by omega⟩
    | ⟨1, _⟩ => exact ⟨Nat.zero_le _, show (x 1).val < 0 + 128 from by have := (x 1).isLt; exact this⟩

theorem set_aK : (aK L).view.set = tRows (nL L) := by
  show ((View.whole (main_v2_scv : Ref sig .scVector)).slice _).set = _
  rw [View.set_slice]; exact Finset.map_refl.trans (set_off1 L)
theorem set_bK : (bK L).view.set = tRows (nL L) := by
  show ((View.whole (main_v3_scv : Ref sig .scVector)).slice _).set = _
  rw [View.set_slice]; exact Finset.map_refl.trans (set_off1 L)
theorem set_pK : (pK L).view.set = pRows (nL L) := by
  show ((View.whole (main_v12_scv : Ref sig .scVector)).slice _).set = _
  rw [View.set_slice]; exact Finset.map_refl.trans (set_off2 L)
theorem set_rK : (rK L).view.set = pRows (nL L) := by
  show ((View.whole (main_v21_scv : Ref sig .scVector)).slice _).set = _
  rw [View.set_slice]; exact Finset.map_refl.trans (set_off2 L)
theorem set_xK : (xK L).view.set = xRows (nL L) := by
  show ((View.whole (main_v22_scv : Ref sig .scVector)).slice _).set = _
  rw [View.set_slice]; exact Finset.map_refl.trans (set_off3 L)
theorem set_wK : (wK L).view.set = wRows (nL L) := by
  show ((View.whole (main_v1_2_scv : Ref sig .scVector)).slice _).set = _
  rw [View.set_slice]; exact Finset.map_refl.trans (set_off4 L)
theorem set_vK : (vK L).view.set = wRows (nL L) := by
  show ((View.whole (main_v1_3_scv : Ref sig .scVector)).slice _).set = _
  rw [View.set_slice]; exact Finset.map_refl.trans (set_off4 L)

theorem rows_eq {s : Shape} {e : EltTy} {κ : Kind} {sp : Space} (v : View sig κ sp s e) (ax : Fin s.rank) (p : ℕ → Prop) (S : Finset v.ty.Idx)
    (hS : ∀ j, v.emb j ∈ S ↔ p (j ax).val) (hv : ∀ i, ∃ j, v.emb j = i) : SparseCore.rowsWhere v ax p = S := by
  ext i
  obtain ⟨j, rfl⟩ := hv i
  rw [hS]
  constructor
  · intro h
    obtain ⟨k, hk, hp⟩ := rowsWhere_elem h
    rwa [v.emb.injective hk] at hp
  · intro h
    refine SparseCore.mem_rowsWhere.mpr ⟨j ax, h, ?_⟩
    rw [View.set_slice]
    refine Finset.mem_map.mpr ⟨j, ?_, rfl⟩
    rw [← Rect.map_emb_univ]
    exact Finset.mem_map.mpr ⟨inRow ax j, Finset.mem_univ _, emb_inRow ax j _ rfl⟩

theorem set_X : SparseCore.rowsWhere (XK).view ⟨0, by decide⟩ (ownX Q.p Q.r (nL L)) = XRows Q (nL L) := by
  refine rows_eq _ _ _ _ (fun j => ?_) fun i => ⟨i, XK_emb i⟩
  rw [XK_emb j]
  exact mem_XRows Q _ _
theorem set_W : SparseCore.rowsWhere (WK).view ⟨0, by decide⟩ (ownW Q.a Q.b (nL L)) = WRows Q (nL L) := by
  refine rows_eq _ _ _ _ (fun j => ?_) fun i => ⟨i, WK_emb i⟩
  rw [WK_emb j]
  exact mem_WRows Q _ _

abbrev vref (L : grid1.Coords) (b : Ref sig .scVector) : DevRef τ sig := (Proc.scVector (cV L) (jV L)).devRef b

omit [FloatOps F] [Named F] in
/-- The subcore's own cells at zero: the eleven the task names, one by one, and the rest. -/
theorem ownSems0_V :
    (ownSems0 (VT d L) : sProp 𝕄)
      = iprop(cells0 d L
          ∗ bigSep ((ownCells (VT d L)) \ ((({9, 10, 11, 12, 13, 14, 15, 16, 17, 18, 19} : Finset (Fin 55))).image (dcell d (cV L) (jV L)))) fun g => semVal g 0) := by
  unfold SparseCore.Cfg.ownSems0
  rw [SparseCore.bigSep_sdiff_split' (t := ((({9, 10, 11, 12, 13, 14, 15, 16, 17, 18, 19} : Finset (Fin 55))).image (dcell d (cV L) (jV L))))
      (Finset.image_subset_iff.mpr fun k hk => dcell_mem d (cV L) (jV L) k
        ((show ∀ k ∈ ({9, 10, 11, 12, 13, 14, 15, 16, 17, 18, 19} : Finset (Fin 55)), ((SemLoc.dma ⟨k.val, k.isLt⟩ : SemLoc sig).isScoped .scVector = true) by decide) k hk)),
    SparseCore.bigSep_image_of_injOn (fun a _ b _ h => dcell_inj d _ _ h)]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] [Named F] in
/-- The seven scratch buffers are among the subcore's own. -/
theorem ownBufs_V :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f) ∗ (∃ f, (VT d L).loc cc1_scratch3 ↦{fullShare} f) ∗ (∃ f, (VT d L).loc cc1_scratch4 ↦{fullShare} f) ∗ (∃ f, (VT d L).loc cc1_scratch5 ↦{fullShare} f) ∗ (∃ f, (VT d L).loc cc1_scratch6 ↦{fullShare} f)
          ∗ bigSep ((((((((ownRefs (τ := τ) (.scVector (cV L) (jV L))).erase (vref L cc1_scratch0)).erase (vref L cc1_scratch1)).erase (vref L cc1_scratch2)).erase (vref L cc1_scratch3)).erase (vref L cc1_scratch4)).erase (vref L cc1_scratch5)).erase (vref L cc1_scratch6))
              fun b => iprop(∃ f, ((d, b) : Loc nD τ sig) ↦{fullShare} f)) := by
  have ne : ∀ b b' : Ref sig .scVector, b ≠ b' → vref L b ≠ vref L b' := fun b b' h e => h (Proc.devRef_injective _ e)
  have me : ∀ b : Ref sig .scVector, b.isScoped = true → True := fun _ _ => trivial
  unfold SparseCore.Cfg.ownBufs
  refine (SparseCore.bigSep_erase' (SparseCore.Cfg.mem_ownRefs_of_owner (p := Proc.scVector (cV L) (jV L)) (b := vref L cc1_scratch0) rfl)).trans ?_
  rw [SparseCore.bigSep_erase' (i := vref L cc1_scratch1) (Finset.mem_erase.mpr ⟨ne _ _ (by decide), SparseCore.Cfg.mem_ownRefs_of_owner (p := Proc.scVector (cV L) (jV L)) (b := vref L cc1_scratch1) rfl⟩),
    SparseCore.bigSep_erase' (i := vref L cc1_scratch2) (Finset.mem_erase.mpr ⟨ne _ _ (by decide), Finset.mem_erase.mpr ⟨ne _ _ (by decide), SparseCore.Cfg.mem_ownRefs_of_owner (p := Proc.scVector (cV L) (jV L)) (b := vref L cc1_scratch2) rfl⟩⟩),
    SparseCore.bigSep_erase' (i := vref L cc1_scratch3) (Finset.mem_erase.mpr ⟨ne _ _ (by decide), Finset.mem_erase.mpr ⟨ne _ _ (by decide), Finset.mem_erase.mpr ⟨ne _ _ (by decide), SparseCore.Cfg.mem_ownRefs_of_owner (p := Proc.scVector (cV L) (jV L)) (b := vref L cc1_scratch3) rfl⟩⟩⟩),
    SparseCore.bigSep_erase' (i := vref L cc1_scratch4) (Finset.mem_erase.mpr ⟨ne _ _ (by decide), Finset.mem_erase.mpr ⟨ne _ _ (by decide), Finset.mem_erase.mpr ⟨ne _ _ (by decide), Finset.mem_erase.mpr ⟨ne _ _ (by decide), SparseCore.Cfg.mem_ownRefs_of_owner (p := Proc.scVector (cV L) (jV L)) (b := vref L cc1_scratch4) rfl⟩⟩⟩⟩),
    SparseCore.bigSep_erase' (i := vref L cc1_scratch5) (Finset.mem_erase.mpr ⟨ne _ _ (by decide), Finset.mem_erase.mpr ⟨ne _ _ (by decide), Finset.mem_erase.mpr ⟨ne _ _ (by decide), Finset.mem_erase.mpr ⟨ne _ _ (by decide), Finset.mem_erase.mpr ⟨ne _ _ (by decide), SparseCore.Cfg.mem_ownRefs_of_owner (p := Proc.scVector (cV L) (jV L)) (b := vref L cc1_scratch5) rfl⟩⟩⟩⟩⟩),
    SparseCore.bigSep_erase' (i := vref L cc1_scratch6) (Finset.mem_erase.mpr ⟨ne _ _ (by decide), Finset.mem_erase.mpr ⟨ne _ _ (by decide), Finset.mem_erase.mpr ⟨ne _ _ (by decide), Finset.mem_erase.mpr ⟨ne _ _ (by decide), Finset.mem_erase.mpr ⟨ne _ _ (by decide), Finset.mem_erase.mpr ⟨ne _ _ (by decide), SparseCore.Cfg.mem_ownRefs_of_owner (p := Proc.scVector (cV L) (jV L)) (b := vref L cc1_scratch6) rfl⟩⟩⟩⟩⟩⟩)]

theorem pts_a (f : Buf (Elt F) (aLoc d)) :
    ((aK L).view.loc (VT d L) ↦[(aK L).view.set]{fullShare} f : sProp 𝕄) = aLoc d ↦[tRows (nL L)]{fullShare} f := by rw [set_aK]
theorem pts_b (f : Buf (Elt F) (bLoc d)) :
    ((bK L).view.loc (VT d L) ↦[(bK L).view.set]{fullShare} f : sProp 𝕄) = bLoc d ↦[tRows (nL L)]{fullShare} f := by rw [set_bK]
theorem pts_p (f : Buf (Elt F) (pLoc d)) :
    ((pK L).view.loc (VT d L) ↦[(pK L).view.set]{fullShare} f : sProp 𝕄) = pLoc d ↦[pRows (nL L)]{fullShare} f := by rw [set_pK]
theorem pts_r (f : Buf (Elt F) (rLoc d)) :
    ((rK L).view.loc (VT d L) ↦[(rK L).view.set]{fullShare} f : sProp 𝕄) = rLoc d ↦[pRows (nL L)]{fullShare} f := by rw [set_rK]
theorem pts_w (f : Buf (Elt F) (wLoc d)) :
    ((wK L).view.loc (VT d L) ↦[(wK L).view.set]{fullShare} f : sProp 𝕄) = wLoc d ↦[wRows (nL L)]{fullShare} f := by rw [set_wK]
theorem pts_v (f : Buf (Elt F) (vLoc d)) :
    ((vK L).view.loc (VT d L) ↦[(vK L).view.set]{fullShare} f : sProp 𝕄) = vLoc d ↦[wRows (nL L)]{fullShare} f := by rw [set_vK]
theorem pts_x (f : Buf (Elt F) (xLoc d)) :
    ((xK L).view.loc (VT d L) ↦[(xK L).view.set]{fullShare} f : sProp 𝕄) = xLoc d ↦[xRows (nL L)]{fullShare} f := by rw [set_xK]
theorem pts_s0 (f : Buf (Elt F) ((VT d L).loc cc1_scratch0)) :
    ((s0V).view.loc (VT d L) ↦[(s0V).view.set]{fullShare} f : sProp 𝕄) = (VT d L).loc cc1_scratch0 ↦{fullShare} f := by rw [View.set_whole]
theorem pts_s1 (f : Buf (Elt F) ((VT d L).loc cc1_scratch1)) :
    ((s1V).view.loc (VT d L) ↦[(s1V).view.set]{fullShare} f : sProp 𝕄) = (VT d L).loc cc1_scratch1 ↦{fullShare} f := by rw [View.set_whole]
theorem pts_s2 (f : Buf (Elt F) ((VT d L).loc cc1_scratch2)) :
    ((s2V).view.loc (VT d L) ↦[(s2V).view.set]{fullShare} f : sProp 𝕄) = (VT d L).loc cc1_scratch2 ↦{fullShare} f := by rw [View.set_whole]
theorem pts_s3 (f : Buf (Elt F) ((VT d L).loc cc1_scratch3)) :
    ((s3V).view.loc (VT d L) ↦[(s3V).view.set]{fullShare} f : sProp 𝕄) = (VT d L).loc cc1_scratch3 ↦{fullShare} f := by rw [View.set_whole]
theorem pts_s4 (f : Buf (Elt F) ((VT d L).loc cc1_scratch4)) :
    ((s4V).view.loc (VT d L) ↦[(s4V).view.set]{fullShare} f : sProp 𝕄) = (VT d L).loc cc1_scratch4 ↦{fullShare} f := by rw [View.set_whole]
theorem pts_s5 (f : Buf (Elt F) ((VT d L).loc cc1_scratch5)) :
    ((s5V).view.loc (VT d L) ↦[(s5V).view.set]{fullShare} f : sProp 𝕄) = (VT d L).loc cc1_scratch5 ↦{fullShare} f := by rw [View.set_whole]
theorem pts_s6 (f : Buf (Elt F) ((VT d L).loc cc1_scratch6)) :
    ((s6V).view.loc (VT d L) ↦[(s6V).view.set]{fullShare} f : sProp 𝕄) = (VT d L).loc cc1_scratch6 ↦{fullShare} f := by rw [View.set_whole]
theorem pts_X (f : Buf (Elt F) (XLoc d)) :
    ((XK).view.loc (VT d L) ↦[SparseCore.rowsWhere (XK).view ⟨0, by decide⟩ (ownX Q.p Q.r (nL L))]{fullShare} f : sProp 𝕄) = XLoc d ↦[XRows Q (nL L)]{fullShare} f := by rw [set_X]
theorem pts_W (f : Buf (Elt F) (WLoc d)) :
    ((WK).view.loc (VT d L) ↦[SparseCore.rowsWhere (WK).view ⟨0, by decide⟩ (ownW Q.a Q.b (nL L))]{fullShare} f : sProp 𝕄) = WLoc d ↦[WRows Q (nL L)]{fullShare} f := by rw [set_W]

/-- The task on one tile, from what the launch deals it to what it hands back. -/
theorem tile_body (hF : (K (F := F)).Facts) (hQ : Q.OK) (O : CellTallies nD τ sig (HIx 2)) (W : Waits sig (HIx 2)) (hO : ∀ g, O g none = 0) :
    iprop(levAts (K (F := F)).L (K (F := F)).lev ∗ emp
        ∗ pieceA Q d 0 (nL L)
        ∗ scopedBufs (VT d L) ∗ scopedSems0 (VT d L) ∗ owes (VT d L) O W)
      ⊢ wp frame (wpE (defs₀ (F := F)) 𝒱₀ (VT d L) none) Set.univ
          (cc1__k3_body L aV (Memref.isWhole_whole _) bV (Memref.isWhole_whole _) pV (Memref.isWhole_whole _) rV (Memref.isWhole_whole _)
            wV (Memref.isWhole_whole _) vV (Memref.isWhole_whole _) xV (Memref.isWhole_whole _) XV (Memref.isWhole_whole _) WV (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _)
            cc1_scratch7 cc1_scratch8 cc1_scratch9 cc1_scratch10 cc1_scoped0 cc1_scoped1 cc1_scoped2
            cc1_scoped3 cc1_scoped4 cc1_scoped5 cc1_scoped6)
          fun _ => iprop(pieceB Q d 0 (nL L)
            ∗ scopedBufs (VT d L) ∗ scopedSems0 (VT d L)
            ∗ ∃ W', ⌜∀ p ∈ W', p ∈ W ∨ p.2 = none ∨ p.2 = some (0 : Fin 2)⌝ ∗ owes (VT d L) O W') := by
  rw [(K (F := F)).scopedBufs_V hF d (cV L) (jV L), SparseCore.Cfg.scopedSems0_V (Val := Elt F) d (cV L) (jV L), ownSems0_V, ownBufs_V]
  simp only [pieceA, pieceB, sPiece, sIn]
  iintro ⟨#Hlv, -, ⟨⟨HA, HB, HP, HR, HW, HV, Hx⟩, HX, HY⟩, ⟨⟨%t0, H0⟩, ⟨%t1, H1⟩, ⟨%t2, H2⟩, ⟨%t3, H3⟩, ⟨%t4, H4⟩, ⟨%t5, H5⟩, ⟨%t6, H6⟩, Hbufs⟩, ⟨HC, Hsems⟩, HO⟩
  ihave Hmw := (show levAts (K (F := F)).L (K (F := F)).lev ⊢ Transfers.MayWaits (VT d L) (default : HIx 2) O from
    (K (F := F)).mayWaits_none (thr := VT d L) hO) $$ Hlv
  iapply (wp_wand_r Idealize.ShloMosaic.frame (wpE (defs₀ (F := F)) 𝒱₀ (VT d L) none) Set.univ)
  isplitl [HA HB HP HR HW HV Hx HX HY H0 H1 H2 H3 H4 H5 H6 HC HO]
  · iapply (tile_run d L Q.a Q.b Q.p Q.r Q.w Q.v Q.x Q.X Q.W hQ.lists O W t0 t1 t2 t3 t4 t5 t6)
    isplitr; · iexact Hmw
    isplitl [HA]; · iapply (Entails.of_eq (pts_a (F := F) d L _).symm); iexact HA
    isplitl [HB]; · iapply (Entails.of_eq (pts_b (F := F) d L _).symm); iexact HB
    isplitl [HP]; · iapply (Entails.of_eq (pts_p (F := F) d L _).symm); iexact HP
    isplitl [HR]; · iapply (Entails.of_eq (pts_r (F := F) d L _).symm); iexact HR
    isplitl [HW]; · iapply (Entails.of_eq (pts_w (F := F) d L _).symm); iexact HW
    isplitl [HV]; · iapply (Entails.of_eq (pts_v (F := F) d L _).symm); iexact HV
    isplitl [Hx]; · iapply (Entails.of_eq (pts_x (F := F) d L _).symm); iexact Hx
    isplitl [HX]; · iapply (Entails.of_eq (pts_X (F := F) Q d L _).symm); iexact HX
    isplitl [HY]; · iapply (Entails.of_eq (pts_W (F := F) Q d L _).symm); iexact HY
    isplitl [H0]; · iapply (Entails.of_eq (pts_s0 (F := F) d L _).symm); iexact H0
    isplitl [H1]; · iapply (Entails.of_eq (pts_s1 (F := F) d L _).symm); iexact H1
    isplitl [H2]; · iapply (Entails.of_eq (pts_s2 (F := F) d L _).symm); iexact H2
    isplitl [H3]; · iapply (Entails.of_eq (pts_s3 (F := F) d L _).symm); iexact H3
    isplitl [H4]; · iapply (Entails.of_eq (pts_s4 (F := F) d L _).symm); iexact H4
    isplitl [H5]; · iapply (Entails.of_eq (pts_s5 (F := F) d L _).symm); iexact H5
    isplitl [H6]; · iapply (Entails.of_eq (pts_s6 (F := F) d L _).symm); iexact H6
    isplitl [HC]; · iexact HC
    iexact HO
  iintro %_ ⟨HA, HB, HP, HR, HW, HV, Hx, HX, HY, ⟨%g0, H0⟩, ⟨%g1, H1⟩, ⟨%g2, H2⟩, ⟨%g3, H3⟩, ⟨%g4, H4⟩, ⟨%g5, H5⟩, ⟨%g6, H6⟩, HC, ⟨%W', %hW', HO⟩⟩
  isplitl [HA HB HP HR HW HV Hx HX HY]
  · isplitl [HA HB HP HR HW HV Hx]
    · isplitl [HA]; · iapply (Entails.of_eq (pts_a (F := F) d L _)); iexact HA
      isplitl [HB]; · iapply (Entails.of_eq (pts_b (F := F) d L _)); iexact HB
      isplitl [HP]; · iapply (Entails.of_eq (pts_p (F := F) d L _)); iexact HP
      isplitl [HR]; · iapply (Entails.of_eq (pts_r (F := F) d L _)); iexact HR
      isplitl [HW]; · iapply (Entails.of_eq (pts_w (F := F) d L _)); iexact HW
      isplitl [HV]; · iapply (Entails.of_eq (pts_v (F := F) d L _)); iexact HV
      iapply (Entails.of_eq (pts_x (F := F) d L _)); iexact Hx
    isplitl [HX]; · iapply (Entails.of_eq (pts_X (F := F) Q d L _)); iexact HX
    iapply (Entails.of_eq (pts_W (F := F) Q d L _)); iexact HY
  isplitl [H0 H1 H2 H3 H4 H5 H6 Hbufs]
  · isplitl [H0]; · iexists _; iapply (Entails.of_eq (pts_s0 (F := F) d L _)); iexact H0
    isplitl [H1]; · iexists _; iapply (Entails.of_eq (pts_s1 (F := F) d L _)); iexact H1
    isplitl [H2]; · iexists _; iapply (Entails.of_eq (pts_s2 (F := F) d L _)); iexact H2
    isplitl [H3]; · iexists _; iapply (Entails.of_eq (pts_s3 (F := F) d L _)); iexact H3
    isplitl [H4]; · iexists _; iapply (Entails.of_eq (pts_s4 (F := F) d L _)); iexact H4
    isplitl [H5]; · iexists _; iapply (Entails.of_eq (pts_s5 (F := F) d L _)); iexact H5
    isplitl [H6]; · iexists _; iapply (Entails.of_eq (pts_s6 (F := F) d L _)); iexact H6
    iexact Hbufs
  isplitl [HC Hsems]
  · isplitl [HC]; · iexact HC
    iexact Hsems
  iexists W'; isplitr
  · ipureintro; intro p hp
    exact (hW' p hp).imp id .inl
  · iexact HO

end Scatter

/-! ## One tile of the gather -/

namespace Gather

local notation "pV" => (Memref.whole Cert.KernelIdeal.main_v12_scv : Memref Cert.KernelIdeal.sig Kind.scVector Space.hbm Cert.KernelIdeal.S8192 EltTy.i32)
local notation "rV" => (Memref.whole Cert.KernelIdeal.main_v21_scv : Memref Cert.KernelIdeal.sig Kind.scVector Space.hbm Cert.KernelIdeal.S8192 EltTy.i32)
local notation "yV" => (Memref.whole Cert.KernelIdeal.main_v30_scv : Memref Cert.KernelIdeal.sig Kind.scVector Space.hbm Cert.KernelIdeal.S24576x2x128 EltTy.f32)
local notation "oV" => (Memref.whole Cert.KernelIdeal.main_v31_0_scv : Memref Cert.KernelIdeal.sig Kind.scVector Space.hbm Cert.KernelIdeal.S8192x2x128 EltTy.f32)
local notation "uV" => (Memref.whole Cert.KernelIdeal.main_v31_1_scv : Memref Cert.KernelIdeal.sig Kind.scVector Space.hbm Cert.KernelIdeal.S8192x2x128 EltTy.f32)
local notation "sV" => (Memref.whole Cert.KernelIdeal.cc4_scratch0 : Memref Cert.KernelIdeal.sig Kind.scVector Space.vmem Cert.KernelIdeal.S256 EltTy.i32)
local notation "tV" => (Memref.whole Cert.KernelIdeal.cc4_scratch1 : Memref Cert.KernelIdeal.sig Kind.scVector Space.vmem Cert.KernelIdeal.S256 EltTy.i32)
local notation "aV" => (Memref.whole Cert.KernelIdeal.cc4_scratch2 : Memref Cert.KernelIdeal.sig Kind.scVector Space.vmem Cert.KernelIdeal.S128x2x128 EltTy.f32)
local notation "bV" => (Memref.whole Cert.KernelIdeal.cc4_scratch3 : Memref Cert.KernelIdeal.sig Kind.scVector Space.vmem Cert.KernelIdeal.S128x2x128 EltTy.f32)

variable (Q : Pack F) (d : Dev nD) (L : grid4.Coords)

abbrev vref (L : grid4.Coords) (b : Ref sig .scVector) : DevRef τ sig := (Proc.scVector (cV L) (jV L)).devRef b

omit [FloatOps F] [Named F] in
/-- The subcore's own cells at zero: the eight the task names, one by one, and the rest. -/
theorem ownSems0_V :
    (ownSems0 (VT d L) : sProp 𝕄)
      = iprop(cells0 d L
          ∗ bigSep ((ownCells (VT d L)) \ ((({39, 40, 41, 42, 43, 44, 45, 46} : Finset (Fin 55))).image (dcell d (cV L) (jV L)))) fun g => semVal g 0) := by
  unfold SparseCore.Cfg.ownSems0
  rw [SparseCore.bigSep_sdiff_split' (t := ((({39, 40, 41, 42, 43, 44, 45, 46} : Finset (Fin 55))).image (dcell d (cV L) (jV L))))
      (Finset.image_subset_iff.mpr fun k hk => dcell_mem d (cV L) (jV L) k
        ((show ∀ k ∈ ({39, 40, 41, 42, 43, 44, 45, 46} : Finset (Fin 55)), ((SemLoc.dma ⟨k.val, k.isLt⟩ : SemLoc sig).isScoped .scVector = true) by decide) k hk)),
    SparseCore.bigSep_image_of_injOn (fun a _ b _ h => dcell_inj d _ _ h)]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] [Named F] in
/-- The four scratch buffers are among the subcore's own. -/
theorem ownBufs_V :
    (ownBufs (VT d L) : sProp 𝕄)
      = iprop((∃ f, (VT d L).loc cc4_scratch0 ↦{fullShare} f) ∗ (∃ f, (VT d L).loc cc4_scratch1 ↦{fullShare} f) ∗ (∃ f, (VT d L).loc cc4_scratch2 ↦{fullShare} f) ∗ (∃ f, (VT d L).loc cc4_scratch3 ↦{fullShare} f)
          ∗ bigSep (((((ownRefs (τ := τ) (.scVector (cV L) (jV L))).erase (vref L cc4_scratch0)).erase (vref L cc4_scratch1)).erase (vref L cc4_scratch2)).erase (vref L cc4_scratch3))
              fun b => iprop(∃ f, ((d, b) : Loc nD τ sig) ↦{fullShare} f)) := by
  have ne : ∀ b b' : Ref sig .scVector, b ≠ b' → vref L b ≠ vref L b' := fun b b' h e => h (Proc.devRef_injective _ e)
  unfold SparseCore.Cfg.ownBufs
  refine (SparseCore.bigSep_erase' (SparseCore.Cfg.mem_ownRefs_of_owner (p := Proc.scVector (cV L) (jV L)) (b := vref L cc4_scratch0) rfl)).trans ?_
  rw [SparseCore.bigSep_erase' (i := vref L cc4_scratch1) (Finset.mem_erase.mpr ⟨ne _ _ (by decide), SparseCore.Cfg.mem_ownRefs_of_owner (p := Proc.scVector (cV L) (jV L)) (b := vref L cc4_scratch1) rfl⟩),
    SparseCore.bigSep_erase' (i := vref L cc4_scratch2) (Finset.mem_erase.mpr ⟨ne _ _ (by decide), Finset.mem_erase.mpr ⟨ne _ _ (by decide), SparseCore.Cfg.mem_ownRefs_of_owner (p := Proc.scVector (cV L) (jV L)) (b := vref L cc4_scratch2) rfl⟩⟩),
    SparseCore.bigSep_erase' (i := vref L cc4_scratch3) (Finset.mem_erase.mpr ⟨ne _ _ (by decide), Finset.mem_erase.mpr ⟨ne _ _ (by decide), Finset.mem_erase.mpr ⟨ne _ _ (by decide), SparseCore.Cfg.mem_ownRefs_of_owner (p := Proc.scVector (cV L) (jV L)) (b := vref L cc4_scratch3) rfl⟩⟩⟩)]

omit [FloatOps F] [Named F] in
/-- A share as two read tokens and what is left. -/
theorem yToks (q : PosShare TreeShare) (f : Buf (Elt F) (yLoc d)) :
    (yLoc d ↦{q} f : sProp 𝕄) ⊣⊢ iprop((yLoc d ↦{Transfers.shareDrop q 2} f) ∗ (yLoc d ↦{Transfers.shareTokN q 0} f) ∗ (yLoc d ↦{Transfers.shareTokN q 1} f)) := by
  have h : (yLoc d ↦{q} f : sProp 𝕄) ⊣⊢ iprop((yLoc d ↦{Transfers.shareDrop q 2} f) ∗ bigSep (Finset.range 2) fun i => yLoc d ↦{Transfers.shareTokN q i} f) :=
    Transfers.pointsTo_toks_range (ℓ := yLoc d) (S := Finset.univ) (f := f) q 2
  rw [show Finset.range 2 = {0, 1} by decide, SparseCore.bigSep_insert' (by decide), bigSep_singleton] at h
  exact h

theorem pts_p (f : Buf (Elt F) (pLoc d)) :
    ((pRowK L).view.loc (VT d L) ↦[(pRowK L).view.set]{fullShare} f : sProp 𝕄) = pLoc d ↦[pRows (nL L)]{fullShare} f := by rw [set_pRowK]
theorem pts_r (f : Buf (Elt F) (rLoc d)) :
    ((rRowK L).view.loc (VT d L) ↦[(rRowK L).view.set]{fullShare} f : sProp 𝕄) = rLoc d ↦[pRows (nL L)]{fullShare} f := by rw [set_rRowK]
theorem pts_o0 (f : Buf (Elt F) (oLoc d)) :
    ((oBlkK0 L).view.loc (VT d L) ↦[(oBlkK0 L).view.set]{fullShare} f : sProp 𝕄) = oLoc d ↦[oRows (2 * nL L)]{fullShare} f := by rw [set_oBlkK0]
theorem pts_o1 (f : Buf (Elt F) (oLoc d)) :
    ((oBlkK1 L).view.loc (VT d L) ↦[(oBlkK1 L).view.set]{fullShare} f : sProp 𝕄) = oLoc d ↦[oRows (2 * nL L + 1)]{fullShare} f := by rw [set_oBlkK1]
theorem pts_u0 (f : Buf (Elt F) (uLoc d)) :
    ((uBlkK0 L).view.loc (VT d L) ↦[(uBlkK0 L).view.set]{fullShare} f : sProp 𝕄) = uLoc d ↦[oRows (2 * nL L)]{fullShare} f := by rw [set_uBlkK0]
theorem pts_u1 (f : Buf (Elt F) (uLoc d)) :
    ((uBlkK1 L).view.loc (VT d L) ↦[(uBlkK1 L).view.set]{fullShare} f : sProp 𝕄) = uLoc d ↦[oRows (2 * nL L + 1)]{fullShare} f := by rw [set_uBlkK1]
theorem pts_s (f : Buf (Elt F) ((VT d L).loc cc4_scratch0)) :
    ((sV).view.loc (VT d L) ↦[(sV).view.set]{fullShare} f : sProp 𝕄) = (VT d L).loc cc4_scratch0 ↦{fullShare} f := by rw [View.set_whole]
theorem pts_t (f : Buf (Elt F) ((VT d L).loc cc4_scratch1)) :
    ((tV).view.loc (VT d L) ↦[(tV).view.set]{fullShare} f : sProp 𝕄) = (VT d L).loc cc4_scratch1 ↦{fullShare} f := by rw [View.set_whole]
theorem pts_a (f : Buf (Elt F) ((VT d L).loc cc4_scratch2)) :
    ((aV).view.loc (VT d L) ↦[(aV).view.set]{fullShare} f : sProp 𝕄) = (VT d L).loc cc4_scratch2 ↦{fullShare} f := by rw [View.set_whole]
theorem pts_b (f : Buf (Elt F) ((VT d L).loc cc4_scratch3)) :
    ((bV).view.loc (VT d L) ↦[(bV).view.set]{fullShare} f : sProp 𝕄) = (VT d L).loc cc4_scratch3 ↦{fullShare} f := by rw [View.set_whole]

/-- The task on one tile, from what the launch deals it to what it hands back. -/
theorem tile_body (hF : (K (F := F)).Facts) (hQ : Q.OK) (O : CellTallies nD τ sig (HIx 2)) (W : Waits sig (HIx 2)) (hO : ∀ g, O g none = 0) :
    iprop(levAts (K (F := F)).L (K (F := F)).lev ∗ emp
        ∗ pieceA Q d 1 (nL L)
        ∗ scopedBufs (VT d L) ∗ scopedSems0 (VT d L) ∗ owes (VT d L) O W)
      ⊢ wp frame (wpE (defs₀ (F := F)) 𝒱₀ (VT d L) none) Set.univ
          (cc4__k5_body L pV (Memref.isWhole_whole _) rV (Memref.isWhole_whole _) yV (Memref.isWhole_whole _)
            oV (Memref.isWhole_whole _) uV (Memref.isWhole_whole _) sV (Memref.isWhole_whole _) tV (Memref.isWhole_whole _)
            aV (Memref.isWhole_whole _) bV (Memref.isWhole_whole _) cc4_scratch4 cc4_scratch5 cc4_scoped0 cc4_scoped1 cc4_scoped2
            cc4_scoped3 cc4_scoped4 cc4_scoped5)
          fun _ => iprop(pieceB Q d 1 (nL L)
            ∗ scopedBufs (VT d L) ∗ scopedSems0 (VT d L)
            ∗ ∃ W', ⌜∀ p ∈ W', p ∈ W ∨ p.2 = none ∨ p.2 = some (1 : Fin 2)⌝ ∗ owes (VT d L) O W') := by
  rw [(K (F := F)).scopedBufs_V hF d (cV L) (jV L), SparseCore.Cfg.scopedSems0_V (Val := Elt F) d (cV L) (jV L), ownSems0_V, ownBufs_V]
  simp only [pieceA, pieceB, gPiece, yPiece]
  iintro ⟨#Hlv, -, ⟨⟨Hp, Hr, ⟨Ho0, Ho1⟩, ⟨Hu0, Hu1⟩⟩, ⟨%Y, %hY, Hy⟩⟩, ⟨⟨%s0, HS⟩, ⟨%t0, HT⟩, ⟨%a0, HA⟩, ⟨%b0, HB⟩, Hbufs⟩, ⟨HC, Hsems⟩, HO⟩
  ihave Hmw := (show levAts (K (F := F)).L (K (F := F)).lev ⊢ Transfers.MayWaits (VT d L) (default : HIx 2) O from
    (K (F := F)).mayWaits_none (thr := VT d L) hO) $$ Hlv
  ihave Hy' := (yToks d (yq (nL L)) Y).1 $$ Hy
  icases Hy' with ⟨Hyr, Hy0, Hy1⟩
  iapply (wp_wand_r Idealize.ShloMosaic.frame (wpE (defs₀ (F := F)) 𝒱₀ (VT d L) none) Set.univ)
  isplitl [Hp Hr Hy0 Hy1 Ho0 Ho1 Hu0 Hu1 HS HT HA HB HC HO]
  · iapply (tile_run d L Q.p Q.r Y Q.o Q.u hQ.lists.p_lt hQ.lists.r_lt (yq (nL L)) O W s0 t0 a0 b0)
    isplitr; · iexact Hmw
    isplitl [Hp]; · iapply (Entails.of_eq (pts_p (F := F) d L _).symm); iexact Hp
    isplitl [Hr]; · iapply (Entails.of_eq (pts_r (F := F) d L _).symm); iexact Hr
    isplitl [Hy0]; · iexact Hy0
    isplitl [Hy1]; · iexact Hy1
    isplitl [Ho0]; · iapply (Entails.of_eq (pts_o0 (F := F) d L _).symm); iexact Ho0
    isplitl [Ho1]; · iapply (Entails.of_eq (pts_o1 (F := F) d L _).symm); iexact Ho1
    isplitl [Hu0]; · iapply (Entails.of_eq (pts_u0 (F := F) d L _).symm); iexact Hu0
    isplitl [Hu1]; · iapply (Entails.of_eq (pts_u1 (F := F) d L _).symm); iexact Hu1
    isplitl [HS]; · iapply (Entails.of_eq (pts_s (F := F) d L _).symm); iexact HS
    isplitl [HT]; · iapply (Entails.of_eq (pts_t (F := F) d L _).symm); iexact HT
    isplitl [HA]; · iapply (Entails.of_eq (pts_a (F := F) d L _).symm); iexact HA
    isplitl [HB]; · iapply (Entails.of_eq (pts_b (F := F) d L _).symm); iexact HB
    isplitl [HC]; · iexact HC
    iexact HO
  rw [(hQ.gath Y hY).1, (hQ.gath Y hY).2]
  iintro %_ ⟨Hp, Hr, Hy0, Hy1, Ho0, Ho1, Hu0, Hu1, ⟨%s1, HS⟩, ⟨%t1, HT⟩, ⟨%a1, HA⟩, ⟨%b1, HB⟩, HC, ⟨%W', %hW', HO⟩⟩
  isplitl [Hp Hr Ho0 Ho1 Hu0 Hu1]
  · isplitl [Hp]; · iapply (Entails.of_eq (pts_p (F := F) d L _)); iexact Hp
    isplitl [Hr]; · iapply (Entails.of_eq (pts_r (F := F) d L _)); iexact Hr
    isplitl [Ho0 Ho1]
    · isplitl [Ho0]; · iapply (Entails.of_eq (pts_o0 (F := F) d L _)); iexact Ho0
      iapply (Entails.of_eq (pts_o1 (F := F) d L _)); iexact Ho1
    isplitl [Hu0]; · iapply (Entails.of_eq (pts_u0 (F := F) d L _)); iexact Hu0
    iapply (Entails.of_eq (pts_u1 (F := F) d L _)); iexact Hu1
  isplitl [HS HT HA HB Hbufs]
  · isplitl [HS]; · iexists _; iapply (Entails.of_eq (pts_s (F := F) d L _)); iexact HS
    isplitl [HT]; · iexists _; iapply (Entails.of_eq (pts_t (F := F) d L _)); iexact HT
    isplitl [HA]; · iexists _; iapply (Entails.of_eq (pts_a (F := F) d L _)); iexact HA
    isplitl [HB]; · iexists _; iapply (Entails.of_eq (pts_b (F := F) d L _)); iexact HB
    iexact Hbufs
  isplitl [HC Hsems]
  · isplitl [HC]; · iexact HC
    iexact Hsems
  iexists W'; isplitr
  · ipureintro; intro p hp
    exact (hW' p hp).imp id .inl
  · iexact HO

end Gather

/-! ## Each call's tasks, as the launch asks for them -/

def coords1 (c : Fin (grid1.bound 0)) (s : Fin (grid1.bound 1)) : grid1.Coords :=
  fun | 0 => c | 1 => s | ⟨_ + 2, h⟩ => absurd h (Nat.not_lt.2 (Nat.le_add_left _ _))
def coords4 (c : Fin (grid4.bound 0)) (s : Fin (grid4.bound 1)) : grid4.Coords :=
  fun | 0 => c | 1 => s | ⟨_ + 2, h⟩ => absurd h (Nat.not_lt.2 (Nat.le_add_left _ _))

theorem defs₀_row1 (c : Fin τ.nSC) (s : Fin τ.nSub) :
    defs₀ (F := F) (.scVector c s) 1 ()
      = SparseCore.onTile hcore1 hsub1 (fun c s => cc1__k3_body (coords1 c s) (Memref.whole main_v2_scv) (Memref.isWhole_whole _) (Memref.whole main_v3_scv) (Memref.isWhole_whole _)
            (Memref.whole main_v12_scv) (Memref.isWhole_whole _) (Memref.whole main_v21_scv) (Memref.isWhole_whole _)
            (Memref.whole main_v1_2_scv) (Memref.isWhole_whole _) (Memref.whole main_v1_3_scv) (Memref.isWhole_whole _) (Memref.whole main_v22_scv) (Memref.isWhole_whole _)
            (Memref.whole main_v23_0_scv) (Memref.isWhole_whole _) (Memref.whole main_v23_1_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            (Memref.whole cc1_scratch4) (Memref.isWhole_whole _) (Memref.whole cc1_scratch5) (Memref.isWhole_whole _) (Memref.whole cc1_scratch6) (Memref.isWhole_whole _)
            cc1_scratch7 cc1_scratch8 cc1_scratch9 cc1_scratch10 cc1_scoped0 cc1_scoped1 cc1_scoped2
            cc1_scoped3 cc1_scoped4 cc1_scoped5 cc1_scoped6) ⟨⟩ c s := rfl
theorem defs₀_row4 (c : Fin τ.nSC) (s : Fin τ.nSub) :
    defs₀ (F := F) (.scVector c s) 4 ()
      = SparseCore.onTile hcore4 hsub4 (fun c s => cc4__k5_body (coords4 c s) (Memref.whole main_v12_scv) (Memref.isWhole_whole _) (Memref.whole main_v21_scv) (Memref.isWhole_whole _)
            (Memref.whole main_v30_scv) (Memref.isWhole_whole _)
            (Memref.whole main_v31_0_scv) (Memref.isWhole_whole _) (Memref.whole main_v31_1_scv) (Memref.isWhole_whole _) (Memref.whole cc4_scratch0) (Memref.isWhole_whole _) (Memref.whole cc4_scratch1) (Memref.isWhole_whole _)
            (Memref.whole cc4_scratch2) (Memref.isWhole_whole _) (Memref.whole cc4_scratch3) (Memref.isWhole_whole _) cc4_scratch4 cc4_scratch5 cc4_scoped0 cc4_scoped1 cc4_scoped2
            cc4_scoped3 cc4_scoped4 cc4_scoped5) ⟨⟩ c s := rfl

variable (Q : Dev nD → Pack F)

set_option maxRecDepth 16384 in
theorem tileObl0 (hF : (K (F := F)).Facts) (hQ : ∀ d, (Q d).OK) : (K (F := F)).TileObl (D (F := F)) 𝒱 (P Q) v₀ 0 := by
  intro d c i O W hO _ _
  simp only [show (P Q).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_row1]; simp only [SparseCore.onTile, hci, and_self, ↓reduceDIte]
  exact Scatter.tile_body (Q d) d (coords1 ⟨_, hci.1⟩ ⟨_, hci.2⟩) hF (hQ d) O W hO

set_option maxRecDepth 16384 in
theorem tileObl1 (hF : (K (F := F)).Facts) (hQ : ∀ d, (Q d).OK) : (K (F := F)).TileObl (D (F := F)) 𝒱 (P Q) v₀ 1 := by
  intro d c i O W hO _ _
  simp only [show (P Q).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [defs₀_row4]; simp only [SparseCore.onTile, hci, and_self, ↓reduceDIte]
  exact Gather.tile_body (Q d) d (coords4 ⟨_, hci.1⟩ ⟨_, hci.2⟩) hF (hQ d) O W hO

theorem vecSplit0 : (K (F := F)).VecSplit' (P Q) 0 := by
  intro d c
  show (bigSep (Finset.univ : Finset (Fin 16)) fun i => pieceA (Q d) d 0 (16 * c.val + i.val)) ⊢ |={Set.univ}=> iprop(
      (bigSep (Finset.univ : Finset (Fin 16)) fun i => pieceA (Q d) d 0 (16 * c.val + i.val))
      ∗ ((bigSep (Finset.univ : Finset (Fin 16)) fun i => pieceB (Q d) d 0 (16 * c.val + i.val))
        -∗ (bigSep (Finset.univ : Finset (Fin 16)) fun i => pieceB (Q d) d 0 (16 * c.val + i.val))))
  iintro H; imodintro
  isplitl [H]; · iexact H
  iintro H; iexact H
theorem vecSplit1 : (K (F := F)).VecSplit' (P Q) 1 := by
  intro d c
  show (bigSep (Finset.univ : Finset (Fin 16)) fun i => pieceA (Q d) d 1 (16 * c.val + i.val)) ⊢ |={Set.univ}=> iprop(
      (bigSep (Finset.univ : Finset (Fin 16)) fun i => pieceA (Q d) d 1 (16 * c.val + i.val))
      ∗ ((bigSep (Finset.univ : Finset (Fin 16)) fun i => pieceB (Q d) d 1 (16 * c.val + i.val))
        -∗ (bigSep (Finset.univ : Finset (Fin 16)) fun i => pieceB (Q d) d 1 (16 * c.val + i.val))))
  iintro H; imodintro
  isplitl [H]; · iexact H
  iintro H; iexact H

end Cert.Proof.Kernel

end
-- ==== Proof.KernelSplit.lean ====
/-
  The SparseCore calls' buffers as the pieces of their tiles: the lists, the rows and the gathered results cut evenly,
  the sorted results shared, the scatter's targets cut by the rows each tile's words name.
-/
module

public import proofs.«01_k».proof.Proof.KernelTasks

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Scatter (SCATX SCATW ownX ownW tRows aLoc bLoc wLoc vLoc xLoc XLoc WLoc ListsOK)

variable {F : FTy → Type} [FloatOps F] [Named F]

local notation "𝕄" => MT nD τ sig (HIx 2) (Elt F) ℕ UU ℕ

variable (Q : Pack F) (d : Dev nD)

/-- The numbers of the tiles, as pairs. -/
abbrev TT : Type := Fin 2 × Fin 16
abbrev num (x : TT) : ℕ := 16 * x.1.val + x.2.val

theorem num_ne {x y : TT} (h : x ≠ y) : num x ≠ num y := fun e => h (by
  have := x.1.isLt; have := y.1.isLt; have := x.2.isLt; have := y.2.isLt
  unfold num at e
  exact Prod.ext (Fin.ext (by omega)) (Fin.ext (by omega)))
theorem num_of {n : ℕ} (hn : n < 32) : ∃ x : TT, num x = n :=
  ⟨(⟨n / 16, by omega⟩, ⟨n % 16, Nat.mod_lt _ (by decide)⟩), show 16 * (n / 16) + n % 16 = n by omega⟩

omit [FloatOps F] [Named F] in
/-- A buffer held whole is its tiles' pieces and what none of them names. -/
theorem split_rest {ℓ : Loc nD τ sig} (R : ℕ → Finset (Idx ℓ)) (hd : ∀ a b, a ≠ b → Disjoint (R a) (R b)) (f : Buf (Elt F) ℓ) :
    (ℓ ↦{fullShare} f : sProp 𝕄)
      = iprop((bigSep (Finset.univ : Finset TT) fun x => ℓ ↦[R (num x)]{fullShare} f)
          ∗ (ℓ ↦[Finset.univ \ (Finset.univ : Finset TT).biUnion fun x => R (num x)]{fullShare} f)) := by
  rw [← pointsTo_biUnion (ℓ := ℓ) (q := fullShare) (f := f) Finset.univ (fun x : TT => R (num x)) (fun x _ y _ h => hd _ _ (num_ne h))]
  exact BI.Entails.antisymm (pointsTo_split_subset (Finset.subset_univ _)).1 (pointsTo_split_subset (Finset.subset_univ _)).2

omit [FloatOps F] [Named F] in
/-- A buffer held whole is its tiles' pieces, when every index belongs to one tile's. -/
theorem split_tiles {ℓ : Loc nD τ sig} (R : ℕ → Finset (Idx ℓ)) (hd : ∀ a b, a ≠ b → Disjoint (R a) (R b))
    (hc : ∀ x, ∃ n, n < 32 ∧ x ∈ R n) (f : Buf (Elt F) ℓ) :
    (ℓ ↦{fullShare} f : sProp 𝕄) = bigSep (Finset.univ : Finset TT) fun x => ℓ ↦[R (num x)]{fullShare} f := by
  rw [← pointsTo_biUnion (ℓ := ℓ) (q := fullShare) (f := f) Finset.univ (fun x : TT => R (num x)) (fun x _ y _ h => hd _ _ (num_ne h))]
  congr 1
  refine (Finset.eq_univ_of_forall fun x => ?_).symm
  obtain ⟨n, hn, hx⟩ := hc x
  obtain ⟨y, rfl⟩ := num_of hn
  exact Finset.mem_biUnion.mpr ⟨y, Finset.mem_univ _, hx⟩

omit [FloatOps F] [Named F] in
theorem filter_disj {I : Type} [Fintype I] (g : I → ℕ) (a b : ℕ) (h : a ≠ b) :
    Disjoint (Finset.univ.filter fun x => g x = a) (Finset.univ.filter fun x => g x = b) :=
  Finset.disjoint_left.mpr fun x ha hb => h ((Finset.mem_filter.mp ha).2.symm.trans (Finset.mem_filter.mp hb).2)
omit [FloatOps F] [Named F] in
theorem filter_cover {I : Type} [Fintype I] (g : I → ℕ) (hg : ∀ x, g x < 32) (x : I) : ∃ n, n < 32 ∧ x ∈ Finset.univ.filter fun x => g x = n :=
  ⟨g x, hg x, Finset.mem_filter.mpr ⟨Finset.mem_univ _, rfl⟩⟩

omit [FloatOps F] [Named F] in
theorem split_a (f : Buf (Elt F) (aLoc d)) : (aLoc d ↦{fullShare} f : sProp 𝕄) = bigSep (Finset.univ : Finset TT) fun x => aLoc d ↦[tRows (num x)]{fullShare} f :=
  split_tiles (ℓ := aLoc d) tRows (filter_disj _) (filter_cover _ fun x => by have : (x 0).val < 2048 := (x 0).isLt; omega) f
omit [FloatOps F] [Named F] in
theorem split_b (f : Buf (Elt F) (bLoc d)) : (bLoc d ↦{fullShare} f : sProp 𝕄) = bigSep (Finset.univ : Finset TT) fun x => bLoc d ↦[tRows (num x)]{fullShare} f :=
  split_tiles (ℓ := bLoc d) tRows (filter_disj _) (filter_cover _ fun x => by have : (x 0).val < 2048 := (x 0).isLt; omega) f
omit [FloatOps F] [Named F] in
theorem split_p (f : Buf (Elt F) (pLoc d)) : (pLoc d ↦{fullShare} f : sProp 𝕄) = bigSep (Finset.univ : Finset TT) fun x => pLoc d ↦[pRows (num x)]{fullShare} f :=
  split_tiles (ℓ := pLoc d) pRows (filter_disj _) (filter_cover _ fun x => by have : (x 0).val < 8192 := (x 0).isLt; omega) f
omit [FloatOps F] [Named F] in
theorem split_r (f : Buf (Elt F) (rLoc d)) : (rLoc d ↦{fullShare} f : sProp 𝕄) = bigSep (Finset.univ : Finset TT) fun x => rLoc d ↦[pRows (num x)]{fullShare} f :=
  split_tiles (ℓ := rLoc d) pRows (filter_disj _) (filter_cover _ fun x => by have : (x 0).val < 8192 := (x 0).isLt; omega) f
omit [FloatOps F] [Named F] in
theorem split_w (f : Buf (Elt F) (wLoc d)) : (wLoc d ↦{fullShare} f : sProp 𝕄) = bigSep (Finset.univ : Finset TT) fun x => wLoc d ↦[wRows (num x)]{fullShare} f :=
  split_tiles (ℓ := wLoc d) wRows (filter_disj _) (filter_cover _ fun x => by have : (x 0).val < 2048 := (x 0).isLt; omega) f
omit [FloatOps F] [Named F] in
theorem split_v (f : Buf (Elt F) (vLoc d)) : (vLoc d ↦{fullShare} f : sProp 𝕄) = bigSep (Finset.univ : Finset TT) fun x => vLoc d ↦[wRows (num x)]{fullShare} f :=
  split_tiles (ℓ := vLoc d) wRows (filter_disj _) (filter_cover _ fun x => by have : (x 0).val < 2048 := (x 0).isLt; omega) f
omit [FloatOps F] [Named F] in
theorem split_x (f : Buf (Elt F) (xLoc d)) : (xLoc d ↦{fullShare} f : sProp 𝕄) = bigSep (Finset.univ : Finset TT) fun x => xLoc d ↦[xRows (num x)]{fullShare} f :=
  split_tiles (ℓ := xLoc d) xRows (filter_disj _) (filter_cover _ fun x => by have : (x 0).val < 8192 := (x 0).isLt; omega) f

theorem oRows_disj (a b : ℕ) (h : a ≠ b) : Disjoint (oRows a) (oRows b) := filter_disj _ a b h
theorem oRows2_disj (a b : ℕ) (h : a ≠ b) : Disjoint (oRows (2 * a) ∪ oRows (2 * a + 1)) (oRows (2 * b) ∪ oRows (2 * b + 1)) := by
  simp only [Finset.disjoint_union_left, Finset.disjoint_union_right]
  exact ⟨⟨oRows_disj _ _ (by omega), oRows_disj _ _ (by omega)⟩, ⟨oRows_disj _ _ (by omega), oRows_disj _ _ (by omega)⟩⟩
theorem oRows2_cover (x : S8192x2x128.Idx) : ∃ n, n < 32 ∧ x ∈ oRows (2 * n) ∪ oRows (2 * n + 1) := by
  have : (x 0).val < 8192 := (x 0).isLt
  refine ⟨(x 0).val / 256, by omega, ?_⟩
  simp only [oRows, Finset.mem_union, Finset.mem_filter, Finset.mem_univ, true_and]
  omega
omit [FloatOps F] [Named F] in
theorem split_o (f : Buf (Elt F) (oLoc d)) : (oLoc d ↦{fullShare} f : sProp 𝕄) = bigSep (Finset.univ : Finset TT) fun x =>
      iprop((oLoc d ↦[oRows (2 * num x)]{fullShare} f) ∗ (oLoc d ↦[oRows (2 * num x + 1)]{fullShare} f)) := by
  rw [split_tiles (ℓ := oLoc d) (fun n => oRows (2 * n) ∪ oRows (2 * n + 1)) oRows2_disj oRows2_cover f]
  refine bigSep_congr fun x _ => ?_
  have h : ((oLoc d ↦[oRows (2 * num x) ∪ oRows (2 * num x + 1)]{fullShare} f : sProp 𝕄)) ⊣⊢ _ :=
    pointsTo_union (oRows_disj (2 * num x) (2 * num x + 1) (by omega))
  exact BI.Entails.antisymm h.1 h.2
omit [FloatOps F] [Named F] in
theorem split_u (f : Buf (Elt F) (uLoc d)) : (uLoc d ↦{fullShare} f : sProp 𝕄) = bigSep (Finset.univ : Finset TT) fun x =>
      iprop((uLoc d ↦[oRows (2 * num x)]{fullShare} f) ∗ (uLoc d ↦[oRows (2 * num x + 1)]{fullShare} f)) := by
  rw [split_tiles (ℓ := uLoc d) (fun n => oRows (2 * n) ∪ oRows (2 * n + 1)) oRows2_disj oRows2_cover f]
  refine bigSep_congr fun x _ => ?_
  have h : ((uLoc d ↦[oRows (2 * num x) ∪ oRows (2 * num x + 1)]{fullShare} f : sProp 𝕄)) ⊣⊢ _ :=
    pointsTo_union (oRows_disj (2 * num x) (2 * num x + 1) (by omega))
  exact BI.Entails.antisymm h.1 h.2

/-- The tiles' numbers, one by one. -/
def tileEquiv : TT ≃ Fin (2 ^ 5) where
  toFun x := ⟨num x, by have := x.1.isLt; have := x.2.isLt; unfold num; norm_num; omega⟩
  invFun n := (⟨n.val / 16, by have := n.isLt; norm_num at this; omega⟩, ⟨n.val % 16, Nat.mod_lt _ (by decide)⟩)
  left_inv x := by have := x.1.isLt; have := x.2.isLt; exact Prod.ext (Fin.ext (by simp only [num]; omega)) (Fin.ext (by simp only [num]; omega))
  right_inv n := Fin.ext (by simp only [num]; omega)

omit [FloatOps F] [Named F] in
theorem split_y (f : Buf (Elt F) (yLoc d)) : (yLoc d ↦{fullShare} f : sProp 𝕄)
    = bigSep (Finset.univ : Finset TT) fun x => yLoc d ↦{yq (num x)} f := by
  rw [ShareLeaves.pointsTo_leaves Finset.univ f 5 fullShare,
    bigSep_univ_equiv tileEquiv (fun n => (yLoc d ↦{ShareLeaves.leaf 5 fullShare n} f : sProp 𝕄))]
  refine bigSep_congr fun x _ => ?_
  unfold yq
  rw [show tileEquiv x = ⟨num x % 32, Nat.mod_lt _ (by decide)⟩ from
    Fin.ext (by have := x.1.isLt; have := x.2.isLt; show num x = num x % 32; unfold num; omega)]

/-! ## The scatter's targets -/

omit [FloatOps F] [Named F] in
theorem XRows_disj (hQ : Q.OK) (m n : ℕ) (h : m ≠ n) : Disjoint (XRows Q m) (XRows Q n) := by
  refine Finset.disjoint_left.mpr fun i hi hj => h ?_
  obtain ⟨x, hx, hxi⟩ := (mem_XRows Q m i).mp hi
  obtain ⟨y, hy, hyi⟩ := (mem_XRows Q n i).mp hj
  have hx' := (Finset.mem_filter.mp hx).2
  have hy' := (Finset.mem_filter.mp hy).2
  rcases hxi with e | e <;> rcases hyi with e' | e'
  · rw [← hx', ← hy', hQ.lists.p_inj (e.trans e'.symm)]
  · exact absurd (e.trans e'.symm) (hQ.lists.p_ne_r x y)
  · exact absurd (e'.trans e.symm) (hQ.lists.p_ne_r y x)
  · rw [← hx', ← hy', hQ.lists.r_inj (e.trans e'.symm)]
omit [FloatOps F] [Named F] in
theorem WRows_disj (hQ : Q.OK) (m n : ℕ) (h : m ≠ n) : Disjoint (WRows Q m) (WRows Q n) := by
  refine Finset.disjoint_left.mpr fun i hi hj => h ?_
  obtain ⟨x, hx, hxi⟩ := (mem_WRows Q m i).mp hi
  obtain ⟨y, hy, hyi⟩ := (mem_WRows Q n i).mp hj
  have hx' := (Finset.mem_filter.mp hx).2
  have hy' := (Finset.mem_filter.mp hy).2
  rcases hxi with e | e <;> rcases hyi with e' | e'
  · rw [← hx', ← hy', hQ.lists.a_inj (e.trans e'.symm)]
  · exact absurd (e.trans e'.symm) (hQ.lists.a_ne_b x y)
  · exact absurd (e'.trans e.symm) (hQ.lists.a_ne_b y x)
  · rw [← hx', ← hy', hQ.lists.b_inj (e.trans e'.symm)]

/-- The rows of the sorted pieces no word names. -/
def XRest : Finset S24576x2x128.Idx := Finset.univ \ (Finset.univ : Finset TT).biUnion fun x => XRows Q (num x)
/-- The rows of the sorted weights no word names. -/
def WRest : Finset S6144x128.Idx := Finset.univ \ (Finset.univ : Finset TT).biUnion fun x => WRows Q (num x)

omit [FloatOps F] [Named F] in
theorem XRest_none {i : S24576x2x128.Idx} (hi : i ∈ XRest Q) (k : S8192.Idx) : (Q.p k).toNat ≠ (i 0).val ∧ (Q.r k).toNat ≠ (i 0).val := by
  have hk : (k 0).val < 8192 := (k 0).isLt
  obtain ⟨x, hx⟩ := num_of (n := (k 0).val / 256) (by omega)
  have hn : i ∉ XRows Q (num x) := fun h => (Finset.mem_sdiff.mp hi).2 (Finset.mem_biUnion.mpr ⟨x, Finset.mem_univ _, h⟩)
  rw [mem_XRows] at hn
  have hm : k ∈ pRows (num x) := Finset.mem_filter.mpr ⟨Finset.mem_univ _, hx.symm⟩
  exact ⟨fun e => hn ⟨k, hm, .inl e⟩, fun e => hn ⟨k, hm, .inr e⟩⟩
omit [FloatOps F] [Named F] in
theorem WRest_none {i : S6144x128.Idx} (hi : i ∈ WRest Q) (k : S2048.Idx) : (Q.a k).toNat ≠ (i 0).val ∧ (Q.b k).toNat ≠ (i 0).val := by
  have hk : (k 0).val < 2048 := (k 0).isLt
  obtain ⟨x, hx⟩ := num_of (n := (k 0).val / 64) (by omega)
  have hn : i ∉ WRows Q (num x) := fun h => (Finset.mem_sdiff.mp hi).2 (Finset.mem_biUnion.mpr ⟨x, Finset.mem_univ _, h⟩)
  rw [mem_WRows] at hn
  have hm : k ∈ tRows (num x) := Finset.mem_filter.mpr ⟨Finset.mem_univ _, hx.symm⟩
  exact ⟨fun e => hn ⟨k, hm, .inl e⟩, fun e => hn ⟨k, hm, .inr e⟩⟩

omit [FloatOps F] [Named F] in
theorem XRest_eq : (XLoc d ↦[XRest Q]{fullShare} Q.X : sProp 𝕄) = XLoc d ↦[XRest Q]{fullShare} SCATX Q.p Q.r Q.x Q.X := by
  refine pointsTo_congr fun i hi => ?_
  unfold SCATX
  have h := XRest_none Q hi
  rw [dif_neg (fun ⟨k, hk⟩ => (h k).1 hk), dif_neg (fun ⟨k, hk⟩ => (h k).2 hk)]
omit [FloatOps F] [Named F] in
theorem WRest_eq : (WLoc d ↦[WRest Q]{fullShare} Q.W : sProp 𝕄) = WLoc d ↦[WRest Q]{fullShare} SCATW Q.a Q.b Q.w Q.v Q.W := by
  refine pointsTo_congr fun i hi => ?_
  unfold SCATW
  have h := WRest_none Q hi
  rw [dif_neg (fun ⟨k, hk⟩ => (h k).1 hk), dif_neg (fun ⟨k, hk⟩ => (h k).2 hk)]

/-- The scatter's buffers whole, its targets at the contents `X` and `W`. -/
abbrev sWhole (X : S24576x2x128.Idx → Elt F .f32) (W : S6144x128.Idx → Elt F .f32) : sProp 𝕄 :=
  iprop((aLoc d ↦{fullShare} Q.a) ∗ (bLoc d ↦{fullShare} Q.b) ∗ (pLoc d ↦{fullShare} Q.p) ∗ (rLoc d ↦{fullShare} Q.r)
    ∗ (wLoc d ↦{fullShare} Q.w) ∗ (vLoc d ↦{fullShare} Q.v) ∗ (xLoc d ↦{fullShare} Q.x) ∗ (XLoc d ↦{fullShare} X) ∗ (WLoc d ↦{fullShare} W))

omit [FloatOps F] [Named F] in
theorem regroup (P1 P2 P3 P4 P5 P6 P7 P8 P9 P10 P11 : sProp 𝕄) :
    iprop(P1 ∗ P2 ∗ P3 ∗ P4 ∗ P5 ∗ P6 ∗ P7 ∗ (P8 ∗ P9) ∗ (P10 ∗ P11)) = iprop(((P1 ∗ P2 ∗ P3 ∗ P4 ∗ P5 ∗ P6 ∗ P7) ∗ P8 ∗ P10) ∗ P9 ∗ P11) := by
  have h1 : iprop(P1 ∗ P2 ∗ P3 ∗ P4 ∗ P5 ∗ P6 ∗ P7 ∗ (P8 ∗ P9) ∗ (P10 ∗ P11)) ⊢ iprop(((P1 ∗ P2 ∗ P3 ∗ P4 ∗ P5 ∗ P6 ∗ P7) ∗ P8 ∗ P10) ∗ P9 ∗ P11) := by
    iintro ⟨H1, H2, H3, H4, H5, H6, H7, ⟨H8, H9⟩, ⟨H10, H11⟩⟩
    isplitl [H1 H2 H3 H4 H5 H6 H7 H8 H10]
    · isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      iexact H10
    isplitl [H9]; · iexact H9
    iexact H11
  have h2 : iprop(((P1 ∗ P2 ∗ P3 ∗ P4 ∗ P5 ∗ P6 ∗ P7) ∗ P8 ∗ P10) ∗ P9 ∗ P11) ⊢ iprop(P1 ∗ P2 ∗ P3 ∗ P4 ∗ P5 ∗ P6 ∗ P7 ∗ (P8 ∗ P9) ∗ (P10 ∗ P11)) := by
    iintro ⟨⟨⟨H1, H2, H3, H4, H5, H6, H7⟩, H8, H10⟩, H9, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8 H9]
    · isplitl [H8]; · iexact H8
      iexact H9
    isplitl [H10]; · iexact H10
    iexact H11
  exact BI.Entails.antisymm h1 h2

theorem sPieces_eq (hQ : Q.OK) (X : S24576x2x128.Idx → Elt F .f32) (W : S6144x128.Idx → Elt F .f32) :
    sWhole Q d X W = iprop((bigSep (Finset.univ : Finset TT) fun x => sPiece Q d X W (num x))
      ∗ (XLoc d ↦[XRest Q]{fullShare} X) ∗ (WLoc d ↦[WRest Q]{fullShare} W)) := by
  unfold sWhole
  rw [split_a, split_b, split_p, split_r, split_w, split_v, split_x, split_rest (ℓ := XLoc d) (XRows Q) (XRows_disj Q hQ) X,
    split_rest (ℓ := WLoc d) (WRows Q) (WRows_disj Q hQ) W]
  simp only [sPiece, sIn, bigSep_sep']
  exact regroup ..

omit [FloatOps F] [Named F] in
theorem bigSep_TT (Φ : ℕ → sProp 𝕄) : (bigSep (Finset.univ : Finset (Fin 2)) fun c => bigSep (Finset.univ : Finset (Fin 16)) fun i => Φ (16 * c.val + i.val))
    = bigSep (Finset.univ : Finset TT) fun x => Φ (num x) :=
  (BI.bigSep_univ_prod (fun x : TT => Φ (num x))).symm

/-- What the scatter is handed, and what is kept from it. -/
theorem st0 (Q : Dev nD → Pack F) (hQ : (Q d).OK) :
    sWhole (Q d) d (Q d).X (Q d).W ⊢ iprop((bigSep Finset.univ fun c : Fin ((K (F := F)).nCore 0) => (P Q).st 0 d c)
      ∗ (XLoc d ↦[XRest (Q d)]{fullShare} (Q d).X) ∗ (WLoc d ↦[WRest (Q d)]{fullShare} (Q d).W)) := by
  rw [sPieces_eq (Q d) d hQ]
  exact sep_mono_left (Entails.of_eq (bigSep_TT (fun n => pieceA (Q d) d 0 n)).symm)
/-- What it gives back with what was kept. -/
theorem dn0 (Q : Dev nD → Pack F) (hQ : (Q d).OK) :
    iprop((bigSep Finset.univ fun c : Fin ((K (F := F)).nCore 0) => (P Q).dn 0 d c)
      ∗ (XLoc d ↦[XRest (Q d)]{fullShare} (Q d).X) ∗ (WLoc d ↦[WRest (Q d)]{fullShare} (Q d).W))
      ⊢ sWhole (Q d) d (SCATX (Q d).p (Q d).r (Q d).x (Q d).X) (SCATW (Q d).a (Q d).b (Q d).w (Q d).v (Q d).W) := by
  rw [sPieces_eq (Q d) d hQ, XRest_eq, WRest_eq]
  exact sep_mono_left (Entails.of_eq (bigSep_TT (fun n => pieceB (Q d) d 0 n)))

/-! ## The gather's buffers -/

theorem gPieces_eq (o u : S8192x2x128.Idx → Elt F .f32) :
    (iprop((pLoc d ↦{fullShare} Q.p) ∗ (rLoc d ↦{fullShare} Q.r) ∗ (oLoc d ↦{fullShare} o) ∗ (uLoc d ↦{fullShare} u)) : sProp 𝕄)
      = bigSep (Finset.univ : Finset TT) fun x => gPiece Q d o u (num x) := by
  rw [split_p, split_r, split_o, split_u]
  simp only [gPiece, bigSep_sep']

/-- What the gather is handed. -/
theorem st1 (Q : Dev nD → Pack F) (Y : S24576x2x128.Idx → Elt F .f32) (hY : (Q d).ok Y) :
    iprop((pLoc d ↦{fullShare} (Q d).p) ∗ (rLoc d ↦{fullShare} (Q d).r) ∗ (oLoc d ↦{fullShare} (Q d).o) ∗ (uLoc d ↦{fullShare} (Q d).u)
        ∗ (yLoc d ↦{fullShare} Y))
      ⊢ (bigSep Finset.univ fun c : Fin ((K (F := F)).nCore 1) => (P Q).st 1 d c : sProp 𝕄) := by
  refine BIBase.Entails.trans ?_ (Entails.of_eq (bigSep_TT (fun n => pieceA (Q d) d 1 n)).symm)
  refine BIBase.Entails.trans (Q := iprop((bigSep (Finset.univ : Finset TT) fun x => gPiece (Q d) d (Q d).o (Q d).u (num x))
    ∗ bigSep (Finset.univ : Finset TT) fun x => yLoc d ↦{yq (num x)} Y)) ?_ ?_
  · rw [← gPieces_eq, ← split_y]
    iintro ⟨H1, H2, H3, H4, H5⟩
    isplitl [H1 H2 H3 H4]
    · isplitl [H1]; · iexact H1
      isplitl [H2]; · iexact H2
      isplitl [H3] <;> iassumption
    iexact H5
  rw [← bigSep_sep']
  refine bigSep_mono fun x _ => ?_
  show _ ⊢ iprop(gPiece (Q d) d (Q d).o (Q d).u (num x) ∗ yPiece (Q d) d (num x))
  iintro ⟨HG, HY⟩
  isplitl [HG]; · iexact HG
  iexists Y; isplitr
  · ipureintro; exact hY
  iexact HY
/-- What it gives back. -/
theorem dn1 (Q : Dev nD → Pack F) :
    (bigSep Finset.univ fun c : Fin ((K (F := F)).nCore 1) => (P Q).dn 1 d c : sProp 𝕄)
      ⊢ iprop((pLoc d ↦{fullShare} (Q d).p) ∗ (rLoc d ↦{fullShare} (Q d).r) ∗ (oLoc d ↦{fullShare} (Q d).O) ∗ (uLoc d ↦{fullShare} (Q d).U)) := by
  rw [gPieces_eq]
  exact Entails.of_eq (bigSep_TT (fun n => pieceB (Q d) d 1 n))

end Cert.Proof.Kernel

end
-- ==== Proof.KernelVals.lean ====
/-
  The whole program's memory from call to call: the host operations between the calls, the valuation of the buffers at each
  point of the program, and the four TensorCore calls' proof data at those valuations.
-/
module

public import proofs.«01_k».proof.Proof.KernelRegion
public import proofs.«01_k».proof.Proof.KernelExperts
public import proofs.«01_k».proof.Proof.KernelSplit
public import proofs.«01_k».proof.Proof.Gen.Own.KernelIdeal.K0.Frame
public import proofs.«01_k».proof.Proof.Gen.Own.KernelIdeal.K3.Frame
public import proofs.«01_k».proof.Proof.Gen.Own.KernelIdeal.K5.Frame
public import Idealize.ShloMosaic.Lib.Pipeline.Frame

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-! ## The host operations -/

/-- Host operations: the bias as a row. -/
def ops0 : List (HloOp τ sig (Elt F)) :=
  [StableHlo.reshape main_arg8 main_v0 rfl shapeCasts_S8_S1x8]

/-- Host operations: the positions, the lists of piece numbers and the tokens' rows cut into pieces. -/
def ops1 : List (HloOp τ sig (Elt F)) :=
  [StableHlo.reshape main_v1_0 main_v2 rfl shapeCasts_S2048x1_S2048,
   StableHlo.reshape main_v1_1 main_v3 rfl shapeCasts_S2048x1_S2048,
   StableHlo.unary main_v2 main_v4 (broadcastInDim S2048x1 ![0] bcast_S2048_S2048x1_0 : (⟨S2048, .i32⟩ : BufTy).Contents (Elt F) → (⟨S2048x1, .i32⟩ : BufTy).Contents (Elt F)),
   StableHlo.nullary main_c (constantI S_ 32 4#32),
   StableHlo.unary main_c main_v5 (broadcastInDim S2048x1 ![] bcast_S_S2048x1 : (⟨S_, .i32⟩ : BufTy).Contents (Elt F) → (⟨S2048x1, .i32⟩ : BufTy).Contents (Elt F)),
   StableHlo.binary main_v4 main_v5 main_v6 (muli : (⟨S2048x1, .i32⟩ : BufTy).Contents (Elt F) → (⟨S2048x1, .i32⟩ : BufTy).Contents (Elt F) → (⟨S2048x1, .i32⟩ : BufTy).Contents (Elt F)),
   StableHlo.nullary main_v7 (iotaInDim S4 32 0),
   StableHlo.unary main_v7 main_v8 (broadcastInDim S1x4 ![1] bcast_S4_S1x4_1 : (⟨S4, .i32⟩ : BufTy).Contents (Elt F) → (⟨S1x4, .i32⟩ : BufTy).Contents (Elt F)),
   StableHlo.unary main_v6 main_v9 (broadcastInDim S2048x4 ![0, 1] bcast_S2048x1_S2048x4_0_1 : (⟨S2048x1, .i32⟩ : BufTy).Contents (Elt F) → (⟨S2048x4, .i32⟩ : BufTy).Contents (Elt F)),
   StableHlo.unary main_v8 main_v10 (broadcastInDim S2048x4 ![0, 1] bcast_S1x4_S2048x4_0_1 : (⟨S1x4, .i32⟩ : BufTy).Contents (Elt F) → (⟨S2048x4, .i32⟩ : BufTy).Contents (Elt F)),
   StableHlo.binary main_v9 main_v10 main_v11 (addi : (⟨S2048x4, .i32⟩ : BufTy).Contents (Elt F) → (⟨S2048x4, .i32⟩ : BufTy).Contents (Elt F) → (⟨S2048x4, .i32⟩ : BufTy).Contents (Elt F)),
   StableHlo.reshape main_v11 main_v12 rfl shapeCasts_S2048x4_S8192,
   StableHlo.unary main_v3 main_v13 (broadcastInDim S2048x1 ![0] bcast_S2048_S2048x1_0 : (⟨S2048, .i32⟩ : BufTy).Contents (Elt F) → (⟨S2048x1, .i32⟩ : BufTy).Contents (Elt F)),
   StableHlo.nullary main_c_0 (constantI S_ 32 4#32),
   StableHlo.unary main_c_0 main_v14 (broadcastInDim S2048x1 ![] bcast_S_S2048x1 : (⟨S_, .i32⟩ : BufTy).Contents (Elt F) → (⟨S2048x1, .i32⟩ : BufTy).Contents (Elt F)),
   StableHlo.binary main_v13 main_v14 main_v15 (muli : (⟨S2048x1, .i32⟩ : BufTy).Contents (Elt F) → (⟨S2048x1, .i32⟩ : BufTy).Contents (Elt F) → (⟨S2048x1, .i32⟩ : BufTy).Contents (Elt F)),
   StableHlo.nullary main_v16 (iotaInDim S4 32 0),
   StableHlo.unary main_v16 main_v17 (broadcastInDim S1x4 ![1] bcast_S4_S1x4_1 : (⟨S4, .i32⟩ : BufTy).Contents (Elt F) → (⟨S1x4, .i32⟩ : BufTy).Contents (Elt F)),
   StableHlo.unary main_v15 main_v18 (broadcastInDim S2048x4 ![0, 1] bcast_S2048x1_S2048x4_0_1 : (⟨S2048x1, .i32⟩ : BufTy).Contents (Elt F) → (⟨S2048x4, .i32⟩ : BufTy).Contents (Elt F)),
   StableHlo.unary main_v17 main_v19 (broadcastInDim S2048x4 ![0, 1] bcast_S1x4_S2048x4_0_1 : (⟨S1x4, .i32⟩ : BufTy).Contents (Elt F) → (⟨S2048x4, .i32⟩ : BufTy).Contents (Elt F)),
   StableHlo.binary main_v18 main_v19 main_v20 (addi : (⟨S2048x4, .i32⟩ : BufTy).Contents (Elt F) → (⟨S2048x4, .i32⟩ : BufTy).Contents (Elt F) → (⟨S2048x4, .i32⟩ : BufTy).Contents (Elt F)),
   StableHlo.reshape main_v20 main_v21 rfl shapeCasts_S2048x4_S8192,
   StableHlo.reshape main_arg0 main_v22 rfl shapeCasts_S2048x1024_S8192x2x128]

/-- Host operations: the sorted rows joined, the sorted weights and the two tables as the expert call reads them. -/
def ops2 : List (HloOp τ sig (Elt F)) :=
  [StableHlo.reshape main_v23_0 main_v24 rfl shapeCasts_S24576x2x128_S6144x1024,
   StableHlo.reshape main_v23_1 main_v25 rfl shapeCasts_S6144x128_S24x256x128,
   StableHlo.reshape main_v1_4 main_v26 rfl shapeCasts_S24x1_S24,
   StableHlo.reshape main_v1_5 main_v27 rfl shapeCasts_S24x1_S24]

/-- Host operations: the experts' rows cut into pieces. -/
def ops3 : List (HloOp τ sig (Elt F)) :=
  [StableHlo.reshape main_v28 main_v30 rfl shapeCasts_S6144x1024_S24576x2x128]

/-- Host operations: the gathered pieces joined into rows. -/
def ops4 : List (HloOp τ sig (Elt F)) :=
  [StableHlo.reshape main_v31_0 main_v32 rfl shapeCasts_S8192x2x128_S2048x1024,
   StableHlo.reshape main_v31_1 main_v33 rfl shapeCasts_S8192x2x128_S2048x1024]

theorem main_eq (d : Dev nD) :
    main (F := F) d = seq ops0 >>= fun _ => Prog.lift (.customCall (SparseCore.inner (Pipeline.entry 0)) ()) >>= fun _ => seq ops1 >>= fun _ =>
      (sc (F := F)).run d 0 >>= fun _ => seq ops2 >>= fun _ => Prog.lift (.customCall (SparseCore.inner (Pipeline.entry 1)) ()) >>= fun _ =>
      Prog.lift (.customCall (SparseCore.inner (Pipeline.entry 2)) ()) >>= fun _ => seq ops3 >>= fun _ => (sc (F := F)).run d 1 >>= fun _ =>
      seq ops4 >>= fun _ => Prog.lift (.customCall (SparseCore.inner (Pipeline.entry 3)) ()) >>= fun _ => pure ⟨⟩ := by
  rw [seq_bind_seqK]
  simp only [seq_bind_seqK]
  rfl

/-! ## The buffers, as the core names them -/

abbrev bA0 : DevRef τ sig := Proc.devRef (τ := τ) .tc main_arg0
abbrev bA1 : DevRef τ sig := Proc.devRef (τ := τ) .tc main_arg1
abbrev bV0 : DevRef τ sig := Proc.devRef (τ := τ) .tc main_v0
abbrev bP0 : DevRef τ sig := Proc.devRef (τ := τ) .tc main_v1_0
abbrev bP1 : DevRef τ sig := Proc.devRef (τ := τ) .tc main_v1_1
abbrev bW0 : DevRef τ sig := Proc.devRef (τ := τ) .tc main_v1_2
abbrev bW1 : DevRef τ sig := Proc.devRef (τ := τ) .tc main_v1_3
abbrev bE0 : DevRef τ sig := Proc.devRef (τ := τ) .tc main_v1_4
abbrev bE1 : DevRef τ sig := Proc.devRef (τ := τ) .tc main_v1_5
abbrev bP2 : DevRef τ sig := Proc.devRef (τ := τ) .tc main_v2
abbrev bP3 : DevRef τ sig := Proc.devRef (τ := τ) .tc main_v3
abbrev bL12 : DevRef τ sig := Proc.devRef (τ := τ) .tc main_v12
abbrev bL21 : DevRef τ sig := Proc.devRef (τ := τ) .tc main_v21
abbrev bX22 : DevRef τ sig := Proc.devRef (τ := τ) .tc main_v22
abbrev bX23 : DevRef τ sig := Proc.devRef (τ := τ) .tc main_v23_0
abbrev bW23 : DevRef τ sig := Proc.devRef (τ := τ) .tc main_v23_1
abbrev bT26 : DevRef τ sig := Proc.devRef (τ := τ) .tc main_v26
abbrev bT27 : DevRef τ sig := Proc.devRef (τ := τ) .tc main_v27
abbrev bY28 : DevRef τ sig := Proc.devRef (τ := τ) .tc main_v28
abbrev bS29 : DevRef τ sig := Proc.devRef (τ := τ) .tc main_v29
abbrev bY30 : DevRef τ sig := Proc.devRef (τ := τ) .tc main_v30
abbrev bO31 : DevRef τ sig := Proc.devRef (τ := τ) .tc main_v31_0
abbrev bU31 : DevRef τ sig := Proc.devRef (τ := τ) .tc main_v31_1
abbrev bO32 : DevRef τ sig := Proc.devRef (τ := τ) .tc main_v32
abbrev bO33 : DevRef τ sig := Proc.devRef (τ := τ) .tc main_v33
abbrev bR34 : DevRef τ sig := Proc.devRef (τ := τ) .tc main_v34

/-! ## What the core owes and may have recorded -/

/-- The starts the core still owes before its `n`-th SparseCore call. -/
abbrev Dn (F : FTy → Type) [FloatOps F] [Named F] (n : ℕ) : Dev nD → CellTallies nD τ sig (HIx 2) := fun c => (K (F := F)).Otc c n
/-- The waits it may have recorded by then. -/
def Bn (F : FTy → Type) [FloatOps F] [Named F] (n : ℕ) (c : Dev nD) : Set (SemLoc sig × HIx 2) := {p | (K (F := F)).lev (T c, p.1) p.2 ≤ 8 * n}
/-- A valuation as the buffers the core names. -/
abbrev VV (W : Dev nD → Valuation τ sig (Elt F)) : (c : Dev nD) → (b : Ref sig .tc) → Buf (Elt F) ((c : Thread nD τ).loc b) := fun c b => W c (Proc.devRef .tc b)

section Vals

variable (m : (ℓ : Loc nD τ sig) → Buf (Elt F) ℓ)

/-- The memory at the first call. -/
def Wa (c : Dev nD) : Valuation τ sig (Elt F) := after ops0 fun b => m (c, b)
/-- The first call's data. -/
def d0 (c : Dev nD) : Dat τ (Elt F) (HIx 2) ℕ UU ℕ cfg0 c := Cert.KernelIdeal.Own.K0.dat 𝒱₀ (VV (Wa m)) (Dn F 0) (Bn F 0 c) c
def rP0 (c : Dev nD) : Buf (Elt F) ((c, bP0) : Loc nD τ sig) := (d0 m c).arrAt 3 cfg0.N
def rP1 (c : Dev nD) : Buf (Elt F) ((c, bP1) : Loc nD τ sig) := (d0 m c).arrAt 4 cfg0.N
def rW0 (c : Dev nD) : Buf (Elt F) ((c, bW0) : Loc nD τ sig) := (d0 m c).arrAt 5 cfg0.N
def rW1 (c : Dev nD) : Buf (Elt F) ((c, bW1) : Loc nD τ sig) := (d0 m c).arrAt 6 cfg0.N
def rE0 (c : Dev nD) : Buf (Elt F) ((c, bE0) : Loc nD τ sig) := (d0 m c).arrAt 7 cfg0.N
def rE1 (c : Dev nD) : Buf (Elt F) ((c, bE1) : Loc nD τ sig) := (d0 m c).arrAt 8 cfg0.N
/-- The memory after it. -/
def Wb (c : Dev nD) : Valuation τ sig (Elt F) :=
  Function.update (Function.update (Function.update (Function.update (Function.update (Function.update (Wa m c) bP0 (rP0 m c)) bP1 (rP1 m c)) bW0 (rW0 m c)) bW1 (rW1 m c))
    bE0 (rE0 m c)) bE1 (rE1 m c)
/-- The memory at the scatter. -/
def Wc (c : Dev nD) : Valuation τ sig (Elt F) := after ops1 (Wb m c)
def sX (c : Dev nD) : Buf (Elt F) ((c, bX23) : Loc nD τ sig) := SCATX (Wc m c bL12) (Wc m c bL21) (Wc m c bX22) (Wc m c bX23)
def sW (c : Dev nD) : Buf (Elt F) ((c, bW23) : Loc nD τ sig) := SCATW (Wc m c bP2) (Wc m c bP3) (Wc m c bW0) (Wc m c bW1) (Wc m c bW23)
/-- The memory after it. -/
def Wd (c : Dev nD) : Valuation τ sig (Elt F) := Function.update (Function.update (Wc m c) bX23 (sX m c)) bW23 (sW m c)
/-- The memory at the expert call. -/
def We (c : Dev nD) : Valuation τ sig (Elt F) := after ops2 (Wd m c)
/-- The two tables the expert call prefetches. -/
def tab (c : Dev nD) : pre2.Contents (Elt F) := fun k => We m c (Proc.devRef .tc (pre2.ref k))

/-- What the routing must have made of the lists and tables. -/
structure RouteOK : Prop where
  tabs : ok2 (tab m 0)
  lists : ∀ d, ListsOK (Wc m d bP2) (Wc m d bP3) (Wc m d bL12) (Wc m d bL21)
  live_p : ∀ (d : Dev nD) (x : S8192.Idx) (t : Fin 24), BitVec.toNat (Wc m d bL12 x) / 1024 = t.val → k2_cond1 ((We m d bT27 : S24.Idx → BitVec 32) (ValueIdx.ix1 t)) = 1#1
  live_r : ∀ (d : Dev nD) (x : S8192.Idx) (t : Fin 24), BitVec.toNat (Wc m d bL21 x) / 1024 = t.val → k2_cond1 ((We m d bT27 : S24.Idx → BitVec 32) (ValueIdx.ix1 t)) = 1#1

variable (h : RouteOK m)

/-- The admissible tables: the expert call's, none for the others. -/
def adm : (p : Fin 4) → (pcfgs (F := F) p).Adm
  | ⟨0, _⟩ => cfg0.toPCfg_adm
  | ⟨1, _⟩ => ⟨tab m 0, h.tabs⟩
  | ⟨2, _⟩ => cfg3.toPCfg_adm
  | ⟨3, _⟩ => cfg5.toPCfg_adm

/-- The expert call's data. -/
def d1 (c : Dev nD) : Dat τ (Elt F) (HIx 2) ℕ UU ℕ (cfg2 (adm m h 1)) c := Experts.dat (VV (We m)) (Dn F 1) (Bn F 1 c) (adm m h 1) c
def e1 (c : Dev nD) : RDat τ (Elt F) (HIx 2) ℕ UU ℕ (cfg2 (adm m h 1)) c := (d1 m h c).toRRel (Experts.fgt (adm m h 1)) (Experts.Rl (VV (We m)) (adm m h 1) c)
/-- The shared expert's call's. -/
def d3 (c : Dev nD) : Dat τ (Elt F) (HIx 2) ℕ UU ℕ cfg3 c := Cert.KernelIdeal.Own.K3.dat 𝒱₀ (VV (We m)) (Dn F 1) (Bn F 1 c) c
def rS (c : Dev nD) : Buf (Elt F) ((c, bS29) : Loc nD τ sig) := (d3 m c).arrAt 4 cfg3.N
/-- The sorted results where their blocks are valid. -/
def Yex (c : Dev nD) : S6144x1024.Idx → Elt F .f32 := fun i =>
  Experts.outAt (VV (We m)) (adm m h 1) c ⟨(i 0).val / 256, lt_of_lt_of_eq (Nat.div_lt_of_lt_mul (show (i 0).val < 256 * 24 from (i 0).isLt)) N_2.symm⟩
    (ValueIdx.ix2 ⟨(i 0).val % 256, Nat.mod_lt _ (by decide)⟩ (i 1))
def sO (c : Dev nD) : Buf (Elt F) ((c, bO31) : Loc nD τ sig) := GATH (Wc m c bL12) (shapeCast S24576x2x128 (Yex m h c) shapeCasts_S6144x1024_S24576x2x128)
def sU (c : Dev nD) : Buf (Elt F) ((c, bU31) : Loc nD τ sig) := GATH (Wc m c bL21) (shapeCast S24576x2x128 (Yex m h c) shapeCasts_S6144x1024_S24576x2x128)
/-- The memory after the gather, but for the sorted results, of which only some blocks are known. -/
def Wf (c : Dev nD) : Valuation τ sig (Elt F) := Function.update (Function.update (Function.update (We m c) bS29 (rS m c)) bO31 (sO m h c)) bU31 (sU m h c)
/-- The memory at the last call. -/
def Wg (c : Dev nD) : Valuation τ sig (Elt F) := after ops4 (Wf m h c)
/-- The last call's data. -/
def d5 (c : Dev nD) : Dat τ (Elt F) (HIx 2) ℕ UU ℕ cfg5 c := Cert.KernelIdeal.Own.K5.dat 𝒱₀ (VV (Wg m h)) (Dn F 2) (Bn F 2 c) c
def rR (c : Dev nD) : Buf (Elt F) ((c, bR34) : Loc nD τ sig) := (d5 m h c).arrAt 3 cfg5.N
/-- The memory at the end. -/
def Wh (c : Dev nD) : Valuation τ sig (Elt F) := Function.update (Wg m h c) bR34 (rR m h c)

/-- The four calls' data. -/
def rds : (p : Fin 4) → (c : Dev nD) → RDat τ (Elt F) (HIx 2) ℕ UU ℕ (pin pcfgs (adm m h) p) c
  | ⟨0, _⟩ => fun c => (d0 m c).toR
  | ⟨1, _⟩ => fun c => e1 m h c
  | ⟨2, _⟩ => fun c => (d3 m c).toR
  | ⟨3, _⟩ => fun c => (d5 m h c).toR

/-- What the SparseCore calls find and leave. -/
def pk (c : Dev nD) : Pack F where
  a := Wc m c bP2
  b := Wc m c bP3
  p := Wc m c bL12
  r := Wc m c bL21
  w := Wc m c bW0
  v := Wc m c bW1
  x := Wc m c bX22
  X := Wc m c bX23
  W := Wc m c bW23
  o := We m c bO31
  u := We m c bU31
  ok Y := ∃ G, (e1 m h c).ArrAt 5 (cfg2 (adm m h 1)).N G ∧ Y = shapeCast S24576x2x128 (G : S6144x1024.Idx → Elt F .f32) shapeCasts_S6144x1024_S24576x2x128
  O := sO m h c
  U := sU m h c

end Vals

end Cert.Proof.Kernel

end
-- ==== Proof.KernelCounts.lean ====
/-
  The router's running counts, read at the ideal values: an array that at each token and expert holds a sum over the last
  `k` tokens, plus itself moved down `k` rows, holds the sum over the last `2k`. Eleven such steps give the count of all the
  tokens so far; from the counts come the padded group sizes, the group starts and the positions, as naturals.
-/
module

public import proofs.«01_k».proof.Proof.KernelVals
public import Idealize.ShloMosaic.Lib.Pointwise
public import Idealize.ShloMosaic.Lib.Routing.BitFacts

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-! ## Naturals among the ideal values -/

/-- A natural as an ideal value. -/
def nn (n : ℕ) : EReal := ((n : ℝ) : EReal)

theorem nn_add (a b : ℕ) : nn a + nn b = nn (a + b) := by unfold nn; rw [← EReal.coe_add]; norm_num
theorem nn_sub {a b : ℕ} (h : b ≤ a) : nn a - nn b = nn (a - b) := by
  unfold nn; rw [← EReal.coe_sub, Nat.cast_sub h]
theorem nn_zero : nn 0 = 0 := by unfold nn; simp
theorem nn_one : nn 1 = 1 := by unfold nn; simp

theorem fptosi_nn {n : ℕ} (h : n < 2 ^ 31) : Ideal.fptosi 32 (nn n) = BitVec.ofNat 32 n := by
  unfold Ideal.fptosi nn
  rw [Ideal.toIntClamped_coe]
  have h0 : (0 : ℝ) ≤ (n : ℝ) := Nat.cast_nonneg n
  rw [if_pos h0, Int.floor_natCast]
  have : max (-(2 ^ (32 - 1) : ℕ) : ℤ) (min ((2 ^ (32 - 1) : ℕ) - 1 : ℤ) (n : ℤ)) = (n : ℤ) := by norm_num at h ⊢; omega
  rw [this]
  exact BitVec.ofInt_natCast 32 n

/-! ## Sums over the last `k` rows -/

/-- The sum of `f` over the last `k` numbers up to `t`. -/
def lastSum (f : ℕ → ℕ) (k t : ℕ) : ℕ := ∑ j ∈ Finset.range k, if j ≤ t then f (t - j) else 0

theorem lastSum_one (f : ℕ → ℕ) (t : ℕ) : lastSum f 1 t = f t := by simp [lastSum]

theorem lastSum_double (f : ℕ → ℕ) (k t : ℕ) : lastSum f (k + k) t = lastSum f k t + if t < k then 0 else lastSum f k (t - k) := by
  unfold lastSum
  rw [Finset.sum_range_add]
  congr 1
  split_ifs with h
  · exact Finset.sum_eq_zero fun j _ => if_neg (by omega)
  · refine Finset.sum_congr rfl fun j _ => ?_
    by_cases hj : j ≤ t - k
    · rw [if_pos hj, if_pos (by omega)]; congr 1; omega
    · rw [if_neg hj, if_neg (by omega)]

theorem lastSum_all (f : ℕ → ℕ) {k t : ℕ} (h : t < k) : lastSum f k t = ∑ s ∈ Finset.range (t + 1), f s := by
  unfold lastSum
  rw [← Finset.sum_range_reflect f (t + 1)]
  obtain ⟨d, rfl⟩ : ∃ d, k = t + 1 + d := ⟨k - (t + 1), by omega⟩
  rw [Finset.sum_range_add, Finset.sum_eq_zero (s := Finset.range d) (fun j _ => if_neg (by omega)), Nat.add_zero]
  refine Finset.sum_congr rfl fun j hj => ?_
  rw [Finset.mem_range] at hj
  rw [if_pos (by omega)]
  congr 1

/-- An array that holds, at token `t` and expert `e`, the sum over the last `k` tokens. -/
def Last (g : ℕ → Fin 8 → ℕ) (k : ℕ) (a : FVec Ideal S2048x8 .f32) : Prop :=
  ∀ (t : Fin 2048) (e : Fin 8), a (ValueIdx.ix2 t e) = nn (lastSum (fun s => g s e) k t)

/-- One step: the array plus itself moved down `k` rows. -/
theorem Last.step {g : ℕ → Fin 8 → ℕ} {k n : ℕ} (hkn : k + n = 2048) {a : FVec Ideal S2048x8 .f32} (h : Last g k a)
    (hs : S2048x8.Slices ![0, 0] (⟨2, ![n, 8]⟩ : Shape)) (hc : Shape.Concatenates [(⟨2, ![k, 8]⟩ : Shape), ⟨2, ![n, 8]⟩] S2048x8 0) :
    Last g (k + k) (addf a (concatenate S2048x8 0 [⟨⟨2, ![k, 8]⟩, broadcast ⟨2, ![k, 8]⟩ (Scalar.ofBits (F := Ideal) .f32 0x00000000#32)⟩,
      ⟨⟨2, ![n, 8]⟩, extractStridedSlice ⟨2, ![n, 8]⟩ ![0, 0] a hs⟩] hc)) := by
  intro t e
  rw [lastSum_double, ← nn_add]
  show a (ValueIdx.ix2 t e) + _ = _
  rw [h t e]
  congr 1
  split_ifs with ht
  · refine (concatenate_pair_apply_left 0 _ _ hc (ValueIdx.ix2 t e) rfl (ValueIdx.ix2 ⟨t, ht⟩ e) fun b => by fin_cases b <;> rfl).trans ?_
    show Ideal.ofBits .f32 0#32 = _
    rw [nn_zero]
    exact Ideal.ofBits_zero_f32
  · refine (concatenate_pair_apply_right 0 _ _ hc (ValueIdx.ix2 t e) rfl rfl (ValueIdx.ix2 ⟨t - k, by omega⟩ e) (fun b hb => ?_) ?_).trans ?_
    · fin_cases b
      · exact absurd rfl hb
      · rfl
    · show t.val - k + k = t.val
      omega
    · refine (extractStridedSlice_apply _ a hs _ (ValueIdx.ix2 ⟨t - k, by omega⟩ e) fun b => by fin_cases b <;> simp).trans ?_
      exact h ⟨t - k, by omega⟩ e

/-- The eleven steps of each side. -/
theorem last16 {g : ℕ → Fin 8 → ℕ} {S : IVec S2048x8 1} (h : Last g 1 (k0_pay14 S)) : Last g 8 (k0_pay16 S) :=
  Last.step (k := 4) (n := 2044) rfl (Last.step (k := 2) (n := 2046) rfl (Last.step (k := 1) (n := 2047) rfl h _ _) _ _) _ _
theorem last17 {g : ℕ → Fin 8 → ℕ} {S : IVec S2048x8 1} (h : Last g 1 (k0_pay15 S)) : Last g 8 (k0_pay17 S) :=
  Last.step (k := 4) (n := 2044) rfl (Last.step (k := 2) (n := 2046) rfl (Last.step (k := 1) (n := 2047) rfl h _ _) _ _) _ _
theorem last18 {g : ℕ → Fin 8 → ℕ} {a : FVec Ideal S2048x8 .f32} (h : Last g 8 a) : Last g 512 (k0_pay18 a) :=
  Last.step (k := 256) (n := 1792) rfl (Last.step (k := 128) (n := 1920) rfl (Last.step (k := 64) (n := 1984) rfl
    (Last.step (k := 32) (n := 2016) rfl (Last.step (k := 16) (n := 2032) rfl (Last.step (k := 8) (n := 2040) rfl h _ _) _ _) _ _) _ _) _ _) _ _
theorem last19 {g : ℕ → Fin 8 → ℕ} {a : FVec Ideal S2048x8 .f32} (h : Last g 8 a) : Last g 512 (k0_pay19 a) :=
  Last.step (k := 256) (n := 1792) rfl (Last.step (k := 128) (n := 1920) rfl (Last.step (k := 64) (n := 1984) rfl
    (Last.step (k := 32) (n := 2016) rfl (Last.step (k := 16) (n := 2032) rfl (Last.step (k := 8) (n := 2040) rfl h _ _) _ _) _ _) _ _) _ _) _ _
theorem last20 {g : ℕ → Fin 8 → ℕ} {a : FVec Ideal S2048x8 .f32} (h : Last g 512 a) : Last g 2048 (k0_pay20 a) :=
  Last.step (k := 1024) (n := 1024) rfl (Last.step (k := 512) (n := 1536) rfl h _ _) _ _
theorem last21 {g : ℕ → Fin 8 → ℕ} {a : FVec Ideal S2048x8 .f32} (h : Last g 512 a) : Last g 2048 (k0_pay21 a) :=
  Last.step (k := 1024) (n := 1024) rfl (Last.step (k := 512) (n := 1536) rfl h _ _) _ _

/-! ## The counts, group sizes, starts and positions -/

/-- The bits of a choice of one expert a token. -/
def Picks (f : Fin 2048 → Fin 8) (S : IVec S2048x8 1) : Prop :=
  ∀ (t : Fin 2048) (e : Fin 8), S (ValueIdx.ix2 t e) = if e = f t then 1#1 else 0#1

/-- Whether token `s` chose expert `e`. -/
def hit (f : Fin 2048 → Fin 8) (s : ℕ) (e : Fin 8) : ℕ := if h : s < 2048 then if e = f ⟨s, h⟩ then 1 else 0 else 0

/-- How many of the tokens up to `t` chose `e`. -/
def cntTo (f : Fin 2048 → Fin 8) (e : Fin 8) (t : ℕ) : ℕ := ∑ s ∈ Finset.range (t + 1), hit f s e

/-- How many tokens chose `e`. -/
def tot (f : Fin 2048 → Fin 8) (e : Fin 8) : ℕ := cntTo f e 2047

/-- A group's padded size, and its start. -/
def padc (f₁ f₂ : Fin 2048 → Fin 8) (e : Fin 8) : ℕ := (tot f₁ e + tot f₂ e + 255) / 256 * 256
def start (f₁ f₂ : Fin 2048 → Fin 8) (e : Fin 8) : ℕ := ∑ e' ∈ Finset.univ.filter (· < e), padc f₁ f₂ e'

/-- A token's two positions. -/
def posA (f₁ f₂ : Fin 2048 → Fin 8) (t : Fin 2048) : ℕ := start f₁ f₂ (f₁ t) + (cntTo f₁ (f₁ t) t - 1)
def posB (f₁ f₂ : Fin 2048 → Fin 8) (t : Fin 2048) : ℕ := start f₁ f₂ (f₂ t) + tot f₁ (f₂ t) + (cntTo f₂ (f₂ t) t - 1)

theorem last14 {f : Fin 2048 → Fin 8} {S : IVec S2048x8 1} (h : Picks f S) : Last (hit f) 1 (k0_pay14 S) := by
  intro t e
  rw [lastSum_one]
  show ((((S (ValueIdx.ix2 t e)).setWidth 32).toInt : ℝ) : EReal) = _
  rw [h t e]
  unfold hit
  rw [dif_pos t.isLt]
  split_ifs <;> simp [nn]
theorem last15 {f : Fin 2048 → Fin 8} {S : IVec S2048x8 1} (h : Picks f S) : Last (hit f) 1 (k0_pay15 S) := last14 h

theorem picks_val {f : Fin 2048 → Fin 8} {S : IVec S2048x8 1} (h : Picks f S) (t : Fin 2048) (e : Fin 8) :
    k0_pay14 (F := Ideal) S (ValueIdx.ix2 t e) = if e = f t then 1 else 0 := by
  rw [last14 h t e, lastSum_one]
  unfold hit
  rw [dif_pos t.isLt]
  split_ifs
  · exact nn_one
  · exact nn_zero

theorem cnt_of_last {g : ℕ → Fin 8 → ℕ} {a : FVec Ideal S2048x8 .f32} (h : Last g 2048 a) (t : Fin 2048) (e : Fin 8) :
    a (ValueIdx.ix2 t e) = nn (∑ s ∈ Finset.range (t.val + 1), g s e) := by
  rw [h t e, lastSum_all _ t.isLt]

theorem hit_le (f : Fin 2048 → Fin 8) (s : ℕ) (e : Fin 8) : hit f s e ≤ 1 := by
  unfold hit; split_ifs <;> omega

theorem cntTo_le (f : Fin 2048 → Fin 8) (e : Fin 8) (t : ℕ) : cntTo f e t ≤ t + 1 := by
  unfold cntTo
  refine (Finset.sum_le_sum fun s _ => hit_le f s e).trans ?_
  simp

theorem tot_le (f : Fin 2048 → Fin 8) (e : Fin 8) : tot f e ≤ 2048 := cntTo_le f e 2047

theorem cntTo_mono (f : Fin 2048 → Fin 8) (e : Fin 8) {t t' : ℕ} (h : t ≤ t') : cntTo f e t ≤ cntTo f e t' := by
  unfold cntTo
  exact Finset.sum_le_sum_of_subset (Finset.range_subset_range.2 (by omega))

theorem cntTo_lt (f : Fin 2048 → Fin 8) {t t' : Fin 2048} (h : t < t') : cntTo f (f t') t < cntTo f (f t') t' := by
  have h1 : cntTo f (f t') t ≤ cntTo f (f t') (t'.val - 1) := cntTo_mono f _ (by have : t.val < t'.val := h; omega)
  refine h1.trans_lt ?_
  unfold cntTo
  have e : t'.val - 1 + 1 = t'.val := by have : t.val < t'.val := h; omega
  rw [e, Finset.sum_range_succ]
  have : hit f t'.val (f t') = 1 := by unfold hit; rw [dif_pos t'.isLt, if_pos rfl]
  omega

theorem cntTo_pos (f : Fin 2048 → Fin 8) (t : Fin 2048) : 0 < cntTo f (f t) t := by
  unfold cntTo
  rw [Finset.sum_range_succ]
  have : hit f t.val (f t) = 1 := by unfold hit; rw [dif_pos t.isLt, if_pos rfl]
  omega

theorem cntTo_le_tot (f : Fin 2048 → Fin 8) (e : Fin 8) (t : Fin 2048) : cntTo f e t ≤ tot f e := cntTo_mono f e (by omega)

theorem sum_tot (f : Fin 2048 → Fin 8) : ∑ e, tot f e = 2048 := by
  unfold tot cntTo
  rw [Finset.sum_comm]
  have : ∀ s ∈ Finset.range 2048, ∑ e, hit f s e = 1 := fun s hs => by
    rw [Finset.mem_range] at hs
    unfold hit
    simp only [dif_pos hs]
    rw [Finset.sum_ite_eq' Finset.univ (f ⟨s, hs⟩) fun _ => 1, if_pos (Finset.mem_univ _)]
  rw [Finset.sum_congr rfl this]
  simp

theorem sum_padc (f₁ f₂ : Fin 2048 → Fin 8) : ∑ e, padc f₁ f₂ e ≤ 6144 := by
  have h : ∑ e, padc f₁ f₂ e ≤ ∑ e, (tot f₁ e + tot f₂ e + 255) := Finset.sum_le_sum fun e _ => Nat.div_mul_le_self _ _
  rw [Finset.sum_add_distrib, Finset.sum_add_distrib, sum_tot, sum_tot] at h
  simp at h
  omega

theorem padc_dvd (f₁ f₂ : Fin 2048 → Fin 8) (e : Fin 8) : 256 ∣ padc f₁ f₂ e := Dvd.intro_left _ rfl
theorem start_dvd (f₁ f₂ : Fin 2048 → Fin 8) (e : Fin 8) : 256 ∣ start f₁ f₂ e := Finset.dvd_sum fun _ _ => padc_dvd f₁ f₂ _

theorem start_add_le (f₁ f₂ : Fin 2048 → Fin 8) {e e' : Fin 8} (h : e < e') : start f₁ f₂ e + padc f₁ f₂ e ≤ start f₁ f₂ e' := by
  unfold start
  have hn : e ∉ Finset.univ.filter (· < e) := by simp
  rw [Nat.add_comm, ← Finset.sum_insert hn]
  refine Finset.sum_le_sum_of_subset fun x hx => ?_
  rw [Finset.mem_insert, Finset.mem_filter] at hx
  rw [Finset.mem_filter]
  rcases hx with rfl | ⟨_, hx⟩
  · exact ⟨Finset.mem_univ _, h⟩
  · exact ⟨Finset.mem_univ _, hx.trans h⟩

theorem start_add_le_all (f₁ f₂ : Fin 2048 → Fin 8) (e : Fin 8) : start f₁ f₂ e + padc f₁ f₂ e ≤ 6144 := by
  refine le_trans ?_ (sum_padc f₁ f₂)
  unfold start
  have hn : e ∉ Finset.univ.filter (· < e) := by simp
  rw [Nat.add_comm, ← Finset.sum_insert hn]
  exact Finset.sum_le_sum_of_subset (Finset.subset_univ _)

theorem tot_le_padc (f₁ f₂ : Fin 2048 → Fin 8) (e : Fin 8) : tot f₁ e + tot f₂ e ≤ padc f₁ f₂ e := by
  unfold padc; omega

theorem posA_mem (f₁ f₂ : Fin 2048 → Fin 8) (t : Fin 2048) :
    start f₁ f₂ (f₁ t) ≤ posA f₁ f₂ t ∧ posA f₁ f₂ t < start f₁ f₂ (f₁ t) + tot f₁ (f₁ t) := by
  have h1 := cntTo_pos f₁ t
  have h2 := cntTo_le_tot f₁ (f₁ t) t
  unfold posA; omega

theorem posB_mem (f₁ f₂ : Fin 2048 → Fin 8) (t : Fin 2048) :
    start f₁ f₂ (f₂ t) + tot f₁ (f₂ t) ≤ posB f₁ f₂ t ∧ posB f₁ f₂ t < start f₁ f₂ (f₂ t) + padc f₁ f₂ (f₂ t) := by
  have h1 := cntTo_pos f₂ t
  have h2 := cntTo_le_tot f₂ (f₂ t) t
  have h3 := tot_le_padc f₁ f₂ (f₂ t)
  unfold posB; omega

theorem posA_mem' (f₁ f₂ : Fin 2048 → Fin 8) (t : Fin 2048) :
    start f₁ f₂ (f₁ t) ≤ posA f₁ f₂ t ∧ posA f₁ f₂ t < start f₁ f₂ (f₁ t) + padc f₁ f₂ (f₁ t) := by
  have h := posA_mem f₁ f₂ t
  have h3 := tot_le_padc f₁ f₂ (f₁ t)
  omega
theorem posB_mem' (f₁ f₂ : Fin 2048 → Fin 8) (t : Fin 2048) :
    start f₁ f₂ (f₂ t) ≤ posB f₁ f₂ t ∧ posB f₁ f₂ t < start f₁ f₂ (f₂ t) + padc f₁ f₂ (f₂ t) := by
  have h := posB_mem f₁ f₂ t
  omega

/-- The groups do not meet. -/
theorem group_unique (f₁ f₂ : Fin 2048 → Fin 8) {p : ℕ} {e e' : Fin 8} (h : start f₁ f₂ e ≤ p ∧ p < start f₁ f₂ e + padc f₁ f₂ e)
    (h' : start f₁ f₂ e' ≤ p ∧ p < start f₁ f₂ e' + padc f₁ f₂ e') : e = e' := by
  rcases lt_trichotomy e e' with hl | he | hl
  · have := start_add_le f₁ f₂ hl; omega
  · exact he
  · have := start_add_le f₁ f₂ hl; omega

theorem posA_lt (f₁ f₂ : Fin 2048 → Fin 8) (t : Fin 2048) : posA f₁ f₂ t < 6144 :=
  (posA_mem' f₁ f₂ t).2.trans_le (start_add_le_all f₁ f₂ _)
theorem posB_lt (f₁ f₂ : Fin 2048 → Fin 8) (t : Fin 2048) : posB f₁ f₂ t < 6144 :=
  (posB_mem' f₁ f₂ t).2.trans_le (start_add_le_all f₁ f₂ _)

theorem cntTo_inj (f : Fin 2048 → Fin 8) {t t' : Fin 2048} (hf : f t = f t') (h : cntTo f (f t) t = cntTo f (f t') t') : t = t' := by
  rcases lt_trichotomy t t' with hl | he | hl
  · have := cntTo_lt f hl; rw [hf] at h; omega
  · exact he
  · have := cntTo_lt f hl; rw [hf] at h this; omega

theorem posA_inj (f₁ f₂ : Fin 2048 → Fin 8) {t t' : Fin 2048} (h : posA f₁ f₂ t = posA f₁ f₂ t') : t = t' := by
  have he : f₁ t = f₁ t' := group_unique f₁ f₂ (posA_mem' f₁ f₂ t) (by rw [h]; exact posA_mem' f₁ f₂ t')
  refine cntTo_inj f₁ he ?_
  have h1 := cntTo_pos f₁ t
  have h2 := cntTo_pos f₁ t'
  unfold posA at h
  rw [he] at h h1 ⊢
  omega
theorem posB_inj (f₁ f₂ : Fin 2048 → Fin 8) {t t' : Fin 2048} (h : posB f₁ f₂ t = posB f₁ f₂ t') : t = t' := by
  have he : f₂ t = f₂ t' := group_unique f₁ f₂ (posB_mem' f₁ f₂ t) (by rw [h]; exact posB_mem' f₁ f₂ t')
  refine cntTo_inj f₂ he ?_
  have h1 := cntTo_pos f₂ t
  have h2 := cntTo_pos f₂ t'
  unfold posB at h
  rw [he] at h h1 ⊢
  omega
theorem posA_ne_posB (f₁ f₂ : Fin 2048 → Fin 8) (t t' : Fin 2048) : posA f₁ f₂ t ≠ posB f₁ f₂ t' := by
  intro h
  have he : f₁ t = f₂ t' := group_unique f₁ f₂ (posA_mem' f₁ f₂ t) (by rw [h]; exact posB_mem' f₁ f₂ t')
  have h1 := (posA_mem f₁ f₂ t).2
  have h2 := (posB_mem f₁ f₂ t').1
  rw [← he] at h2
  omega

end Cert.Proof.Kernel

end
-- ==== Proof.KernelOut.lean ====
/-
  What the three exact TensorCore calls leave in their outputs' blocks: one whole store each, of the body's printed payload.
-/
module

public import proofs.«01_k».proof.Proof.KernelVals
public import Idealize.ShloMosaic.Lib.VecWindow
public import Idealize.ShloMosaic.Lib.Pipeline.ValueKit

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-- A whole load of a whole buffer's representative. -/
theorem readU {sp : Space} {s : Shape} {e : EltTy} {mm : Memref sig .tc sp s e} (h : mm.IsWhole) {off : Fin s.rank → ℕ} (inb : ∀ a, off a + s.size a ≤ s.size a) (X : s.Idx → Elt F e) :
    mm.view.readAt (Elt F) (Rect.unit off s.size inb).toLoadRect (h.unread X) = X :=
  (View.readAt_full _ _ _).trans (h.read_unread X)

/-! ## The router -/

section Router

variable (V : (c : Dev nD) → (b : Ref sig .tc) → Buf (Elt F) ((c : Thread nD τ).loc b)) (D : Dev nD → CellTallies nD τ sig (HIx 2)) (B : Set (SemLoc sig × HIx 2)) (c : Dev nD) (t : Fin cfg0.N)

abbrev rx (V : (c : Dev nD) → (b : Ref sig .tc) → Buf (Elt F) ((c : Thread nD τ).loc b)) (c : Dev nD) (t : Fin cfg0.N) : Vec F S2048x1024 .f32 := Cert.KernelIdeal.Own.K0.iblk V c 0 t
abbrev rg (V : (c : Dev nD) → (b : Ref sig .tc) → Buf (Elt F) ((c : Thread nD τ).loc b)) (c : Dev nD) (t : Fin cfg0.N) : Vec F S8x1024 .f32 := Cert.KernelIdeal.Own.K0.iblk V c 1 t
abbrev rb (V : (c : Dev nD) → (b : Ref sig .tc) → Buf (Elt F) ((c : Thread nD τ).loc b)) (c : Dev nD) (t : Fin cfg0.N) : Vec F S1x8 .f32 := Cert.KernelIdeal.Own.K0.iblk V c 2 t

/-- The first choices, the second choices, and the running counts half way, from the three inputs. -/
def sel1 (x : Vec F S2048x1024 .f32) (g : Vec F S8x1024 .f32) (b : Vec F S1x8 .f32) : IVec S2048x8 1 := k0_pay8 x g b
def sel2 (x : Vec F S2048x1024 .f32) (g : Vec F S8x1024 .f32) (b : Vec F S1x8 .f32) : IVec S2048x8 1 := k0_pay9 x g b
def half1 (x : Vec F S2048x1024 .f32) (g : Vec F S8x1024 .f32) (b : Vec F S1x8 .f32) : FVec F S2048x8 .f32 := k0_pay18 (k0_pay16 (sel1 x g b))
def half2 (x : Vec F S2048x1024 .f32) (g : Vec F S8x1024 .f32) (b : Vec F S1x8 .f32) : FVec F S2048x8 .f32 := k0_pay19 (k0_pay17 (sel2 x g b))

def oP0 (x : Vec F S2048x1024 .f32) (g : Vec F S8x1024 .f32) (b : Vec F S1x8 .f32) : Vec F S2048x1 .i32 :=
  k0_pay1 (k0_pay27 (k0_pay14 (sel1 x g b)) (half1 x g b) (half2 x g b))
def oP1 (x : Vec F S2048x1024 .f32) (g : Vec F S8x1024 .f32) (b : Vec F S1x8 .f32) : Vec F S2048x1 .i32 :=
  k0_pay2 (k0_pay15 (sel2 x g b)) (k0_pay22 (half1 x g b)) (k0_pay23 (k0_pay15 (sel2 x g b)) (half2 x g b)) (k0_pay26 (half1 x g b) (half2 x g b))
def oW0 (x : Vec F S2048x1024 .f32) (g : Vec F S8x1024 .f32) (b : Vec F S1x8 .f32) : Vec F S2048x128 .f32 := k0_pay12 (k0_pay10 x g b) (k0_pay11 x g b)
def oW1 (x : Vec F S2048x1024 .f32) (g : Vec F S8x1024 .f32) (b : Vec F S1x8 .f32) : Vec F S2048x128 .f32 := k0_pay13 (k0_pay6 x g) (sel2 x g b) (k0_pay10 x g b)
def oE0 (x : Vec F S2048x1024 .f32) (g : Vec F S8x1024 .f32) (b : Vec F S1x8 .f32) : Vec F S24x1 .i32 :=
  k0_pay5 (k0_pay24 (half1 x g b) (half2 x g b)) (k0_pay25 (half1 x g b) (half2 x g b))
def oE1 (x : Vec F S2048x1024 .f32) (g : Vec F S8x1024 .f32) (b : Vec F S1x8 .f32) : Vec F S24x1 .i32 :=
  k0_pay4 (k0_pay24 (half1 x g b) (half2 x g b)) (k0_pay25 (half1 x g b) (half2 x g b))

/-- The calls' data at the program's index type, algebra and levels. -/
abbrev D0 (V : (c : Dev nD) → (b : Ref sig .tc) → Buf (Elt F) ((c : Thread nD τ).loc b)) (D : Dev nD → CellTallies nD τ sig (HIx 2)) (B : Set (SemLoc sig × HIx 2)) (c : Dev nD) :
    Dat τ (Elt F) (HIx 2) ℕ UU ℕ cfg0 c := Cert.KernelIdeal.Own.K0.dat 𝒱₀ V D B c

theorem aft0_3 : (D0 V D B c).after 3 t = oP0 (rx V c t) (rg V c t) (rb V c t) := by
  rw [Cert.KernelIdeal.Own.K0.after0_3]
  unfold Cert.KernelIdeal.Own.K0.outsAt0
  dsimp only
  unfold Cert.KernelIdeal.Own.K0.out0_A_3
  refine (View.read_writes_full _ _ _ _ _).trans ?_
  simp only [Cert.KernelIdeal.Own.K0.kernelRun0_A.sl.r, Cert.KernelIdeal.Own.K0.kernelRun0_A.sl.r_1, Cert.KernelIdeal.Own.K0.kernelRun0_A.sl.r_2, Cert.KernelIdeal.Own.K0.kernelRun0_A.sl.r_3, Cert.KernelIdeal.Own.K0.kernelRun0_A.sl.r_4, Cert.KernelIdeal.Own.K0.kernelRun0_A.sl.r_5, Cert.KernelIdeal.Own.K0.kernelRun0_A.sl.r_6, Cert.KernelIdeal.Own.K0.kernelRun0_A.sl.r_7, Cert.KernelIdeal.Own.K0.kernelRun0_A.sl.r_8, Cert.KernelIdeal.Own.K0.kernelRun0_A.sl.r_9, Cert.KernelIdeal.Own.K0.kernelRun0_A.sl.r_10, Cert.KernelIdeal.Own.K0.kernelRun0_A.sl.r_11, Cert.KernelIdeal.Own.K0.kernelRun0_A.sl.r_12, Cert.KernelIdeal.Own.K0.kernelRun0_A.sl.r_13, Cert.KernelIdeal.Own.K0.kernelRun0_A.sl.r_14, Cert.KernelIdeal.Own.K0.kernelRun0_A.sl.r_15, Cert.KernelIdeal.Own.K0.kernelRun0_A.sl.r_16]
  have e : oP0 _ _ _ = oP0 _ _ _ := congr (congr (congrArg oP0 (readU (Cert.KernelIdeal.Own.K0.hs0_0 t) inb_S2048x1024_S2048x1024_0_0 (rx V c t))) (readU (Cert.KernelIdeal.Own.K0.hs0_1 t) inb_S8x1024_S8x1024_0_0 (rg V c t))) (readU (Cert.KernelIdeal.Own.K0.hs0_2 t) inb_S1x8_S1x8_0_0 (rb V c t))
  refine Eq.trans ?_ e
  unfold oP0
  rfl
theorem aft0_4 : (D0 V D B c).after 4 t = oP1 (rx V c t) (rg V c t) (rb V c t) := by
  rw [Cert.KernelIdeal.Own.K0.after0_4]
  unfold Cert.KernelIdeal.Own.K0.outsAt0
  dsimp only
  unfold Cert.KernelIdeal.Own.K0.out0_A_4
  refine (View.read_writes_full _ _ _ _ _).trans ?_
  simp only [Cert.KernelIdeal.Own.K0.kernelRun0_A.sl.r, Cert.KernelIdeal.Own.K0.kernelRun0_A.sl.r_1, Cert.KernelIdeal.Own.K0.kernelRun0_A.sl.r_2, Cert.KernelIdeal.Own.K0.kernelRun0_A.sl.r_3, Cert.KernelIdeal.Own.K0.kernelRun0_A.sl.r_4, Cert.KernelIdeal.Own.K0.kernelRun0_A.sl.r_5, Cert.KernelIdeal.Own.K0.kernelRun0_A.sl.r_6, Cert.KernelIdeal.Own.K0.kernelRun0_A.sl.r_7, Cert.KernelIdeal.Own.K0.kernelRun0_A.sl.r_8, Cert.KernelIdeal.Own.K0.kernelRun0_A.sl.r_9, Cert.KernelIdeal.Own.K0.kernelRun0_A.sl.r_10, Cert.KernelIdeal.Own.K0.kernelRun0_A.sl.r_11, Cert.KernelIdeal.Own.K0.kernelRun0_A.sl.r_12, Cert.KernelIdeal.Own.K0.kernelRun0_A.sl.r_13, Cert.KernelIdeal.Own.K0.kernelRun0_A.sl.r_14, Cert.KernelIdeal.Own.K0.kernelRun0_A.sl.r_15, Cert.KernelIdeal.Own.K0.kernelRun0_A.sl.r_16]
  have e : oP1 _ _ _ = oP1 _ _ _ := congr (congr (congrArg oP1 (readU (Cert.KernelIdeal.Own.K0.hs0_0 t) inb_S2048x1024_S2048x1024_0_0 (rx V c t))) (readU (Cert.KernelIdeal.Own.K0.hs0_1 t) inb_S8x1024_S8x1024_0_0 (rg V c t))) (readU (Cert.KernelIdeal.Own.K0.hs0_2 t) inb_S1x8_S1x8_0_0 (rb V c t))
  refine Eq.trans ?_ e
  unfold oP1
  rfl
theorem aft0_5 : (D0 V D B c).after 5 t = oW0 (rx V c t) (rg V c t) (rb V c t) := by
  rw [Cert.KernelIdeal.Own.K0.after0_5]
  unfold Cert.KernelIdeal.Own.K0.outsAt0
  dsimp only
  unfold Cert.KernelIdeal.Own.K0.out0_A_5
  refine (View.read_writes_full _ _ _ _ _).trans ?_
  simp only [Cert.KernelIdeal.Own.K0.kernelRun0_A.sl.r, Cert.KernelIdeal.Own.K0.kernelRun0_A.sl.r_1, Cert.KernelIdeal.Own.K0.kernelRun0_A.sl.r_2, Cert.KernelIdeal.Own.K0.kernelRun0_A.sl.r_3, Cert.KernelIdeal.Own.K0.kernelRun0_A.sl.r_4, Cert.KernelIdeal.Own.K0.kernelRun0_A.sl.r_5, Cert.KernelIdeal.Own.K0.kernelRun0_A.sl.r_6, Cert.KernelIdeal.Own.K0.kernelRun0_A.sl.r_7, Cert.KernelIdeal.Own.K0.kernelRun0_A.sl.r_8, Cert.KernelIdeal.Own.K0.kernelRun0_A.sl.r_9, Cert.KernelIdeal.Own.K0.kernelRun0_A.sl.r_10, Cert.KernelIdeal.Own.K0.kernelRun0_A.sl.r_11, Cert.KernelIdeal.Own.K0.kernelRun0_A.sl.r_12, Cert.KernelIdeal.Own.K0.kernelRun0_A.sl.r_13, Cert.KernelIdeal.Own.K0.kernelRun0_A.sl.r_14, Cert.KernelIdeal.Own.K0.kernelRun0_A.sl.r_15, Cert.KernelIdeal.Own.K0.kernelRun0_A.sl.r_16]
  have e : oW0 _ _ _ = oW0 _ _ _ := congr (congr (congrArg oW0 (readU (Cert.KernelIdeal.Own.K0.hs0_0 t) inb_S2048x1024_S2048x1024_0_0 (rx V c t))) (readU (Cert.KernelIdeal.Own.K0.hs0_1 t) inb_S8x1024_S8x1024_0_0 (rg V c t))) (readU (Cert.KernelIdeal.Own.K0.hs0_2 t) inb_S1x8_S1x8_0_0 (rb V c t))
  refine Eq.trans ?_ e
  unfold oW0
  rfl
theorem aft0_6 : (D0 V D B c).after 6 t = oW1 (rx V c t) (rg V c t) (rb V c t) := by
  rw [Cert.KernelIdeal.Own.K0.after0_6]
  unfold Cert.KernelIdeal.Own.K0.outsAt0
  dsimp only
  unfold Cert.KernelIdeal.Own.K0.out0_A_6
  refine (View.read_writes_full _ _ _ _ _).trans ?_
  simp only [Cert.KernelIdeal.Own.K0.kernelRun0_A.sl.r, Cert.KernelIdeal.Own.K0.kernelRun0_A.sl.r_1, Cert.KernelIdeal.Own.K0.kernelRun0_A.sl.r_2, Cert.KernelIdeal.Own.K0.kernelRun0_A.sl.r_3, Cert.KernelIdeal.Own.K0.kernelRun0_A.sl.r_4, Cert.KernelIdeal.Own.K0.kernelRun0_A.sl.r_5, Cert.KernelIdeal.Own.K0.kernelRun0_A.sl.r_6, Cert.KernelIdeal.Own.K0.kernelRun0_A.sl.r_7, Cert.KernelIdeal.Own.K0.kernelRun0_A.sl.r_8, Cert.KernelIdeal.Own.K0.kernelRun0_A.sl.r_9, Cert.KernelIdeal.Own.K0.kernelRun0_A.sl.r_10, Cert.KernelIdeal.Own.K0.kernelRun0_A.sl.r_11, Cert.KernelIdeal.Own.K0.kernelRun0_A.sl.r_12, Cert.KernelIdeal.Own.K0.kernelRun0_A.sl.r_13, Cert.KernelIdeal.Own.K0.kernelRun0_A.sl.r_14, Cert.KernelIdeal.Own.K0.kernelRun0_A.sl.r_15, Cert.KernelIdeal.Own.K0.kernelRun0_A.sl.r_16]
  have e : oW1 _ _ _ = oW1 _ _ _ := congr (congr (congrArg oW1 (readU (Cert.KernelIdeal.Own.K0.hs0_0 t) inb_S2048x1024_S2048x1024_0_0 (rx V c t))) (readU (Cert.KernelIdeal.Own.K0.hs0_1 t) inb_S8x1024_S8x1024_0_0 (rg V c t))) (readU (Cert.KernelIdeal.Own.K0.hs0_2 t) inb_S1x8_S1x8_0_0 (rb V c t))
  refine Eq.trans ?_ e
  unfold oW1
  rfl
theorem aft0_7 : (D0 V D B c).after 7 t = oE0 (rx V c t) (rg V c t) (rb V c t) := by
  rw [Cert.KernelIdeal.Own.K0.after0_7]
  unfold Cert.KernelIdeal.Own.K0.outsAt0
  dsimp only
  unfold Cert.KernelIdeal.Own.K0.out0_A_7
  refine (View.read_writes_full _ _ _ _ _).trans ?_
  simp only [Cert.KernelIdeal.Own.K0.kernelRun0_A.sl.r, Cert.KernelIdeal.Own.K0.kernelRun0_A.sl.r_1, Cert.KernelIdeal.Own.K0.kernelRun0_A.sl.r_2, Cert.KernelIdeal.Own.K0.kernelRun0_A.sl.r_3, Cert.KernelIdeal.Own.K0.kernelRun0_A.sl.r_4, Cert.KernelIdeal.Own.K0.kernelRun0_A.sl.r_5, Cert.KernelIdeal.Own.K0.kernelRun0_A.sl.r_6, Cert.KernelIdeal.Own.K0.kernelRun0_A.sl.r_7, Cert.KernelIdeal.Own.K0.kernelRun0_A.sl.r_8, Cert.KernelIdeal.Own.K0.kernelRun0_A.sl.r_9, Cert.KernelIdeal.Own.K0.kernelRun0_A.sl.r_10, Cert.KernelIdeal.Own.K0.kernelRun0_A.sl.r_11, Cert.KernelIdeal.Own.K0.kernelRun0_A.sl.r_12, Cert.KernelIdeal.Own.K0.kernelRun0_A.sl.r_13, Cert.KernelIdeal.Own.K0.kernelRun0_A.sl.r_14, Cert.KernelIdeal.Own.K0.kernelRun0_A.sl.r_15, Cert.KernelIdeal.Own.K0.kernelRun0_A.sl.r_16]
  have e : oE0 _ _ _ = oE0 _ _ _ := congr (congr (congrArg oE0 (readU (Cert.KernelIdeal.Own.K0.hs0_0 t) inb_S2048x1024_S2048x1024_0_0 (rx V c t))) (readU (Cert.KernelIdeal.Own.K0.hs0_1 t) inb_S8x1024_S8x1024_0_0 (rg V c t))) (readU (Cert.KernelIdeal.Own.K0.hs0_2 t) inb_S1x8_S1x8_0_0 (rb V c t))
  refine Eq.trans ?_ e
  unfold oE0
  rfl
theorem aft0_8 : (D0 V D B c).after 8 t = oE1 (rx V c t) (rg V c t) (rb V c t) := by
  rw [Cert.KernelIdeal.Own.K0.after0_8]
  unfold Cert.KernelIdeal.Own.K0.outsAt0
  dsimp only
  unfold Cert.KernelIdeal.Own.K0.out0_A_8
  refine (View.read_writes_full _ _ _ _ _).trans ?_
  simp only [Cert.KernelIdeal.Own.K0.kernelRun0_A.sl.r, Cert.KernelIdeal.Own.K0.kernelRun0_A.sl.r_1, Cert.KernelIdeal.Own.K0.kernelRun0_A.sl.r_2, Cert.KernelIdeal.Own.K0.kernelRun0_A.sl.r_3, Cert.KernelIdeal.Own.K0.kernelRun0_A.sl.r_4, Cert.KernelIdeal.Own.K0.kernelRun0_A.sl.r_5, Cert.KernelIdeal.Own.K0.kernelRun0_A.sl.r_6, Cert.KernelIdeal.Own.K0.kernelRun0_A.sl.r_7, Cert.KernelIdeal.Own.K0.kernelRun0_A.sl.r_8, Cert.KernelIdeal.Own.K0.kernelRun0_A.sl.r_9, Cert.KernelIdeal.Own.K0.kernelRun0_A.sl.r_10, Cert.KernelIdeal.Own.K0.kernelRun0_A.sl.r_11, Cert.KernelIdeal.Own.K0.kernelRun0_A.sl.r_12, Cert.KernelIdeal.Own.K0.kernelRun0_A.sl.r_13, Cert.KernelIdeal.Own.K0.kernelRun0_A.sl.r_14, Cert.KernelIdeal.Own.K0.kernelRun0_A.sl.r_15, Cert.KernelIdeal.Own.K0.kernelRun0_A.sl.r_16]
  have e : oE1 _ _ _ = oE1 _ _ _ := congr (congr (congrArg oE1 (readU (Cert.KernelIdeal.Own.K0.hs0_0 t) inb_S2048x1024_S2048x1024_0_0 (rx V c t))) (readU (Cert.KernelIdeal.Own.K0.hs0_1 t) inb_S8x1024_S8x1024_0_0 (rg V c t))) (readU (Cert.KernelIdeal.Own.K0.hs0_2 t) inb_S1x8_S1x8_0_0 (rb V c t))
  refine Eq.trans ?_ e
  unfold oE1
  rfl

end Router

/-! ## The shared expert and the last sum -/

abbrev D3 (V : (c : Dev nD) → (b : Ref sig .tc) → Buf (Elt F) ((c : Thread nD τ).loc b)) (D : Dev nD → CellTallies nD τ sig (HIx 2)) (B : Set (SemLoc sig × HIx 2)) (c : Dev nD) :
    Dat τ (Elt F) (HIx 2) ℕ UU ℕ cfg3 c := Cert.KernelIdeal.Own.K3.dat 𝒱₀ V D B c
abbrev D5 (V : (c : Dev nD) → (b : Ref sig .tc) → Buf (Elt F) ((c : Thread nD τ).loc b)) (D : Dev nD → CellTallies nD τ sig (HIx 2)) (B : Set (SemLoc sig × HIx 2)) (c : Dev nD) :
    Dat τ (Elt F) (HIx 2) ℕ UU ℕ cfg5 c := Cert.KernelIdeal.Own.K5.dat 𝒱₀ V D B c

theorem aft3_4 (V : (c : Dev nD) → (b : Ref sig .tc) → Buf (Elt F) ((c : Thread nD τ).loc b)) (D : Dev nD → CellTallies nD τ sig (HIx 2)) (B : Set (SemLoc sig × HIx 2)) (c : Dev nD)
    (t : Fin cfg3.N) : (D3 V D B c).after 4 t
      = k3_pay1 (Cert.KernelIdeal.Own.K3.iblk V c 0 t) (Cert.KernelIdeal.Own.K3.iblk V c 1 t) (Cert.KernelIdeal.Own.K3.iblk V c 2 t) (Cert.KernelIdeal.Own.K3.iblk V c 3 t) := by
  rw [Cert.KernelIdeal.Own.K3.after3_4]
  unfold Cert.KernelIdeal.Own.K3.outsAt3
  dsimp only
  unfold Cert.KernelIdeal.Own.K3.out3_A_4
  refine (View.read_writes_full _ _ _ _ _).trans ?_
  exact congr (congr (congr (congrArg k3_pay1 (readU (Cert.KernelIdeal.Own.K3.hs3_0 t) inb_S512x1024_S512x1024_0_0 _)) (readU (Cert.KernelIdeal.Own.K3.hs3_1 t) inb_S512x1024_S512x1024_0_0 _))
    (readU (Cert.KernelIdeal.Own.K3.hs3_2 t) inb_S512x1024_S512x1024_0_0 _)) (readU (Cert.KernelIdeal.Own.K3.hs3_3 t) inb_S1024x512_S1024x512_0_0 _)
theorem aft5_3 (V : (c : Dev nD) → (b : Ref sig .tc) → Buf (Elt F) ((c : Thread nD τ).loc b)) (D : Dev nD → CellTallies nD τ sig (HIx 2)) (B : Set (SemLoc sig × HIx 2)) (c : Dev nD)
    (t : Fin cfg5.N) : (D5 V D B c).after 3 t
      = k5_pay1 (Cert.KernelIdeal.Own.K5.iblk V c 0 t) (Cert.KernelIdeal.Own.K5.iblk V c 1 t) (Cert.KernelIdeal.Own.K5.iblk V c 2 t) := by
  rw [Cert.KernelIdeal.Own.K5.after5_3]
  unfold Cert.KernelIdeal.Own.K5.outsAt5
  dsimp only
  unfold Cert.KernelIdeal.Own.K5.out5_A_3
  refine (View.read_writes_full _ _ _ _ _).trans ?_
  exact congr (congr (congrArg k5_pay1 (readU (Cert.KernelIdeal.Own.K5.hs5_0 t) inb_S512x1024_S512x1024_0_0 _)) (readU (Cert.KernelIdeal.Own.K5.hs5_1 t) inb_S512x1024_S512x1024_0_0 _))
    (readU (Cert.KernelIdeal.Own.K5.hs5_2 t) inb_S512x1024_S512x1024_0_0 _)

/-! ## The router's arrays -/

section Arrays

variable (m : (ℓ : Loc nD τ sig) → Buf (Elt F) ℓ) (c : Dev nD)

theorem ix0_0 : ∀ t : Fin cfg0.N, win0_0.index t = ![0, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)

theorem blk0_0 (V : (c : Dev nD) → (b : Ref sig .tc) → Buf (Elt F) ((c : Thread nD τ).loc b)) (t : Fin cfg0.N) : rx V c t = V c main_arg0 := by
  funext y
  show V c main_arg0 ((win0_0.blk t).view.emb y) = V c main_arg0 y
  congr 1
  blk_ext [ix0_0 t]
theorem blk0_1 (V : (c : Dev nD) → (b : Ref sig .tc) → Buf (Elt F) ((c : Thread nD τ).loc b)) (t : Fin cfg0.N) : rg V c t = V c main_arg1 := by
  funext y
  show V c main_arg1 ((win0_1.blk t).view.emb y) = V c main_arg1 y
  congr 1
  blk_ext [ix0_1 t]
theorem blk0_2 (V : (c : Dev nD) → (b : Ref sig .tc) → Buf (Elt F) ((c : Thread nD τ).loc b)) (t : Fin cfg0.N) : rb V c t = V c main_v0 := by
  funext y
  show V c main_v0 ((win0_2.blk t).view.emb y) = V c main_v0 y
  congr 1
  blk_ext [ix0_2 t]

theorem rP0_eq : rP0 m c = oP0 (Wa m c bA0) (Wa m c bA1) (Wa m c bV0) := by
  refine (d0 m c).arrAt_eq_of_after_last 3 t0_0 (by decide +kernel) _ fun j => ?_
  show (d0 m c).after 3 t0_0 _ = _
  rw [show (d0 m c).after 3 t0_0 = _ from aft0_3 (VV (Wa m)) (Dn F 0) (Bn F 0 c) c t0_0, blk0_0, blk0_1, blk0_2]
  rfl
theorem rP1_eq : rP1 m c = oP1 (Wa m c bA0) (Wa m c bA1) (Wa m c bV0) := by
  refine (d0 m c).arrAt_eq_of_after_last 4 t0_0 (by decide +kernel) _ fun j => ?_
  show (d0 m c).after 4 t0_0 _ = _
  rw [show (d0 m c).after 4 t0_0 = _ from aft0_4 (VV (Wa m)) (Dn F 0) (Bn F 0 c) c t0_0, blk0_0, blk0_1, blk0_2]
  rfl
theorem rW0_eq : rW0 m c = oW0 (Wa m c bA0) (Wa m c bA1) (Wa m c bV0) := by
  refine (d0 m c).arrAt_eq_of_after_last 5 t0_0 (by decide +kernel) _ fun j => ?_
  show (d0 m c).after 5 t0_0 _ = _
  rw [show (d0 m c).after 5 t0_0 = _ from aft0_5 (VV (Wa m)) (Dn F 0) (Bn F 0 c) c t0_0, blk0_0, blk0_1, blk0_2]
  rfl
theorem rW1_eq : rW1 m c = oW1 (Wa m c bA0) (Wa m c bA1) (Wa m c bV0) := by
  refine (d0 m c).arrAt_eq_of_after_last 6 t0_0 (by decide +kernel) _ fun j => ?_
  show (d0 m c).after 6 t0_0 _ = _
  rw [show (d0 m c).after 6 t0_0 = _ from aft0_6 (VV (Wa m)) (Dn F 0) (Bn F 0 c) c t0_0, blk0_0, blk0_1, blk0_2]
  rfl
theorem rE0_eq : rE0 m c = oE0 (Wa m c bA0) (Wa m c bA1) (Wa m c bV0) := by
  refine (d0 m c).arrAt_eq_of_after_last 7 t0_0 (by decide +kernel) _ fun j => ?_
  show (d0 m c).after 7 t0_0 _ = _
  rw [show (d0 m c).after 7 t0_0 = _ from aft0_7 (VV (Wa m)) (Dn F 0) (Bn F 0 c) c t0_0, blk0_0, blk0_1, blk0_2]
  rfl
theorem rE1_eq : rE1 m c = oE1 (Wa m c bA0) (Wa m c bA1) (Wa m c bV0) := by
  refine (d0 m c).arrAt_eq_of_after_last 8 t0_0 (by decide +kernel) _ fun j => ?_
  show (d0 m c).after 8 t0_0 _ = _
  rw [show (d0 m c).after 8 t0_0 = _ from aft0_8 (VV (Wa m)) (Dn F 0) (Bn F 0 c) c t0_0, blk0_0, blk0_1, blk0_2]
  rfl

end Arrays

end Cert.Proof.Kernel

end
-- ==== Proof.KernelRoute.lean ====
/-
  The router's positions and its blocks' experts, as the naturals counted in the companion module, given that the two
  arrays of bits choose one expert a token each.
-/
module

public import proofs.«01_k».proof.Proof.KernelCounts
public import proofs.«01_k».proof.Proof.KernelOut
public import Idealize.ShloMosaic.Lib.Pointwise
public import Idealize.ShloMosaic.Lib.Routing.BitFacts

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

section Route

variable {f₁ f₂ : Fin 2048 → Fin 8} {S₁ S₂ : IVec S2048x8 1}

theorem half1_last (h₁ : Picks f₁ S₁) : Last (hit f₁) 512 (k0_pay18 (k0_pay16 S₁)) := last18 (last16 (last14 h₁))
theorem half2_last (h₂ : Picks f₂ S₂) : Last (hit f₂) 512 (k0_pay19 (k0_pay17 S₂)) := last19 (last17 (last15 h₂))

variable {A B : FVec Ideal S2048x8 .f32} (hA : Last (hit f₁) 512 A) (hB : Last (hit f₂) 512 B)

include hA in
theorem p20_val (t : Fin 2048) (e : Fin 8) : k0_pay20 A (ValueIdx.ix2 t e) = nn (cntTo f₁ e t) := cnt_of_last (last20 hA) t e
include hB in
theorem p21_val (t : Fin 2048) (e : Fin 8) : k0_pay21 B (ValueIdx.ix2 t e) = nn (cntTo f₂ e t) := cnt_of_last (last21 hB) t e

include hA in
theorem p22_val (e : Fin 8) : k0_pay22 A (ValueIdx.ix2 0 e) = nn (tot f₁ e) := by
  refine (extractStridedSlice_apply _ (k0_pay20 A) slices_S2048x8_o2047_0_S1x8 (ValueIdx.ix2 0 e) (ValueIdx.ix2 ⟨2047, by omega⟩ e)
    fun b => by fin_cases b <;> simp).trans ?_
  exact p20_val hA _ _

theorem round_word {n : ℕ} (h : n ≤ 4096) :
    IntOp.shli .vector (IntOp.shrsi .vector (BitVec.ofNat 32 n + 256#32 - 1#32) 8#32) 8#32 = BitVec.ofNat 32 ((n + 255) / 256 * 256) := by
  have e : BitVec.ofNat 32 n + 256#32 - 1#32 = BitVec.ofNat 32 (n + 255) := by
    apply BitVec.eq_of_toNat_eq
    simp
    omega
  have hm : (BitVec.ofNat 32 (n + 255)).msb = false := Routing.msb_ofNat32 (by omega)
  rw [e]
  unfold IntOp.shli IntOp.shrsi
  rw [if_pos (by decide), if_pos (by decide)]
  unfold BitVec.sshiftRight'
  rw [BitVec.sshiftRight_eq_of_msb_false hm]
  apply BitVec.eq_of_toNat_eq
  simp [Nat.shiftLeft_eq, Nat.shiftRight_eq_div_pow]
  omega

include hA hB in
theorem p24_val (e : Fin 8) : k0_pay24 A B (ValueIdx.ix2 0 e) = BitVec.ofNat 32 (padc f₁ f₂ e) := by
  have h2 : extractStridedSlice S1x8 ![2047, 0] (k0_pay21 B) slices_S2048x8_o2047_0_S1x8 (ValueIdx.ix2 0 e) = nn (tot f₂ e) := by
    refine (extractStridedSlice_apply _ (k0_pay21 B) slices_S2048x8_o2047_0_S1x8 (ValueIdx.ix2 0 e) (ValueIdx.ix2 ⟨2047, by omega⟩ e)
      fun b => by fin_cases b <;> simp).trans ?_
    exact p21_val hB _ _
  have hle1 := tot_le f₁ e
  have hle2 := tot_le f₂ e
  show IntOp.shli .vector (IntOp.shrsi .vector (Ideal.fptosi 32 (k0_pay22 A (ValueIdx.ix2 0 e) + extractStridedSlice S1x8 ![2047, 0] (k0_pay21 B) slices_S2048x8_o2047_0_S1x8 (ValueIdx.ix2 0 e)) + 256#32 - 1#32) 8#32) 8#32 = _
  rw [h2, p22_val hA, nn_add, fptosi_nn (by omega), round_word (by omega)]
  rfl

theorem p25_of {p : Fin 8 → ℕ} (h : ∀ e, k0_pay24 A B (ValueIdx.ix2 0 e) = BitVec.ofNat 32 (p e)) (e : Fin 8) :
    k0_pay25 A B (ValueIdx.ix2 0 e) = BitVec.ofNat 32 (∑ e' ∈ Finset.univ.filter (· < e), p e') := by
  have h' : ∀ e, k0_pay24 A B (Idealize.ShloMosaic.ix2 0 e) = BitVec.ofNat 32 (p e) := h
  rw [Finset.sum_filter, Fin.sum_univ_eight]
  fin_cases e <;> pointwise [k0_pay25] <;> simp only [h, h', IntOp.subi, IntOp.addi] <;> simp (decide := true) only [if_true, if_false, BitVec.ofNat_add, show (0#32 : BitVec 32) = 0 from rfl] <;> ring

include hA hB in
theorem p25_val (e : Fin 8) : k0_pay25 A B (ValueIdx.ix2 0 e) = BitVec.ofNat 32 (start f₁ f₂ e) := p25_of (p24_val hA hB) e

theorem sitofp_nat {n : ℕ} (h : n < 2 ^ 31) : (((BitVec.ofNat 32 n).toInt : ℝ) : EReal) = nn n := by
  rw [BitVec.toInt_eq_toNat_of_lt (by simp; omega), BitVec.toNat_ofNat, Nat.mod_eq_of_lt (by omega)]
  unfold nn
  simp

include hA hB in
theorem p26_val (e : Fin 8) : k0_pay26 A B (ValueIdx.ix2 0 e) = nn (start f₁ f₂ e) := by
  show (((k0_pay25 A B (ValueIdx.ix2 0 e)).toInt : ℝ) : EReal) = _
  rw [p25_val hA hB]
  exact sitofp_nat (by have := start_add_le_all f₁ f₂ e; omega)

/-- A sum over the experts of an array against the bits of a choice. -/
theorem sum_pick (f : Fin 2048 → Fin 8) (t : Fin 2048) (x : Fin 8 → EReal) : (∑ e, (if e = f t then (1 : EReal) else 0) * x e) = x (f t) := by
  rw [Finset.sum_eq_single (f t)]
  · rw [if_pos rfl, one_mul]
  · intro e _ he
    rw [if_neg he, zero_mul]
  · intro h
    exact absurd (Finset.mem_univ _) h

include hA hB in
theorem p27_val (h₁ : Picks f₁ S₁) (t : Fin 2048) : k0_pay27 (k0_pay14 S₁) A B (ValueIdx.ix1 t) = nn (posA f₁ f₂ t) := by
  have e : k0_pay27 (k0_pay14 S₁) A B (ValueIdx.ix1 t)
      = ∑ e : Fin 8, k0_pay14 S₁ (ValueIdx.ix2 t e) * (k0_pay26 A B (ValueIdx.ix2 0 e) + (k0_pay20 A (ValueIdx.ix2 t e) - k0_pay14 S₁ (ValueIdx.ix2 t e))) := by
    pointwise [k0_pay27]
    rfl
  rw [e]
  simp only [picks_val h₁]
  rw [sum_pick f₁ t fun e => k0_pay26 A B (ValueIdx.ix2 0 e) + (k0_pay20 A (ValueIdx.ix2 t e) - if e = f₁ t then (1 : EReal) else 0)]
  rw [p26_val hA hB, p20_val hA, if_pos rfl, ← nn_one, nn_sub (cntTo_pos f₁ t), nn_add]
  rfl

include hA hB in
theorem p2_val (h₂ : Picks f₂ S₂) (t : Fin 2048) :
    k0_pay2 (k0_pay15 S₂) (k0_pay22 A) (k0_pay23 (k0_pay15 S₂) B) (k0_pay26 A B) (ValueIdx.ix2 t 0) = BitVec.ofNat 32 (posB f₁ f₂ t) := by
  have e : k0_pay2 (k0_pay15 S₂) (k0_pay22 A) (k0_pay23 (k0_pay15 S₂) B) (k0_pay26 A B) (ValueIdx.ix2 t 0)
      = Ideal.fptosi 32 (∑ e : Fin 8, k0_pay15 (F := Ideal) S₂ (ValueIdx.ix2 t e) * ((k0_pay26 A B (ValueIdx.ix2 0 e) + k0_pay22 A (ValueIdx.ix2 0 e))
          + (k0_pay21 B (ValueIdx.ix2 t e) - k0_pay15 (F := Ideal) S₂ (ValueIdx.ix2 t e)))) := by
    pointwise [k0_pay2, k0_pay23]
    rfl
  have hp : ∀ (t : Fin 2048) (e : Fin 8), k0_pay15 (F := Ideal) S₂ (ValueIdx.ix2 t e) = if e = f₂ t then 1 else 0 := picks_val h₂
  rw [e]
  simp only [hp]
  rw [sum_pick f₂ t fun e => (k0_pay26 A B (ValueIdx.ix2 0 e) + k0_pay22 A (ValueIdx.ix2 0 e)) + (k0_pay21 B (ValueIdx.ix2 t e) - if e = f₂ t then (1 : EReal) else 0)]
  rw [p26_val hA hB, p22_val hA, p21_val hB, if_pos rfl, ← nn_one, nn_sub (cntTo_pos f₂ t), nn_add, nn_add]
  exact fptosi_nn (by have := posB_lt f₁ f₂ t; unfold posB at this; omega)

include hA hB in
theorem p1_val (h₁ : Picks f₁ S₁) (t : Fin 2048) :
    k0_pay1 (k0_pay27 (k0_pay14 S₁) A B) (ValueIdx.ix2 t 0) = BitVec.ofNat 32 (posA f₁ f₂ t) := by
  have e : k0_pay1 (k0_pay27 (k0_pay14 S₁) A B) (ValueIdx.ix2 t 0) = Ideal.fptosi 32 (k0_pay27 (k0_pay14 S₁) A B (ValueIdx.ix1 t)) := by
    pointwise [k0_pay1]
    rfl
  rw [e, p27_val hA hB h₁]
  exact fptosi_nn (by have := posA_lt f₁ f₂ t; omega)

/-! ## The blocks -/

/-- Block `b` lies in the group of expert `e`. -/
def Lies (f₁ f₂ : Fin 2048 → Fin 8) (b : Fin 24) (e : Fin 8) : Prop := start f₁ f₂ e ≤ 256 * b.val ∧ 256 * b.val < start f₁ f₂ e + padc f₁ f₂ e

include hA hB in
open Classical in
theorem p3_val (b : Fin 24) (e : Fin 8) : k0_pay3 (k0_pay24 A B) (k0_pay25 A B) (ValueIdx.ix2 b e) = if Lies f₁ f₂ b e then 1#1 else 0#1 := by
  have h : k0_pay3 (k0_pay24 A B) (k0_pay25 A B) (ValueIdx.ix2 b e)
      = IntOp.andi (IntOp.cmpi .sle (k0_pay25 A B (ValueIdx.ix2 0 e)) (IntOp.muli (BitVec.ofNat 32 b.val) 256#32))
          (IntOp.cmpi .slt (IntOp.muli (BitVec.ofNat 32 b.val) 256#32) (IntOp.addi (k0_pay25 A B (ValueIdx.ix2 0 e)) (k0_pay24 A B (ValueIdx.ix2 0 e)))) := by
    pointwise [k0_pay3]
    rfl
  have hs := start_add_le_all f₁ f₂ e
  have hb := b.isLt
  rw [h, p25_val hA hB, p24_val hA hB]
  have e1 : IntOp.muli (BitVec.ofNat 32 b.val) 256#32 = BitVec.ofNat 32 (256 * b.val) := by
    unfold IntOp.muli
    apply BitVec.eq_of_toNat_eq
    simp [Nat.mul_comm]
  have e2 : IntOp.addi (BitVec.ofNat 32 (start f₁ f₂ e)) (BitVec.ofNat 32 (padc f₁ f₂ e)) = BitVec.ofNat 32 (start f₁ f₂ e + padc f₁ f₂ e) :=
    (BitVec.ofNat_add _ _).symm
  rw [e1, e2]
  show BitVec.ofBool ((BitVec.ofNat 32 (start f₁ f₂ e)).sle (BitVec.ofNat 32 (256 * b.val)))
    &&& BitVec.ofBool ((BitVec.ofNat 32 (256 * b.val)).slt (BitVec.ofNat 32 (start f₁ f₂ e + padc f₁ f₂ e))) = _
  rw [Routing.sle_ofNat32 (by omega) (by omega), Routing.slt_ofNat32 (by omega) (by omega)]
  unfold Lies
  by_cases h1 : start f₁ f₂ e ≤ 256 * b.val <;> by_cases h2 : 256 * b.val < start f₁ f₂ e + padc f₁ f₂ e <;> simp [h1, h2]

theorem fold_addi (x : Fin 8 → BitVec 32) : Finset.univ.fold IntOp.addi (0#32) x = ∑ e, x e := (Finset.sum_eq_fold _ _).symm

theorem p4_fold (P Q : IVec S1x8 32) (b : Fin 24) : k0_pay4 P Q (ValueIdx.ix2 b 0) = ∑ e : Fin 8, (k0_pay3 P Q (ValueIdx.ix2 b e)).setWidth 32 := by
  pointwise [k0_pay4]
  exact fold_addi _
theorem p5_fold (P Q : IVec S1x8 32) (b : Fin 24) : k0_pay5 P Q (ValueIdx.ix2 b 0)
    = (∑ e : Fin 8, if k0_pay3 P Q (ValueIdx.ix2 b e) = 1#1 then BitVec.ofNat 32 e.val else 0#32) + 7#32 * (1#32 - k0_pay4 P Q (ValueIdx.ix2 b 0)) := by
  pointwise [k0_pay5]
  exact congrArg₂ (· + ·) (fold_addi _) rfl

include hA hB in
theorem block_live {b : Fin 24} {e : Fin 8} (h : Lies f₁ f₂ b e) :
    k0_pay4 (k0_pay24 A B) (k0_pay25 A B) (ValueIdx.ix2 b 0) = 1#32 ∧ k0_pay5 (k0_pay24 A B) (k0_pay25 A B) (ValueIdx.ix2 b 0) = BitVec.ofNat 32 e.val := by
  classical
  have hl : ∀ e', Lies f₁ f₂ b e' ↔ e' = e := fun e' => ⟨fun h' => group_unique f₁ f₂ h' h, fun h' => h' ▸ h⟩
  have h4 : k0_pay4 (k0_pay24 A B) (k0_pay25 A B) (ValueIdx.ix2 b 0) = 1#32 := by
    rw [p4_fold, Finset.sum_eq_single e]
    · rw [p3_val hA hB, if_pos h]; rfl
    · intro e' _ he
      rw [p3_val hA hB, if_neg fun hh => he ((hl e').1 hh)]; rfl
    · exact fun hh => absurd (Finset.mem_univ _) hh
  refine ⟨h4, ?_⟩
  rw [p5_fold, h4, Finset.sum_eq_single e]
  · rw [p3_val hA hB, if_pos h, if_pos rfl]
    simp
  · intro e' _ he
    rw [p3_val hA hB, if_neg fun hh => he ((hl e').1 hh)]; rfl
  · exact fun hh => absurd (Finset.mem_univ _) hh

include hA hB in
theorem block_dead {b : Fin 24} (h : ∀ e, ¬ Lies f₁ f₂ b e) : k0_pay5 (k0_pay24 A B) (k0_pay25 A B) (ValueIdx.ix2 b 0) = 7#32 := by
  classical
  have h4 : k0_pay4 (k0_pay24 A B) (k0_pay25 A B) (ValueIdx.ix2 b 0) = 0#32 := by
    rw [p4_fold]
    exact Finset.sum_eq_zero fun e _ => by rw [p3_val hA hB, if_neg (h e)]; rfl
  rw [p5_fold, h4, Finset.sum_eq_zero fun e _ => by rw [p3_val hA hB, if_neg (h e)]; rfl]
  rfl

include hA hB in
theorem block_lt (b : Fin 24) : (k0_pay5 (k0_pay24 A B) (k0_pay25 A B) (ValueIdx.ix2 b 0)).toNat < 8 := by
  by_cases h : ∃ e, Lies f₁ f₂ b e
  · obtain ⟨e, he⟩ := h
    rw [(block_live hA hB he).2, BitVec.toNat_ofNat]
    have := e.isLt
    omega
  · rw [block_dead hA hB fun e he => h ⟨e, he⟩]
    decide

/-- A position's block lies in its group. -/
theorem lies_of_mem {p : ℕ} {e : Fin 8} (h : start f₁ f₂ e ≤ p ∧ p < start f₁ f₂ e + padc f₁ f₂ e) (b : Fin 24) (hb : b.val = p / 256) : Lies f₁ f₂ b e := by
  obtain ⟨x, hx⟩ := start_dvd f₁ f₂ e
  obtain ⟨y, hy⟩ := padc_dvd f₁ f₂ e
  unfold Lies
  omega

end Route

end Cert.Proof.Kernel

end
-- ==== Proof.KernelChoice.lean ====
/-
  The router's two choices: each token's first and second expert are the first places of the largest score and of the
  largest score left when the first choice is masked.
-/
module

public import proofs.«01_k».proof.Proof.KernelRoute
public import proofs.«01_k».proof.Proof.KernelVals
public import Idealize.ShloMosaic.Lib.Pointwise
public import Idealize.ShloMosaic.Lib.Routing.BitFacts

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-! ## The first place of a largest value -/

theorem exists_firstMax (v : Fin 8 → EReal) : ∃ i : Fin 8, (∀ j, v j ≤ v i) ∧ ∀ j, j < i → v j < v i := by
  classical
  obtain ⟨k, _, hk⟩ := Finset.exists_max_image Finset.univ v ⟨0, Finset.mem_univ _⟩
  let s := Finset.univ.filter fun i => ∀ j, v j ≤ v i
  have hs : s.Nonempty := ⟨k, Finset.mem_filter.2 ⟨Finset.mem_univ _, fun j => hk j (Finset.mem_univ _)⟩⟩
  refine ⟨s.min' hs, (Finset.mem_filter.1 (s.min'_mem hs)).2, fun j hj => ?_⟩
  by_contra hn
  have hm : j ∈ s := Finset.mem_filter.2 ⟨Finset.mem_univ _, fun j' => ((Finset.mem_filter.1 (s.min'_mem hs)).2 j').trans (not_lt.1 hn)⟩
  exact absurd (s.min'_le j hm) (not_le.2 hj)

/-- The first place of the largest of eight values. -/
def firstMax (v : Fin 8 → EReal) : Fin 8 := Classical.choose (exists_firstMax v)

theorem firstMax_le (v : Fin 8 → EReal) (j : Fin 8) : v j ≤ v (firstMax v) := (Classical.choose_spec (exists_firstMax v)).1 j
theorem firstMax_lt (v : Fin 8 → EReal) {j : Fin 8} (h : j < firstMax v) : v j < v (firstMax v) := (Classical.choose_spec (exists_firstMax v)).2 j h

theorem firstMax_eq {v : Fin 8 → EReal} {i : Fin 8} (h : ∀ j, v j ≤ v i) (h' : ∀ j, j < i → v j < v i) : firstMax v = i := by
  rcases lt_trichotomy (firstMax v) i with hl | he | hl
  · exact absurd (h' _ hl) (not_lt.2 (firstMax_le v i))
  · exact he
  · exact absurd (firstMax_lt v hl) (not_lt.2 (h _))

theorem bot_word : Ideal.ofBits .f32 0xFF800000#32 = ⊥ := by simp [Ideal.ofBits, Ideal.ieee]

theorem fold_max_eq (v : Fin 8 → EReal) : Finset.univ.fold max (Ideal.ofBits .f32 0xFF800000#32) v = v (firstMax v) := by
  rw [bot_word]
  apply le_antisymm
  · exact (Finset.fold_max_le _).2 ⟨bot_le, fun x _ => firstMax_le v x⟩
  · exact (Finset.le_fold_max _).2 (Or.inr ⟨firstMax v, Finset.mem_univ _, le_rfl⟩)

theorem toInt_minsi (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.1 h)]

/-- The least place whose value reaches the largest is the first place of the largest. -/
theorem fold_min_eq (v : Fin 8 → EReal) :
    Finset.univ.fold IntOp.minsi (2147483647#32) (fun e : Fin 8 => if Finset.univ.fold max (Ideal.ofBits .f32 0xFF800000#32) v ≤ v e then BitVec.ofNat 32 e.val else 8#32)
      = BitVec.ofNat 32 (firstMax v).val := by
  classical
  apply BitVec.eq_of_toInt_eq
  rw [← Finset.fold_hom (op' := min) (m := BitVec.toInt) toInt_minsi, fold_max_eq]
  have hi : ∀ e : Fin 8, (BitVec.ofNat 32 e.val).toInt = (e.val : ℤ) := by decide
  rw [hi]
  apply le_antisymm
  · exact (Finset.fold_min_le _).2 (Or.inr ⟨firstMax v, Finset.mem_univ _, by rw [if_pos le_rfl, hi]⟩)
  · refine (Finset.le_fold_min _).2 ⟨?_, fun e _ => ?_⟩
    · have := (firstMax v).isLt
      have h2 : (2147483647#32 : BitVec 32).toInt = 2147483647 := by decide
      rw [h2]; omega
    · split_ifs with h
      · rw [hi]
        by_contra hn
        have hl : e < firstMax v := by
          have : e.val < (firstMax v).val := by omega
          exact this
        exact absurd (firstMax_lt v hl) (not_lt.2 h)
      · have := (firstMax v).isLt
        have h2 : (8#32 : BitVec 32).toInt = 8 := by decide
        rw [h2]; omega

theorem cmp_place (e i : Fin 8) : IntOp.cmpi .eq (BitVec.ofNat 32 e.val) (BitVec.ofNat 32 i.val) = if e = i then 1#1 else 0#1 := by
  revert e i; decide

/-! ## The choices -/

section Choice

variable (x : Vec Ideal S2048x1024 .f32) (g : Vec Ideal S8x1024 .f32) (b : Vec Ideal S1x8 .f32)

/-- A token's score for an expert, and the score with the expert's correction. -/
def sco (t : Fin 2048) (e : Fin 8) : EReal := Ideal.logistic (∑ k : Fin 1024, x (ValueIdx.ix2 t k) * g (ValueIdx.ix2 e k))
def cho (t : Fin 2048) (e : Fin 8) : EReal := sco x g t e + b (ValueIdx.ix2 0 e)

/-- A token's first choice, its scores with that one masked, and its second choice. -/
def fst (t : Fin 2048) : Fin 8 := firstMax (cho x g b t)
def msk (t : Fin 2048) (e : Fin 8) : EReal := if e = fst x g b t then ⊥ else cho x g b t e
def snd (t : Fin 2048) : Fin 8 := firstMax (msk x g b t)

theorem p6_val (t : Fin 2048) (e : Fin 8) : k0_pay6 x g (ValueIdx.ix2 t e) = sco x g t e := by
  pointwise [k0_pay6]
  rfl
theorem p7_val (t : Fin 2048) (e : Fin 8) : k0_pay7 x g b (ValueIdx.ix2 t e) = cho x g b t e := by
  pointwise [k0_pay7, k0_pay6]
  rfl

theorem p8_val : Picks (fst x g b) (sel1 x g b) := by
  intro t e
  show k0_pay8 x g b (ValueIdx.ix2 t e) = _
  have h : k0_pay8 x g b (ValueIdx.ix2 t e) = IntOp.cmpi .eq (BitVec.ofNat 32 e.val)
      (Finset.univ.fold IntOp.minsi (2147483647#32) (fun e' : Fin 8 =>
        if Finset.univ.fold max (Ideal.ofBits .f32 0xFF800000#32) (fun e' => k0_pay7 x g b (ValueIdx.ix2 t e')) ≤ k0_pay7 x g b (ValueIdx.ix2 t e') then BitVec.ofNat 32 e'.val else 8#32)) := by
    pointwise [k0_pay8]
    rfl
  rw [h]
  simp only [p7_val]
  rw [show (fun e' => cho x g b t e') = cho x g b t from rfl, fold_min_eq, cmp_place]
  rfl

theorem p9_val : Picks (snd x g b) (sel2 x g b) := by
  intro t e
  show k0_pay9 x g b (ValueIdx.ix2 t e) = _
  have h : k0_pay9 x g b (ValueIdx.ix2 t e) = IntOp.cmpi .eq (BitVec.ofNat 32 e.val)
      (Finset.univ.fold IntOp.minsi (2147483647#32) (fun e' : Fin 8 =>
        if Finset.univ.fold max (Ideal.ofBits .f32 0xFF800000#32) (fun e' => Scalar.select (k0_pay8 x g b (ValueIdx.ix2 t e')) (⊥ : EReal) (k0_pay7 x g b (ValueIdx.ix2 t e')))
          ≤ Scalar.select (k0_pay8 x g b (ValueIdx.ix2 t e')) (⊥ : EReal) (k0_pay7 x g b (ValueIdx.ix2 t e')) then BitVec.ofNat 32 e'.val else 8#32)) := by
    pointwise [k0_pay9]
    rfl
  have hm : ∀ e', Scalar.select (k0_pay8 x g b (ValueIdx.ix2 t e')) (⊥ : EReal) (k0_pay7 x g b (ValueIdx.ix2 t e')) = msk x g b t e' := by
    intro e'
    rw [p7_val, show k0_pay8 x g b (ValueIdx.ix2 t e') = _ from p8_val x g b t e']
    unfold msk
    by_cases he : e' = fst x g b t
    · rw [if_pos he, if_pos he]; rfl
    · rw [if_neg he, if_neg he]; rfl
  rw [h]
  simp only [hm]
  rw [show (fun e' => msk x g b t e') = msk x g b t from rfl, fold_min_eq, cmp_place]
  rfl

/-- With every corrected score above the mask, the two choices differ. -/
theorem snd_ne_fst (hc : ∀ t e, cho x g b t e ≠ ⊥) (t : Fin 2048) : snd x g b t ≠ fst x g b t := by
  intro h
  have h1 : msk x g b t (snd x g b t) = ⊥ := by unfold msk; rw [if_pos h]
  obtain ⟨e, he⟩ : ∃ e : Fin 8, e ≠ fst x g b t := ⟨fst x g b t + 1, (by decide : ∀ a : Fin 8, a + 1 ≠ a) _⟩
  have h2 : msk x g b t e ≤ msk x g b t (snd x g b t) := firstMax_le (msk x g b t) e
  rw [h1, le_bot_iff] at h2
  unfold msk at h2
  rw [if_neg he] at h2
  exact hc t e h2

/-! ## The weights -/

/-- The sum of the two chosen scores. -/
def wsum (t : Fin 2048) : EReal := sco x g t (fst x g b t) + sco x g t (snd x g b t)

theorem sum_select {f : Fin 2048 → Fin 8} {S : IVec S2048x8 1} (h : Picks f S) (t : Fin 2048) (v : Fin 8 → EReal) :
    (∑ e, Scalar.select (S (ValueIdx.ix2 t e)) (v e) 0) = v (f t) := by
  rw [Finset.sum_eq_single (f t)]
  · rw [h t, if_pos rfl]; rfl
  · intro e _ he
    rw [h t, if_neg he]; rfl
  · exact fun hh => absurd (Finset.mem_univ _) hh

theorem p10_val (hc : ∀ t e, cho x g b t e ≠ ⊥) (t : Fin 2048) : k0_pay10 x g b (ValueIdx.ix2 t 0) = wsum x g b t := by
  have h : k0_pay10 x g b (ValueIdx.ix2 t 0) = ∑ e : Fin 8, Scalar.select (IntOp.ori (sel1 x g b (ValueIdx.ix2 t e)) (sel2 x g b (ValueIdx.ix2 t e))) (k0_pay6 x g (ValueIdx.ix2 t e)) (0 : EReal) := by
    pointwise [k0_pay10]
    rfl
  have hs : ∀ e : Fin 8, Scalar.select (IntOp.ori (sel1 x g b (ValueIdx.ix2 t e)) (sel2 x g b (ValueIdx.ix2 t e))) (k0_pay6 x g (ValueIdx.ix2 t e)) (0 : EReal)
      = (if e = fst x g b t then sco x g t e else 0) + (if e = snd x g b t then sco x g t e else 0) := by
    intro e
    rw [p8_val x g b t e, p9_val x g b t e, p6_val]
    have hne := snd_ne_fst x g b hc t
    by_cases h1 : e = fst x g b t
    · have h2 : e ≠ snd x g b t := fun h2 => hne (h2.symm.trans h1)
      rw [if_pos h1, if_neg h2, if_pos h1, if_neg h2, add_zero]; rfl
    · rw [if_neg h1, if_neg h1, zero_add]
      by_cases h2 : e = snd x g b t
      · rw [if_pos h2, if_pos h2]; rfl
      · rw [if_neg h2, if_neg h2]; rfl
  rw [h, Finset.sum_congr rfl fun e _ => hs e, Finset.sum_add_distrib, Finset.sum_ite_eq' Finset.univ (fst x g b t), Finset.sum_ite_eq' Finset.univ (snd x g b t),
    if_pos (Finset.mem_univ _), if_pos (Finset.mem_univ _)]
  rfl

/-- The scale of the weights. -/
def scl : EReal := Ideal.ofBits .f32 0x40200000#32

theorem oW0_val (hc : ∀ t e, cho x g b t e ≠ ⊥) (t : Fin 2048) (l : Fin 128) :
    oW0 x g b (ValueIdx.ix2 t l) = sco x g t (fst x g b t) * Ideal.div scl (wsum x g b t) := by
  have h : oW0 x g b (ValueIdx.ix2 t l) = (∑ e : Fin 8, Scalar.select (sel1 x g b (ValueIdx.ix2 t e)) (k0_pay6 x g (ValueIdx.ix2 t e)) (0 : EReal))
      * Ideal.div scl (k0_pay10 x g b (ValueIdx.ix2 t 0)) := by
    pointwise [oW0, k0_pay12, k0_pay11]
    rfl
  rw [h, p10_val x g b hc, sum_select (p8_val x g b) t fun e => k0_pay6 x g (ValueIdx.ix2 t e), p6_val]
theorem oW1_val (hc : ∀ t e, cho x g b t e ≠ ⊥) (t : Fin 2048) (l : Fin 128) :
    oW1 x g b (ValueIdx.ix2 t l) = sco x g t (snd x g b t) * Ideal.div scl (wsum x g b t) := by
  have h : oW1 x g b (ValueIdx.ix2 t l) = (∑ e : Fin 8, Scalar.select (sel2 x g b (ValueIdx.ix2 t e)) (k0_pay6 x g (ValueIdx.ix2 t e)) (0 : EReal))
      * Ideal.div scl (k0_pay10 x g b (ValueIdx.ix2 t 0)) := by
    pointwise [oW1, k0_pay13]
    rfl
  rw [h, p10_val x g b hc, sum_select (p9_val x g b) t fun e => k0_pay6 x g (ValueIdx.ix2 t e), p6_val]

/-! ## The positions and the blocks -/

theorem oP0_val (t : Fin 2048) : oP0 x g b (ValueIdx.ix2 t 0) = BitVec.ofNat 32 (posA (fst x g b) (snd x g b) t) :=
  p1_val (half1_last (p8_val x g b)) (half2_last (p9_val x g b)) (p8_val x g b) t
theorem oP1_val (t : Fin 2048) : oP1 x g b (ValueIdx.ix2 t 0) = BitVec.ofNat 32 (posB (fst x g b) (snd x g b) t) :=
  p2_val (half1_last (p8_val x g b)) (half2_last (p9_val x g b)) (p9_val x g b) t
theorem oE_live {k : Fin 24} {e : Fin 8} (h : Lies (fst x g b) (snd x g b) k e) :
    oE1 x g b (ValueIdx.ix2 k 0) = 1#32 ∧ oE0 x g b (ValueIdx.ix2 k 0) = BitVec.ofNat 32 e.val :=
  block_live (half1_last (p8_val x g b)) (half2_last (p9_val x g b)) h
theorem oE0_lt (k : Fin 24) : (oE0 x g b (ValueIdx.ix2 k 0)).toNat < 8 :=
  block_lt (half1_last (p8_val x g b)) (half2_last (p9_val x g b)) k

end Choice

end Cert.Proof.Kernel

end
-- ==== Proof.RefSort.lean ====
/-
  What a stable sort of eight values puts first and second, the larger first: the first place of the largest value, and
  the first place of the largest value left.
-/
module

public import proofs.«01_k».proof.Proof.KernelChoice
public import Idealize.ShloMosaic.Lib.SortFacts

@[expose] public section

noncomputable section

namespace Cert.Proof.Ref

open Idealize.ShloMosaic
open Cert.Proof.Kernel (firstMax firstMax_eq)

section Order

variable (v : Fin 8 → EReal) (R : Fin 8 → Fin 8 → Bool) (hR : ∀ a b, R a b = true ↔ v b < v a)

/-- `b` is placed before `c`: it is larger, or equal and earlier. -/
def Ahead (b c : Fin 8) : Prop := v c < v b ∨ (v b = v c ∧ b < c)

theorem Ahead.trans {v : Fin 8 → EReal} {a b c : Fin 8} (h : Ahead v a b) (h' : Ahead v b c) : Ahead v a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

include hR in
theorem insert_ahead (a : Fin 8) (l : List (Fin 8)) (hl : l.Pairwise (Ahead v)) (ha : ∀ b ∈ l, a < b) :
    (insertBefore R a l).Pairwise (Ahead v) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore R a l).mem_iff.mp hc) with rfl | hc'
      · exact Or.inl ((hR _ _).1 h)
      · exact hl.1 c hc'
    · rename_i h
      have hab : Ahead v a b := by
        rcases lt_or_eq_of_le (not_lt.1 fun hn => h ((hR b a).2 hn)) with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

include hR in
theorem sort_ahead (l : List (Fin 8)) (hl : l.Pairwise (· < ·)) : (stableSort R l).Pairwise (Ahead v) := by
  induction l with
  | nil => exact List.Pairwise.nil
  | cons a l ih =>
    rw [List.pairwise_cons] at hl
    unfold stableSort
    exact insert_ahead v R hR a _ (ih hl.2) fun b hb => hl.1 b ((perm_stableSort R l).mem_iff.mp hb)

include hR in
theorem from_ahead (i j : Fin 8) (hij : i < j) : Ahead v (sortedFrom R i) (sortedFrom R j) :=
  List.pairwise_iff_get.mp (sort_ahead v R hR (List.finRange 8) (by decide)) _ _ hij

include hR in
/-- The first place of the sort holds the first largest. -/
theorem from_zero : sortedFrom R 0 = firstMax v := by
  have h : ∀ j, j ≠ sortedFrom R 0 → Ahead v (sortedFrom R 0) j := by
    intro j hj
    obtain ⟨k, rfl⟩ := sortedFrom_surjective R j
    exact from_ahead v R hR 0 k (Fin.pos_iff_ne_zero.2 fun h => hj (by rw [h]))
  refine (firstMax_eq (fun j => ?_) fun j hj => ?_).symm
  · by_cases hj : j = sortedFrom R 0
    · rw [hj]
    · rcases h j hj with h | h
      · exact h.le
      · exact h.1.symm.le
  · rcases h j hj.ne with h | h
    · exact h
    · exact absurd h.2 (not_lt.2 hj.le)

include hR in
/-- The second place holds the first largest of the others, none of which is least. -/
theorem from_one (hv : ∀ e, v e ≠ ⊥) : sortedFrom R 1 = firstMax fun e => if e = firstMax v then ⊥ else v e := by
  have h0 := from_zero v R hR
  have hne : sortedFrom R 1 ≠ firstMax v := by
    rw [← h0]; exact fun h => absurd (sortedFrom_injective R h) (by decide)
  have h : ∀ j, j ≠ sortedFrom R 0 → j ≠ sortedFrom R 1 → Ahead v (sortedFrom R 1) j := by
    intro j hj hj'
    obtain ⟨k, rfl⟩ := sortedFrom_surjective R j
    have h0 : k ≠ 0 := fun h => hj (by rw [h])
    have h1 : k ≠ 1 := fun h => hj' (by rw [h])
    exact from_ahead v R hR 1 k ((by decide : ∀ k : Fin 8, k ≠ 0 → k ≠ 1 → 1 < k) k h0 h1)
  refine (firstMax_eq (fun j => ?_) fun j hj => ?_).symm
  · rw [if_neg hne]
    by_cases hj : j = firstMax v
    · rw [if_pos hj]; exact bot_le
    · rw [if_neg hj]
      by_cases hj' : j = sortedFrom R 1
      · rw [hj']
      · rcases h j (h0 ▸ hj) hj' with h | h
        · exact h.le
        · exact h.1.symm.le
  · rw [if_neg hne]
    by_cases hj1 : j = firstMax v
    · rw [if_pos hj1]; exact bot_lt_iff_ne_bot.2 (hv _)
    · rw [if_neg hj1]
      rcases h j (h0 ▸ hj1) hj.ne with h | h
      · exact h
      · exact absurd h.2 (not_lt.2 hj.le)

end Order

end Cert.Proof.Ref

end
-- ==== Proof.KernelRouted.lean ====
/-
  The routing tables as the calls find them: the two lists of positions, their lists of pieces, and the experts' blocks;
  and that they are as the scatter, the expert call and the gather ask.
-/
module

public import proofs.«01_k».proof.Proof.KernelChoice
public import proofs.«01_k».proof.Proof.KernelOut
public import proofs.«01_k».proof.Proof.KernelVals
public import Idealize.ShloMosaic.Lib.Pointwise
public import Idealize.ShloMosaic.Lib.Routing.BitFacts

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-! ## The memory through the host's operations -/

section Mem

variable {F : FTy → Type} [FloatOps F] [Named F]
variable (m : (ℓ : Loc nD τ sig) → Buf (Elt F) ℓ) (c : Dev nD)

/-- An array of the program's, at the start. -/
abbrev arg (b : Ref sig .tc) : Buf (Elt F) ((c, Proc.devRef (τ := τ) .tc b) : Loc nD τ sig) := m (c, Proc.devRef .tc b)

theorem Wa_A0 : Wa m c bA0 = arg m c main_arg0 := by
  unfold Wa ops0
  after_results <;> rfl
theorem Wa_A1 : Wa m c bA1 = arg m c main_arg1 := by
  unfold Wa ops0
  after_results <;> rfl
theorem Wa_V0 : Wa m c bV0 = shapeCast S1x8 (arg m c main_arg8 : S8.Idx → Elt F .f32) shapeCasts_S8_S1x8 := by
  unfold Wa ops0
  after_results <;> rfl

theorem Wb_P0 : Wb m c bP0 = rP0 m c := by
  unfold Wb
  rw [Function.update_of_ne (by decide), Function.update_of_ne (by decide), Function.update_of_ne (by decide), Function.update_of_ne (by decide),
    Function.update_of_ne (by decide), Function.update_self]
theorem Wb_P1 : Wb m c bP1 = rP1 m c := by
  unfold Wb
  rw [Function.update_of_ne (by decide), Function.update_of_ne (by decide), Function.update_of_ne (by decide), Function.update_of_ne (by decide),
    Function.update_self]
theorem Wb_W0 : Wb m c bW0 = rW0 m c := by
  unfold Wb
  rw [Function.update_of_ne (by decide), Function.update_of_ne (by decide), Function.update_of_ne (by decide), Function.update_self]
theorem Wb_W1 : Wb m c bW1 = rW1 m c := by
  unfold Wb
  rw [Function.update_of_ne (by decide), Function.update_of_ne (by decide), Function.update_self]
theorem Wb_E0 : Wb m c bE0 = rE0 m c := by
  unfold Wb
  rw [Function.update_of_ne (by decide), Function.update_self]
theorem Wb_E1 : Wb m c bE1 = rE1 m c := by
  unfold Wb
  rw [Function.update_self]
theorem Wb_keep (b : DevRef τ sig) (h : b ∉ [bP0, bP1, bW0, bW1, bE0, bE1]) : Wb m c b = Wa m c b := by
  simp only [List.mem_cons, List.not_mem_nil, or_false, not_or] at h
  unfold Wb
  rw [Function.update_of_ne h.2.2.2.2.2, Function.update_of_ne h.2.2.2.2.1, Function.update_of_ne h.2.2.2.1, Function.update_of_ne h.2.2.1,
    Function.update_of_ne h.2.1, Function.update_of_ne h.1]

/-- The list of piece numbers of a list of positions. -/
def pieces (p : IVec S2048 32) : IVec S8192 32 :=
  shapeCast S8192 (addi (broadcastInDim S2048x4 ![0, 1] bcast_S2048x1_S2048x4_0_1 (muli (broadcastInDim S2048x1 ![0] bcast_S2048_S2048x1_0 p)
      (broadcastInDim S2048x1 ![] bcast_S_S2048x1 (constantI S_ 32 4#32))))
    (broadcastInDim S2048x4 ![0, 1] bcast_S1x4_S2048x4_0_1 (broadcastInDim S1x4 ![1] bcast_S4_S1x4_1 (iotaInDim S4 32 0)))) shapeCasts_S2048x4_S8192

theorem Wc_P2 : Wc m c bP2 = shapeCast S2048 (rP0 m c : S2048x1.Idx → BitVec 32) shapeCasts_S2048x1_S2048 := by
  rw [← Wb_P0]
  unfold Wc ops1
  after_results <;> rfl
theorem Wc_P3 : Wc m c bP3 = shapeCast S2048 (rP1 m c : S2048x1.Idx → BitVec 32) shapeCasts_S2048x1_S2048 := by
  rw [← Wb_P1]
  unfold Wc ops1
  after_results <;> rfl
theorem Wc_L12 : Wc m c bL12 = pieces (Wc m c bP2) := by
  rw [Wc_P2, ← Wb_P0]
  unfold Wc ops1
  after_results <;> rfl
theorem Wc_L21 : Wc m c bL21 = pieces (Wc m c bP3) := by
  rw [Wc_P3, ← Wb_P1]
  unfold Wc ops1
  after_results <;> rfl
theorem Wc_X22 : Wc m c bX22 = shapeCast S8192x2x128 (arg m c main_arg0 : S2048x1024.Idx → Elt F .f32) shapeCasts_S2048x1024_S8192x2x128 := by
  rw [← Wa_A0, ← Wb_keep m c bA0 (by decide)]
  unfold Wc ops1
  after_results <;> rfl
theorem Wc_W0 : Wc m c bW0 = rW0 m c := by
  rw [← Wb_W0]
  unfold Wc ops1
  after_results <;> rfl
theorem Wc_W1 : Wc m c bW1 = rW1 m c := by
  rw [← Wb_W1]
  unfold Wc ops1
  after_results <;> rfl
theorem Wc_E0 : Wc m c bE0 = rE0 m c := by
  rw [← Wb_E0]
  unfold Wc ops1
  after_results <;> rfl
theorem Wc_E1 : Wc m c bE1 = rE1 m c := by
  rw [← Wb_E1]
  unfold Wc ops1
  after_results <;> rfl
theorem We_T26 : We m c bT26 = shapeCast S24 (rE0 m c : S24x1.Idx → BitVec 32) shapeCasts_S24x1_S24 := by
  rw [← Wc_E0, ← Function.update_of_ne (β := fun b : DevRef τ sig => Buf (Elt F) ((c, b) : Loc nD τ sig)) (show bE0 ≠ bX23 by decide) (sX m c) (Wc m c),
    ← Function.update_of_ne (β := fun b : DevRef τ sig => Buf (Elt F) ((c, b) : Loc nD τ sig)) (show bE0 ≠ bW23 by decide) (sW m c) (Function.update (Wc m c) bX23 (sX m c))]
  unfold We ops2
  after_results <;> rfl
theorem We_T27 : We m c bT27 = shapeCast S24 (rE1 m c : S24x1.Idx → BitVec 32) shapeCasts_S24x1_S24 := by
  rw [← Wc_E1, ← Function.update_of_ne (β := fun b : DevRef τ sig => Buf (Elt F) ((c, b) : Loc nD τ sig)) (show bE1 ≠ bX23 by decide) (sX m c) (Wc m c),
    ← Function.update_of_ne (β := fun b : DevRef τ sig => Buf (Elt F) ((c, b) : Loc nD τ sig)) (show bE1 ≠ bW23 by decide) (sW m c) (Function.update (Wc m c) bX23 (sX m c))]
  unfold We ops2
  after_results <;> rfl

end Mem

/-! ## A list of pieces, word by word -/

theorem pieces_apply (p : IVec S2048 32) (x : S8192.Idx) :
    pieces p x = p (ValueIdx.ix1 ⟨(x 0).val / 4, by have : (x 0).val < 8192 := (x 0).isLt; omega⟩) * 4#32 + BitVec.ofNat 32 ((x 0).val % 4) := by
  have hx : (x 0).val < 8192 := (x 0).isLt
  unfold pieces
  rw [shapeCast_apply _ _ x (ValueIdx.ix2 ⟨(x 0).val / 4, by omega⟩ ⟨(x 0).val % 4, Nat.mod_lt _ (by decide)⟩ : S2048x4.Idx)
    (by rw [Shape.rowMajor_val_two, Shape.rowMajor_val_one]
        show (x 0).val / 4 * 4 + (x 0).val % 4 = (x 0).val; omega)]
  simp only [addi, muli, constantI]
  rw [broadcastInDim_apply (s := S2048x1) _ _ _ _ (ValueIdx.ix2 ⟨(x 0).val / 4, by omega⟩ 0) (by intro a; fin_cases a <;> rfl),
    broadcastInDim_apply (s := S1x4) _ _ _ _ (ValueIdx.ix2 0 ⟨(x 0).val % 4, Nat.mod_lt _ (by decide)⟩) (by intro a; fin_cases a <;> rfl),
    broadcastInDim_apply (s := S4) _ _ _ _ (ValueIdx.ix1 ⟨(x 0).val % 4, Nat.mod_lt _ (by decide)⟩) (by intro a; fin_cases a; rfl)]
  show IntOp.addi (IntOp.muli (broadcastInDim S2048x1 ![0] bcast_S2048_S2048x1_0 p _) _) _ = _
  rw [broadcastInDim_apply (s := S2048) _ _ _ _ (ValueIdx.ix1 ⟨(x 0).val / 4, by omega⟩) (by intro a; fin_cases a; rfl)]
  rfl

/-- Of positions given as naturals, the piece numbers. -/
theorem pieces_nat (p : IVec S2048 32) (q : Fin 2048 → ℕ) (hq : ∀ t, q t < 6144) (hp : ∀ t, p (ValueIdx.ix1 t) = BitVec.ofNat 32 (q t)) (x : S8192.Idx) :
    (pieces p x).toNat = 4 * q ⟨(x 0).val / 4, by have : (x 0).val < 8192 := (x 0).isLt; omega⟩ + (x 0).val % 4 := by
  rw [pieces_apply, hp, BitVec.toNat_add, BitVec.toNat_mul, BitVec.toNat_ofNat, BitVec.toNat_ofNat, BitVec.toNat_ofNat]
  have := hq ⟨(x 0).val / 4, by have : (x 0).val < 8192 := (x 0).isLt; omega⟩
  omega

/-! ## The tables at the extended reals -/

section Tables

variable (m : (ℓ : Loc nD τ sig) → Buf (Elt Ideal) ℓ) (c : Dev nD)

/-- The tokens, the gate and the corrections as the router reads them. -/
abbrev xx : Vec Ideal S2048x1024 .f32 := m (c, bA0)
abbrev gg : Vec Ideal S8x1024 .f32 := m (c, bA1)
def bb : Vec Ideal S1x8 .f32 := shapeCast S1x8 (arg m c main_arg8 : S8.Idx → EReal) shapeCasts_S8_S1x8
/-- The experts chosen first and second. -/
abbrev f1 : Fin 2048 → Fin 8 := fst (xx m c) (gg m c) (bb m c)
abbrev f2 : Fin 2048 → Fin 8 := snd (xx m c) (gg m c) (bb m c)
/-- The positions of a token's two rows. -/
abbrev pA (t : Fin 2048) : ℕ := posA (f1 m c) (f2 m c) t
abbrev pB (t : Fin 2048) : ℕ := posB (f1 m c) (f2 m c) t

theorem pA_lt (t : Fin 2048) : pA m c t < 6144 := posA_lt _ _ t
theorem pB_lt (t : Fin 2048) : pB m c t < 6144 := posB_lt _ _ t
theorem pA_inj {t t' : Fin 2048} (h : pA m c t = pA m c t') : t = t' := posA_inj _ _ h
theorem pB_inj {t t' : Fin 2048} (h : pB m c t = pB m c t') : t = t' := posB_inj _ _ h
theorem pA_ne_pB (t t' : Fin 2048) : pA m c t ≠ pB m c t' := posA_ne_posB _ _ t t'

theorem rP0_val : rP0 m c = oP0 (xx m c) (gg m c) (bb m c) := by rw [rP0_eq, Wa_A0, Wa_A1, Wa_V0]; rfl
theorem rP1_val : rP1 m c = oP1 (xx m c) (gg m c) (bb m c) := by rw [rP1_eq, Wa_A0, Wa_A1, Wa_V0]; rfl
theorem rW0_val : rW0 m c = oW0 (xx m c) (gg m c) (bb m c) := by rw [rW0_eq, Wa_A0, Wa_A1, Wa_V0]; rfl
theorem rW1_val : rW1 m c = oW1 (xx m c) (gg m c) (bb m c) := by rw [rW1_eq, Wa_A0, Wa_A1, Wa_V0]; rfl
theorem rE0_val : rE0 m c = oE0 (xx m c) (gg m c) (bb m c) := by rw [rE0_eq, Wa_A0, Wa_A1, Wa_V0]; rfl
theorem rE1_val : rE1 m c = oE1 (xx m c) (gg m c) (bb m c) := by rw [rE1_eq, Wa_A0, Wa_A1, Wa_V0]; rfl

theorem P2_val (t : Fin 2048) : (Wc m c bP2 : S2048.Idx → BitVec 32) (ValueIdx.ix1 t) = BitVec.ofNat 32 (pA m c t) := by
  rw [Wc_P2, shapeCast_apply _ _ (ValueIdx.ix1 t) (ValueIdx.ix2 t 0 : S2048x1.Idx) (by rw [Shape.rowMajor_val_two, Shape.rowMajor_val_one]; show t.val * 1 + 0 = t.val; omega), rP0_val]
  exact oP0_val _ _ _ t
theorem P3_val (t : Fin 2048) : (Wc m c bP3 : S2048.Idx → BitVec 32) (ValueIdx.ix1 t) = BitVec.ofNat 32 (pB m c t) := by
  rw [Wc_P3, shapeCast_apply _ _ (ValueIdx.ix1 t) (ValueIdx.ix2 t 0 : S2048x1.Idx) (by rw [Shape.rowMajor_val_two, Shape.rowMajor_val_one]; show t.val * 1 + 0 = t.val; omega), rP1_val]
  exact oP1_val _ _ _ t
theorem T26_val (k : Fin 24) : (We m c bT26 : S24.Idx → BitVec 32) (ValueIdx.ix1 k) = oE0 (xx m c) (gg m c) (bb m c) (ValueIdx.ix2 k 0) := by
  rw [We_T26, shapeCast_apply _ _ (ValueIdx.ix1 k) (ValueIdx.ix2 k 0 : S24x1.Idx) (by rw [Shape.rowMajor_val_two, Shape.rowMajor_val_one]; show k.val * 1 + 0 = k.val; omega), rE0_val]
theorem T27_val (k : Fin 24) : (We m c bT27 : S24.Idx → BitVec 32) (ValueIdx.ix1 k) = oE1 (xx m c) (gg m c) (bb m c) (ValueIdx.ix2 k 0) := by
  rw [We_T27, shapeCast_apply _ _ (ValueIdx.ix1 k) (ValueIdx.ix2 k 0 : S24x1.Idx) (by rw [Shape.rowMajor_val_two, Shape.rowMajor_val_one]; show k.val * 1 + 0 = k.val; omega), rE1_val]

theorem L12_val (x : S8192.Idx) : BitVec.toNat (Wc m c bL12 x) = 4 * pA m c ⟨(x 0).val / 4, by have : (x 0).val < 8192 := (x 0).isLt; omega⟩ + (x 0).val % 4 := by
  rw [Wc_L12]; exact pieces_nat _ _ (posA_lt _ _) (P2_val m c) x
theorem L21_val (x : S8192.Idx) : BitVec.toNat (Wc m c bL21 x) = 4 * pB m c ⟨(x 0).val / 4, by have : (x 0).val < 8192 := (x 0).isLt; omega⟩ + (x 0).val % 4 := by
  rw [Wc_L21]; exact pieces_nat _ _ (posB_lt _ _) (P3_val m c) x

theorem idx1 {n : ℕ} (x : (⟨1, ![n]⟩ : Shape).Idx) : x = ValueIdx.ix1 (x 0) := by
  funext a
  obtain rfl : a = 0 := Subsingleton.elim (α := Fin 1) _ _
  rfl

theorem P2_nat (x : S2048.Idx) : BitVec.toNat (Wc m c bP2 x) = pA m c (x 0) := by
  have e := P2_val m c (x 0)
  have hx : x = ValueIdx.ix1 (x 0) := idx1 x
  refine (congrArg (fun z : S2048.Idx => BitVec.toNat (Wc m c bP2 z)) hx).trans ?_
  show BitVec.toNat ((Wc m c bP2 : S2048.Idx → BitVec 32) (ValueIdx.ix1 (x 0))) = _
  rw [e, BitVec.toNat_ofNat]
  have := pA_lt m c (x 0)
  omega
theorem P3_nat (x : S2048.Idx) : BitVec.toNat (Wc m c bP3 x) = pB m c (x 0) := by
  have e := P3_val m c (x 0)
  have hx : x = ValueIdx.ix1 (x 0) := idx1 x
  refine (congrArg (fun z : S2048.Idx => BitVec.toNat (Wc m c bP3 z)) hx).trans ?_
  show BitVec.toNat ((Wc m c bP3 : S2048.Idx → BitVec 32) (ValueIdx.ix1 (x 0))) = _
  rw [e, BitVec.toNat_ofNat]
  have := pB_lt m c (x 0)
  omega

theorem live_at (p : ℕ) (e : Fin 8) (hp : start (f1 m c) (f2 m c) e ≤ p ∧ p < start (f1 m c) (f2 m c) e + padc (f1 m c) (f2 m c) e)
    (t : Fin 24) (ht : p / 256 = t.val) : k2_cond1 ((We m c bT27 : S24.Idx → BitVec 32) (ValueIdx.ix1 t)) = 1#1 := by
  rw [T27_val, (oE_live (xx m c) (gg m c) (bb m c) (lies_of_mem hp t ht.symm)).1]
  decide

theorem lists : ListsOK (Wc m c bP2) (Wc m c bP3) (Wc m c bL12) (Wc m c bL21) where
  p_lt x := by
    rw [L12_val]
    have := pA_lt m c ⟨(x 0).val / 4, by have : (x 0).val < 8192 := (x 0).isLt; omega⟩
    omega
  r_lt x := by
    rw [L21_val]
    have := pB_lt m c ⟨(x 0).val / 4, by have : (x 0).val < 8192 := (x 0).isLt; omega⟩
    omega
  p_inj := by
    intro x y hxy
    replace hxy : BitVec.toNat (Wc m c bL12 x) = BitVec.toNat (Wc m c bL12 y) := hxy
    rw [L12_val, L12_val] at hxy
    have e := pA_inj m c (t := ⟨(x 0).val / 4, by have : (x 0).val < 8192 := (x 0).isLt; omega⟩)
      (t' := ⟨(y 0).val / 4, by have : (y 0).val < 8192 := (y 0).isLt; omega⟩) (by omega)
    have e' : (x 0).val / 4 = (y 0).val / 4 := congrArg Fin.val e
    exact (idx1 x).trans ((congrArg ValueIdx.ix1 (Fin.ext (by omega))).trans (idx1 y).symm)
  r_inj := by
    intro x y hxy
    replace hxy : BitVec.toNat (Wc m c bL21 x) = BitVec.toNat (Wc m c bL21 y) := hxy
    rw [L21_val, L21_val] at hxy
    have e := pB_inj m c (t := ⟨(x 0).val / 4, by have : (x 0).val < 8192 := (x 0).isLt; omega⟩)
      (t' := ⟨(y 0).val / 4, by have : (y 0).val < 8192 := (y 0).isLt; omega⟩) (by omega)
    have e' : (x 0).val / 4 = (y 0).val / 4 := congrArg Fin.val e
    exact (idx1 x).trans ((congrArg ValueIdx.ix1 (Fin.ext (by omega))).trans (idx1 y).symm)
  p_ne_r x y := by
    rw [L12_val, L21_val]
    have := pA_ne_pB m c ⟨(x 0).val / 4, by have : (x 0).val < 8192 := (x 0).isLt; omega⟩
      ⟨(y 0).val / 4, by have : (y 0).val < 8192 := (y 0).isLt; omega⟩
    omega
  a_lt x := by rw [P2_nat]; exact posA_lt _ _ _
  b_lt x := by rw [P3_nat]; exact posB_lt _ _ _
  a_inj := by
    intro x y hxy
    replace hxy : BitVec.toNat (Wc m c bP2 x) = BitVec.toNat (Wc m c bP2 y) := hxy
    rw [P2_nat, P2_nat] at hxy
    exact (idx1 x).trans ((congrArg ValueIdx.ix1 (pA_inj m c hxy)).trans (idx1 y).symm)
  b_inj := by
    intro x y hxy
    replace hxy : BitVec.toNat (Wc m c bP3 x) = BitVec.toNat (Wc m c bP3 y) := hxy
    rw [P3_nat, P3_nat] at hxy
    exact (idx1 x).trans ((congrArg ValueIdx.ix1 (pB_inj m c hxy)).trans (idx1 y).symm)
  a_ne_b x y := by
    rw [P2_nat, P3_nat]
    exact posA_ne_posB _ _ _ _

theorem tab_lt (k : Fin 24) : ((tab m 0 0 : S24.Idx → BitVec 32) (ValueIdx.ix1 k)).toNat < 8 := by
  show ((We m 0 bT26 : S24.Idx → BitVec 32) (ValueIdx.ix1 k)).toNat < 8
  rw [T26_val]
  exact oE0_lt _ _ _ k

theorem word_toNat (a : BitVec 32) (x : ℕ) (hx : x < 4294967296) (h : a = BitVec.ofNat 32 x) : a.toNat = x := by
  rw [h, BitVec.toNat_ofNat]; omega

theorem tab_at (pf : pre2.Contents (Elt Ideal)) (i : grid2.Coords) :
    (pf.at 0 (Rect.unit (s := S24) (k2_off1 i) S1.size (k2_off1_inb i)) numel1_S1 : BitVec 32) = (pf 0 : S24.Idx → BitVec 32) (ValueIdx.ix1 (i 0)) := by
  refine congrArg (pf 0 : S24.Idx → BitVec 32) (funext fun b => ?_)
  obtain rfl : b = (0 : Fin 1) := Subsingleton.elim (α := Fin 1) b 0
  refine Fin.ext ?_
  show k2_off1 i 0 + 1 * 0 = (i 0).val
  rw [k2_off1_eq]; rfl
theorem map1 (pf : pre2.Contents (Elt Ideal)) (i : grid2.Coords) :
    cc2_transform_1 k2_off1_inb numel1_S1 pf i = ![((pf 0 : S24.Idx → BitVec 32) (ValueIdx.ix1 (i 0))).toNat, 0, 0] :=
  congrArg (fun w : BitVec 32 => ![w.toNat, 0, 0]) (tab_at pf i)
theorem map2 (pf : pre2.Contents (Elt Ideal)) (i : grid2.Coords) :
    cc2_transform_2 k2_off1_inb numel1_S1 pf i = ![((pf 0 : S24.Idx → BitVec 32) (ValueIdx.ix1 (i 0))).toNat, 0, 0] :=
  congrArg (fun w : BitVec 32 => ![w.toNat, 0, 0]) (tab_at pf i)
theorem map3 (pf : pre2.Contents (Elt Ideal)) (i : grid2.Coords) :
    cc2_transform_3 k2_off1_inb numel1_S1 pf i = ![((pf 0 : S24.Idx → BitVec 32) (ValueIdx.ix1 (i 0))).toNat, 0, 0] :=
  congrArg (fun w : BitVec 32 => ![w.toNat, 0, 0]) (tab_at pf i)

theorem tabs_ok : ok2 (tab m 0) := by
  have hb : ∀ i : grid2.Coords, ((tab m 0 0 : S24.Idx → BitVec 32) (ValueIdx.ix1 (i 0))).toNat < 8 := fun i => tab_lt m (i 0)
  refine ⟨fun i => ⟨?_, Or.inl rfl⟩, fun i => ⟨?_, Or.inl rfl⟩, fun i => ⟨?_, Or.inl rfl⟩⟩
  all_goals
    have hi := hb i
    first | rw [map1] | rw [map2] | rw [map3]
    generalize ((tab m 0 0 : S24.Idx → BitVec 32) (ValueIdx.ix1 (i 0))).toNat = n at hi ⊢
    intro a
    fin_cases a
  · show (n + 1) * 1 ≤ 8; omega
  · show (0 + 1) * 512 ≤ 512; omega
  · show (0 + 1) * 1024 ≤ 1024; omega
  · show (n + 1) * 1 ≤ 8; omega
  · show (0 + 1) * 512 ≤ 512; omega
  · show (0 + 1) * 1024 ≤ 1024; omega
  · show (n + 1) * 1 ≤ 8; omega
  · show (0 + 1) * 1024 ≤ 1024; omega
  · show (0 + 1) * 512 ≤ 512; omega

/-- The router's tables are as the later calls ask. -/
theorem routeOK : RouteOK m where
  tabs := tabs_ok m
  lists := lists m
  live_p d x t ht := by
    rw [L12_val] at ht
    refine live_at m d (pA m d _) _ (posA_mem' (f1 m d) (f2 m d) ⟨(x 0).val / 4, by have : (x 0).val < 8192 := (x 0).isLt; omega⟩) t ?_
    omega
  live_r d x t ht := by
    rw [L21_val] at ht
    refine live_at m d (pB m d _) _ (posB_mem' (f1 m d) (f2 m d) ⟨(x 0).val / 4, by have : (x 0).val < 8192 := (x 0).isLt; omega⟩) t ?_
    omega

end Tables

end Cert.Proof.Kernel

end
-- ==== Proof.KernelFinal.lean ====
/-
  The TensorCore calls' arrays at the extended reals: the shared network's rows, an expert's rows, and the last sum.
-/
module

public import proofs.«01_k».proof.Proof.KernelRouted
public import proofs.«01_k».proof.Proof.KernelVals
public import Idealize.ShloMosaic.Lib.Pointwise
public import Idealize.ShloMosaic.Lib.Routing.BitFacts

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-! ## The bodies, entry by entry -/

/-- A gated network's output `n` on a row `x`. -/
def mlp (x : Fin 1024 → EReal) (wg wu : Fin 512 → Fin 1024 → EReal) (wd : Fin 1024 → Fin 512 → EReal) (n : Fin 1024) : EReal :=
  ∑ i, ((∑ k, x k * wg i k) * Ideal.logistic (∑ k, x k * wg i k)) * (∑ k, x k * wu i k) * wd n i

theorem k3_val (x g u : Vec Ideal S512x1024 .f32) (d : Vec Ideal S1024x512 .f32) (r : Fin 512) (n : Fin 1024) :
    k3_pay1 (F := Ideal) x g u d (ValueIdx.ix2 r n) = mlp (fun k => x (ValueIdx.ix2 r k)) (fun i k => g (ValueIdx.ix2 i k)) (fun i k => u (ValueIdx.ix2 i k)) (fun i k => d (ValueIdx.ix2 i k)) n := by
  unfold mlp
  pointwise [k3_pay1]
  rfl
theorem k2_val (x : Vec Ideal S256x1024 .f32) (g u : Vec Ideal S1x512x1024 .f32) (d : Vec Ideal S1x1024x512 .f32) (w : Vec Ideal S1x256x128 .f32) (r : Fin 256) (n : Fin 1024) :
    k2_pay1 (F := Ideal) x g u d w (ValueIdx.ix2 r n)
      = mlp (fun k => x (ValueIdx.ix2 r k)) (fun i k => g (ValueIdx.ix3 0 i k)) (fun i k => u (ValueIdx.ix3 0 i k)) (fun i k => d (ValueIdx.ix3 0 i k)) n * w (ValueIdx.ix3 0 r 0) := by
  unfold mlp
  pointwise [k2_pay1]
  rfl
theorem k5_val (a b d : Vec Ideal S512x1024 .f32) (r : Fin 512) (n : Fin 1024) :
    k5_pay1 (F := Ideal) a b d (ValueIdx.ix2 r n) = (a (ValueIdx.ix2 r n) + b (ValueIdx.ix2 r n)) + d (ValueIdx.ix2 r n) := by
  pointwise [k5_pay1]

theorem idx2 {p q : ℕ} (x : (⟨2, ![p, q]⟩ : Shape).Idx) : x = ValueIdx.ix2 (x 0) (x 1) := by
  funext a
  fin_cases a <;> rfl

/-! ## The shared network's array -/

section Shared

theorem ix3_0 : ∀ t : Fin cfg3.N, win3_0.index t = ![t.val, 0] := (by decide +kernel : ∀ t : Fin grid3.N, _)
theorem ix3_1 : ∀ t : Fin cfg3.N, win3_1.index t = ![0, 0] := (by decide +kernel : ∀ t : Fin grid3.N, _)
theorem ix3_2 : ∀ t : Fin cfg3.N, win3_2.index t = ![0, 0] := (by decide +kernel : ∀ t : Fin grid3.N, _)
theorem ix3_3 : ∀ t : Fin cfg3.N, win3_3.index t = ![0, 0] := (by decide +kernel : ∀ t : Fin grid3.N, _)
theorem ix3_4 : ∀ t : Fin cfg3.N, win3_4.index t = ![t.val, 0] := (by decide +kernel : ∀ t : Fin grid3.N, _)

variable (V : (c : Dev nD) → (b : Ref sig .tc) → Buf (Elt Ideal) ((c : Thread nD τ).loc b)) (c : Dev nD) (t : Fin cfg3.N)

theorem blk3_0 (y : S512x1024.Idx) : (Cert.KernelIdeal.Own.K3.iblk V c 0 t : S512x1024.Idx → EReal) y
    = (V c main_arg0 : S2048x1024.Idx → EReal) (ValueIdx.ix2 ⟨t.val * 512 + (y 0).val, by have h : t.val < 4 := lt_of_lt_of_eq t.isLt N_3; have h' : (y 0).val < 512 := (y 0).isLt; omega⟩ (y 1)) := by
  show V c main_arg0 ((win3_0.blk t).view.emb y) = _
  congr 1
  blk_ext [ix3_0 t]
theorem blk3_1 : (Cert.KernelIdeal.Own.K3.iblk V c 1 t : S512x1024.Idx → EReal) = V c main_arg5 := by
  funext y
  show V c main_arg5 ((win3_1.blk t).view.emb y) = V c main_arg5 y
  congr 1
  blk_ext [ix3_1 t]
theorem blk3_2 : (Cert.KernelIdeal.Own.K3.iblk V c 2 t : S512x1024.Idx → EReal) = V c main_arg6 := by
  funext y
  show V c main_arg6 ((win3_2.blk t).view.emb y) = V c main_arg6 y
  congr 1
  blk_ext [ix3_2 t]
theorem blk3_3 : (Cert.KernelIdeal.Own.K3.iblk V c 3 t : S1024x512.Idx → EReal) = V c main_arg7 := by
  funext y
  show V c main_arg7 ((win3_3.blk t).view.emb y) = V c main_arg7 y
  congr 1
  blk_ext [ix3_3 t]

theorem emb3_4 (y : S512x1024.Idx) : ((win3_4.blk t).view.emb y : S2048x1024.Idx)
    = ValueIdx.ix2 ⟨t.val * 512 + (y 0).val, by have h : t.val < 4 := lt_of_lt_of_eq t.isLt N_3; have h' : (y 0).val < 512 := (y 0).isLt; omega⟩ (y 1) := by
  blk_ext [ix3_4 t]

/-- The shared network's output at token `t`. -/
def shrAt (t : Fin 2048) (n : Fin 1024) : EReal :=
  mlp (fun k => (V c main_arg0 : S2048x1024.Idx → EReal) (ValueIdx.ix2 t k)) (fun i k => (V c main_arg5 : S512x1024.Idx → EReal) (ValueIdx.ix2 i k))
    (fun i k => (V c main_arg6 : S512x1024.Idx → EReal) (ValueIdx.ix2 i k)) (fun i k => (V c main_arg7 : S1024x512.Idx → EReal) (ValueIdx.ix2 i k)) n

variable (D : Dev nD → CellTallies nD τ sig (HIx 2)) (B : Set (SemLoc sig × HIx 2))

theorem arr3 : ((D3 V D B c).arrAt 4 cfg3.N : S2048x1024.Idx → EReal) = fun i => shrAt V c (i 0) (i 1) := by
  refine (D3 V D B c).arrAt_eq_of_covers 4 (fun i : S2048x1024.Idx => shrAt V c (i 0) (i 1)) (by decide +kernel) fun t hf y => ?_
  show ((D3 V D B c).after 4 t : S512x1024.Idx → EReal) y = (fun i : S2048x1024.Idx => shrAt V c (i 0) (i 1)) ((win3_4.blk t).view.emb y)
  rw [emb3_4, aft3_4]
  refine (congrArg _ (idx2 (y : S512x1024.Idx))).trans ((k3_val _ _ _ _ _ _).trans ?_)
  rw [blk3_1, blk3_2, blk3_3]
  simp only [blk3_0]
  rfl

end Shared

/-! ## The last sum's array -/

section Sum

theorem ix5_0 : ∀ t : Fin cfg5.N, win5_0.index t = ![t.val, 0] := (by decide +kernel : ∀ t : Fin grid5.N, _)
theorem ix5_1 : ∀ t : Fin cfg5.N, win5_1.index t = ![t.val, 0] := (by decide +kernel : ∀ t : Fin grid5.N, _)
theorem ix5_2 : ∀ t : Fin cfg5.N, win5_2.index t = ![t.val, 0] := (by decide +kernel : ∀ t : Fin grid5.N, _)
theorem ix5_3 : ∀ t : Fin cfg5.N, win5_3.index t = ![t.val, 0] := (by decide +kernel : ∀ t : Fin grid5.N, _)

variable (V : (c : Dev nD) → (b : Ref sig .tc) → Buf (Elt Ideal) ((c : Thread nD τ).loc b)) (c : Dev nD) (t : Fin cfg5.N)

theorem blk5_0 (y : S512x1024.Idx) : (Cert.KernelIdeal.Own.K5.iblk V c 0 t : S512x1024.Idx → EReal) y
    = (V c main_v29 : S2048x1024.Idx → EReal) ((win5_3.blk t).view.emb y) := by
  show V c main_v29 ((win5_0.blk t).view.emb y) = V c main_v29 ((win5_3.blk t).view.emb y)
  congr 1
theorem blk5_1 (y : S512x1024.Idx) : (Cert.KernelIdeal.Own.K5.iblk V c 1 t : S512x1024.Idx → EReal) y
    = (V c main_v32 : S2048x1024.Idx → EReal) ((win5_3.blk t).view.emb y) := by
  show V c main_v32 ((win5_1.blk t).view.emb y) = V c main_v32 ((win5_3.blk t).view.emb y)
  congr 1
theorem blk5_2 (y : S512x1024.Idx) : (Cert.KernelIdeal.Own.K5.iblk V c 2 t : S512x1024.Idx → EReal) y
    = (V c main_v33 : S2048x1024.Idx → EReal) ((win5_3.blk t).view.emb y) := by
  show V c main_v33 ((win5_2.blk t).view.emb y) = V c main_v33 ((win5_3.blk t).view.emb y)
  congr 1

variable (D : Dev nD → CellTallies nD τ sig (HIx 2)) (B : Set (SemLoc sig × HIx 2))

theorem add3 {a a' b b' d d' : EReal} (ha : a = a') (hb : b = b') (hd : d = d') : (a + b) + d = (a' + b') + d' := by rw [ha, hb, hd]

/-- Three arrays' sum. -/
def sum3 (a b d : S2048x1024.Idx → EReal) : S2048x1024.Idx → EReal := fun i => (a i + b i) + d i

theorem arr5 : ((D5 V D B c).arrAt 3 cfg5.N : S2048x1024.Idx → EReal) = sum3 (V c main_v29) (V c main_v32) (V c main_v33) := by
  refine (D5 V D B c).arrAt_eq_of_covers 3 (sum3 (V c main_v29) (V c main_v32) (V c main_v33)) (by decide +kernel) fun t hf y => ?_
  show ((D5 V D B c).after 3 t : S512x1024.Idx → EReal) y = sum3 (V c main_v29) (V c main_v32) (V c main_v33) ((win5_3.blk t).view.emb y)
  rw [aft5_3]
  refine (congrArg _ (idx2 (y : S512x1024.Idx))).trans ((k5_val _ _ _ _ _).trans ?_)
  have hy : ValueIdx.ix2 (y 0) (y 1) = (y : S512x1024.Idx) := (idx2 (y : S512x1024.Idx)).symm
  refine Eq.trans ?_ (add3 (blk5_0 V c t y) (blk5_1 V c t y) (blk5_2 V c t y))
  exact add3 (congrArg (Cert.KernelIdeal.Own.K5.iblk V c 0 t) hy) (congrArg (Cert.KernelIdeal.Own.K5.iblk V c 1 t) hy) (congrArg (Cert.KernelIdeal.Own.K5.iblk V c 2 t) hy)

end Sum

end Cert.Proof.Kernel

end
-- ==== Proof.RefVal.lean ====
/-
  The reference's value at a token and a column: scores, the two choices, their weights, and the experts' layers.
-/
module

public import proofs.«01_k».proof.Proof.RefSort
public import proofs.«01_k».proof.Proof.KernelFinal
public import proofs.«01_k».proof.Proof.Gen.ReferenceIdeal.Run
public import Idealize.ShloMosaic.Lib.Pointwise
public import Idealize.ShloMosaic.Lib.ReduceAll

@[expose] public section

noncomputable section

namespace Cert.Proof.Ref

open Idealize.ShloMosaic
open Cert.ReferenceIdeal Cert.ReferenceIdeal.Value
open Cert.Proof.Kernel (firstMax sco cho fst msk snd wsum mlp)

variable (V0 : Valuation τ sig (Elt Ideal))

/-! ## The arguments -/

abbrev rx : S2048x1024.Idx → EReal := V0 (Proc.devRef .tc main_arg0)
abbrev rg : S8x1024.Idx → EReal := V0 (Proc.devRef .tc main_arg1)
abbrev r8 : S8.Idx → EReal := V0 (Proc.devRef .tc main_arg8)
def rb : S1x8.Idx → EReal := fun j => r8 V0 (ValueIdx.ix1 (j 1))

/-! ## Scores and choices -/

theorem v7_at (t : Fin 2048) (e : Fin 8) : (res_main_v7 V0 : S2048x8.Idx → EReal) (ValueIdx.ix2 t e) = sco (rx V0) (rg V0) t e := by
  pointwise [res_main_v7]
  rfl

theorem v10_at (t : Fin 2048) (e : Fin 8) : (res_main_v10 V0 : S2048x8.Idx → EReal) (ValueIdx.ix2 t e) = cho (rx V0) (rg V0) (rb V0) t e := by
  pointwise [res_main_v10, res_main_v7]
  rfl

/-- One score is above another. -/
def above (t : Fin 2048) (k k' : Fin 8) : Bool :=
  FloatOps.cmpfTotal (F := Ideal) (φ := .f32) .gt (cho (rx V0) (rg V0) (rb V0) t k) (cho (rx V0) (rg V0) (rb V0) t k') == 1#1

theorem above_iff (t : Fin 2048) (k k' : Fin 8) : above V0 t k k' = true ↔ cho (rx V0) (rg V0) (rb V0) t k' < cho (rx V0) (rg V0) (rb V0) t k := by
  unfold above
  show (BitVec.ofBool (decide (_ < _)) == 1#1) = true ↔ _
  by_cases h : cho (rx V0) (rg V0) (rb V0) t k' < cho (rx V0) (rg V0) (rb V0) t k
  · simp [h]
  · simp [h]

theorem along_one (t : Fin 2048) (j k : Fin 8) : Shape.Idx.along (s := S2048x8) (ValueIdx.ix2 t j) 1 k = ValueIdx.ix2 t k := by
  funext a
  match a with
  | ⟨0, _⟩ => rfl
  | ⟨1, _⟩ => rfl

theorem top_eq (x : S2048x8.Idx → EReal) (h : S2048x8.Slices (fun _ => 0) S2048x2) :
    (Host.topK (s := S2048x8) S2048x2 1 (FloatOps.cmpfTotal (F := Ideal) (φ := .f32) .gt) x h).2
      = extractStridedSlice S2048x2 (fun _ => 0) (fun i : S2048x8.Idx => BitVec.ofNat 32
          (sortedFrom (fun k k' : Fin 8 => FloatOps.cmpfTotal (F := Ideal) (φ := .f32) .gt (x (Shape.Idx.along (s := S2048x8) i 1 k)) (x (Shape.Idx.along (s := S2048x8) i 1 k')) == 1#1) (i 1)).val) h := by
  funext j
  show BitVec.ofNat 32 (Shape.Idx.along (s := S2048x8) _ 1 (sortedFrom _ _) 1).val = BitVec.ofNat 32 (sortedFrom _ _).val
  unfold Shape.Idx.along
  rw [Function.update_self]
  rfl

theorem indices_at (t : Fin 2048) (j : Fin 2) :
    (res_main_indices V0 : S2048x2.Idx → BitVec 32) (ValueIdx.ix2 t j) = BitVec.ofNat 32 (sortedFrom (above V0 t) (j.castLE (by omega))).val := by
  unfold res_main_indices
  rw [top_eq]
  refine (extractStridedSlice_apply (s := S2048x8) (t := S2048x2) (fun _ => 0) _ _ (ValueIdx.ix2 t j) (ValueIdx.ix2 t (j.castLE (by omega))) (by
    intro a
    match a with
    | ⟨0, _⟩ => exact (Nat.zero_add _).symm
    | ⟨1, _⟩ => exact (Nat.zero_add _).symm)).trans ?_
  have hb : (fun k k' : Fin 8 => FloatOps.cmpfTotal (F := Ideal) (φ := .f32) .gt
      ((res_main_v10 V0 : S2048x8.Idx → EReal) (Shape.Idx.along (s := S2048x8) (ValueIdx.ix2 t (j.castLE (by omega))) 1 k))
      ((res_main_v10 V0 : S2048x8.Idx → EReal) (Shape.Idx.along (s := S2048x8) (ValueIdx.ix2 t (j.castLE (by omega))) 1 k')) == 1#1) = above V0 t := by
    funext k k'
    rw [along_one, along_one, v10_at, v10_at]
    rfl
  rw [← hb]

/-- The expert a place of the two names. -/
def pick (t : Fin 2048) (j : Fin 2) : Fin 8 := sortedFrom (above V0 t) (j.castLE (by omega))

theorem wrap_word (p : Fin 8) : Scalar.select (IntOp.cmpi .slt (BitVec.ofNat 32 p.val) 0#32) (IntOp.addi (BitVec.ofNat 32 p.val) 8#32) (BitVec.ofNat 32 p.val) = BitVec.ofNat 32 p.val := by
  revert p; decide

theorem call_at (t : Fin 2048) (j : Fin 2) :
    (res_main_call0_v5 V0 : S2048x2x1.Idx → BitVec 32) (ValueIdx.ix3 t j 0) = BitVec.ofNat 32 (pick V0 t j).val := by
  have h : (res_main_call0_v5 V0 : S2048x2x1.Idx → BitVec 32) (ValueIdx.ix3 t j 0)
      = Scalar.select (IntOp.cmpi .slt ((res_main_indices V0 : S2048x2.Idx → BitVec 32) (ValueIdx.ix2 t j)) 0#32) (IntOp.addi ((res_main_indices V0 : S2048x2.Idx → BitVec 32) (ValueIdx.ix2 t j)) 8#32) ((res_main_indices V0 : S2048x2.Idx → BitVec 32) (ValueIdx.ix2 t j)) := by
    pointwise [res_main_call0_v5]
    rfl
  rw [h, indices_at]
  exact wrap_word _

theorem within (p : Fin 8) : IntOp.andi (IntOp.cmpi .sge (BitVec.ofNat 32 p.val) 0#32) (IntOp.cmpi .sle (BitVec.ofNat 32 p.val) 7#32) = 1#1 := by
  revert p; decide

theorem fold_ones {ι : Type} (s : Finset ι) : s.fold IntOp.andi (1#1) (fun _ => 1#1) = 1#1 := by
  classical
  induction s using Finset.induction_on with
  | empty => rfl
  | insert a s h ih => rw [Finset.fold_insert h, ih]; decide

theorem word_place (p : Fin 8) : min (BitVec.ofNat 32 p.val).toInt.toNat 7 = p.val := by
  revert p; decide

theorem gather_at (x : S2048x8.Idx → EReal) (idx : S2048x2x1.Idx → BitVec 32) (t : Fin 2048) (j : Fin 2) (p : Fin 8)
    (h : idx (ValueIdx.ix3 t j 0) = BitVec.ofNat 32 p.val) :
    Host.gather gather_S2048x8_S2048x2x1_S2048x2_n_1_0_0_1_2_11 x idx (ValueIdx.ix2 t j) = x (ValueIdx.ix2 t p) := by
  unfold Host.gather
  congr 1
  funext a
  refine Fin.ext ?_
  let d := gather_S2048x8_S2048x2x1_S2048x2_n_1_0_0_1_2_11
  show d.start (ValueIdx.ix2 t j) idx a + d.batchCoord (ValueIdx.ix2 t j) a + d.offCoord (ValueIdx.ix2 t j) a = _
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => absurd (List.mem_singleton.mpr rfl) ((GatherDims.mem_sKept _ _).mp h).2)]
    unfold GatherDims.start
    rw [dif_neg (show (0 : Fin 2) ∉ d.startIndexMap by decide)]
    unfold GatherDims.batchCoord
    rw [dif_pos (show (0 : Fin 2) ∈ d.operandBatchingDims by decide)]
    show 0 + _ + 0 = t.val
    rw [Nat.zero_add]
    rfl
  · rw [GatherDims.offCoord_eq_zero _ _ _ (fun h => absurd (List.mem_singleton.mpr rfl) ((GatherDims.mem_sKept _ _).mp h).1)]
    rw [GatherDims.batchCoord_eq_zero _ _ _ (show (1 : Fin 2) ∉ d.operandBatchingDims by decide)]
    unfold GatherDims.start
    rw [dif_pos (show (1 : Fin 2) ∈ d.startIndexMap by decide)]
    show min (idx _).toInt.toNat 7 + 0 + 0 = p.val
    have hk : ∀ y : S2048x2x1.Idx, (y 0).val = t.val → (y 1).val = j.val → y = ValueIdx.ix3 t j 0 := by
      intro y h0 h1
      funext a
      match a with
      | ⟨0, _⟩ => exact Fin.ext h0
      | ⟨1, _⟩ => exact Fin.ext h1
      | ⟨2, _⟩ => exact Subsingleton.elim (α := Fin 1) _ _
    refine (congrArg (fun y => min (idx y).toInt.toNat 7 + 0 + 0) (hk _ ?_ ?_)).trans ?_
    · rfl
    · rfl
    · show min (idx (ValueIdx.ix3 t j 0)).toInt.toNat 7 = p.val
      rw [h, word_place]

theorem v11_at (t : Fin 2048) (j : Fin 2) : (res_main_v11 V0 : S2048x2.Idx → EReal) (ValueIdx.ix2 t j) = sco (rx V0) (rg V0) t (pick V0 t j) := by
  obtain ⟨s, h⟩ : ∃ s : Finset S2048x2x1.Idx, (res_main_v11 V0 : S2048x2.Idx → EReal) (ValueIdx.ix2 t j) = Scalar.select
      (s.fold IntOp.andi (1#1) (fun x : S2048x2x1.Idx => IntOp.andi (IntOp.cmpi .sge ((res_main_call0_v5 V0 : S2048x2x1.Idx → BitVec 32) x) 0#32)
            (IntOp.cmpi .sle ((res_main_call0_v5 V0 : S2048x2x1.Idx → BitVec 32) x) 7#32)))
      (Host.gather gather_S2048x8_S2048x2x1_S2048x2_n_1_0_0_1_2_11 (res_main_v7 V0 : S2048x8.Idx → EReal) (res_main_call0_v5 V0 : S2048x2x1.Idx → BitVec 32) (ValueIdx.ix2 t j))
      (Ideal.ofBits .f32 0x7FC00000#32) := ⟨_, by
    pointwise [res_main_v11]
    rfl⟩
  have h1 : (fun x : S2048x2x1.Idx => IntOp.andi (IntOp.cmpi .sge ((res_main_call0_v5 V0 : S2048x2x1.Idx → BitVec 32) x) 0#32)
            (IntOp.cmpi .sle ((res_main_call0_v5 V0 : S2048x2x1.Idx → BitVec 32) x) 7#32)) = fun _ => 1#1 := by
    funext x
    have hx : x = ValueIdx.ix3 (x 0) (x 1) 0 := by
      funext a
      match a with
      | ⟨0, _⟩ => rfl
      | ⟨1, _⟩ => rfl
      | ⟨2, _⟩ => exact Subsingleton.elim (α := Fin 1) _ _
    have hw : (res_main_call0_v5 V0 : S2048x2x1.Idx → BitVec 32) x = BitVec.ofNat 32 (pick V0 (x 0) (x 1)).val :=
      (congrArg (res_main_call0_v5 V0 : S2048x2x1.Idx → BitVec 32) hx).trans (call_at V0 (x 0) (x 1))
    rw [hw]
    exact within _
  rw [h, h1, fold_ones, gather_at _ _ t j _ (call_at V0 t j), v7_at]
  rfl

theorem v15_at (t : Fin 2048) (j : Fin 2) : (res_main_v15 V0 : S2048x2.Idx → EReal) (ValueIdx.ix2 t j)
    = Ideal.div (sco (rx V0) (rg V0) t (pick V0 t j)) (sco (rx V0) (rg V0) t (pick V0 t 0) + sco (rx V0) (rg V0) t (pick V0 t 1)) := by
  have h : (res_main_v15 V0 : S2048x2.Idx → EReal) (ValueIdx.ix2 t j)
      = Ideal.div ((res_main_v11 V0 : S2048x2.Idx → EReal) (ValueIdx.ix2 t j)) (∑ x : Fin 2, (res_main_v11 V0 : S2048x2.Idx → EReal) (ValueIdx.ix2 t x)) := by
    pointwise [res_main_v15]
    rfl
  rw [h, Fin.sum_univ_two, v11_at, v11_at, v11_at]

/-! ## The experts' layers -/

/-- The weight the reference gives an expert: those of the places that name it, added. -/
def wgt (t : Fin 2048) (e : Fin 8) : EReal :=
  ∑ j : Fin 2, Scalar.select (IntOp.cmpi .eq ((res_main_indices V0 : S2048x2.Idx → BitVec 32) (ValueIdx.ix2 t j)) (BitVec.ofNat 32 e.val)) ((res_main_v15 V0 : S2048x2.Idx → EReal) (ValueIdx.ix2 t j)) (Ideal.ofBits .f32 0x00000000#32)

/-- An expert's layer, and the shared one, at a token and a column. -/
def lay (t : Fin 2048) (n : Fin 1024) (e : Fin 8) : EReal :=
  mlp (fun k => rx V0 (ValueIdx.ix2 t k)) (fun i k => (V0 (Proc.devRef .tc main_arg2) : S8x512x1024.Idx → EReal) (ValueIdx.ix3 e i k))
    (fun i k => (V0 (Proc.devRef .tc main_arg3) : S8x512x1024.Idx → EReal) (ValueIdx.ix3 e i k))
    (fun n i => (V0 (Proc.devRef .tc main_arg4) : S8x1024x512.Idx → EReal) (ValueIdx.ix3 e n i)) n
def shl (t : Fin 2048) (n : Fin 1024) : EReal :=
  mlp (fun k => rx V0 (ValueIdx.ix2 t k)) (fun i k => (V0 (Proc.devRef .tc main_arg5) : S512x1024.Idx → EReal) (ValueIdx.ix2 i k))
    (fun i k => (V0 (Proc.devRef .tc main_arg6) : S512x1024.Idx → EReal) (ValueIdx.ix2 i k))
    (fun n i => (V0 (Proc.devRef .tc main_arg7) : S1024x512.Idx → EReal) (ValueIdx.ix2 n i)) n

abbrev part (t : Fin 2048) (n : Fin 1024) (e : Fin 8) : EReal := lay V0 t n e * wgt V0 t e

def base : S2048x1024.Idx → EReal := res_main_v104 V0

theorem v104_at (t : Fin 2048) (n : Fin 1024) : base V0 (ValueIdx.ix2 t n)
    = part V0 t n 0 + part V0 t n 1 + part V0 t n 2 + part V0 t n 3 := by
  pointwise [base, res_main_v104, res_main_v20, res_main_v42, res_main_v64, res_main_v86]
  rfl

theorem v192_at (t : Fin 2048) (n : Fin 1024) : (res_main_v192 V0 : S2048x1024.Idx → EReal) (ValueIdx.ix2 t n)
    = base V0 (ValueIdx.ix2 t n) + part V0 t n 4 + part V0 t n 5 + part V0 t n 6 + part V0 t n 7 := by
  pointwise [base, res_main_v192, res_main_v108, res_main_v130, res_main_v152, res_main_v174]
  rfl

theorem v192_sum (t : Fin 2048) (n : Fin 1024) : (res_main_v192 V0 : S2048x1024.Idx → EReal) (ValueIdx.ix2 t n) = ∑ e, part V0 t n e := by
  rw [v192_at, v104_at, Fin.sum_univ_eight]

/-- The reference's result, of the arguments. -/
def out {F : FTy → Type} [FloatOps F] (V0 : Valuation τ sig (Elt F)) : (Proc.devRef .tc main_v203 : DevRef τ sig).ty.Contents (Elt F) :=
  addf (Host.dotGeneral dot_S2048x512_S512x1024_S2048x1024_1_0_0_1_n_n none (mulf (mulf (res_main_v194 V0) (Host.divf (broadcastInDim S2048x512 ![] Gen.bcast_S_S2048x512 (constant S_ .f32 0x3F800000#32)) (addf (broadcastInDim S2048x512 ![] Gen.bcast_S_S2048x512 (constant S_ .f32 0x3F800000#32)) (Host.exp (Host.negf (res_main_v194 V0)))))) (Host.dotGeneral dot_S2048x1024_S1024x512_S2048x512_1_0_0_1_n_n none (V0 (Proc.devRef .tc main_arg0)) (transpose S1024x512 [1, 0] (V0 (Proc.devRef .tc main_arg6)) Gen.transposes_S512x1024_S1024x512_1_0))) (transpose S512x1024 [1, 0] (V0 (Proc.devRef .tc main_arg7)) Gen.transposes_S1024x512_S512x1024_1_0)) (mulf (res_main_v192 V0) (broadcastInDim S2048x1024 ![] Gen.bcast_S_S2048x1024 (constant S_ .f32 0x40200000#32)))

theorem out_at (t : Fin 2048) (n : Fin 1024) : (out V0 : S2048x1024.Idx → EReal) (ValueIdx.ix2 t n) = shl V0 t n + (∑ e, part V0 t n e) * Ideal.ofBits .f32 0x40200000#32 := by
  rw [← v192_sum]
  pointwise [out, res_main_v194]
  rfl

end Cert.Proof.Ref

end
-- ==== Proof.RefEq.lean ====
/-
  The reference's result is the kernel's: of eight experts' layers only the two chosen carry a weight, and the scale may be
  put on each of the two or on their sum.
-/
module

public import proofs.«01_k».proof.Proof.RefVal

@[expose] public section

noncomputable section

namespace Cert.Proof.Ref

open Idealize.ShloMosaic
open Cert.ReferenceIdeal Cert.ReferenceIdeal.Value
open Cert.Proof.Kernel (firstMax sco cho fst msk snd wsum mlp scl snd_ne_fst)

/-! ## Words and reals -/

theorem zero_word : Ideal.ofBits .f32 0x00000000#32 = 0 := by simp [Ideal.ofBits, Ideal.ieee]

theorem scl_real : ∃ r : ℝ, 0 ≤ r ∧ (scl : EReal) = (r : EReal) := by
  refine ⟨2.5, by norm_num, ?_⟩
  unfold scl
  simp only [Ideal.ofBits, Ideal.ieee]
  have h1 : (BitVec.extractLsb' 23 8 0x40200000#32).toNat = 128 := by decide
  have h2 : (BitVec.extractLsb' 0 23 0x40200000#32).toNat = 2097152 := by decide
  have h3 : (BitVec.extractLsb' (8 + 23) 1 0x40200000#32 == 1#1) = false := by decide
  rw [h1, h2, h3]
  norm_num

/-- A value is a real. -/
def Fin' (x : EReal) : Prop := ∃ r : ℝ, x = (r : EReal)

theorem fin_of {x : EReal} (h : x ≠ ⊤) (h' : x ≠ ⊥) : Fin' x := ⟨x.toReal, (EReal.coe_toReal h h').symm⟩

theorem fin_sum {n : Nat} (x y : Fin n → EReal) (hx : ∀ k, Fin' (x k)) (hy : ∀ k, Fin' (y k)) : Fin' (∑ k, x k * y k) := by
  refine Finset.sum_induction _ Fin' ?_ ⟨0, rfl⟩ fun k _ => ?_
  · rintro _ _ ⟨a, rfl⟩ ⟨b, rfl⟩
    exact ⟨a + b, (EReal.coe_add a b).symm⟩
  · obtain ⟨a, ha⟩ := hx k
    obtain ⟨b, hb⟩ := hy k
    exact ⟨a * b, by rw [ha, hb, EReal.coe_mul]⟩

section Choice

variable (x : S2048x1024.Idx → EReal) (g : S8x1024.Idx → EReal) (b : S1x8.Idx → EReal)

theorem sco_real (hx : ∀ i, Fin' (x i)) (hg : ∀ i, Fin' (g i)) (t : Fin 2048) (e : Fin 8) : ∃ r : ℝ, 0 < r ∧ sco x g t e = (r : EReal) := by
  obtain ⟨l, hl⟩ := fin_sum (fun k : Fin 1024 => x (ValueIdx.ix2 t k)) (fun k => g (ValueIdx.ix2 e k)) (fun k => hx _) fun k => hg _
  refine ⟨(1 + Real.exp (-l))⁻¹, by positivity, ?_⟩
  unfold sco
  rw [hl, Ideal.logistic_coe]

theorem cho_ne (hx : ∀ i, Fin' (x i)) (hg : ∀ i, Fin' (g i)) (hb : ∀ i, Fin' (b i)) (t : Fin 2048) (e : Fin 8) : cho x g b t e ≠ ⊥ := by
  obtain ⟨r, _, hr⟩ := sco_real x g hx hg t e
  obtain ⟨c, hc⟩ := hb (ValueIdx.ix2 0 e)
  unfold cho
  rw [hr, hc, ← EReal.coe_add]
  exact EReal.coe_ne_bot _

end Choice

/-- The scale on the sum is the scale on each. -/
theorem scale_each (y1 y2 : EReal) (s1 s2 : EReal) (h1 : ∃ r : ℝ, 0 < r ∧ s1 = (r : EReal)) (h2 : ∃ r : ℝ, 0 < r ∧ s2 = (r : EReal)) (sh : EReal) :
    sh + (y1 * Ideal.div s1 (s1 + s2) + y2 * Ideal.div s2 (s1 + s2)) * scl
      = (sh + y1 * (s1 * Ideal.div scl (s1 + s2))) + y2 * (s2 * Ideal.div scl (s1 + s2)) := by
  obtain ⟨a, ha, rfl⟩ := h1
  obtain ⟨b, hb, rfl⟩ := h2
  obtain ⟨c, hc, e⟩ := scl_real
  have hw : a + b ≠ 0 := (add_pos ha hb).ne'
  rw [e, ← EReal.coe_add, Ideal.div_coe hw, Ideal.div_coe hw, Ideal.div_coe hw,
    mul_comm _ (c : EReal), EReal.left_distrib_of_nonneg_of_ne_top (EReal.coe_nonneg.2 hc) (EReal.coe_ne_top _), ← add_assoc]
  have hm : ∀ (y : EReal) (s : ℝ), (c : EReal) * (y * ((s : EReal) * ((1 / (a + b) : ℝ) : EReal))) = y * ((s : EReal) * ((c : EReal) * ((1 / (a + b) : ℝ) : EReal))) := by
    intro y s
    rw [mul_left_comm, mul_left_comm (c : EReal)]
  rw [hm, hm]

variable (V0 : Valuation τ sig (Elt Ideal))

section Weights

variable (hx : ∀ i, Fin' (rx V0 i)) (hg : ∀ i, Fin' (rg V0 i)) (hb : ∀ i, Fin' (rb V0 i)) (t : Fin 2048)

abbrev f1 : Fin 8 := fst (rx V0) (rg V0) (rb V0) t
abbrev f2 : Fin 8 := snd (rx V0) (rg V0) (rb V0) t

theorem pick_zero : pick V0 t 0 = f1 V0 t := from_zero _ _ (above_iff V0 t)

include hx hg hb in
theorem pick_one : pick V0 t 1 = f2 V0 t :=
  from_one _ _ (above_iff V0 t) (cho_ne _ _ _ hx hg hb t)

theorem same_word (p e : Fin 8) (a b : EReal) : Scalar.select (IntOp.cmpi .eq (BitVec.ofNat 32 p.val) (BitVec.ofNat 32 e.val)) a b = if p = e then a else b := by
  have h : IntOp.cmpi .eq (BitVec.ofNat 32 p.val) (BitVec.ofNat 32 e.val) = if p = e then 1#1 else 0#1 := by revert p e; decide
  rw [h]
  by_cases hp : p = e
  · rw [if_pos hp, if_pos hp]; rfl
  · rw [if_neg hp, if_neg hp]; rfl

abbrev s1 : EReal := sco (rx V0) (rg V0) t (f1 V0 t)
abbrev s2 : EReal := sco (rx V0) (rg V0) t (f2 V0 t)

include hx hg hb in
theorem wgt_at (e : Fin 8) : wgt V0 t e = (if f1 V0 t = e then Ideal.div (s1 V0 t) (s1 V0 t + s2 V0 t) else 0)
    + (if f2 V0 t = e then Ideal.div (s2 V0 t) (s1 V0 t + s2 V0 t) else 0) := by
  unfold wgt
  rw [Fin.sum_univ_two, v15_at, v15_at, indices_at, indices_at, zero_word]
  have h0 := pick_zero V0 t
  have h1 := pick_one V0 hx hg hb t
  rw [h0, h1]
  unfold pick at h0 h1
  rw [h0, h1, same_word, same_word]

include hx hg hb in
theorem sum_part (n : Fin 1024) : (∑ e, part V0 t n e) = lay V0 t n (f1 V0 t) * Ideal.div (s1 V0 t) (s1 V0 t + s2 V0 t)
    + lay V0 t n (f2 V0 t) * Ideal.div (s2 V0 t) (s1 V0 t + s2 V0 t) := by
  have hne : f2 V0 t ≠ f1 V0 t := snd_ne_fst _ _ _ (cho_ne _ _ _ hx hg hb) t
  have hp : ∀ e, part V0 t n e = (if f1 V0 t = e then lay V0 t n e * Ideal.div (s1 V0 t) (s1 V0 t + s2 V0 t) else 0)
      + (if f2 V0 t = e then lay V0 t n e * Ideal.div (s2 V0 t) (s1 V0 t + s2 V0 t) else 0) := by
    intro e
    unfold part
    rw [wgt_at V0 hx hg hb]
    by_cases h1 : f1 V0 t = e
    · have h2 : f2 V0 t ≠ e := fun h => hne (h.trans h1.symm)
      simp only [if_pos h1, if_neg h2, add_zero]
    · simp only [if_neg h1, zero_add]
      by_cases h2 : f2 V0 t = e
      · simp only [if_pos h2]
      · simp only [if_neg h2, mul_zero]
  rw [Finset.sum_congr rfl fun e _ => hp e, Finset.sum_add_distrib, Finset.sum_ite_eq, Finset.sum_ite_eq,
    if_pos (Finset.mem_univ _), if_pos (Finset.mem_univ _)]

include hx hg hb in
/-- The reference's result at a token and a column, with the scale on each chosen layer. -/
theorem out_eq (n : Fin 1024) : (out V0 : S2048x1024.Idx → EReal) (ValueIdx.ix2 t n)
    = (shl V0 t n + lay V0 t n (f1 V0 t) * (s1 V0 t * Ideal.div scl (wsum (rx V0) (rg V0) (rb V0) t)))
      + lay V0 t n (f2 V0 t) * (s2 V0 t * Ideal.div scl (wsum (rx V0) (rg V0) (rb V0) t)) := by
  rw [out_at, sum_part V0 hx hg hb]
  exact scale_each _ _ _ _ (sco_real _ _ hx hg t _) (sco_real _ _ hx hg t _) _

end Weights

end Cert.Proof.Ref

end
-- ==== Proof.KernelRegions.lean ====
/-
  The four TensorCore calls of the whole program, each run from the buffers held as one valuation to the next.
-/
module

public import proofs.«01_k».proof.Proof.KernelVals

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

section Regions

variable (m : (ℓ : Loc nD τ sig) → Buf (Elt F) ℓ) (h : RouteOK m)

/-- The generator register, which a call's body may change. -/
abbrev XR (c : Dev nD) : sProp 𝕄 := iprop(∃ r, prngReg c r)

theorem waits_n (p : Fin 4) (n : ℕ) (howed : ∀ c t, (rds m h p c).owed t = Dn F n c) (c : Dev nD) :
    (levAts (K (F := F)).L (K (F := F)).lev : sProp 𝕄) ⊢ RDat.cellsWaits (pin pcfgs (adm m h)) (rds m h) none p c :=
  RDat.cellsWaits_of_cut (pin pcfgs (adm m h)) (rds m h) none p c 0 (Dn F n c) (howed c) (fun _ _ => Finset.mem_univ _)
    (fun _ _ => le_of_eq (SparseCore.Cfg.lev_none (K := K (F := F)) _)) (fun g i hi => ⟨Finset.mem_univ _, lt_of_lt_of_le (Nat.succ_pos _) ((K (F := F)).lev_of_Otc_pos hi)⟩)

theorem pairs_n (p : Fin 4) (n : ℕ) (c : Dev nD) : (pin pcfgs (adm m h) p).waitPairs none ⊆ Bn F n c := by
  rintro _ ⟨w, s, rfl⟩
  exact Nat.zero_le _

theorem prefHeld_none (c : Dev nD) (T : (Pipeline.Prefetch.none (sig := sig)).Contents (Elt F)) :
    (Pipeline.prefHeld Pipeline.Prefetch.none c (fun _ => fullShare) T : sProp 𝕄) = iprop(emp) := by
  unfold Pipeline.prefHeld
  exact bigSep_empty

theorem ok0 : RegionOK pcfgs (adm m h) (rds m h) none (defs₀ (F := F)) 𝒱₀ (K (F := F)).L (K (F := F)).lev 0 (Dn F 0) (Bn F 0) XR where
  kit := launch0
  body c := (Cert.KernelIdeal.Own.K0.body_obligation 𝒱₀ (VV (Wa m)) (Dn F 0) (Bn F 0 c) none c).toR
  owed _ _ := rfl
  recd _ _ := rfl
  share c w := by unfold RDat.share; split <;> rfl
  inn c := by
    change _ ⊢ (Cert.KernelIdeal.Own.K0.ΦK c : sProp 𝕄)
    unfold Cert.KernelIdeal.Own.K0.ΦK
    have e := prefHeld_none (F := F) c (adm m h 0).1
    iintro ⟨HX, -, HR⟩
    isplitl [HR]; · iexact HR
    iexact HX
  out c := by
    change (Cert.KernelIdeal.Own.K0.ΦK c : sProp 𝕄) ⊢ _
    unfold Cert.KernelIdeal.Own.K0.ΦK
    have e := prefHeld_none (F := F) c (adm m h 0).1
    iintro ⟨HR, HX⟩
    isplitl [HX]; · iexact HX
    isplitr [HR]; · iapply (Entails.of_eq e.symm); iempintro
    iexact HR
  waits := waits_n m h 0 0 fun _ _ => rfl
  pairs := pairs_n m h 0 0

theorem ok1 : RegionOK pcfgs (adm m h) (rds m h) none (defs₀ (F := F)) 𝒱₀ (K (F := F)).L (K (F := F)).lev 1 (Dn F 1) (Bn F 1) XR where
  kit := launch2
  body c := Experts.body_obligation (VV (We m)) (Dn F 1) (Bn F 1 c) (adm m h 1) none c
  owed _ _ := rfl
  recd _ _ := rfl
  share c w := by unfold RDat.share; split <;> rfl
  inn c := by
    change _ ⊢ (Experts.ΦK (adm m h 1) c : sProp 𝕄)
    unfold Experts.ΦK
    iintro ⟨HX, HP, HR⟩
    isplitl [HR]; · iexact HR
    isplitl [HX]; · iexact HX
    iexact HP
  out c := by
    change (Experts.ΦK (adm m h 1) c : sProp 𝕄) ⊢ _
    unfold Experts.ΦK
    iintro ⟨HR, HX, HP⟩
    isplitl [HX]; · iexact HX
    isplitl [HP]; · iexact HP
    iexact HR
  waits := waits_n m h 1 1 fun _ _ => rfl
  pairs := pairs_n m h 1 1

theorem ok3 : RegionOK pcfgs (adm m h) (rds m h) none (defs₀ (F := F)) 𝒱₀ (K (F := F)).L (K (F := F)).lev 2 (Dn F 1) (Bn F 1) XR where
  kit := launch3
  body c := (Cert.KernelIdeal.Own.K3.body_obligation 𝒱₀ (VV (We m)) (Dn F 1) (Bn F 1 c) none c).toR
  owed _ _ := rfl
  recd _ _ := rfl
  share c w := by unfold RDat.share; split <;> rfl
  inn c := by
    change _ ⊢ (Cert.KernelIdeal.Own.K3.ΦK c : sProp 𝕄)
    unfold Cert.KernelIdeal.Own.K3.ΦK
    iintro ⟨HX, -, HR⟩
    isplitl [HR]; · iexact HR
    iexact HX
  out c := by
    change (Cert.KernelIdeal.Own.K3.ΦK c : sProp 𝕄) ⊢ _
    unfold Cert.KernelIdeal.Own.K3.ΦK
    have e := prefHeld_none (F := F) c (adm m h 2).1
    iintro ⟨HR, HX⟩
    isplitl [HX]; · iexact HX
    isplitr [HR]; · iapply (Entails.of_eq e.symm); iempintro
    iexact HR
  waits := waits_n m h 2 1 fun _ _ => rfl
  pairs := pairs_n m h 2 1

theorem ok5 : RegionOK pcfgs (adm m h) (rds m h) none (defs₀ (F := F)) 𝒱₀ (K (F := F)).L (K (F := F)).lev 3 (Dn F 2) (Bn F 2) XR where
  kit := launch5
  body c := (Cert.KernelIdeal.Own.K5.body_obligation 𝒱₀ (VV (Wg m h)) (Dn F 2) (Bn F 2 c) none c).toR
  owed _ _ := rfl
  recd _ _ := rfl
  share c w := by unfold RDat.share; split <;> rfl
  inn c := by
    change _ ⊢ (Cert.KernelIdeal.Own.K5.ΦK c : sProp 𝕄)
    unfold Cert.KernelIdeal.Own.K5.ΦK
    iintro ⟨HX, -, HR⟩
    isplitl [HR]; · iexact HR
    iexact HX
  out c := by
    change (Cert.KernelIdeal.Own.K5.ΦK c : sProp 𝕄) ⊢ _
    unfold Cert.KernelIdeal.Own.K5.ΦK
    have e := prefHeld_none (F := F) c (adm m h 3).1
    iintro ⟨HR, HX⟩
    isplitl [HX]; · iexact HX
    isplitr [HR]; · iapply (Entails.of_eq e.symm); iempintro
    iexact HR
  waits := waits_n m h 3 2 fun _ _ => rfl
  pairs := pairs_n m h 3 2

omit [FloatOps F] [Named F] in
theorem mem_arrRefs {gr W : ℕ} (win : Fin W → Pipeline.WinSpec sig gr) (w : Fin W) : Proc.devRef (τ := τ) .tc (arrRef win w) ∈ arrRefs (τ := τ) win :=
  Finset.mem_map.mpr ⟨_, Finset.mem_image.mpr ⟨w, Finset.mem_univ _, rfl⟩, rfl⟩

omit [FloatOps F] [Named F] in
theorem ne_of_notMem {gr W : ℕ} {win : Fin W → Pipeline.WinSpec sig gr} {b b' : DevRef τ sig} (hb : b ∉ arrRefs (τ := τ) win) (w : Fin W)
    (hw : Proc.devRef (τ := τ) .tc (arrRef win w) = b') : b ≠ b' := fun e => hb (by rw [e, ← hw]; exact mem_arrRefs win w)

/-! ## The arrays after each call -/

theorem in0 [∀ e, Nonempty (Elt F e)] (c : Dev nD) (w : Fin cfg0.W) (hw : (cfg0.win w).isOut = false) (G) (hG : (d0 m c).toR.ArrAt w cfg0.N G) : G = Wa m c (Proc.devRef .tc (arrRef spec0 w)) :=
  (((d0 m c).toR_arrAt_iff w _ _).mp hG).trans (((d0 m c).arrAt_in w hw _).trans (Cert.KernelIdeal.Own.K0.A_eq 𝒱₀ (VV (Wa m)) (Dn F 0) (Bn F 0 c) c w))
theorem in3 [∀ e, Nonempty (Elt F e)] (c : Dev nD) (w : Fin cfg3.W) (hw : (cfg3.win w).isOut = false) (G) (hG : (d3 m c).toR.ArrAt w cfg3.N G) : G = We m c (Proc.devRef .tc (arrRef spec3 w)) :=
  (((d3 m c).toR_arrAt_iff w _ _).mp hG).trans (((d3 m c).arrAt_in w hw _).trans (Cert.KernelIdeal.Own.K3.A_eq 𝒱₀ (VV (We m)) (Dn F 1) (Bn F 1 c) c w))
theorem in5 [∀ e, Nonempty (Elt F e)] (c : Dev nD) (w : Fin cfg5.W) (hw : (cfg5.win w).isOut = false) (G) (hG : (d5 m h c).toR.ArrAt w cfg5.N G) : G = Wg m h c (Proc.devRef .tc (arrRef spec5 w)) :=
  (((d5 m h c).toR_arrAt_iff w _ _).mp hG).trans (((d5 m h c).arrAt_in w hw _).trans (Cert.KernelIdeal.Own.K5.A_eq 𝒱₀ (VV (Wg m h)) (Dn F 2) (Bn F 2 c) c w))
theorem in1 [∀ e, Nonempty (Elt F e)] (c : Dev nD) (w : Fin (cfg2 (adm m h 1)).W) (hw : ((cfg2 (adm m h 1)).win w).isOut = false) (h5 : Experts.fgt (adm m h 1) w = false)
    (G) (hG : (e1 m h c).ArrAt w (cfg2 (adm m h 1)).N G) : G = We m c (Proc.devRef .tc (arrRef spec2 w)) :=
  (((d1 m h c).toR.override_arrAt (by simp only [h5]) _ _).trans ((d1 m h c).toR_arrAt_iff w _ _)).mp hG |>.trans ((d1 m h c).arrAt_in w hw _)

theorem Wb_of (c : Dev nD) (b : DevRef τ sig) (h0 : b ≠ bP0) (h1 : b ≠ bP1) (h2 : b ≠ bW0) (h3 : b ≠ bW1) (h4 : b ≠ bE0) (h5 : b ≠ bE1) : Wb m c b = Wa m c b := by
  unfold Wb
  rw [Function.update_of_ne h5, Function.update_of_ne h4, Function.update_of_ne h3, Function.update_of_ne h2, Function.update_of_ne h1, Function.update_of_ne h0]
theorem Wb_P0 (c : Dev nD) : Wb m c bP0 = rP0 m c := by
  unfold Wb
  rw [Function.update_of_ne (by decide), Function.update_of_ne (by decide), Function.update_of_ne (by decide), Function.update_of_ne (by decide), Function.update_of_ne (by decide), Function.update_self]
theorem Wb_P1 (c : Dev nD) : Wb m c bP1 = rP1 m c := by
  unfold Wb
  rw [Function.update_of_ne (by decide), Function.update_of_ne (by decide), Function.update_of_ne (by decide), Function.update_of_ne (by decide), Function.update_self]
theorem Wb_W0 (c : Dev nD) : Wb m c bW0 = rW0 m c := by
  unfold Wb
  rw [Function.update_of_ne (by decide), Function.update_of_ne (by decide), Function.update_of_ne (by decide), Function.update_self]
theorem Wb_W1 (c : Dev nD) : Wb m c bW1 = rW1 m c := by
  unfold Wb
  rw [Function.update_of_ne (by decide), Function.update_of_ne (by decide), Function.update_self]
theorem Wb_E0 (c : Dev nD) : Wb m c bE0 = rE0 m c := by
  unfold Wb
  rw [Function.update_of_ne (by decide), Function.update_self]
theorem Wb_E1 (c : Dev nD) : Wb m c bE1 = rE1 m c := by
  unfold Wb
  rw [Function.update_self]

abbrev arrs (p : Fin 4) (c : Dev nD) : Type :=
  (w : Fin (pin (pcfgs (F := F)) (adm m h) p).W) → Buf (Elt F) (((pin pcfgs (adm m h) p).win w).arr.view.loc (c.tc : Thread nD τ))

theorem post0 [∀ e, Nonempty (Elt F e)] (c : Dev nD) (G : arrs m h 0 c) (hG : ∀ w, (rds m h 0 c).ArrAt w (pin pcfgs (adm m h) 0).N (G w)) :
    ∃ W', W' = Wb m c ∧ (∀ w, G w = W' (Proc.devRef .tc (arrRef (pin pcfgs (adm m h) 0).spec w)))
      ∧ ∀ b ∈ ucRefs τ sig, b ∉ arrRefs (τ := τ) (pcfgs (F := F) 0).spec → Wa m c b = W' b := by
  refine ⟨_, rfl, fun w => ?_, fun b _ hb => ?_⟩
  · have hGw := hG w
    match w with
    | ⟨0, _⟩ => exact (in0 m c 0 rfl _ hGw).trans (Wb_of m c _ (by decide) (by decide) (by decide) (by decide) (by decide) (by decide)).symm
    | ⟨1, _⟩ => exact (in0 m c 1 rfl _ hGw).trans (Wb_of m c _ (by decide) (by decide) (by decide) (by decide) (by decide) (by decide)).symm
    | ⟨2, _⟩ => exact (in0 m c 2 rfl _ hGw).trans (Wb_of m c _ (by decide) (by decide) (by decide) (by decide) (by decide) (by decide)).symm
    | ⟨3, _⟩ => exact (((d0 m c).toR_arrAt_iff 3 _ _).mp hGw).trans (Wb_P0 m c).symm
    | ⟨4, _⟩ => exact (((d0 m c).toR_arrAt_iff 4 _ _).mp hGw).trans (Wb_P1 m c).symm
    | ⟨5, _⟩ => exact (((d0 m c).toR_arrAt_iff 5 _ _).mp hGw).trans (Wb_W0 m c).symm
    | ⟨6, _⟩ => exact (((d0 m c).toR_arrAt_iff 6 _ _).mp hGw).trans (Wb_W1 m c).symm
    | ⟨7, _⟩ => exact (((d0 m c).toR_arrAt_iff 7 _ _).mp hGw).trans (Wb_E0 m c).symm
    | ⟨8, _⟩ => exact (((d0 m c).toR_arrAt_iff 8 _ _).mp hGw).trans (Wb_E1 m c).symm
    | ⟨n + 9, h⟩ => exact absurd (show n + 9 < 9 from h) (by omega)
  · exact (Wb_of m c b (ne_of_notMem (win := spec0) hb 3 rfl) (ne_of_notMem (win := spec0) hb 4 rfl) (ne_of_notMem (win := spec0) hb 5 rfl)
      (ne_of_notMem (win := spec0) hb 6 rfl) (ne_of_notMem (win := spec0) hb 7 rfl) (ne_of_notMem (win := spec0) hb 8 rfl)).symm

/-- The memory after the expert call, the sorted results at `G`. -/
def We' (c : Dev nD) (G : S6144x1024.Idx → Elt F .f32) : Valuation τ sig (Elt F) := Function.update (We m c) bY28 G

theorem post1 [∀ e, Nonempty (Elt F e)] (c : Dev nD) (G : arrs m h 1 c) (hG : ∀ w, (rds m h 1 c).ArrAt w (pin pcfgs (adm m h) 1).N (G w)) :
    ∃ W', (∃ Y, (e1 m h c).ArrAt 5 (cfg2 (adm m h 1)).N Y ∧ W' = We' m c Y) ∧ (∀ w, G w = W' (Proc.devRef .tc (arrRef (pin pcfgs (adm m h) 1).spec w)))
      ∧ ∀ b ∈ ucRefs τ sig, b ∉ arrRefs (τ := τ) (pcfgs (F := F) 1).spec → We m c b = W' b := by
  refine ⟨_, ⟨G 5, hG 5, rfl⟩, fun w => ?_, fun b _ hb => ?_⟩
  · have hGw := hG w
    match w with
    | ⟨0, _⟩ => exact (in1 m h c 0 rfl rfl _ hGw).trans (Function.update_of_ne (show Proc.devRef (τ := τ) .tc main_v24 ≠ bY28 by decide) _ _).symm
    | ⟨1, _⟩ => exact (in1 m h c 1 rfl rfl _ hGw).trans (Function.update_of_ne (show Proc.devRef (τ := τ) .tc main_arg2 ≠ bY28 by decide) _ _).symm
    | ⟨2, _⟩ => exact (in1 m h c 2 rfl rfl _ hGw).trans (Function.update_of_ne (show Proc.devRef (τ := τ) .tc main_arg3 ≠ bY28 by decide) _ _).symm
    | ⟨3, _⟩ => exact (in1 m h c 3 rfl rfl _ hGw).trans (Function.update_of_ne (show Proc.devRef (τ := τ) .tc main_arg4 ≠ bY28 by decide) _ _).symm
    | ⟨4, _⟩ => exact (in1 m h c 4 rfl rfl _ hGw).trans (Function.update_of_ne (show Proc.devRef (τ := τ) .tc main_v25 ≠ bY28 by decide) _ _).symm
    | ⟨5, _⟩ => exact (Function.update_self (f := We m c) ..).symm
    | ⟨n + 6, h⟩ => exact absurd (show n + 6 < 6 from h) (by omega)
  · exact (Function.update_of_ne (ne_of_notMem (win := spec2) hb 5 rfl) _ _).symm

theorem post3 [∀ e, Nonempty (Elt F e)] (c : Dev nD) (Y) (G : arrs m h 2 c) (hG : ∀ w, (rds m h 2 c).ArrAt w (pin pcfgs (adm m h) 2).N (G w)) :
    ∃ W', W' = Function.update (We' m c Y) bS29 (rS m c) ∧ (∀ w, G w = W' (Proc.devRef .tc (arrRef (pin pcfgs (adm m h) 2).spec w)))
      ∧ ∀ b ∈ ucRefs τ sig, b ∉ arrRefs (τ := τ) (pcfgs (F := F) 2).spec → We' m c Y b = W' b := by
  refine ⟨_, rfl, fun w => ?_, fun b _ hb => ?_⟩
  · have hGw := hG w
    match w with
    | ⟨0, _⟩ => exact (in3 m c 0 rfl _ hGw).trans ((Function.update_of_ne (by decide) _ _).trans (Function.update_of_ne (by decide) _ _)).symm
    | ⟨1, _⟩ => exact (in3 m c 1 rfl _ hGw).trans ((Function.update_of_ne (by decide) _ _).trans (Function.update_of_ne (by decide) _ _)).symm
    | ⟨2, _⟩ => exact (in3 m c 2 rfl _ hGw).trans ((Function.update_of_ne (by decide) _ _).trans (Function.update_of_ne (by decide) _ _)).symm
    | ⟨3, _⟩ => exact (in3 m c 3 rfl _ hGw).trans ((Function.update_of_ne (by decide) _ _).trans (Function.update_of_ne (by decide) _ _)).symm
    | ⟨4, _⟩ => exact (((d3 m c).toR_arrAt_iff 4 _ _).mp hGw).trans (Function.update_self (f := We' m c Y) ..).symm
    | ⟨n + 5, h⟩ => exact absurd (show n + 5 < 5 from h) (by omega)
  · exact (Function.update_of_ne (ne_of_notMem (win := spec3) hb 4 rfl) _ _).symm

theorem post5 [∀ e, Nonempty (Elt F e)] (c : Dev nD) (S : Finset (DevRef τ sig)) (G : arrs m h 3 c) (hG : ∀ w, (rds m h 3 c).ArrAt w (pin pcfgs (adm m h) 3).N (G w)) :
    ∃ W', W' = Wh m h c ∧ (∀ w, G w = W' (Proc.devRef .tc (arrRef (pin pcfgs (adm m h) 3).spec w)))
      ∧ ∀ b ∈ S, b ∉ arrRefs (τ := τ) (pcfgs (F := F) 3).spec → Wg m h c b = W' b := by
  refine ⟨_, rfl, fun w => ?_, fun b _ hb => ?_⟩
  · have hGw := hG w
    match w with
    | ⟨0, _⟩ => exact (in5 m h c 0 rfl _ hGw).trans (Function.update_of_ne (by decide) _ _).symm
    | ⟨1, _⟩ => exact (in5 m h c 1 rfl _ hGw).trans (Function.update_of_ne (by decide) _ _).symm
    | ⟨2, _⟩ => exact (in5 m h c 2 rfl _ hGw).trans (Function.update_of_ne (by decide) _ _).symm
    | ⟨3, _⟩ => exact (((d5 m h c).toR_arrAt_iff 3 _ _).mp hGw).trans (Function.update_self (f := Wg m h c) ..).symm
    | ⟨n + 4, h⟩ => exact absurd (show n + 4 < 4 from h) (by omega)
  · exact (Function.update_of_ne (ne_of_notMem (win := spec5) hb 3 rfl) _ _).symm

theorem A0 (c : Dev nD) (w : Fin cfg0.W) : (d0 m c).A w = Wa m c (Proc.devRef .tc (arrRef spec0 w)) := Cert.KernelIdeal.Own.K0.A_eq 𝒱₀ (VV (Wa m)) (Dn F 0) (Bn F 0 c) c w
theorem A5 (c : Dev nD) (w : Fin cfg5.W) : (d5 m h c).A w = Wg m h c (Proc.devRef .tc (arrRef spec5 w)) := Cert.KernelIdeal.Own.K5.A_eq 𝒱₀ (VV (Wg m h)) (Dn F 2) (Bn F 2 c) c w
theorem ne28 : ∀ w, Proc.devRef (τ := τ) .tc (arrRef spec3 w) ≠ bY28 := by decide
theorem A3 (c : Dev nD) (Y) (w : Fin cfg3.W) : (d3 m c).A w = We' m c Y (Proc.devRef .tc (arrRef spec3 w)) :=
  (Cert.KernelIdeal.Own.K3.A_eq 𝒱₀ (VV (We m)) (Dn F 1) (Bn F 1 c) c w).trans (Function.update_of_ne (ne28 w) _ _).symm

/-! ## The calls, run -/

theorem phinj : Function.Injective (Pipeline.cellOf (nD := nD) (τ := τ) (pin (pcfgs (F := F)) (adm m h))) := launch0.cellOf_inj _

/-- A TensorCore call of the whole program is the pipeline's own, lifted. -/
theorem lift_region (d : Dev nD) (p : Fin 4) (Φ : PUnit → sProp 𝕄) :
    wp frame (wpE (Pipeline.defs pcfgs (defs₀ (F := F))) 𝒱₀.lift (d.tc : Thread nD τ) none) Set.univ (Prog.lift (.customCall (Pipeline.entry p) ())) Φ
      ⊢ wp frame (wpE ((K (F := F)).defs (D (F := F))) 𝒱 (SparseCore.T d) none) Set.univ (Prog.lift (.customCall (SparseCore.inner (Pipeline.entry p)) ())) Φ :=
  (K (F := F)).wp_liftProg (D (F := F)) 𝒱 (SparseCore.T d) Set.univ none (Prog.lift (.customCall (Pipeline.entry p) ())) Φ

/-- What a call takes beside the buffers. -/
abbrev ghost (p : Fin 4) (d : Dev nD) : sProp 𝕄 :=
  iprop(Pipeline.cellsGhost (pin pcfgs (adm m h)) EP p d ∗ Pipeline.toksInit (pin pcfgs (adm m h)) EP p d)

theorem region0 [∀ e, Nonempty (Elt F e)] (d : Dev nD) :
    iprop(boundary (d.tc : Thread nD τ) ∗ held (d.tc : Thread nD τ) (ucRefs τ sig) (Wa m d) ∗ XR d ∗ Pipeline.owesWithin d (Dn F 0 d) (Bn F 0 d)
        ∗ levAts (K (F := F)).L (K (F := F)).lev ∗ ghost m h 0 d)
      ⊢ wp frame (wpE ((K (F := F)).defs (D (F := F))) 𝒱 (SparseCore.T d) none) Set.univ (Prog.lift (.customCall (SparseCore.inner (Pipeline.entry 0)) ())) fun _ =>
          iprop(∃ W', ⌜W' = Wb m d⌝ ∗ boundary (d.tc : Thread nD τ) ∗ held (d.tc : Thread nD τ) (ucRefs τ sig) W' ∗ XR d ∗ Pipeline.owesWithin d (Dn F 0 d) (Bn F 0 d)) :=
  ((ok0 m h).wp EP (phinj m h) d (ucRefs τ sig) (Pipeline.arrRefs_sub_ucRefs _ launch0.win.arr_unscoped) (Pipeline.tblRefs_sub_ucRefs _ launch0.pre.unscoped) (Wa m d)
    (A0 m d) (fun k => k.elim0) (fun W' => W' = Wb m d) (post0 m h d)).trans (lift_region d 0 _)

theorem region1 [∀ e, Nonempty (Elt F e)] (d : Dev nD) :
    iprop(boundary (d.tc : Thread nD τ) ∗ held (d.tc : Thread nD τ) (ucRefs τ sig) (We m d) ∗ XR d ∗ Pipeline.owesWithin d (Dn F 1 d) (Bn F 1 d)
        ∗ levAts (K (F := F)).L (K (F := F)).lev ∗ ghost m h 1 d)
      ⊢ wp frame (wpE ((K (F := F)).defs (D (F := F))) 𝒱 (SparseCore.T d) none) Set.univ (Prog.lift (.customCall (SparseCore.inner (Pipeline.entry 1)) ())) fun _ =>
          iprop(∃ W', ⌜∃ Y, (e1 m h d).ArrAt 5 (cfg2 (adm m h 1)).N Y ∧ W' = We' m d Y⌝ ∗ boundary (d.tc : Thread nD τ) ∗ held (d.tc : Thread nD τ) (ucRefs τ sig) W' ∗ XR d ∗ Pipeline.owesWithin d (Dn F 1 d) (Bn F 1 d)) :=
  ((ok1 m h).wp EP (phinj m h) d (ucRefs τ sig) (Pipeline.arrRefs_sub_ucRefs _ launch2.win.arr_unscoped) (Pipeline.tblRefs_sub_ucRefs _ launch2.pre.unscoped) (We m d)
    (fun w => rfl) (fun k => by obtain rfl : d = 0 := Subsingleton.elim (α := Fin 1) _ _; rfl) (fun W' => ∃ Y, (e1 m h d).ArrAt 5 (cfg2 (adm m h 1)).N Y ∧ W' = We' m d Y) (post1 m h d)).trans (lift_region d 1 _)

theorem region3 [∀ e, Nonempty (Elt F e)] (d : Dev nD) (Y) :
    iprop(boundary (d.tc : Thread nD τ) ∗ held (d.tc : Thread nD τ) (ucRefs τ sig) (We' m d Y) ∗ XR d ∗ Pipeline.owesWithin d (Dn F 1 d) (Bn F 1 d)
        ∗ levAts (K (F := F)).L (K (F := F)).lev ∗ ghost m h 2 d)
      ⊢ wp frame (wpE ((K (F := F)).defs (D (F := F))) 𝒱 (SparseCore.T d) none) Set.univ (Prog.lift (.customCall (SparseCore.inner (Pipeline.entry 2)) ())) fun _ =>
          iprop(∃ W', ⌜W' = Function.update (We' m d Y) bS29 (rS m d)⌝ ∗ boundary (d.tc : Thread nD τ) ∗ held (d.tc : Thread nD τ) (ucRefs τ sig) W' ∗ XR d ∗ Pipeline.owesWithin d (Dn F 1 d) (Bn F 1 d)) :=
  ((ok3 m h).wp EP (phinj m h) d (ucRefs τ sig) (Pipeline.arrRefs_sub_ucRefs _ launch3.win.arr_unscoped) (Pipeline.tblRefs_sub_ucRefs _ launch3.pre.unscoped) (We' m d Y)
    (A3 m d Y) (fun k => k.elim0) (fun W' => W' = Function.update (We' m d Y) bS29 (rS m d)) (post3 m h d Y)).trans (lift_region d 2 _)

theorem region5 [∀ e, Nonempty (Elt F e)] (d : Dev nD) (S : Finset (DevRef τ sig)) (hS : arrRefs (τ := τ) spec5 ⊆ S) :
    iprop(boundary (d.tc : Thread nD τ) ∗ held (d.tc : Thread nD τ) S (Wg m h d) ∗ XR d ∗ Pipeline.owesWithin d (Dn F 2 d) (Bn F 2 d)
        ∗ levAts (K (F := F)).L (K (F := F)).lev ∗ ghost m h 3 d)
      ⊢ wp frame (wpE ((K (F := F)).defs (D (F := F))) 𝒱 (SparseCore.T d) none) Set.univ (Prog.lift (.customCall (SparseCore.inner (Pipeline.entry 3)) ())) fun _ =>
          iprop(∃ W', ⌜W' = Wh m h d⌝ ∗ boundary (d.tc : Thread nD τ) ∗ held (d.tc : Thread nD τ) S W' ∗ XR d ∗ Pipeline.owesWithin d (Dn F 2 d) (Bn F 2 d)) :=
  ((ok5 m h).wp EP (phinj m h) d S hS (by
      show tblRefs (τ := τ) Pipeline.Prefetch.none ⊆ S
      exact fun b hb => by
        obtain ⟨r, hr, rfl⟩ := Finset.mem_map.mp hb
        obtain ⟨k, -, rfl⟩ := Finset.mem_image.mp hr
        exact k.elim0) (Wg m h d)
    (A5 m h d) (fun k => k.elim0) (fun W' => W' = Wh m h d) (post5 m h d S)).trans (lift_region d 3 _)

end Regions

end Cert.Proof.Kernel

end
-- ==== Proof.KernelLaunch.lean ====
/-
  The whole program's launch: the host operations and the six calls in order, from the launch memory to the memory every
  run ends with.
-/
module

public import proofs.«01_k».proof.Proof.KernelRegions

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

section Launch

variable (m : (ℓ : Loc nD τ sig) → Buf (Elt F) ℓ) (h : RouteOK m)

/-! ## The sorted results the gather reads -/

theorem coords2 (t : Fin grid2.N) : (grid2.coords t 0).val = t.val := by
  rw [Pipeline.Grid.coords_val t 0 (S := 1) (B := 24) Experts.stride2_0 rfl]
  have h1 : t.val < 24 := lt_of_lt_of_eq t.isLt N_2
  omega

/-- Where element `y` of block `t` of the sorted results lies. -/
theorem blk_emb (t : Fin (cfg2 (adm m h 1)).N) (y : S256x1024.Idx) (a : Fin 2) :
    ((((((cfg2 (adm m h 1)).win 5).blk t).view.emb y : S6144x1024.Idx)) a).val = (if a = 0 then t.val * 256 else 0) + (y a).val := by
  have h1 : t.val < 24 := lt_of_lt_of_eq t.isLt N_2
  have hc := coords2 t
  match a with
  | 0 =>
    show (BitVec.ofNat 32 (grid2.coords t 0).val).toNat * 256 + 1 * (y 0).val = _
    rw [hc, BitVec.toNat_ofNat, Nat.mod_eq_of_lt (by omega), if_pos rfl]; omega
  | 1 =>
    show 0 * 1024 + 1 * (y 1).val = _
    rw [if_neg (by decide)]; omega

theorem adm_one : (adm m h 1).1 = tab m 0 := rfl
theorem tab_word (c : Dev nD) (i : grid2.Coords) : Experts.wordAt (tab m c 1) i = (We m c bT27 : S24.Idx → BitVec 32) (ValueIdx.ix1 (i 0)) := rfl

/-- A live block of the sorted results is what the experts make of it. -/
theorem Y_blk [∀ e, Nonempty (Elt F e)] (G : S6144x1024.Idx → Elt F .f32) (hG : (e1 m h 0).ArrAt 5 (cfg2 (adm m h 1)).N G) (t : Fin (cfg2 (adm m h 1)).N)
    (hl : k2_cond1 (Experts.wordAt ((adm m h 1).1 1) (grid2.coords t)) = 1#1) (y : S256x1024.Idx) :
    G (((((cfg2 (adm m h 1)).win 5).blk t).view.emb y : S6144x1024.Idx)) = Experts.outAt (VV (We m)) (adm m h 1) 0 t y :=
  congrFun (Experts.expert_out (VV (We m)) (Dn F 1) (Bn F 1 0) (adm m h 1) 0 hG t hl) y

theorem Y_eq [∀ e, Nonempty (Elt F e)] (d : Dev nD) (G : S6144x1024.Idx → Elt F .f32) (hG : (e1 m h d).ArrAt 5 (cfg2 (adm m h 1)).N G) (i : S6144x1024.Idx)
    (hl : ∀ t : Fin 24, (i 0).val / 256 = t.val → k2_cond1 ((We m d bT27 : S24.Idx → BitVec 32) (ValueIdx.ix1 t)) = 1#1) : G i = Yex m h d i := by
  obtain rfl : d = 0 := Subsingleton.elim (α := Fin 1) _ _
  have hi : (i 0).val / 256 < 24 := Nat.div_lt_of_lt_mul (show (i 0).val < 256 * 24 from (i 0).isLt)
  have ht : k2_cond1 (Experts.wordAt ((adm m h 1).1 1) (grid2.coords ⟨(i 0).val / 256, lt_of_lt_of_eq hi N_2.symm⟩)) = 1#1 := by
    rw [adm_one, tab_word]
    exact hl _ (coords2 ⟨(i 0).val / 256, lt_of_lt_of_eq hi N_2.symm⟩).symm
  have e := Y_blk m h G hG _ ht (ValueIdx.ix2 ⟨(i 0).val % 256, Nat.mod_lt _ (by decide)⟩ (i 1))
  have hb := blk_emb m h ⟨(i 0).val / 256, lt_of_lt_of_eq hi N_2.symm⟩ (ValueIdx.ix2 ⟨(i 0).val % 256, Nat.mod_lt _ (by decide)⟩ (i 1))
  unfold Yex
  rw [← e]
  refine congrArg G (funext fun a => Fin.ext ((hb a).trans ?_).symm)
  match a with
  | 0 => rw [if_pos rfl]; show (i 0).val / 256 * 256 + (i 0).val % 256 = (i 0).val; omega
  | 1 => rw [if_neg (by decide)]; show 0 + (i 1).val = (i 1).val; omega

/-- The row of the sorted results a piece lies in, and the piece's place in it. -/
def pieceIdx (j : S24576x2x128.Idx) : S6144x1024.Idx :=
  ValueIdx.ix2 ⟨(j 0).val / 4, Nat.div_lt_of_lt_mul (show (j 0).val < 4 * 6144 from (j 0).isLt)⟩
    ⟨(j 0).val % 4 * 256 + (j 1).val * 128 + (j 2).val, by
      have h1 : (j 1).val < 2 := (j 1).isLt
      have h2 : (j 2).val < 128 := (j 2).isLt
      omega⟩

theorem cast_piece {α : Type} (G : S6144x1024.Idx → α) (j : S24576x2x128.Idx) :
    shapeCast S24576x2x128 G shapeCasts_S6144x1024_S24576x2x128 j = G (pieceIdx j) := by
  refine shapeCast_apply G _ j (pieceIdx j) ?_
  rw [Shape.rowMajor_val_two, Shape.rowMajor_val_three]
  show (j 0).val / 4 * 1024 + ((j 0).val % 4 * 256 + (j 1).val * 128 + (j 2).val) = ((j 0).val * 2 + (j 1).val) * 128 + (j 2).val
  omega

theorem gath_eq [∀ e, Nonempty (Elt F e)] (d : Dev nD) (p : S8192.Idx → BitVec 32) (hp : ∀ x, (p x).toNat < 24576)
    (hl : ∀ (x : S8192.Idx) (t : Fin 24), BitVec.toNat (p x) / 1024 = t.val → k2_cond1 ((We m d bT27 : S24.Idx → BitVec 32) (ValueIdx.ix1 t)) = 1#1)
    (Y) (hY : (pk m h d).ok Y) : GATH p Y = GATH p (shapeCast S24576x2x128 (Yex m h d) shapeCasts_S6144x1024_S24576x2x128) := by
  have key : ∀ G : S6144x1024.Idx → Elt F .f32, (e1 m h d).ArrAt 5 (cfg2 (adm m h 1)).N G →
      GATH p (shapeCast S24576x2x128 G shapeCasts_S6144x1024_S24576x2x128) = GATH p (shapeCast S24576x2x128 (Yex m h d) shapeCasts_S6144x1024_S24576x2x128) := by
    intro G hG
    funext x
    unfold GATH
    rw [cast_piece, cast_piece]
    refine Y_eq m h d G hG _ fun t ht => hl (ValueIdx.ix1 (x 0)) t (Eq.trans ?_ ht)
    show _ = (p (ValueIdx.ix1 (x 0))).toNat % 24576 / 4 / 256
    rw [Nat.mod_eq_of_lt (hp _)]
    omega
  obtain ⟨G, hG, rfl⟩ := hY
  exact key G hG

theorem pk_O (d : Dev nD) : (pk m h d).O = GATH (Wc m d bL12) (shapeCast S24576x2x128 (Yex m h d) shapeCasts_S6144x1024_S24576x2x128) := rfl
theorem pk_U (d : Dev nD) : (pk m h d).U = GATH (Wc m d bL21) (shapeCast S24576x2x128 (Yex m h d) shapeCasts_S6144x1024_S24576x2x128) := rfl
theorem pk_p (d : Dev nD) : (pk m h d).p = Wc m d bL12 := rfl
theorem pk_r (d : Dev nD) : (pk m h d).r = Wc m d bL21 := rfl
theorem pk_a (d : Dev nD) : (pk m h d).a = Wc m d bP2 := rfl
theorem pk_b (d : Dev nD) : (pk m h d).b = Wc m d bP3 := rfl
theorem pk_lists (d : Dev nD) : ListsOK (pk m h d).a (pk m h d).b (pk m h d).p (pk m h d).r := by
  have e := h.lists d
  rw [← pk_a m h, ← pk_b m h, ← pk_p m h, ← pk_r m h] at e
  exact e

theorem pk_ok [∀ e, Nonempty (Elt F e)] (d : Dev nD) : (pk m h d).OK := by
  refine ⟨pk_lists m h d, fun Y hY => ?_⟩
  rw [pk_O, pk_U, pk_p, pk_r]
  exact ⟨gath_eq m h d (Wc m d bL12) (h.lists d).p_lt (h.live_p d) Y hY, gath_eq m h d (Wc m d bL21) (h.lists d).r_lt (h.live_r d) Y hY⟩

/-! ## The buffers of the two SparseCore calls -/

def SS0 : Finset (DevRef τ sig) := {bP2, bP3, bL12, bL21, bW0, bW1, bX22, bX23, bW23}
theorem SS0_sub : SS0 ⊆ ucRefs τ sig := by decide
omit [FloatOps F] [Named F] in
theorem held_SS0 (d : Dev nD) (W : Valuation τ sig (Elt F)) :
    (held (d.tc : Thread nD τ) SS0 W : sProp 𝕄) = iprop((((d, bP2) : Loc nD τ sig) ↦{fullShare} W bP2) ∗ (((d, bP3) : Loc nD τ sig) ↦{fullShare} W bP3)
      ∗ (((d, bL12) : Loc nD τ sig) ↦{fullShare} W bL12) ∗ (((d, bL21) : Loc nD τ sig) ↦{fullShare} W bL21)
      ∗ (((d, bW0) : Loc nD τ sig) ↦{fullShare} W bW0) ∗ (((d, bW1) : Loc nD τ sig) ↦{fullShare} W bW1) ∗ (((d, bX22) : Loc nD τ sig) ↦{fullShare} W bX22)
      ∗ (((d, bX23) : Loc nD τ sig) ↦{fullShare} W bX23) ∗ (((d, bW23) : Loc nD τ sig) ↦{fullShare} W bW23)) := by
  unfold held SS0
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

def SS1 : Finset (DevRef τ sig) := {bL12, bL21, bO31, bU31}
def SSY : Finset (DevRef τ sig) := {bY30}
/-- Every buffer but the sorted results, of which the end memory is not told. -/
def SF : Finset (DevRef τ sig) := (ucRefs τ sig \ {bY28}) \ SSY
theorem SS1_sub : SS1 ⊆ SF := by decide
theorem SSY_sub : SSY ⊆ ucRefs τ sig \ {bY28} := by decide
theorem SSG_sub : ({bY28} : Finset (DevRef τ sig)) ⊆ ucRefs τ sig := by decide
theorem arr5_sub : arrRefs (τ := τ) spec5 ⊆ SF := by decide
theorem SF_uc : SF ⊆ ucRefs τ sig := Finset.sdiff_subset.trans Finset.sdiff_subset
omit [FloatOps F] [Named F] in
theorem held_SS1 (d : Dev nD) (W : Valuation τ sig (Elt F)) :
    (held (d.tc : Thread nD τ) SS1 W : sProp 𝕄) = iprop((((d, bL12) : Loc nD τ sig) ↦{fullShare} W bL12) ∗ (((d, bL21) : Loc nD τ sig) ↦{fullShare} W bL21)
      ∗ (((d, bO31) : Loc nD τ sig) ↦{fullShare} W bO31) ∗ (((d, bU31) : Loc nD τ sig) ↦{fullShare} W bU31)) := by
  unfold held SS1
  rw [SparseCore.bigSep_insert' (by decide), SparseCore.bigSep_insert' (by decide), SparseCore.bigSep_insert' (by decide), bigSep_singleton]
omit [FloatOps F] [Named F] in
theorem held_SSY (d : Dev nD) (W : Valuation τ sig (Elt F)) : (held (d.tc : Thread nD τ) SSY W : sProp 𝕄) = iprop(((d, bY30) : Loc nD τ sig) ↦{fullShare} W bY30) := by
  unfold held SSY
  rw [bigSep_singleton]

/-! ## The host operations' buffers -/

theorem ops0_sub : ∀ op ∈ ops0 (F := F), op.bufs ⊆ ucRefs τ sig := by
  intro op h
  refine sub_ucRefs op ?_
  revert op
  rw [← List.forall_iff_forall_mem]
  simp only [ops0, List.Forall, StableHlo.reshape_bufs_sub, and_self]
theorem ops1_sub : ∀ op ∈ ops1 (F := F), op.bufs ⊆ ucRefs τ sig := by
  intro op h
  refine sub_ucRefs op ?_
  revert op
  rw [← List.forall_iff_forall_mem]
  simp only [ops1, List.Forall, StableHlo.nullary_bufs_sub, StableHlo.unary_bufs_sub, StableHlo.binary_bufs_sub, StableHlo.reshape_bufs_sub, and_self]
theorem ops2_sub : ∀ op ∈ ops2 (F := F), op.bufs ⊆ ucRefs τ sig := by
  intro op h
  refine sub_ucRefs op ?_
  revert op
  rw [← List.forall_iff_forall_mem]
  simp only [ops2, List.Forall, StableHlo.reshape_bufs_sub, and_self]
theorem ops3_sub : ∀ op ∈ ops3 (F := F), op.bufs ⊆ ucRefs τ sig := by
  intro op h
  refine sub_ucRefs op ?_
  revert op
  rw [← List.forall_iff_forall_mem]
  simp only [ops3, List.Forall, StableHlo.reshape_bufs_sub, and_self]
theorem ops4_sub : ∀ op ∈ ops4 (F := F), op.bufs ⊆ SF := by
  intro op h
  have hs : ∀ (S : Finset (DevRef τ sig)), S ⊆ SF → S ⊆ SF := fun _ h => h
  unfold ops4 at h
  simp only [List.mem_cons, List.not_mem_nil, or_false] at h
  rcases h with rfl | rfl
  · show ({Proc.devRef (τ := τ) .tc main_v31_0, Proc.devRef (τ := τ) .tc main_v32} : Finset (DevRef τ sig)) ⊆ SF
    decide
  · show ({Proc.devRef (τ := τ) .tc main_v31_1, Proc.devRef (τ := τ) .tc main_v33} : Finset (DevRef τ sig)) ⊆ SF
    decide
theorem ops0_fresh : ∀ op ∈ ops0 (F := F), op.fresh = ∅ := by
  rw [← List.forall_iff_forall_mem]; unfold ops0; simp only [List.Forall]; rfl
theorem ops1_fresh : ∀ op ∈ ops1 (F := F), op.fresh = ∅ := by
  rw [← List.forall_iff_forall_mem]; unfold ops1; simp only [List.Forall]; exact ⟨rfl, rfl, rfl, rfl, rfl, rfl, rfl, rfl, rfl, rfl, rfl, rfl, rfl, rfl, rfl, rfl, rfl, rfl, rfl, rfl, rfl, rfl, rfl⟩
theorem ops2_fresh : ∀ op ∈ ops2 (F := F), op.fresh = ∅ := by
  rw [← List.forall_iff_forall_mem]; unfold ops2; simp only [List.Forall]; exact ⟨rfl, rfl, rfl, rfl⟩
theorem ops3_fresh : ∀ op ∈ ops3 (F := F), op.fresh = ∅ := by
  rw [← List.forall_iff_forall_mem]; unfold ops3; simp only [List.Forall]; rfl
theorem ops4_fresh : ∀ op ∈ ops4 (F := F), op.fresh = ∅ := by
  rw [← List.forall_iff_forall_mem]; unfold ops4; simp only [List.Forall]; exact ⟨rfl, rfl⟩

/-! ## The protocol's state around a TensorCore call -/

/-- What the core owes, taken out of its state in the SparseCore protocol and put back. -/
theorem tcSt_out (d : Dev nD) (n : ℕ) :
    (K (F := F)).tcSt EH d n ⊢ (iprop(Pipeline.owesWithin d (Dn F n d) (Bn F n d) ∗ (Pipeline.owesWithin d (Dn F n d) (Bn F n d) -∗ (K (F := F)).tcSt EH d n)) : sProp 𝕄) := by
  unfold SparseCore.Cfg.tcSt Pipeline.owesWithin
  iintro ⟨⟨%W, %hW, HO⟩, HR⟩
  isplitl [HO]
  · iexists W
    isplitr; · ipureintro; exact fun p hp => hW p hp
    iexact HO
  iintro ⟨%W', %hW', HO⟩
  isplitl [HO]
  · iexists W'
    isplitr; · ipureintro; exact fun p hp => hW' hp
    iexact HO
  iexact HR

/-! ## The launch's ghost state -/

def u₀ : UU := (initOf (K (F := F)).hsCells (K (F := F)).hsToks,
  (initOf (Pipeline.cells (pin pcfgs (adm m h)) (phinj m h)) (Pipeline.launchToks (pin pcfgs (adm m h)) (phinj m h)), 1))

/-- The four calls' ghost state. -/
abbrev GG (d : Dev nD) : sProp 𝕄 := bigSep Finset.univ fun p => ghost m h p d

theorem hu₀ : (ownU (u₀ m h) : sProp 𝕄)
    ⊢ |={Set.univ}=> iprop(BI.own (EH (initOf (K (F := F)).hsCells (K (F := F)).hsToks)) ∗ (bigSep Finset.univ fun d : Dev nD => GG m h d)
        ∗ bigSep Finset.univ fun thr : Thread nD τ => bigSep Finset.univ fun q : Fin 2 => (P (pk m h)).x q thr) := by
  have hf := Pipeline.fund_ghost (pin pcfgs (adm m h)) (EP (F := F)) (phinj m h)
  unfold u₀
  iintro Hu
  ihave H := (ownU_pair (initOf (K (F := F)).hsCells (K (F := F)).hsToks) _) $$ Hu
  icases H with ⟨HH, HR⟩
  ihave H' := (show _ ⊢ iprop(BI.own ((EP (F := F)) (initOf (Pipeline.cells (pin pcfgs (adm m h)) (phinj m h)) (Pipeline.launchToks (pin pcfgs (adm m h)) (phinj m h)))) ∗ _) from
    own_pair_emb (embR : Emb (UP × Counters) 𝕄) (initOf (Pipeline.cells (pin pcfgs (adm m h)) (phinj m h)) (Pipeline.launchToks (pin pcfgs (adm m h)) (phinj m h))) (1 : Counters)) $$ HR
  icases H' with ⟨HP, -⟩
  imod hf $$ HP with ⟨HC, HT⟩
  imodintro
  isplitl [HH]; · iexact HH
  isplitl [HC HT]
  · iapply (Entails.of_eq (show (iprop((bigSep Finset.univ fun c : Dev nD => bigSep Finset.univ fun p => Pipeline.cellsGhost (pin pcfgs (adm m h)) EP p c)
        ∗ (bigSep Finset.univ fun c : Dev nD => bigSep Finset.univ fun p => Pipeline.toksInit (pin pcfgs (adm m h)) EP p c)) : sProp 𝕄) = bigSep Finset.univ fun d : Dev nD => GG m h d by
      simp only [bigSep_sep']))
    isplitl [HC] <;> iassumption
  rw [show (bigSep Finset.univ fun thr : Thread nD τ => bigSep Finset.univ fun q : Fin 2 => (P (pk m h)).x q thr) = (iprop(emp) : sProp 𝕄) from
    (bigSep_congr fun _ _ => bigSep_emp_const _).trans (bigSep_emp_const _)]
  iempintro

theorem GG_eq (d : Dev nD) : (GG m h d : sProp 𝕄) = iprop(ghost m h 0 d ∗ ghost m h 1 d ∗ ghost m h 2 d ∗ ghost m h 3 d) := by
  unfold GG
  rw [show (Finset.univ : Finset (Fin 4)) = {0, 1, 2, 3} by decide, SparseCore.bigSep_insert' (by decide), SparseCore.bigSep_insert' (by decide),
    SparseCore.bigSep_insert' (by decide), bigSep_singleton]

/-! ## The SparseCore calls around the buffers -/

theorem Wd_X (c : Dev nD) : Wd m c bX23 = sX m c := by
  unfold Wd
  rw [Function.update_of_ne (by decide), Function.update_self]
theorem Wd_W (c : Dev nD) : Wd m c bW23 = sW m c := by
  unfold Wd
  rw [Function.update_self]
theorem Wd_of (c : Dev nD) (b : DevRef τ sig) (h1 : b ≠ bX23) (h2 : b ≠ bW23) : Wd m c b = Wc m c b := by
  unfold Wd
  rw [Function.update_of_ne h2, Function.update_of_ne h1]

theorem pk_w (d : Dev nD) : (pk m h d).w = Wc m d bW0 := by unfold pk; rfl
theorem pk_v (d : Dev nD) : (pk m h d).v = Wc m d bW1 := by unfold pk; rfl
theorem pk_x (d : Dev nD) : (pk m h d).x = Wc m d bX22 := rfl
theorem pk_X (d : Dev nD) : (pk m h d).X = Wc m d bX23 := rfl
theorem pk_W (d : Dev nD) : (pk m h d).W = Wc m d bW23 := rfl
theorem pk_o (d : Dev nD) : (pk m h d).o = We m d bO31 := rfl
theorem pk_u (d : Dev nD) : (pk m h d).u = We m d bU31 := rfl
theorem pk_sO (d : Dev nD) : (pk m h d).O = sO m h d := rfl
theorem pk_sU (d : Dev nD) : (pk m h d).U = sU m h d := rfl
theorem pk_SX (d : Dev nD) : SCATX (pk m h d).p (pk m h d).r (pk m h d).x (pk m h d).X = sX m d := by
  rw [pk_p, pk_r, pk_x, pk_X]; rfl
theorem pk_SW (d : Dev nD) : SCATW (pk m h d).a (pk m h d).b (pk m h d).w (pk m h d).v (pk m h d).W = sW m d := by
  rw [pk_a, pk_b, pk_w, pk_v, pk_W]; rfl

theorem held_Wc (d : Dev nD) : (held (d.tc : Thread nD τ) SS0 (Wc m d) : sProp 𝕄) = sWhole (pk m h d) d (pk m h d).X (pk m h d).W := by
  rw [held_SS0]
  unfold sWhole
  rw [pk_a, pk_b, pk_p, pk_r, pk_w, pk_v, pk_x, pk_X, pk_W]
theorem held_Wd (d : Dev nD) : (held (d.tc : Thread nD τ) SS0 (Wd m d) : sProp 𝕄) = sWhole (pk m h d) d (sX m d) (sW m d) := by
  rw [held_SS0, Wd_X, Wd_W, Wd_of m d bP2 (by decide) (by decide), Wd_of m d bP3 (by decide) (by decide), Wd_of m d bL12 (by decide) (by decide), Wd_of m d bL21 (by decide) (by decide),
    Wd_of m d bW0 (by decide) (by decide), Wd_of m d bW1 (by decide) (by decide), Wd_of m d bX22 (by decide) (by decide)]
  unfold sWhole
  rw [pk_a, pk_b, pk_p, pk_r, pk_w, pk_v, pk_x]

/-- The scatter, from the buffers to the buffers. -/
theorem run0 (d : Dev nD) (κ : GSem nD τ sig → ℕ) [∀ e, Nonempty (Elt F e)] :
    iprop((K (F := F)).ctx EH (P (pk m h)) κ ∗ (K (F := F)).tcSt EH d 0 ∗ held (d.tc : Thread nD τ) (ucRefs τ sig) (Wc m d))
      ⊢ wp frame (wpE ((K (F := F)).defs (D (F := F))) 𝒱 (SparseCore.T d) none) Set.univ ((sc (F := F)).run d 0)
          fun _ => iprop((K (F := F)).tcSt EH d 1 ∗ held (d.tc : Thread nD τ) (ucRefs τ sig) (Wd m d)) := by
  iintro ⟨#Hctx, Hst, Hbufs⟩
  ihave Hbufs' := (Entails.of_eq ((held_sub_split (d.tc : Thread nD τ) SS0_sub (Wc m d)).trans (by rw [held_Wc m h d]))) $$ Hbufs
  icases Hbufs' with ⟨HS, Hrest⟩
  ihave HS' := (st0 d (pk m h) (pk_ok m h d)) $$ HS
  icases HS' with ⟨Hs, HX, HW⟩
  iapply ((K (F := F)).wp_run (D (F := F)) 𝒱 (EH := EH) (P := P (pk m h)) κ d 0)
  isplitr; · iexact Hctx
  isplitl [Hst]; · iexact Hst
  isplitl [Hs]; · iexact Hs
  iintro ⟨Hst, Hdn⟩
  isplitl [Hst]; · iexact Hst
  ihave HS := (dn0 d (pk m h) (pk_ok m h d)) $$ [Hdn HX HW]
  · isplitl [Hdn]; · iexact Hdn
    isplitl [HX] <;> iassumption
  ihave HS2 := (Entails.of_eq ((congrArg₂ (fun X W => (sWhole (pk m h d) d X W : sProp 𝕄)) (pk_SX m h d) (pk_SW m h d)).trans (held_Wd m h d).symm)) $$ HS
  iapply (Entails.of_eq (held_sub_split (d.tc : Thread nD τ) SS0_sub (Wd m d)).symm)
  isplitl [HS2]; · iexact HS2
  iapply (Entails.of_eq (held_congr (d.tc : Thread nD τ) (S := ucRefs τ sig \ SS0) (V := Wc m d) (V' := Wd m d) fun b hb => by
    have hn : b ∉ SS0 := (Finset.mem_sdiff.mp hb).2
    exact (Wd_of m d b (fun e => hn (by rw [e]; decide)) (fun e => hn (by rw [e]; decide))).symm))
  iexact Hrest

/-- The memory at the gather, the sorted results at `G`. -/
def W3 (c : Dev nD) (G : S6144x1024.Idx → Elt F .f32) : Valuation τ sig (Elt F) := after ops3 (Function.update (We' m c G) bS29 (rS m c))

theorem W3_Y (c : Dev nD) (G : S6144x1024.Idx → Elt F .f32) : W3 m c G bY30 = shapeCast S24576x2x128 G shapeCasts_S6144x1024_S24576x2x128 := by
  unfold W3 ops3
  after_results
  rw [Function.update_of_ne (by decide)]
  unfold We'
  rw [Function.update_self]
  rfl
theorem W3_of (c : Dev nD) (G : S6144x1024.Idx → Elt F .f32) (b : DevRef τ sig) (h30 : b ≠ bY30) (h28 : b ≠ bY28) :
    W3 m c G b = Function.update (We m c) bS29 (rS m c) b := by
  have e : W3 m c G b = Function.update (We' m c G) bS29 (rS m c) b := by
    unfold W3
    exact StableHlo.after_of_forall_not_mem _ _ fun op hop => by
      unfold ops3 at hop
      simp only [List.mem_cons, List.not_mem_nil, or_false] at hop
      rw [hop]
      exact fun hm => h30 (Finset.mem_singleton.mp hm)
  rw [e]
  by_cases hb : b = bS29
  · subst hb; rw [Function.update_self, Function.update_self]
  · rw [Function.update_of_ne hb, Function.update_of_ne hb]
    unfold We'
    rw [Function.update_of_ne h28]

theorem Wf_of (c : Dev nD) (b : DevRef τ sig) (h1 : b ≠ bO31) (h2 : b ≠ bU31) : Wf m h c b = Function.update (We m c) bS29 (rS m c) b := by
  unfold Wf
  rw [Function.update_of_ne h2, Function.update_of_ne h1]
theorem Wf_O (c : Dev nD) : Wf m h c bO31 = sO m h c := by
  unfold Wf
  rw [Function.update_of_ne (by decide), Function.update_self]
theorem Wf_U (c : Dev nD) : Wf m h c bU31 = sU m h c := by
  unfold Wf
  rw [Function.update_self]

/-- A buffer neither the scatter nor the host operations after it write. -/
theorem We_of (c : Dev nD) (r : Ref sig .tc) (hr : r ∉ [main_v24, main_v25, main_v26, main_v27]) (h1 : Proc.devRef (τ := τ) .tc r ≠ bX23) (h2 : Proc.devRef (τ := τ) .tc r ≠ bW23) :
    We m c (Proc.devRef .tc r) = Wc m c (Proc.devRef .tc r) := by
  refine Eq.trans ?_ (Wd_of m c _ h1 h2)
  unfold We
  refine StableHlo.after_of_writes_sub (W := [main_v24, main_v25, main_v26, main_v27]) ops2 (Wd m c) ?_ hr
  unfold ops2
  simp only [List.Forall]
  refine ⟨?_, ?_, ?_, ?_⟩
  · show ({Proc.devRef (τ := τ) .tc main_v24} : Finset (DevRef τ sig)) ⊆ _
    decide
  · show ({Proc.devRef (τ := τ) .tc main_v25} : Finset (DevRef τ sig)) ⊆ _
    decide
  · show ({Proc.devRef (τ := τ) .tc main_v26} : Finset (DevRef τ sig)) ⊆ _
    decide
  · show ({Proc.devRef (τ := τ) .tc main_v27} : Finset (DevRef τ sig)) ⊆ _
    decide
theorem We_p (c : Dev nD) : We m c bL12 = Wc m c bL12 := We_of m c main_v12 (by decide) (by decide) (by decide)
theorem We_r (c : Dev nD) : We m c bL21 = Wc m c bL21 := We_of m c main_v21 (by decide) (by decide) (by decide)

theorem held_W3 (d : Dev nD) (G : S6144x1024.Idx → Elt F .f32) : (held (d.tc : Thread nD τ) SS1 (W3 m d G) : sProp 𝕄)
    = iprop((pLoc d ↦{fullShare} (pk m h d).p) ∗ (rLoc d ↦{fullShare} (pk m h d).r) ∗ (oLoc d ↦{fullShare} (pk m h d).o) ∗ (uLoc d ↦{fullShare} (pk m h d).u)) := by
  rw [held_SS1, W3_of m d G bL12 (by decide) (by decide), W3_of m d G bL21 (by decide) (by decide), W3_of m d G bO31 (by decide) (by decide), W3_of m d G bU31 (by decide) (by decide),
    Function.update_of_ne (by decide), Function.update_of_ne (by decide), Function.update_of_ne (by decide), Function.update_of_ne (by decide), We_p, We_r, pk_p, pk_r, pk_o, pk_u]
theorem held_Wf (d : Dev nD) : (held (d.tc : Thread nD τ) SS1 (Wf m h d) : sProp 𝕄)
    = iprop((pLoc d ↦{fullShare} (pk m h d).p) ∗ (rLoc d ↦{fullShare} (pk m h d).r) ∗ (oLoc d ↦{fullShare} (pk m h d).O) ∗ (uLoc d ↦{fullShare} (pk m h d).U)) := by
  rw [held_SS1, Wf_of m h d bL12 (by decide) (by decide), Wf_of m h d bL21 (by decide) (by decide), Wf_O, Wf_U,
    Function.update_of_ne (by decide), Function.update_of_ne (by decide), We_p, We_r, pk_p, pk_r, pk_sO, pk_sU]

/-- The gather, from the buffers to the buffers but the sorted results. -/
theorem run1 (d : Dev nD) (κ : GSem nD τ sig → ℕ) [∀ e, Nonempty (Elt F e)] (G : S6144x1024.Idx → Elt F .f32) (hG : (e1 m h d).ArrAt 5 (cfg2 (adm m h 1)).N G) :
    iprop((K (F := F)).ctx EH (P (pk m h)) κ ∗ (K (F := F)).tcSt EH d 1 ∗ held (d.tc : Thread nD τ) (ucRefs τ sig) (W3 m d G))
      ⊢ wp frame (wpE ((K (F := F)).defs (D (F := F))) 𝒱 (SparseCore.T d) none) Set.univ ((sc (F := F)).run d 1)
          fun _ => iprop((K (F := F)).tcSt EH d 2 ∗ held (d.tc : Thread nD τ) SF (Wf m h d)) := by
  have hY : (pk m h d).ok (shapeCast S24576x2x128 G shapeCasts_S6144x1024_S24576x2x128) := ⟨G, hG, rfl⟩
  iintro ⟨#Hctx, Hst, Hbufs⟩
  ihave Hb1 := (Entails.of_eq (held_sub_split (d.tc : Thread nD τ) SSG_sub (W3 m d G))) $$ Hbufs
  icases Hb1 with ⟨-, Hb1⟩
  ihave Hb2 := (Entails.of_eq (held_sub_split (d.tc : Thread nD τ) SSY_sub (W3 m d G))) $$ Hb1
  icases Hb2 with ⟨HY, Hb2⟩
  ihave HY' := (Entails.of_eq ((held_SSY d (W3 m d G)).trans (by rw [W3_Y]))) $$ HY
  ihave Hb3 := (Entails.of_eq ((show (held (d.tc : Thread nD τ) ((ucRefs τ sig \ {bY28}) \ SSY) (W3 m d G) : sProp 𝕄) = _ from held_sub_split (d.tc : Thread nD τ) SS1_sub (W3 m d G)).trans (by rw [held_W3 m h d G]))) $$ Hb2
  icases Hb3 with ⟨⟨Hp, Hr, Ho, Hu⟩, Hrest⟩
  ihave Hs := (st1 d (pk m h) _ hY) $$ [Hp Hr Ho Hu HY']
  · isplitl [Hp]; · iexact Hp
    isplitl [Hr]; · iexact Hr
    isplitl [Ho]; · iexact Ho
    isplitl [Hu]; · iexact Hu
    iexact HY'
  iapply ((K (F := F)).wp_run (D (F := F)) 𝒱 (EH := EH) (P := P (pk m h)) κ d 1)
  isplitr; · iexact Hctx
  isplitl [Hst]; · iexact Hst
  isplitl [Hs]; · iexact Hs
  iintro ⟨Hst, Hdn⟩
  isplitl [Hst]; · iexact Hst
  ihave HS := (dn1 d (pk m h)) $$ Hdn
  ihave HS2 := (Entails.of_eq (held_Wf m h d).symm) $$ HS
  iapply (Entails.of_eq (held_sub_split (d.tc : Thread nD τ) SS1_sub (Wf m h d)).symm)
  isplitl [HS2]; · iexact HS2
  iapply (Entails.of_eq (held_congr (d.tc : Thread nD τ) (S := SF \ SS1) (V := W3 m d G) (V' := Wf m h d) fun b hb => by
    have hn : b ∉ SS1 := (Finset.mem_sdiff.mp hb).2
    have hf : b ∈ SF := (Finset.mem_sdiff.mp hb).1
    have h30 : b ∉ SSY := (Finset.mem_sdiff.mp hf).2
    have h28 : b ∉ ({bY28} : Finset (DevRef τ sig)) := (Finset.mem_sdiff.mp (Finset.mem_sdiff.mp hf).1).2
    rw [W3_of m d G b (fun e => h30 (by rw [e]; decide)) (fun e => h28 (by rw [e]; decide)),
      Wf_of m h d b (fun e => hn (by rw [e]; decide)) (fun e => hn (by rw [e]; decide))]))
  iexact Hrest

/-! ## The program -/

abbrev FIN (d : Dev nD) : sProp 𝕄 := held (d.tc : Thread nD τ) SF (Wh m h d)

/-- The program on device `d`'s TensorCore, from the launch memory to `Wh`. -/
theorem hmain [∀ e, Nonempty (Elt F e)] (ρ : Dev nD → PrngReg) (κ : GSem nD τ sig → ℕ) (d : Dev nD) :
    iprop((K (F := F)).ctx EH (P (pk m h)) κ ∗ (K (F := F)).tcSt EH d 0 ∗ (K (F := F)).tcRes m ρ d ∗ GG m h d)
      ⊢ wp frame (wpE ((K (F := F)).defs (D (F := F))) 𝒱 (SparseCore.T d) none) Set.univ (main d)
          fun _ => iprop((K (F := F)).tcSt EH d 2 ∗ FIN m h d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (fun b => m (d, b)) from
    unscopedBufs_held d (fun b => m (d, b)), main_eq, GG_eq]
  iintro ⟨#Hctx, Hst, ⟨Hb, Hbufs, Hts, Hpr⟩, Hg0, Hg1, Hg2, Hg3⟩
  ihave #Hlv := ((K (F := F)).ctx_levAts κ) $$ Hctx
  ihave HX := (show prngReg d (ρ d) ⊢ (XR d : sProp 𝕄) from by iintro H; iexists _; iexact H) $$ Hpr
  iapply (StableHlo.wp_seq 𝒱 none Set.univ d (ucRefs τ sig) _ ops0 ops0_sub ops0_fresh _) $$ [Hb Hbufs]
  · isplitl [Hb] <;> iassumption
  iintro ⟨Hb, Hbufs⟩
  -- the router
  rw [wp_bind]
  ihave Hst' := (tcSt_out d 0) $$ Hst
  icases Hst' with ⟨HO, Hback⟩
  iapply (wp_wand _ _ _) $$ [Hb Hbufs HX HO Hg0]
  · iapply (region0 m h d)
    isplitl [Hb]; · iexact Hb
    isplitl [Hbufs]; · iexact Hbufs
    isplitl [HX]; · iexact HX
    isplitl [HO]; · iexact HO
    isplitr [Hg0]; · iexact Hlv
    iexact Hg0
  iintro %_ ⟨%W', %hW, Hb, Hbufs, HX, HO⟩
  subst hW
  ihave Hst := Hback $$ HO
  iapply (StableHlo.wp_seq 𝒱 none Set.univ d (ucRefs τ sig) _ ops1 ops1_sub ops1_fresh _) $$ [Hb Hbufs]
  · isplitl [Hb] <;> iassumption
  iintro ⟨Hb, Hbufs⟩
  -- the scatter
  rw [wp_bind]
  iapply (wp_wand _ _ _) $$ [Hst Hbufs]
  · iapply (run0 m h d κ)
    isplitr; · iexact Hctx
    isplitl [Hst]; · iexact Hst
    iexact Hbufs
  iintro %_ ⟨Hst, Hbufs⟩
  iapply (StableHlo.wp_seq 𝒱 none Set.univ d (ucRefs τ sig) _ ops2 ops2_sub ops2_fresh _) $$ [Hb Hbufs]
  · isplitl [Hb] <;> iassumption
  iintro ⟨Hb, Hbufs⟩
  -- the experts
  rw [wp_bind]
  ihave Hst' := (tcSt_out d 1) $$ Hst
  icases Hst' with ⟨HO, Hback⟩
  iapply (wp_wand _ _ _) $$ [Hb Hbufs HX HO Hg1]
  · iapply (region1 m h d)
    isplitl [Hb]; · iexact Hb
    isplitl [Hbufs]; · iexact Hbufs
    isplitl [HX]; · iexact HX
    isplitl [HO]; · iexact HO
    isplitr [Hg1]; · iexact Hlv
    iexact Hg1
  iintro %_ ⟨%W', %hW, Hb, Hbufs, HX, HO⟩
  obtain ⟨G, hG, rfl⟩ := hW
  -- the shared expert
  rw [wp_bind]
  iapply (wp_wand _ _ _) $$ [Hb Hbufs HX HO Hg2]
  · iapply (region3 m h d G)
    isplitl [Hb]; · iexact Hb
    isplitl [Hbufs]; · iexact Hbufs
    isplitl [HX]; · iexact HX
    isplitl [HO]; · iexact HO
    isplitr [Hg2]; · iexact Hlv
    iexact Hg2
  iintro %_ ⟨%W', %hW, Hb, Hbufs, HX, HO⟩
  subst hW
  ihave Hst := Hback $$ HO
  iapply (StableHlo.wp_seq 𝒱 none Set.univ d (ucRefs τ sig) _ ops3 ops3_sub ops3_fresh _) $$ [Hb Hbufs]
  · isplitl [Hb] <;> iassumption
  iintro ⟨Hb, Hbufs⟩
  -- the gather
  rw [wp_bind]
  iapply (wp_wand _ _ _) $$ [Hst Hbufs]
  · iapply (run1 m h d κ G hG)
    isplitr; · iexact Hctx
    isplitl [Hst]; · iexact Hst
    iexact Hbufs
  iintro %_ ⟨Hst, Hbufs⟩
  iapply (StableHlo.wp_seq 𝒱 none Set.univ d SF _ ops4 ops4_sub ops4_fresh _) $$ [Hb Hbufs]
  · isplitl [Hb] <;> iassumption
  iintro ⟨Hb, Hbufs⟩
  -- the sum
  rw [wp_bind]
  ihave Hst' := (tcSt_out d 2) $$ Hst
  icases Hst' with ⟨HO, Hback⟩
  iapply (wp_wand _ _ _) $$ [Hb Hbufs HX HO Hg3]
  · iapply (region5 m h d SF arr5_sub)
    isplitl [Hb]; · iexact Hb
    isplitl [Hbufs]; · iexact Hbufs
    isplitl [HX]; · iexact HX
    isplitl [HO]; · iexact HO
    isplitr [Hg3]; · iexact Hlv
    iexact Hg3
  iintro %_ ⟨%W', %hW, Hb, Hbufs, HX, HO⟩
  subst hW
  ihave Hst := Hback $$ HO
  rw [wp_pure]
  imodintro
  isplitl [Hst]; · iexact Hst
  isplitl [Hbufs]; · iexact Hbufs
  isplitl [Hb] <;> iassumption

def fq (d : Dev nD) (s' : Phys nD τ sig (Elt F)) : Prop := ∀ b ∈ SF, s'.mem.mem (d, b) = Wh m h d b

theorem hfin (d : Dev nD) (s' : Phys nD τ sig (Elt F)) : iprop(FIN m h d ∗ SI s') ⊢ (⌜fq m h d s'⌝ : sProp 𝕄) := by
  unfold FIN held
  iintro ⟨H, HSI⟩
  iapply (SI_pointsTo_bufs_agree (st := s') (c := d) (qs := fun _ => fullShare) (F := Wh m h d) SF)
  isplitl [HSI]; · iexact HSI
  iexact H

def QC : PUnit × MemSt nD τ sig (Elt F) → Prop := fun r => (∀ c : Dev nD, ∀ b ∈ SF, r.2.mem (c, b) = Wh m h c b) ∧ r.2.sem = fun _ => 0

/-- Every run ends with the memory `Wh` on every buffer but the sorted results, and every counter at zero. -/
theorem run_main [∀ e, Nonempty (Elt F e)] (ρ : Dev nD → PrngReg) :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P (pk m h)) (A := ∅) facts v₀
    (fun q hq => match q with | 0 => nomatch hq | 1 => nomatch hq)
    (fun q _ => match q with | 0 => tileObl0 (pk m h) facts (pk_ok m h) | 1 => tileObl1 (pk m h) facts (pk_ok m h))
    (fun q _ => match q with | 0 => SparseCore.Cfg.VecSplit.of_plain (vecSplit0 (pk m h)) | 1 => SparseCore.Cfg.VecSplit.of_plain (vecSplit1 (pk m h)))
    m ρ main (GG m h) (FIN m h) (u₀ m h) (sep_elim_left.trans (hu₀ m h)) (hmain m h ρ) (fq m h) (hfin m h) (QC m h) (fun _ h hz => ⟨h, hz⟩)

end Launch

end Cert.Proof.Kernel

end
-- ==== Proof.KernelValue.lean ====
/-
  The program's arguments at the end of a run, as they were; and its result: the shared network's row, plus the rows the two
  chosen experts make of the token, each times the weight the router gave it.
-/
module

public import proofs.«01_k».proof.Proof.KernelFinal
public import proofs.«01_k».proof.Proof.KernelLaunch
public import proofs.«01_k».proof.Proof.KernelVals
public import Idealize.ShloMosaic.Lib.Pointwise
public import Idealize.ShloMosaic.Lib.Routing.BitFacts

@[expose] public section

noncomputable section

namespace Cert.Proof.Kernel

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr seq seqK seq_bind_seqK after)
open Idealize.ShloMosaic.Pipeline (ucRefs unscopedBufs_held sub_ucRefs Dat RDat arrRefs tblRefs arrRef pin)
open Scatter (SCATX SCATW ListsOK)
open TcCoe

variable {F : FTy → Type} [FloatOps F] [Named F]

local notation "𝕄" => MT nD τ sig (HIx 2) (Elt F) ℕ UU ℕ

/-! ## What the program leaves alone -/

section Keep

variable {F : FTy → Type} [FloatOps F] [Named F]
variable (m : (ℓ : Loc nD τ sig) → Buf (Elt F) ℓ) (h : RouteOK m) (c : Dev nD)

theorem Wc_of (r : Ref sig .tc) (h0 : r ∉ [main_v0])
    (h1 : r ∉ [main_v2, main_v3, main_v4, main_c, main_v5, main_v6, main_v7, main_v8, main_v9, main_v10, main_v11, main_v12, main_v13, main_c_0, main_v14, main_v15, main_v16, main_v17,
      main_v18, main_v19, main_v20, main_v21, main_v22])
    (h2 : Proc.devRef (τ := τ) .tc r ∉ [bP0, bP1, bW0, bW1, bE0, bE1]) : Wc m c (Proc.devRef .tc r) = arg m c r := by
  refine Eq.trans ?_ ((Wb_keep m c _ h2).trans ?_)
  · unfold Wc
    refine StableHlo.after_of_writes_sub (W := [main_v2, main_v3, main_v4, main_c, main_v5, main_v6, main_v7, main_v8, main_v9, main_v10, main_v11, main_v12, main_v13, main_c_0,
      main_v14, main_v15, main_v16, main_v17, main_v18, main_v19, main_v20, main_v21, main_v22]) ops1 (Wb m c) ?_ h1
    unfold ops1
    simp only [List.Forall]
    refine ⟨?_, ?_, ?_, ?_, ?_, ?_, ?_, ?_, ?_, ?_, ?_, ?_, ?_, ?_, ?_, ?_, ?_, ?_, ?_, ?_, ?_, ?_, ?_⟩ <;>
      (simp only [StableHlo.nullary_writes, StableHlo.unary_writes, StableHlo.binary_writes, StableHlo.reshape_writes, Finset.singleton_subset_iff, List.mem_toFinset]
       exact List.mem_map_of_mem (by decide))
  · unfold Wa
    refine StableHlo.after_of_writes_sub (W := [main_v0]) ops0 _ ?_ h0
    unfold ops0
    simp only [List.Forall]
    simp only [StableHlo.reshape_writes, Finset.singleton_subset_iff, List.mem_toFinset]
    exact List.mem_map_of_mem (by decide)

theorem Wh_of (r : Ref sig .tc) (h4 : r ∉ [main_v32, main_v33]) (h34 : Proc.devRef (τ := τ) .tc r ≠ bR34) (hO : Proc.devRef (τ := τ) .tc r ≠ bO31)
    (hU : Proc.devRef (τ := τ) .tc r ≠ bU31) (hS : Proc.devRef (τ := τ) .tc r ≠ bS29) : Wh m h c (Proc.devRef .tc r) = We m c (Proc.devRef .tc r) := by
  unfold Wh
  rw [Function.update_of_ne h34]
  refine Eq.trans ?_ ((Wf_of m h c _ hO hU).trans (Function.update_of_ne hS ..))
  unfold Wg
  refine StableHlo.after_of_writes_sub (W := [main_v32, main_v33]) ops4 _ ?_ h4
  unfold ops4
  simp only [List.Forall]
  refine ⟨?_, ?_⟩ <;>
    (simp only [StableHlo.reshape_writes, Finset.singleton_subset_iff, List.mem_toFinset]
     exact List.mem_map_of_mem (by decide))

theorem We_arg0 : We m c (Proc.devRef .tc main_arg0) = arg m c main_arg0 :=
  (We_of m c main_arg0 (by decide) (by decide) (by decide)).trans (Wc_of m c main_arg0 (by decide) (by decide) (by decide))
theorem Wh_arg0 : Wh m h c (Proc.devRef .tc main_arg0) = arg m c main_arg0 :=
  (Wh_of m h c main_arg0 (by decide) (by decide) (by decide) (by decide) (by decide)).trans (We_arg0 m c)
theorem We_arg1 : We m c (Proc.devRef .tc main_arg1) = arg m c main_arg1 :=
  (We_of m c main_arg1 (by decide) (by decide) (by decide)).trans (Wc_of m c main_arg1 (by decide) (by decide) (by decide))
theorem Wh_arg1 : Wh m h c (Proc.devRef .tc main_arg1) = arg m c main_arg1 :=
  (Wh_of m h c main_arg1 (by decide) (by decide) (by decide) (by decide) (by decide)).trans (We_arg1 m c)
theorem We_arg2 : We m c (Proc.devRef .tc main_arg2) = arg m c main_arg2 :=
  (We_of m c main_arg2 (by decide) (by decide) (by decide)).trans (Wc_of m c main_arg2 (by decide) (by decide) (by decide))
theorem Wh_arg2 : Wh m h c (Proc.devRef .tc main_arg2) = arg m c main_arg2 :=
  (Wh_of m h c main_arg2 (by decide) (by decide) (by decide) (by decide) (by decide)).trans (We_arg2 m c)
theorem We_arg3 : We m c (Proc.devRef .tc main_arg3) = arg m c main_arg3 :=
  (We_of m c main_arg3 (by decide) (by decide) (by decide)).trans (Wc_of m c main_arg3 (by decide) (by decide) (by decide))
theorem Wh_arg3 : Wh m h c (Proc.devRef .tc main_arg3) = arg m c main_arg3 :=
  (Wh_of m h c main_arg3 (by decide) (by decide) (by decide) (by decide) (by decide)).trans (We_arg3 m c)
theorem We_arg4 : We m c (Proc.devRef .tc main_arg4) = arg m c main_arg4 :=
  (We_of m c main_arg4 (by decide) (by decide) (by decide)).trans (Wc_of m c main_arg4 (by decide) (by decide) (by decide))
theorem Wh_arg4 : Wh m h c (Proc.devRef .tc main_arg4) = arg m c main_arg4 :=
  (Wh_of m h c main_arg4 (by decide) (by decide) (by decide) (by decide) (by decide)).trans (We_arg4 m c)
theorem We_arg5 : We m c (Proc.devRef .tc main_arg5) = arg m c main_arg5 :=
  (We_of m c main_arg5 (by decide) (by decide) (by decide)).trans (Wc_of m c main_arg5 (by decide) (by decide) (by decide))
theorem Wh_arg5 : Wh m h c (Proc.devRef .tc main_arg5) = arg m c main_arg5 :=
  (Wh_of m h c main_arg5 (by decide) (by decide) (by decide) (by decide) (by decide)).trans (We_arg5 m c)
theorem We_arg6 : We m c (Proc.devRef .tc main_arg6) = arg m c main_arg6 :=
  (We_of m c main_arg6 (by decide) (by decide) (by decide)).trans (Wc_of m c main_arg6 (by decide) (by decide) (by decide))
theorem Wh_arg6 : Wh m h c (Proc.devRef .tc main_arg6) = arg m c main_arg6 :=
  (Wh_of m h c main_arg6 (by decide) (by decide) (by decide) (by decide) (by decide)).trans (We_arg6 m c)
theorem We_arg7 : We m c (Proc.devRef .tc main_arg7) = arg m c main_arg7 :=
  (We_of m c main_arg7 (by decide) (by decide) (by decide)).trans (Wc_of m c main_arg7 (by decide) (by decide) (by decide))
theorem Wh_arg7 : Wh m h c (Proc.devRef .tc main_arg7) = arg m c main_arg7 :=
  (Wh_of m h c main_arg7 (by decide) (by decide) (by decide) (by decide) (by decide)).trans (We_arg7 m c)
theorem We_arg8 : We m c (Proc.devRef .tc main_arg8) = arg m c main_arg8 :=
  (We_of m c main_arg8 (by decide) (by decide) (by decide)).trans (Wc_of m c main_arg8 (by decide) (by decide) (by decide))
theorem Wh_arg8 : Wh m h c (Proc.devRef .tc main_arg8) = arg m c main_arg8 :=
  (Wh_of m h c main_arg8 (by decide) (by decide) (by decide) (by decide) (by decide)).trans (We_arg8 m c)

theorem Wg_S29 : Wg m h c bS29 = rS m c := by
  rw [← show Wf m h c bS29 = rS m c from (Wf_of m h c bS29 (by decide) (by decide)).trans (Function.update_self ..)]
  unfold Wg ops4
  after_results <;> rfl
theorem Wg_O32 : Wg m h c bO32 = shapeCast S2048x1024 (sO m h c : S8192x2x128.Idx → Elt F .f32) shapeCasts_S8192x2x128_S2048x1024 := by
  rw [← Wf_O m h c]
  unfold Wg ops4
  after_results <;> rfl
theorem Wg_O33 : Wg m h c bO33 = shapeCast S2048x1024 (sU m h c : S8192x2x128.Idx → Elt F .f32) shapeCasts_S8192x2x128_S2048x1024 := by
  rw [← Wf_U m h c]
  unfold Wg ops4
  after_results <;> rfl
theorem We_V24 : We m c (Proc.devRef .tc main_v24) = shapeCast S6144x1024 (sX m c : S24576x2x128.Idx → Elt F .f32) shapeCasts_S24576x2x128_S6144x1024 := by
  rw [← Wd_X m c]
  unfold We ops2
  after_results <;> rfl
theorem We_V25 : We m c (Proc.devRef .tc main_v25) = shapeCast S24x256x128 (sW m c : S6144x128.Idx → Elt F .f32) shapeCasts_S6144x128_S24x256x128 := by
  rw [← Wd_W m c]
  unfold We ops2
  after_results <;> rfl

end Keep

/-! ## An expert's blocks -/

section Blocks

variable {F : FTy → Type} [FloatOps F] [Named F]
variable (V : (c : Dev nD) → (b : Ref sig .tc) → Buf (Elt F) ((c : Thread nD τ).loc b)) (a : (pcfg2 (F := F)).Adm) (c : Dev nD)

theorem blk2_0 (t : Fin 24) (y : S256x1024.Idx) : (Experts.iblk V a c 0 (Fin.cast N_2.symm t) : S256x1024.Idx → Elt F .f32) y
    = (V c main_v24 : S6144x1024.Idx → Elt F .f32) (ValueIdx.ix2 ⟨t.val * 256 + (y 0).val, by have h := t.isLt; have h' : (y 0).val < 256 := (y 0).isLt; omega⟩ (y 1)) := by
  refine congrArg (V c main_v24 : S6144x1024.Idx → Elt F .f32) (funext fun b : Fin 2 => Fin.ext ?_)
  have hc := coords2 (Fin.cast N_2.symm t)
  have ht := t.isLt
  match b with
  | 0 =>
    show (BitVec.ofNat 32 (grid2.coords (Fin.cast N_2.symm t) 0).val).toNat * 256 + 1 * (y 0).val = t.val * 256 + (y 0).val
    rw [hc, BitVec.toNat_ofNat]
    show t.val % 2 ^ 32 * 256 + 1 * (y 0).val = t.val * 256 + (y 0).val
    omega
  | 1 =>
    show 0 * 1024 + 1 * (y 1).val = (y 1).val
    omega
theorem blk2_4 (t : Fin 24) (y : S1x256x128.Idx) : (Experts.iblk V a c 4 (Fin.cast N_2.symm t) : S1x256x128.Idx → Elt F .f32) y
    = (V c main_v25 : S24x256x128.Idx → Elt F .f32) (ValueIdx.ix3 t (y 1) (y 2)) := by
  refine congrArg (V c main_v25 : S24x256x128.Idx → Elt F .f32) (funext fun b : Fin 3 => Fin.ext ?_)
  have hc := coords2 (Fin.cast N_2.symm t)
  have ht := t.isLt
  have h0 : (y 0).val < 1 := (y 0).isLt
  match b with
  | 0 =>
    show (BitVec.ofNat 32 (grid2.coords (Fin.cast N_2.symm t) 0).val).toNat * 1 + 1 * (y 0).val = t.val
    rw [hc, BitVec.toNat_ofNat]
    show t.val % 2 ^ 32 * 1 + 1 * (y 0).val = t.val
    omega
  | 1 =>
    show 0 * 256 + 1 * (y 1).val = (y 1).val
    omega
  | 2 =>
    show 0 * 128 + 1 * (y 2).val = (y 2).val
    omega
end Blocks

section Words

variable (V : (c : Dev nD) → (b : Ref sig .tc) → Buf (Elt Ideal) ((c : Thread nD τ).loc b)) (a : (pcfg2 (F := Ideal)).Adm) (c : Dev nD)

theorem blk2_1 (t : Fin 24) (e : Fin 8) (he : ((a.1 0 : S24.Idx → BitVec 32) (ValueIdx.ix1 t)).toNat = e.val) (y : S1x512x1024.Idx) :
    (Experts.iblk V a c 1 (Fin.cast N_2.symm t) : S1x512x1024.Idx → EReal) y = (V c main_arg2 : S8x512x1024.Idx → EReal) (ValueIdx.ix3 e (y 1) (y 2)) := by
  refine congrArg (V c main_arg2 : S8x512x1024.Idx → EReal) (funext fun b : Fin 3 => Fin.ext ?_)
  have hc : (grid2.coords (Fin.cast N_2.symm t) 0) = t := Fin.ext (coords2 (Fin.cast N_2.symm t))
  have h0 : (y 0).val < 1 := (y 0).isLt
  have hm := map1 a.1 (grid2.coords (Fin.cast N_2.symm t))
  rw [hc, he] at hm
  match b with
  | 0 =>
    show cc2_transform_1 k2_off1_inb numel1_S1 a.1 (grid2.coords (Fin.cast N_2.symm t)) 0 * 1 + 1 * (y 0).val = e.val
    rw [hm]; show e.val * 1 + 1 * (y 0).val = e.val; omega
  | 1 =>
    show cc2_transform_1 k2_off1_inb numel1_S1 a.1 (grid2.coords (Fin.cast N_2.symm t)) 1 * 512 + 1 * (y 1).val = (y 1).val
    rw [hm]; show 0 * 512 + 1 * (y 1).val = (y 1).val; omega
  | 2 =>
    show cc2_transform_1 k2_off1_inb numel1_S1 a.1 (grid2.coords (Fin.cast N_2.symm t)) 2 * 1024 + 1 * (y 2).val = (y 2).val
    rw [hm]; show 0 * 1024 + 1 * (y 2).val = (y 2).val; omega
theorem blk2_2 (t : Fin 24) (e : Fin 8) (he : ((a.1 0 : S24.Idx → BitVec 32) (ValueIdx.ix1 t)).toNat = e.val) (y : S1x512x1024.Idx) :
    (Experts.iblk V a c 2 (Fin.cast N_2.symm t) : S1x512x1024.Idx → EReal) y = (V c main_arg3 : S8x512x1024.Idx → EReal) (ValueIdx.ix3 e (y 1) (y 2)) := by
  refine congrArg (V c main_arg3 : S8x512x1024.Idx → EReal) (funext fun b : Fin 3 => Fin.ext ?_)
  have hc : (grid2.coords (Fin.cast N_2.symm t) 0) = t := Fin.ext (coords2 (Fin.cast N_2.symm t))
  have h0 : (y 0).val < 1 := (y 0).isLt
  have hm := map2 a.1 (grid2.coords (Fin.cast N_2.symm t))
  rw [hc, he] at hm
  match b with
  | 0 =>
    show cc2_transform_2 k2_off1_inb numel1_S1 a.1 (grid2.coords (Fin.cast N_2.symm t)) 0 * 1 + 1 * (y 0).val = e.val
    rw [hm]; show e.val * 1 + 1 * (y 0).val = e.val; omega
  | 1 =>
    show cc2_transform_2 k2_off1_inb numel1_S1 a.1 (grid2.coords (Fin.cast N_2.symm t)) 1 * 512 + 1 * (y 1).val = (y 1).val
    rw [hm]; show 0 * 512 + 1 * (y 1).val = (y 1).val; omega
  | 2 =>
    show cc2_transform_2 k2_off1_inb numel1_S1 a.1 (grid2.coords (Fin.cast N_2.symm t)) 2 * 1024 + 1 * (y 2).val = (y 2).val
    rw [hm]; show 0 * 1024 + 1 * (y 2).val = (y 2).val; omega
theorem blk2_3 (t : Fin 24) (e : Fin 8) (he : ((a.1 0 : S24.Idx → BitVec 32) (ValueIdx.ix1 t)).toNat = e.val) (y : S1x1024x512.Idx) :
    (Experts.iblk V a c 3 (Fin.cast N_2.symm t) : S1x1024x512.Idx → EReal) y = (V c main_arg4 : S8x1024x512.Idx → EReal) (ValueIdx.ix3 e (y 1) (y 2)) := by
  refine congrArg (V c main_arg4 : S8x1024x512.Idx → EReal) (funext fun b : Fin 3 => Fin.ext ?_)
  have hc : (grid2.coords (Fin.cast N_2.symm t) 0) = t := Fin.ext (coords2 (Fin.cast N_2.symm t))
  have h0 : (y 0).val < 1 := (y 0).isLt
  have hm := map3 a.1 (grid2.coords (Fin.cast N_2.symm t))
  rw [hc, he] at hm
  match b with
  | 0 =>
    show cc2_transform_3 k2_off1_inb numel1_S1 a.1 (grid2.coords (Fin.cast N_2.symm t)) 0 * 1 + 1 * (y 0).val = e.val
    rw [hm]; show e.val * 1 + 1 * (y 0).val = e.val; omega
  | 1 =>
    show cc2_transform_3 k2_off1_inb numel1_S1 a.1 (grid2.coords (Fin.cast N_2.symm t)) 1 * 1024 + 1 * (y 1).val = (y 1).val
    rw [hm]; show 0 * 1024 + 1 * (y 1).val = (y 1).val; omega
  | 2 =>
    show cc2_transform_3 k2_off1_inb numel1_S1 a.1 (grid2.coords (Fin.cast N_2.symm t)) 2 * 512 + 1 * (y 2).val = (y 2).val
    rw [hm]; show 0 * 512 + 1 * (y 2).val = (y 2).val; omega

/-- An expert's block, entry by entry. -/
theorem outAt_val (t : Fin 24) (e : Fin 8) (he : ((a.1 0 : S24.Idx → BitVec 32) (ValueIdx.ix1 t)).toNat = e.val) (r : Fin 256) (n : Fin 1024) :
    Experts.outAt V a c (Fin.cast N_2.symm t) (ValueIdx.ix2 r n)
      = mlp (fun k => (V c main_v24 : S6144x1024.Idx → EReal) (ValueIdx.ix2 ⟨t.val * 256 + r.val, by have h := t.isLt; have h' := r.isLt; omega⟩ k))
          (fun i k => (V c main_arg2 : S8x512x1024.Idx → EReal) (ValueIdx.ix3 e i k)) (fun i k => (V c main_arg3 : S8x512x1024.Idx → EReal) (ValueIdx.ix3 e i k))
          (fun i k => (V c main_arg4 : S8x1024x512.Idx → EReal) (ValueIdx.ix3 e i k)) n * (V c main_v25 : S24x256x128.Idx → EReal) (ValueIdx.ix3 t r 0) := by
  unfold Experts.outAt
  refine (k2_val _ _ _ _ _ r n).trans ?_
  simp only [blk2_0, blk2_4, blk2_1 V a c t e he, blk2_2 V a c t e he, blk2_3 V a c t e he]

end Words

/-! ## A chosen row -/

section Row

variable (m : (ℓ : Loc nD τ sig) → Buf (Elt Ideal) ℓ) (h : RouteOK m) (c : Dev nD)

/-- What expert `e` makes of token `t`. -/
def expAt (e : Fin 8) (t : Fin 2048) (n : Fin 1024) : EReal :=
  mlp (fun k => (arg m c main_arg0 : S2048x1024.Idx → EReal) (ValueIdx.ix2 t k)) (fun i k => (arg m c main_arg2 : S8x512x1024.Idx → EReal) (ValueIdx.ix3 e i k))
    (fun i k => (arg m c main_arg3 : S8x512x1024.Idx → EReal) (ValueIdx.ix3 e i k)) (fun i k => (arg m c main_arg4 : S8x1024x512.Idx → EReal) (ValueIdx.ix3 e i k)) n

theorem rows_at (G : S24576x2x128.Idx → EReal) (p : Fin 6144) (k : Fin 1024) : shapeCast S6144x1024 G shapeCasts_S24576x2x128_S6144x1024 (ValueIdx.ix2 p k) = G (ValueIdx.ix3 ⟨4 * p.val + k.val / 256, by have := p.isLt; have := k.isLt; omega⟩ ⟨k.val % 256 / 128, by omega⟩ ⟨k.val % 128, by omega⟩) := by
  refine shapeCast_apply _ _ _ _ ?_
  rw [Shape.rowMajor_val_two, Shape.rowMajor_val_three]
  show ((4 * p.val + k.val / 256) * 2 + k.val % 256 / 128) * 128 + k.val % 128 = p.val * 1024 + k.val
  omega
theorem wrows_at (G : S6144x128.Idx → EReal) (b : Fin 24) (r : Fin 256) : shapeCast S24x256x128 G shapeCasts_S6144x128_S24x256x128 (ValueIdx.ix3 b r 0) = G (ValueIdx.ix2 ⟨b.val * 256 + r.val, by have := b.isLt; have := r.isLt; omega⟩ 0) := by
  refine shapeCast_apply _ _ _ _ ?_
  rw [Shape.rowMajor_val_two, Shape.rowMajor_val_three]
  show (b.val * 256 + r.val) * 128 + 0 = (b.val * 256 + r.val) * 128 + 0
  omega
theorem pieces_at (G : S2048x1024.Idx → EReal) (t : Fin 2048) (k : Fin 1024) : shapeCast S8192x2x128 G shapeCasts_S2048x1024_S8192x2x128 (ValueIdx.ix3 ⟨4 * t.val + k.val / 256, by have := t.isLt; have := k.isLt; omega⟩ ⟨k.val % 256 / 128, by omega⟩ ⟨k.val % 128, by omega⟩) = G (ValueIdx.ix2 t k) := by
  refine shapeCast_apply _ _ _ _ ?_
  rw [Shape.rowMajor_val_two, Shape.rowMajor_val_three]
  show t.val * 1024 + k.val = ((4 * t.val + k.val / 256) * 2 + k.val % 256 / 128) * 128 + k.val % 128
  omega

theorem V24_at (p : Fin 6144) (k : Fin 1024) : (We m c (Proc.devRef .tc main_v24) : S6144x1024.Idx → EReal) (ValueIdx.ix2 p k)
    = (sX m c : S24576x2x128.Idx → EReal) (ValueIdx.ix3 ⟨4 * p.val + k.val / 256, by have := p.isLt; have := k.isLt; omega⟩ ⟨k.val % 256 / 128, by omega⟩ ⟨k.val % 128, by omega⟩) := by
  rw [We_V24]
  exact rows_at _ _ _
theorem V25_at (b : Fin 24) (r : Fin 256) : (We m c (Proc.devRef .tc main_v25) : S24x256x128.Idx → EReal) (ValueIdx.ix3 b r 0)
    = (sW m c : S6144x128.Idx → EReal) (ValueIdx.ix2 ⟨b.val * 256 + r.val, by have := b.isLt; have := r.isLt; omega⟩ 0) := by
  rw [We_V25]
  exact wrows_at _ _ _
theorem X22_at (t : Fin 2048) (k : Fin 1024) :
    (Wc m c bX22 : S8192x2x128.Idx → EReal) (ValueIdx.ix3 ⟨4 * t.val + k.val / 256, by have := t.isLt; have := k.isLt; omega⟩ ⟨k.val % 256 / 128, by omega⟩ ⟨k.val % 128, by omega⟩)
      = (arg m c main_arg0 : S2048x1024.Idx → EReal) (ValueIdx.ix2 t k) := by
  rw [Wc_X22]
  exact pieces_at _ _ _
theorem L12_at (t : Fin 2048) (j : Fin 4) : BitVec.toNat ((Wc m c bL12 : S8192.Idx → BitVec 32) (ValueIdx.ix1 ⟨4 * t.val + j.val, by have := t.isLt; have := j.isLt; omega⟩)) = 4 * pA m c t + j.val := by
  refine (L12_val m c _).trans ?_
  have hj := j.isLt
  have e : (⟨(4 * t.val + j.val) / 4, by have := t.isLt; omega⟩ : Fin 2048) = t := Fin.ext (by show (4 * t.val + j.val) / 4 = t.val; omega)
  show 4 * pA m c ⟨(4 * t.val + j.val) / 4, _⟩ + (4 * t.val + j.val) % 4 = _
  rw [e]
  omega
theorem L21_at (t : Fin 2048) (j : Fin 4) : BitVec.toNat ((Wc m c bL21 : S8192.Idx → BitVec 32) (ValueIdx.ix1 ⟨4 * t.val + j.val, by have := t.isLt; have := j.isLt; omega⟩)) = 4 * pB m c t + j.val := by
  refine (L21_val m c _).trans ?_
  have hj := j.isLt
  have e : (⟨(4 * t.val + j.val) / 4, by have := t.isLt; omega⟩ : Fin 2048) = t := Fin.ext (by show (4 * t.val + j.val) / 4 = t.val; omega)
  show 4 * pB m c ⟨(4 * t.val + j.val) / 4, _⟩ + (4 * t.val + j.val) % 4 = _
  rw [e]
  omega

theorem sX_A (t : Fin 2048) (k : Fin 1024) : (sX m c : S24576x2x128.Idx → EReal)
    (ValueIdx.ix3 ⟨4 * pA m c t + k.val / 256, by have := pA_lt m c t; have := k.isLt; omega⟩ ⟨k.val % 256 / 128, by omega⟩ ⟨k.val % 128, by omega⟩)
      = (arg m c main_arg0 : S2048x1024.Idx → EReal) (ValueIdx.ix2 t k) := by
  rw [← X22_at m c t k]
  have hk := k.isLt
  exact Scatter.SCATX_p (F := Ideal) (lists m c).p_inj _ _ _ (ValueIdx.ix1 ⟨4 * t.val + k.val / 256, by have := t.isLt; omega⟩) (L12_at m c t ⟨k.val / 256, by omega⟩)
theorem sX_B (t : Fin 2048) (k : Fin 1024) : (sX m c : S24576x2x128.Idx → EReal)
    (ValueIdx.ix3 ⟨4 * pB m c t + k.val / 256, by have := pB_lt m c t; have := k.isLt; omega⟩ ⟨k.val % 256 / 128, by omega⟩ ⟨k.val % 128, by omega⟩)
      = (arg m c main_arg0 : S2048x1024.Idx → EReal) (ValueIdx.ix2 t k) := by
  rw [← X22_at m c t k]
  have hk := k.isLt
  exact Scatter.SCATX_r (F := Ideal) (lists m c).r_inj (lists m c).p_ne_r _ _ _ (ValueIdx.ix1 ⟨4 * t.val + k.val / 256, by have := t.isLt; omega⟩) (L21_at m c t ⟨k.val / 256, by omega⟩)
theorem sW_A (t : Fin 2048) : (sW m c : S6144x128.Idx → EReal) (ValueIdx.ix2 ⟨pA m c t, pA_lt m c t⟩ 0) = oW0 (xx m c) (gg m c) (bb m c) (ValueIdx.ix2 t 0) := by
  rw [← rW0_val m c, ← Wc_W0 m c]
  exact Scatter.SCATW_a (F := Ideal) (lists m c).a_inj _ _ _ _ (ValueIdx.ix1 t) (P2_nat m c (ValueIdx.ix1 t))
theorem sW_B (t : Fin 2048) : (sW m c : S6144x128.Idx → EReal) (ValueIdx.ix2 ⟨pB m c t, pB_lt m c t⟩ 0) = oW1 (xx m c) (gg m c) (bb m c) (ValueIdx.ix2 t 0) := by
  rw [← rW1_val m c, ← Wc_W1 m c]
  exact Scatter.SCATW_b (F := Ideal) (lists m c).b_inj (lists m c).a_ne_b _ _ _ _ (ValueIdx.ix1 t) (P3_nat m c (ValueIdx.ix1 t))

/-- The row of the sorted results at a position in expert `e`'s group: what that expert makes of the token put there, times the weight put there. -/
theorem Yex_val (p : Fin 6144) (e : Fin 8) (hp : start (f1 m 0) (f2 m 0) e ≤ p.val ∧ p.val < start (f1 m 0) (f2 m 0) e + padc (f1 m 0) (f2 m 0) e) (t : Fin 2048)
    (hx : ∀ k : Fin 1024, (We m 0 (Proc.devRef .tc main_v24) : S6144x1024.Idx → EReal) (ValueIdx.ix2 p k) = (arg m 0 main_arg0 : S2048x1024.Idx → EReal) (ValueIdx.ix2 t k)) (w : EReal)
    (hw : (sW m 0 : S6144x128.Idx → EReal) (ValueIdx.ix2 p 0) = w) (n : Fin 1024) : Yex m h 0 (ValueIdx.ix2 p n) = expAt m 0 e t n * w := by
  have hlt := p.isLt
  have hb : p.val / 256 < 24 := by omega
  have hbe : ((tab m 0 0 : S24.Idx → BitVec 32) (ValueIdx.ix1 ⟨p.val / 256, hb⟩)).toNat = e.val := by
    show ((We m 0 bT26 : S24.Idx → BitVec 32) (ValueIdx.ix1 ⟨p.val / 256, hb⟩)).toNat = e.val
    rw [T26_val, (oE_live (xx m 0) (gg m 0) (bb m 0) (lies_of_mem hp ⟨p.val / 256, hb⟩ rfl)).2, BitVec.toNat_ofNat]
    have := e.isLt
    omega
  have key := outAt_val (VV (We m)) (adm m h 1) 0 ⟨p.val / 256, hb⟩ e hbe ⟨p.val % 256, by omega⟩ n
  refine Eq.trans ?_ (key.trans ?_)
  · rfl
  have hpe : (⟨p.val / 256 * 256 + p.val % 256, by omega⟩ : Fin 6144) = p := Fin.ext (by show p.val / 256 * 256 + p.val % 256 = p.val; omega)
  have hw' := (V25_at m 0 ⟨p.val / 256, hb⟩ ⟨p.val % 256, by omega⟩)
  refine congr (congrArg HMul.hMul ?_) (hw'.trans ?_)
  · show mlp (fun k => (We m 0 (Proc.devRef .tc main_v24) : S6144x1024.Idx → EReal) (ValueIdx.ix2 ⟨p.val / 256 * 256 + p.val % 256, _⟩ k)) _ _ _ n = _
    rw [hpe]
    unfold expAt
    simp only [hx]
    rw [show VV (We m) 0 main_arg2 = arg m 0 main_arg2 from We_arg2 m 0, show VV (We m) 0 main_arg3 = arg m 0 main_arg3 from We_arg3 m 0,
      show VV (We m) 0 main_arg4 = arg m 0 main_arg4 from We_arg4 m 0]
  · show (sW m 0 : S6144x128.Idx → EReal) (ValueIdx.ix2 ⟨p.val / 256 * 256 + p.val % 256, _⟩ 0) = w
    rw [hpe, hw]

theorem Yex_A (t : Fin 2048) (n : Fin 1024) :
    Yex m h 0 (ValueIdx.ix2 ⟨pA m 0 t, pA_lt m 0 t⟩ n) = expAt m 0 (f1 m 0 t) t n * oW0 (xx m 0) (gg m 0) (bb m 0) (ValueIdx.ix2 t 0) :=
  Yex_val m h ⟨pA m 0 t, pA_lt m 0 t⟩ (f1 m 0 t) (posA_mem' _ _ t) t (fun k => (V24_at m 0 _ k).trans (sX_A m 0 t k)) _ (sW_A m 0 t) n
theorem Yex_B (t : Fin 2048) (n : Fin 1024) :
    Yex m h 0 (ValueIdx.ix2 ⟨pB m 0 t, pB_lt m 0 t⟩ n) = expAt m 0 (f2 m 0 t) t n * oW1 (xx m 0) (gg m 0) (bb m 0) (ValueIdx.ix2 t 0) :=
  Yex_val m h ⟨pB m 0 t, pB_lt m 0 t⟩ (f2 m 0 t) (posB_mem' _ _ t) t (fun k => (V24_at m 0 _ k).trans (sX_B m 0 t k)) _ (sW_B m 0 t) n

/-- A gathered row is the row its list's pieces name. -/
theorem gath_row (p : S8192.Idx → BitVec 32) (q : Fin 6144) (t : Fin 2048) (hq : ∀ j : Fin 4, BitVec.toNat (p (ValueIdx.ix1 ⟨4 * t.val + j.val, by have := t.isLt; have := j.isLt; omega⟩)) = 4 * q.val + j.val)
    (y : S6144x1024.Idx → EReal) (n : Fin 1024) :
    shapeCast S2048x1024 (GATH (F := Ideal) p (shapeCast S24576x2x128 y shapeCasts_S6144x1024_S24576x2x128)) shapeCasts_S8192x2x128_S2048x1024 (ValueIdx.ix2 t n) = y (ValueIdx.ix2 q n) := by
  have h0 := t.isLt
  have h1 := n.isLt
  have h2 := q.isLt
  rw [shapeCast_apply _ _ _ (ValueIdx.ix3 ⟨4 * t.val + n.val / 256, by omega⟩ ⟨n.val % 256 / 128, by omega⟩ ⟨n.val % 128, by omega⟩ : S8192x2x128.Idx)
    (by rw [Shape.rowMajor_val_two, Shape.rowMajor_val_three]
        show ((4 * t.val + n.val / 256) * 2 + n.val % 256 / 128) * 128 + n.val % 128 = t.val * 1024 + n.val
        omega)]
  unfold GATH
  have e := hq ⟨n.val / 256, by omega⟩
  rw [shapeCast_apply y _ _ (ValueIdx.ix2 q n : S6144x1024.Idx)]
  rw [Shape.rowMajor_val_two, Shape.rowMajor_val_three]
  show q.val * 1024 + n.val = ((p (ValueIdx.ix1 ⟨4 * t.val + n.val / 256, _⟩)).toNat % 24576 * 2 + n.val % 256 / 128) * 128 + n.val % 128
  rw [e]
  show q.val * 1024 + n.val = ((4 * q.val + n.val / 256) % 24576 * 2 + n.val % 256 / 128) * 128 + n.val % 128
  omega

theorem O32_at (t : Fin 2048) (n : Fin 1024) :
    (Wg m h 0 bO32 : S2048x1024.Idx → EReal) (ValueIdx.ix2 t n) = expAt m 0 (f1 m 0 t) t n * oW0 (xx m 0) (gg m 0) (bb m 0) (ValueIdx.ix2 t 0) := by
  rw [Wg_O32, ← Yex_A m h t n]
  exact gath_row _ ⟨pA m 0 t, pA_lt m 0 t⟩ t (fun j => L12_at m 0 t j) (Yex m h 0) n
theorem O33_at (t : Fin 2048) (n : Fin 1024) :
    (Wg m h 0 bO33 : S2048x1024.Idx → EReal) (ValueIdx.ix2 t n) = expAt m 0 (f2 m 0 t) t n * oW1 (xx m 0) (gg m 0) (bb m 0) (ValueIdx.ix2 t 0) := by
  rw [Wg_O33, ← Yex_B m h t n]
  exact gath_row _ ⟨pB m 0 t, pB_lt m 0 t⟩ t (fun j => L21_at m 0 t j) (Yex m h 0) n

/-- What the shared network makes of token `t`. -/
def sharedAt (t : Fin 2048) (n : Fin 1024) : EReal :=
  mlp (fun k => (arg m c main_arg0 : S2048x1024.Idx → EReal) (ValueIdx.ix2 t k)) (fun i k => (arg m c main_arg5 : S512x1024.Idx → EReal) (ValueIdx.ix2 i k))
    (fun i k => (arg m c main_arg6 : S512x1024.Idx → EReal) (ValueIdx.ix2 i k)) (fun i k => (arg m c main_arg7 : S1024x512.Idx → EReal) (ValueIdx.ix2 i k)) n

theorem S29_at (t : Fin 2048) (n : Fin 1024) : (Wg m h 0 bS29 : S2048x1024.Idx → EReal) (ValueIdx.ix2 t n) = sharedAt m 0 t n := by
  rw [Wg_S29]
  refine (congrFun (arr3 (VV (We m)) 0 (Dn Ideal 1) (Bn Ideal 1 0)) (ValueIdx.ix2 t n)).trans ?_
  show shrAt (VV (We m)) 0 t n = _
  unfold shrAt sharedAt
  rw [show VV (We m) 0 main_arg0 = arg m 0 main_arg0 from We_arg0 m 0, show VV (We m) 0 main_arg5 = arg m 0 main_arg5 from We_arg5 m 0,
    show VV (We m) 0 main_arg6 = arg m 0 main_arg6 from We_arg6 m 0, show VV (We m) 0 main_arg7 = arg m 0 main_arg7 from We_arg7 m 0]

/-- The result, entry by entry. -/
theorem R34_at (t : Fin 2048) (n : Fin 1024) : (Wh m h 0 bR34 : S2048x1024.Idx → EReal) (ValueIdx.ix2 t n)
    = (sharedAt m 0 t n + expAt m 0 (f1 m 0 t) t n * oW0 (xx m 0) (gg m 0) (bb m 0) (ValueIdx.ix2 t 0)) + expAt m 0 (f2 m 0 t) t n * oW1 (xx m 0) (gg m 0) (bb m 0) (ValueIdx.ix2 t 0) := by
  rw [← S29_at m h t n, ← O32_at m h t n, ← O33_at m h t n, show Wh m h 0 bR34 = rR m h 0 from Function.update_self ..]
  exact congrFun (arr5 (VV (Wg m h)) 0 (Dn Ideal 2) (Bn Ideal 2 0)) (ValueIdx.ix2 t n)

end Row

end Cert.Proof.Kernel

end
-- ==== Proof.KernelClaims.lean ====
/-
  The claims about the whole layer: its frames, and that its result is the reference's.
-/
module

public import proofs.«01_k».proof.Defs
public import proofs.«01_k».proof.Proof.RefEq
public import proofs.«01_k».proof.Proof.KernelValue
public import proofs.«01_k».proof.Proof.Gen.Pre_finite_inputs
public import Idealize.ShloMosaic.Lib.Quiescent
public import Idealize.ShloMosaic.Lib.ReduceAll

@[expose] public section

noncomputable section

namespace Cert.Proof.Whole

open Idealize.ShloMosaic
open Idealize.SL.Sem
open Cert.KernelIdeal
open Cert.Proof.Kernel (arg xx gg bb Wh SF bR34 QC run_main routeOK R34_at oW0_val oW1_val sharedAt expAt)
open Cert.Proof.Ref (Fin' fin_of cho_ne rx rg r8 rb out out_eq lay shl)

/-! ## The precondition, word by word -/

theorem top_word : Ideal.ofBits .f32 0x7F800000#32 = ⊤ := by simp [Ideal.ofBits, Ideal.ieee]

theorem and_one {a b : BitVec 1} (h : IntOp.andi a b = 1#1) : a = 1#1 ∧ b = 1#1 := by
  revert h; revert a b; decide

theorem fin_bit {x : EReal} (h : Ideal.cmp .olt (max x (-x)) (Ideal.ofBits .f32 0x7F800000#32) = 1#1) : Fin' x := by
  rw [top_word] at h
  induction x with
  | bot => simp [Ideal.cmp] at h
  | top => simp [Ideal.cmp] at h
  | coe r => exact ⟨r, rfl⟩

theorem finite (x0 : FVec Ideal S2048x1024 .f32) (x1 : FVec Ideal S8x1024 .f32) (x2 x3 : FVec Ideal S8x512x1024 .f32) (x4 : FVec Ideal S8x1024x512 .f32)
    (x5 x6 : FVec Ideal S512x1024 .f32) (x7 : FVec Ideal S1024x512 .f32) (x8 : FVec Ideal S8 .f32)
    (h : Cert.Pre_finite_inputs.fn (F := Ideal) x0 x1 x2 x3 x4 x5 x6 x7 x8 = fun _ => 1#1) :
    (∀ i, Fin' (x0 i)) ∧ (∀ i, Fin' (x1 i)) ∧ ∀ i, Fin' (x8 i) := by
  have e := congrFun h ValueIdx.ix0
  simp only [Cert.Pre_finite_inputs.fn] at e
  obtain ⟨e01, e8⟩ := and_one e
  obtain ⟨e0, e1⟩ := and_one e01
  have : Subsingleton Cert.Pre_finite_inputs.S_.Idx := ⟨fun a b => funext fun x => x.elim0⟩
  exact ⟨fun i => fin_bit (Host.reduce_andi_all _ _ _ _ _ e0 i), fun i => fin_bit (Host.reduce_andi_all _ _ _ _ _ e1 i),
    fun i => fin_bit (Host.reduce_andi_all _ _ _ _ _ e8 i)⟩

variable (m : (ℓ : Loc nD τ sig) → Buf (Elt Ideal) ℓ)

theorem finite_of (h : Cert.Pre_KernelIdeal m) (c : Dev nD) :
    (∀ i, Fin' (xx m c i)) ∧ (∀ i, Fin' (gg m c i)) ∧ ∀ i, Fin' ((arg m c main_arg8 : S8.Idx → EReal) i) :=
  finite _ _ _ _ _ _ _ _ _ (h c)

theorem row_one (G : S8.Idx → EReal) (i : S1x8.Idx) : shapeCast S1x8 G Cert.KernelIdeal.Gen.shapeCasts_S8_S1x8 i = G (ValueIdx.ix1 (i 1)) := by
  refine shapeCast_apply _ _ _ _ ?_
  rw [Shape.rowMajor_val_one, Shape.rowMajor_val_two]
  have : (i 0).val = 0 := by have := (i 0).isLt; exact Nat.lt_one_iff.1 this
  show (i 1).val = (i 0).val * 8 + (i 1).val
  omega

theorem bb_eq (c : Dev nD) (i : S1x8.Idx) : bb m c i = (arg m c main_arg8 : S8.Idx → EReal) (ValueIdx.ix1 (i 1)) := row_one _ i

/-! ## The result -/

section Value

variable (V0 : Valuation Cert.ReferenceIdeal.τ Cert.ReferenceIdeal.sig (Elt Ideal))
  (e0 : V0 (Proc.devRef .tc Cert.ReferenceIdeal.main_arg0) = arg m 0 main_arg0)
  (e1 : V0 (Proc.devRef .tc Cert.ReferenceIdeal.main_arg1) = arg m 0 main_arg1)
  (e2 : V0 (Proc.devRef .tc Cert.ReferenceIdeal.main_arg2) = arg m 0 main_arg2)
  (e3 : V0 (Proc.devRef .tc Cert.ReferenceIdeal.main_arg3) = arg m 0 main_arg3)
  (e4 : V0 (Proc.devRef .tc Cert.ReferenceIdeal.main_arg4) = arg m 0 main_arg4)
  (e5 : V0 (Proc.devRef .tc Cert.ReferenceIdeal.main_arg5) = arg m 0 main_arg5)
  (e6 : V0 (Proc.devRef .tc Cert.ReferenceIdeal.main_arg6) = arg m 0 main_arg6)
  (e7 : V0 (Proc.devRef .tc Cert.ReferenceIdeal.main_arg7) = arg m 0 main_arg7)
  (e8 : V0 (Proc.devRef .tc Cert.ReferenceIdeal.main_arg8) = arg m 0 main_arg8)

include e0 e1 e2 e3 e4 e5 e6 e7 e8 in
theorem value_at (h : Cert.Pre_KernelIdeal m) (t : Fin 2048) (n : Fin 1024) :
    (Wh m (routeOK m) 0 bR34 : S2048x1024.Idx → EReal) (ValueIdx.ix2 t n) = (out V0 : S2048x1024.Idx → EReal) (ValueIdx.ix2 t n) := by
  obtain ⟨hx, hg, h8⟩ := finite_of m h 0
  have ex : rx V0 = xx m 0 := e0
  have eg : rg V0 = gg m 0 := e1
  have e8' : r8 V0 = (arg m 0 main_arg8 : S8.Idx → EReal) := e8
  have eb : rb V0 = bb m 0 := by
    funext i
    rw [bb_eq]
    unfold Cert.Proof.Ref.rb
    rw [e8']
  have hb : ∀ i, Fin' (bb m 0 i) := fun i => by rw [bb_eq]; exact h8 _
  have hc := cho_ne (xx m 0) (gg m 0) (bb m 0) hx hg hb
  have hs : shl V0 t n = sharedAt m 0 t n := by
    unfold Cert.Proof.Ref.shl Cert.Proof.Kernel.sharedAt
    rw [ex, e5, e6, e7]
  have hl : ∀ e, lay V0 t n e = expAt m 0 e t n := by
    intro e
    unfold Cert.Proof.Ref.lay Cert.Proof.Kernel.expAt
    rw [ex, e2, e3, e4]
  rw [R34_at m (routeOK m) t n, oW0_val _ _ _ hc, oW1_val _ _ _ hc,
    out_eq V0 (by rw [ex]; exact hx) (by rw [eg]; exact hg) (by rw [eb]; exact hb), hs, hl, hl]
  unfold Cert.Proof.Ref.f1 Cert.Proof.Ref.f2 Cert.Proof.Ref.s1 Cert.Proof.Ref.s2
  unfold Cert.Proof.Ref.f1 Cert.Proof.Ref.f2
  rw [ex, eg, eb]

include e0 e1 e2 e3 e4 e5 e6 e7 e8 in
theorem value_eq (h : Cert.Pre_KernelIdeal m) : (Wh m (routeOK m) 0 bR34 : S2048x1024.Idx → EReal) = (out V0 : S2048x1024.Idx → EReal) := by
  funext i
  have hi : i = ValueIdx.ix2 (i 0) (i 1) := by
    funext a
    match a with
    | ⟨0, _⟩ => rfl
    | ⟨1, _⟩ => rfl
  rw [hi]
  exact value_at m V0 e0 e1 e2 e3 e4 e5 e6 e7 e8 h (i 0) (i 1)

end Value

/-! ## The claims -/

theorem end_at (r : PUnit × MemSt nD τ sig (Elt Ideal)) (h : QC m (routeOK m) r) (c : Dev nD) (b : Ref sig .tc)
    (hb : Proc.devRef .tc b ∈ SF) : r.2.mem ((c.tc : Thread nD τ).loc b) = Wh m (routeOK m) c (Proc.devRef .tc b) := h.1 c _ hb

theorem kernel_frame : Cert.quiescent_KernelIdeal := fun m ρ _ =>
  (θ_run Cert.KernelIdeal.defs _ _).mono (fun r h => ⟨fun c =>
      ⟨(end_at m r h c main_arg0 (by decide)).trans (Cert.Proof.Kernel.Wh_arg0 m (routeOK m) c),
        (end_at m r h c main_arg1 (by decide)).trans (Cert.Proof.Kernel.Wh_arg1 m (routeOK m) c),
        (end_at m r h c main_arg2 (by decide)).trans (Cert.Proof.Kernel.Wh_arg2 m (routeOK m) c),
        (end_at m r h c main_arg3 (by decide)).trans (Cert.Proof.Kernel.Wh_arg3 m (routeOK m) c),
        (end_at m r h c main_arg4 (by decide)).trans (Cert.Proof.Kernel.Wh_arg4 m (routeOK m) c),
        (end_at m r h c main_arg5 (by decide)).trans (Cert.Proof.Kernel.Wh_arg5 m (routeOK m) c),
        (end_at m r h c main_arg6 (by decide)).trans (Cert.Proof.Kernel.Wh_arg6 m (routeOK m) c),
        (end_at m r h c main_arg7 (by decide)).trans (Cert.Proof.Kernel.Wh_arg7 m (routeOK m) c),
        (end_at m r h c main_arg8 (by decide)).trans (Cert.Proof.Kernel.Wh_arg8 m (routeOK m) c)⟩, h.2⟩)
    (run_main (F := Ideal) m (routeOK m) ρ)

theorem ref_frame : Cert.quiescent_ReferenceIdeal := fun m ρ _ =>
  (θ_run Cert.ReferenceIdeal.defs _ _).mono (fun r h => ⟨fun c => (h c).2,
    sem_eq_zero_of_no_sems (by decide) r.2⟩) (Cert.ReferenceIdeal.Value.run m ρ)

theorem ref_frame' : Cert.quiescent_ReferenceIdeal_pre_finite_inputs := fun m ρ _ => ref_frame m ρ trivial

theorem value : Cert.algebraic_KernelIdeal_ReferenceIdeal := by
  intro m g m' g' hpre hargs
  refine ⟨fun c => Wh m (routeOK m) c bR34, ?_, ?_⟩
  · exact (θ_run Cert.KernelIdeal.defs _ _).mono (fun r h c =>
      ⟨end_at m r h c main_v34 (by decide),
        (end_at m r h c main_arg0 (by decide)).trans (Cert.Proof.Kernel.Wh_arg0 m (routeOK m) c),
        (end_at m r h c main_arg1 (by decide)).trans (Cert.Proof.Kernel.Wh_arg1 m (routeOK m) c),
        (end_at m r h c main_arg2 (by decide)).trans (Cert.Proof.Kernel.Wh_arg2 m (routeOK m) c),
        (end_at m r h c main_arg3 (by decide)).trans (Cert.Proof.Kernel.Wh_arg3 m (routeOK m) c),
        (end_at m r h c main_arg4 (by decide)).trans (Cert.Proof.Kernel.Wh_arg4 m (routeOK m) c),
        (end_at m r h c main_arg5 (by decide)).trans (Cert.Proof.Kernel.Wh_arg5 m (routeOK m) c),
        (end_at m r h c main_arg6 (by decide)).trans (Cert.Proof.Kernel.Wh_arg6 m (routeOK m) c),
        (end_at m r h c main_arg7 (by decide)).trans (Cert.Proof.Kernel.Wh_arg7 m (routeOK m) c),
        (end_at m r h c main_arg8 (by decide)).trans (Cert.Proof.Kernel.Wh_arg8 m (routeOK m) c)⟩)
      (run_main (F := Ideal) m (routeOK m) g)
  · refine (θ_run Cert.ReferenceIdeal.defs _ _).mono (fun r h c => ⟨(h c).1.trans ?_, (h c).2⟩) (Cert.ReferenceIdeal.Value.run m' g')
    obtain rfl : c = 0 := Subsingleton.elim _ _
    obtain ⟨k0, k1, k2, k3, k4, k5, k6, k7, k8⟩ := hargs 0
    exact (value_eq m (StableHlo.launchContents m' 0) k0 k1 k2 k3 k4 k5 k6 k7 k8 hpre).symm

end Cert.Proof.Whole

end
-- ==== Proof.lean ====
module

public import proofs.«01_k».proof.Defs
public import proofs.«01_k».proof.Proof.Gen.Combine
public import proofs.«01_k».proof.Proof.Gen.Combine.Skeleton
public import proofs.«01_k».proof.Proof.Gen.CombineIdeal
public import proofs.«01_k».proof.Proof.Gen.CombineIdeal.Skeleton
public import proofs.«01_k».proof.Proof.Gen.CombineReferenceIdeal
public import proofs.«01_k».proof.Proof.Gen.CombineReferenceIdeal.Run
public import proofs.«01_k».proof.Proof.Gen.Pre_rows_in_range
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Own.KernelIdeal.K0.Frame
public import proofs.«01_k».proof.Proof.Gen.Own.KernelIdeal.K3.Frame
public import proofs.«01_k».proof.Proof.Gen.Own.KernelIdeal.K5.Frame
public import proofs.«01_k».proof.Proof.Gen.ReferenceIdeal
public import proofs.«01_k».proof.Proof.Gen.ReferenceIdeal.Run
public import proofs.«01_k».proof.Proof.Gen.Pre_finite_inputs
public import proofs.«01_k».proof.Proof.CombineClaims
public import proofs.«01_k».proof.Proof.KernelClaims
public import Idealize.ShloMosaic.Adequacy
public import Idealize.ShloMosaic.Init

@[expose] public section

noncomputable section

namespace Cert.Proof

open Idealize.ShloMosaic Idealize.SL.Sem Cert.Combine

theorem claim : Cert.Claim :=
  ⟨Cert.KernelIdeal.Gen.facts, Cert.ReferenceIdeal.Gen.facts, Cert.Combine.Gen.facts, Cert.CombineIdeal.Gen.facts,
    Cert.CombineReferenceIdeal.Gen.facts, Cert.Pre_finite_inputs.Gen.facts, Cert.Pre_rows_in_range.Gen.facts,
    Cert.Proof.Whole.kernel_frame, Cert.Proof.Whole.ref_frame, Cert.Proof.Whole.ref_frame',
    Cert.Proof.Combine.bits_frame, Cert.Proof.Combine.ideal_frame, Cert.Proof.Combine.ref_frame, Cert.Proof.Combine.ref_frame',
    Cert.Proof.Whole.value, trivial, Cert.Proof.Combine.value⟩

end Cert.Proof

end
